-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_cw [hPre_finite_cw : Cert.Pre_finite_cw.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_cw.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_cw.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_cw.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_cw [hPre_finite_cw : Cert.Pre_finite_cw.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_cw.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_cw.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_cw.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20)
      ∧ r.2.mem ((c.tc : Thread Cert.Kernel2.nD Cert.Kernel2.τ).loc Cert.Kernel2.main_arg21) = m ((c.tc : Thread Cert.Kernel2.nD Cert.Kernel2.τ).loc Cert.Kernel2.main_arg21))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_cw [hKernel4Ideal : Cert.Kernel4Ideal.Facts] [hPre_finite_cw : Cert.Pre_finite_cw.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_cw m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_cw [hReference4Ideal : Cert.Reference4Ideal.Facts] [hPre_finite_cw : Cert.Pre_finite_cw.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_cw m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def preserves_Kernel_KernelIdeal : Prop :=
  IdealRules.named_const.Statement Cert.KernelIdeal.κ "log2e_8" .f32 0x3E38AA3B#32 ((8⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)
      ∧ m' ((c.tc : Thread Cert.Reference2Ideal.nD Cert.Reference2Ideal.τ).loc Cert.Reference2Ideal.main_arg21) = m ((c.tc : Thread Cert.Kernel2Ideal.nD Cert.Kernel2Ideal.τ).loc Cert.Kernel2Ideal.main_arg21)) →
    ∃ (v0 : (c : Dev Cert.Kernel2Ideal.nD) → Buf (Elt Ideal) ((c.tc : Thread Cert.Kernel2Ideal.nD Cert.Kernel2Ideal.τ).loc Cert.Kernel2Ideal.main_v39)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
          ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20)
          ∧ r.2.mem ((c.tc : Thread Cert.Reference2Ideal.nD Cert.Reference2Ideal.τ).loc Cert.Reference2Ideal.main_arg21) = m' ((c.tc : Thread Cert.Reference2Ideal.nD Cert.Reference2Ideal.τ).loc Cert.Reference2Ideal.main_arg21))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v74_0)) (v1 : (c : Dev Cert.Kernel3Ideal.nD) → Buf (Elt Ideal) ((c.tc : Thread Cert.Kernel3Ideal.nD Cert.Kernel3Ideal.τ).loc Cert.Kernel3Ideal.main_v74_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v74_0) = v0 c
          ∧ r.2.mem ((c.tc : Thread Cert.Kernel3Ideal.nD Cert.Kernel3Ideal.τ).loc Cert.Kernel3Ideal.main_v74_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v361) = v0 c
          ∧ r.2.mem ((c.tc : Thread Cert.Reference3Ideal.nD Cert.Reference3Ideal.τ).loc Cert.Reference3Ideal.main_v362) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_cw [hKernel4Ideal : Cert.Kernel4Ideal.Facts] [hReference4Ideal : Cert.Reference4Ideal.Facts] [hPre_finite_cw : Cert.Pre_finite_cw.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_cw m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference3Ideal [hKernel5Ideal : Cert.Kernel5Ideal.Facts] [hReference3Ideal : Cert.Reference3Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel5Ideal m →
    (∀ c : Dev Cert.Kernel5Ideal.nD,
      m' ((c.tc : Thread Cert.Reference3Ideal.nD Cert.Reference3Ideal.τ).loc Cert.Reference3Ideal.main_arg0) = m ((c.tc : Thread Cert.Kernel5Ideal.nD Cert.Kernel5Ideal.τ).loc Cert.Kernel5Ideal.main_arg0)
      ∧ m' ((c.tc : Thread Cert.Reference3Ideal.nD Cert.Reference3Ideal.τ).loc Cert.Reference3Ideal.main_arg1) = m ((c.tc : Thread Cert.Kernel5Ideal.nD Cert.Kernel5Ideal.τ).loc Cert.Kernel5Ideal.main_arg1)
      ∧ m' ((c.tc : Thread Cert.Reference3Ideal.nD Cert.Reference3Ideal.τ).loc Cert.Reference3Ideal.main_arg2) = m ((c.tc : Thread Cert.Kernel5Ideal.nD Cert.Kernel5Ideal.τ).loc Cert.Kernel5Ideal.main_arg2)
      ∧ m' ((c.tc : Thread Cert.Reference3Ideal.nD Cert.Reference3Ideal.τ).loc Cert.Reference3Ideal.main_arg3) = m ((c.tc : Thread Cert.Kernel5Ideal.nD Cert.Kernel5Ideal.τ).loc Cert.Kernel5Ideal.main_arg3)
      ∧ m' ((c.tc : Thread Cert.Reference3Ideal.nD Cert.Reference3Ideal.τ).loc Cert.Reference3Ideal.main_arg4) = m ((c.tc : Thread Cert.Kernel5Ideal.nD Cert.Kernel5Ideal.τ).loc Cert.Kernel5Ideal.main_arg4)
      ∧ m' ((c.tc : Thread Cert.Reference3Ideal.nD Cert.Reference3Ideal.τ).loc Cert.Reference3Ideal.main_arg5) = m ((c.tc : Thread Cert.Kernel5Ideal.nD Cert.Kernel5Ideal.τ).loc Cert.Kernel5Ideal.main_arg5)
      ∧ m' ((c.tc : Thread Cert.Reference3Ideal.nD Cert.Reference3Ideal.τ).loc Cert.Reference3Ideal.main_arg6) = m ((c.tc : Thread Cert.Kernel5Ideal.nD Cert.Kernel5Ideal.τ).loc Cert.Kernel5Ideal.main_arg6)
      ∧ m' ((c.tc : Thread Cert.Reference3Ideal.nD Cert.Reference3Ideal.τ).loc Cert.Reference3Ideal.main_arg7) = m ((c.tc : Thread Cert.Kernel5Ideal.nD Cert.Kernel5Ideal.τ).loc Cert.Kernel5Ideal.main_arg7)
      ∧ m' ((c.tc : Thread Cert.Reference3Ideal.nD Cert.Reference3Ideal.τ).loc Cert.Reference3Ideal.main_arg8) = m ((c.tc : Thread Cert.Kernel5Ideal.nD Cert.Kernel5Ideal.τ).loc Cert.Kernel5Ideal.main_arg8)
      ∧ m' ((c.tc : Thread Cert.Reference3Ideal.nD Cert.Reference3Ideal.τ).loc Cert.Reference3Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v73_0)) (v1 : (c : Dev Cert.Kernel5Ideal.nD) → Buf (Elt Ideal) ((c.tc : Thread Cert.Kernel5Ideal.nD Cert.Kernel5Ideal.τ).loc Cert.Kernel5Ideal.main_v73_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v73_0) = v0 c
          ∧ r.2.mem ((c.tc : Thread Cert.Kernel5Ideal.nD Cert.Kernel5Ideal.τ).loc Cert.Kernel5Ideal.main_v73_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v361) = v0 c
          ∧ r.2.mem ((c.tc : Thread Cert.Reference3Ideal.nD Cert.Reference3Ideal.τ).loc Cert.Reference3Ideal.main_v362) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite_qk : Cert.Pre_finite_qk.Facts) (hPre_finite_cw : Cert.Pre_finite_cw.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_cw (hKernel4Ideal := hKernel4Ideal) (hPre_finite_cw := hPre_finite_cw)
    ∧ quiescent_Reference4Ideal (hReference4Ideal := hReference4Ideal)
    ∧ quiescent_Reference4Ideal_pre_finite_cw (hReference4Ideal := hReference4Ideal) (hPre_finite_cw := hPre_finite_cw)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_cw (hKernel4Ideal := hKernel4Ideal) (hReference4Ideal := hReference4Ideal) (hPre_finite_cw := hPre_finite_cw)
    ∧ preserves_Kernel5_Kernel5Ideal
    ∧ algebraic_Kernel5Ideal_Reference3Ideal (hKernel5Ideal := hKernel5Ideal) (hReference3Ideal := hReference3Ideal)
-- ==== Pre_finite_cw.lean ====
abbrev S16x1024 : Shape := ⟨2, ![16, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩

class Facts : Prop where
  bcast_S_S16x1024 : S_.BroadcastsInDim S16x1024 (![] : Fin 0 → Fin S16x1024.rank)
  bcast_S_S1024 : S_.BroadcastsInDim S1024 (![] : Fin 0 → Fin S1024.rank)
  bcast_S_S2x1024x6144 : S_.BroadcastsInDim S2x1024x6144 (![] : Fin 0 → Fin S2x1024x6144.rank)

variable [Facts]

def fn {F : FTy → Type} [FloatOps F] (main_arg0 : FVec F S16x1024 .f32) (main_arg1 : FVec F S1024 .f32) (main_arg2 : FVec F S2x1024x6144 .f32) (main_arg3 : FVec F S2x6144 .f32) : IVec S16x1024 1 × IVec S1024 1 × IVec S2x1024x6144 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x1024x6144 .f32 := Host.absf main_arg2
  let main_cst_1 : FVec F S_ .f32 := constant S_ .f32 0x7F800000#32
  let main_v7 : FVec F S2x1024x6144 .f32 := broadcastInDim S2x1024x6144 ![] bcast_S_S2x1024x6144 main_cst_1
  let main_v8 : IVec S2x1024x6144 1 := cmpf .olt main_v6 main_v7
  (main_v2, main_v5, main_v8)
-- ==== Pre_finite_qk.lean ====
abbrev S16x4x2048x64 : Shape := ⟨4, ![16, 4, 2048, 64]⟩
abbrev S16x2x2048x64 : Shape := ⟨4, ![16, 2, 2048, 64]⟩
abbrev S16x4x256x64 : Shape := ⟨4, ![16, 4, 256, 64]⟩
abbrev S16x2x256x64 : Shape := ⟨4, ![16, 2, 256, 64]⟩
abbrev S16x2304x1024 : Shape := ⟨3, ![16, 2304, 1024]⟩
abbrev S64 : Shape := ⟨1, ![64]⟩
abbrev S_ : Shape := ⟨0, ![]⟩

class Facts : Prop where
  bcast_S_S16x4x2048x64 : S_.BroadcastsInDim S16x4x2048x64 (![] : Fin 0 → Fin S16x4x2048x64.rank)
  bcast_S_S16x2x2048x64 : S_.BroadcastsInDim S16x2x2048x64 (![] : Fin 0 → Fin S16x2x2048x64.rank)
  bcast_S_S16x2x256x64 : S_.BroadcastsInDim S16x2x256x64 (![] : Fin 0 → Fin S16x2x256x64.rank)

variable [Facts]

def fn {F : FTy → Type} [FloatOps F] (main_arg0 : FVec F S16x4x2048x64 .f32) (main_arg1 : FVec F S16x2x2048x64 .f32) (main_arg2 : FVec F S16x2x2048x64 .f32) (main_arg3 : FVec F S16x4x256x64 .f32) (main_arg4 : FVec F S16x2x256x64 .f32) (main_arg5 : FVec F S16x2x256x64 .f32) (main_arg6 : FVec F S16x2304x1024 .f32) (main_arg7 : FVec F S64 .f32) (main_arg8 : FVec F S64 .f32) : IVec S16x4x2048x64 1 × IVec S16x2x2048x64 1 × IVec S16x2x256x64 1 :=
  let main_v0 : FVec F S16x4x2048x64 .f32 := Host.absf main_arg0
  let main_cst : FVec F S_ .f32 := constant S_ .f32 0x7F800000#32
  let main_v1 : FVec F S16x4x2048x64 .f32 := broadcastInDim S16x4x2048x64 ![] bcast_S_S16x4x2048x64 main_cst
  let main_v2 : IVec S16x4x2048x64 1 := cmpf .olt main_v0 main_v1
  let main_v3 : FVec F S16x2x2048x64 .f32 := Host.absf main_arg1
  let main_cst_0 : FVec F S_ .f32 := constant S_ .f32 0x7F800000#32
  let main_v4 : FVec F S16x2x2048x64 .f32 := broadcastInDim S16x2x2048x64 ![] bcast_S_S16x2x2048x64 main_cst_0
  let main_v5 : IVec S16x2x2048x64 1 := cmpf .olt main_v3 main_v4
  let main_v6 : FVec F S16x2x256x64 .f32 := Host.absf main_arg4
  let main_cst_1 : FVec F S_ .f32 := constant S_ .f32 0x7F800000#32
  let main_v7 : FVec F S16x2x256x64 .f32 := broadcastInDim S16x2x256x64 ![] bcast_S_S16x2x256x64 main_cst_1
  let main_v8 : IVec S16x2x256x64 1 := cmpf .olt main_v6 main_v7
  (main_v2, main_v5, main_v8)
-- ==== Kernel.lean ====
abbrev S16x4x2048x64 : Shape := ⟨4, ![16, 4, 2048, 64]⟩
abbrev S16x2x2048x64 : Shape := ⟨4, ![16, 2, 2048, 64]⟩
abbrev S16x4x256x64 : Shape := ⟨4, ![16, 4, 256, 64]⟩
abbrev S16x2x256x64 : Shape := ⟨4, ![16, 2, 256, 64]⟩
abbrev S16x2304x1024 : Shape := ⟨3, ![16, 2304, 1024]⟩
abbrev S64 : Shape := ⟨1, ![64]⟩
abbrev S16x1x256x64 : Shape := ⟨4, ![16, 1, 256, 64]⟩
abbrev S16x256x4x64 : Shape := ⟨4, ![16, 256, 4, 64]⟩
abbrev S16x256x256 : Shape := ⟨3, ![16, 256, 256]⟩
abbrev S16x1x2048x64 : Shape := ⟨4, ![16, 1, 2048, 64]⟩
abbrev S16x2048x4x64 : Shape := ⟨4, ![16, 2048, 4, 64]⟩
abbrev S16x2048x256 : Shape := ⟨3, ![16, 2048, 256]⟩
abbrev S16x2304x256 : Shape := ⟨3, ![16, 2304, 256]⟩
abbrev S16x256x2x64 : Shape := ⟨4, ![16, 256, 2, 64]⟩
abbrev S16x256x128 : Shape := ⟨3, ![16, 256, 128]⟩
abbrev S16x2048x2x64 : Shape := ⟨4, ![16, 2048, 2, 64]⟩
abbrev S16x2048x128 : Shape := ⟨3, ![16, 2048, 128]⟩
abbrev S16x2304x128 : Shape := ⟨3, ![16, 2304, 128]⟩
abbrev S16x2304x1536 : Shape := ⟨3, ![16, 2304, 1536]⟩
abbrev S_ : Shape := ⟨0, ![]⟩
abbrev S1 : Shape := ⟨1, ![1]⟩
abbrev S4x256x128 : Shape := ⟨3, ![4, 256, 128]⟩
abbrev S4x2304x128 : Shape := ⟨3, ![4, 2304, 128]⟩
abbrev S4x256x256 : Shape := ⟨3, ![4, 256, 256]⟩
abbrev S1x2304x128 : Shape := ⟨3, ![1, 2304, 128]⟩
abbrev S2304x128 : Shape := ⟨2, ![2304, 128]⟩
abbrev S1x256x128 : Shape := ⟨3, ![1, 256, 128]⟩
abbrev S256x128 : Shape := ⟨2, ![256, 128]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩
abbrev S256x256 : Shape := ⟨2, ![256, 256]⟩
abbrev S1x256x256 : Shape := ⟨3, ![1, 256, 256]⟩

abbrev nBuf : Space → Nat
  | .hbm => 54
  | .vmem => 10
  | .smem => 1
  | _ => 0

abbrev bufTy : (tb : Table) → Fin (tcTables nBuf tb) → BufTy
  | .hbm, ⟨0, _⟩ => ⟨S16x4x2048x64, .f32⟩
  | .hbm, ⟨1, _⟩ => ⟨S16x2x2048x64, .f32⟩
  | .hbm, ⟨2, _⟩ => ⟨S16x2x2048x64, .f32⟩
  | .hbm, ⟨3, _⟩ => ⟨S16x4x256x64, .f32⟩
  | .hbm, ⟨4, _⟩ => ⟨S16x2x256x64, .f32⟩
  | .hbm, ⟨5, _⟩ => ⟨S16x2x256x64, .f32⟩
  | .hbm, ⟨6, _⟩ => ⟨S16x2304x1024, .f32⟩
  | .hbm, ⟨7, _⟩ => ⟨S64, .f32⟩
  | .hbm, ⟨8, _⟩ => ⟨S64, .f32⟩
  | .hbm, ⟨9, _⟩ => ⟨S16x1x256x64, .f32⟩
  | .hbm, ⟨10, _⟩ => ⟨S16x1x256x64, .f32⟩
  | .hbm, ⟨11, _⟩ => ⟨S16x1x256x64, .f32⟩
  | .hbm, ⟨12, _⟩ => ⟨S16x1x256x64, .f32⟩
  | .hbm, ⟨13, _⟩ => ⟨S16x4x256x64, .f32⟩
  | .hbm, ⟨14, _⟩ => ⟨S16x256x4x64, .f32⟩
  | .hbm, ⟨15, _⟩ => ⟨S16x256x256, .f32⟩
  | .hbm, ⟨16, _⟩ => ⟨S16x1x2048x64, .f32⟩
  | .hbm, ⟨17, _⟩ => ⟨S16x1x2048x64, .f32⟩
  | .hbm, ⟨18, _⟩ => ⟨S16x1x2048x64, .f32⟩
  | .hbm, ⟨19, _⟩ => ⟨S16x1x2048x64, .f32⟩
  | .hbm, ⟨20, _⟩ => ⟨S16x4x2048x64, .f32⟩
  | .hbm, ⟨21, _⟩ => ⟨S16x2048x4x64, .f32⟩
  | .hbm, ⟨22, _⟩ => ⟨S16x2048x256, .f32⟩
  | .hbm, ⟨23, _⟩ => ⟨S16x2304x256, .f32⟩
  | .hbm, ⟨24, _⟩ => ⟨S16x256x2x64, .f32⟩
  | .hbm, ⟨25, _⟩ => ⟨S16x256x128, .f32⟩
  | .hbm, ⟨26, _⟩ => ⟨S16x2048x2x64, .f32⟩
  | .hbm, ⟨27, _⟩ => ⟨S16x2048x128, .f32⟩
  | .hbm, ⟨28, _⟩ => ⟨S16x2304x128, .f32⟩
  | .hbm, ⟨29, _⟩ => ⟨S16x256x2x64, .f32⟩
  | .hbm, ⟨30, _⟩ => ⟨S16x256x128, .f32⟩
  | .hbm, ⟨31, _⟩ => ⟨S16x2048x2x64, .f32⟩
  | .hbm, ⟨32, _⟩ => ⟨S16x2048x128, .f32⟩
  | .hbm, ⟨33, _⟩ => ⟨S16x2304x128, .f32⟩
  | .hbm, ⟨34, _⟩ => ⟨S16x2304x1536, .f32⟩
  | .hbm, ⟨35, _⟩ => ⟨S16x2304x1536, .bf16⟩
  | .hbm, ⟨36, _⟩ => ⟨S64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .i32⟩
  | .hbm, ⟨52, _⟩ => ⟨S1, .i32⟩
  | .hbm, ⟨53, _⟩ => ⟨S16x2048x256, .bf16⟩
  | .local _ .vmem, ⟨0, _⟩ => ⟨S4x256x128, .bf16⟩
  | .local _ .vmem, ⟨1, _⟩ => ⟨S4x256x128, .bf16⟩
  | .local _ .vmem, ⟨2, _⟩ => ⟨S4x256x128, .bf16⟩
  | .local _ .vmem, ⟨3, _⟩ => ⟨S4x256x128, .bf16⟩
  | .local _ .vmem, ⟨4, _⟩ => ⟨S4x2304x128, .bf16⟩
  | .local _ .vmem, ⟨5, _⟩ => ⟨S4x2304x128, .bf16⟩
  | .local _ .vmem, ⟨6, _⟩ => ⟨S4x2304x128, .bf16⟩
  | .local _ .vmem, ⟨7, _⟩ => ⟨S4x2304x128, .bf16⟩
  | .local _ .vmem, ⟨8, _⟩ => ⟨S4x256x256, .bf16⟩
  | .local _ .vmem, ⟨9, _⟩ => ⟨S4x256x256, .bf16⟩
  | .local _ .smem, ⟨0, _⟩ => ⟨S1, .i32⟩
  | _, _ => ⟨S16x4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let c0_i32 : BitVec 32 := 0#32
  ![arg0.toNat, v0.toNat, c1_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e_8" => some ((8⁻¹ * (Real.log 2)⁻¹ : ℝ) : EReal)
  | _ => none
-- ==== ReferenceIdeal.lean ====
abbrev S16x4x2048x64 : Shape := ⟨4, ![16, 4, 2048, 64]⟩
abbrev S16x2x2048x64 : Shape := ⟨4, ![16, 2, 2048, 64]⟩
abbrev S16x4x256x64 : Shape := ⟨4, ![16, 4, 256, 64]⟩
abbrev S16x2x256x64 : Shape := ⟨4, ![16, 2, 256, 64]⟩
abbrev S16x2304x1024 : Shape := ⟨3, ![16, 2304, 1024]⟩
abbrev S64 : Shape := ⟨1, ![64]⟩
abbrev S16x2x2304x64 : Shape := ⟨4, ![16, 2, 2304, 64]⟩
abbrev S16x2x2x2048x64 : Shape := ⟨5, ![16, 2, 2, 2048, 64]⟩
abbrev S16x2x2x2048x2304 : Shape := ⟨5, ![16, 2, 2, 2048, 2304]⟩
abbrev S_ : Shape := ⟨0, ![]⟩
abbrev S16x2x2x2048 : Shape := ⟨4, ![16, 2, 2, 2048]⟩
abbrev S16x2x2x2048x1 : Shape := ⟨5, ![16, 2, 2, 2048, 1]⟩
abbrev S16x1x2048x64 : Shape := ⟨4, ![16, 1, 2048, 64]⟩
abbrev S16x2048x64 : Shape := ⟨3, ![16, 2048, 64]⟩
abbrev S16x2048x4x64 : Shape := ⟨4, ![16, 2048, 4, 64]⟩
abbrev S16x2048x256 : Shape := ⟨3, ![16, 2048, 256]⟩

abbrev nBuf : Space → Nat
  | .hbm => 48
  | .vmem => 0
  | .smem => 0
  | _ => 0

abbrev bufTy : (tb : Table) → Fin (tcTables nBuf tb) → BufTy
  | .hbm, ⟨0, _⟩ => ⟨S16x4x2048x64, .f32⟩
  | .hbm, ⟨1, _⟩ => ⟨S16x2x2048x64, .f32⟩
  | .hbm, ⟨2, _⟩ => ⟨S16x2x2048x64, .f32⟩
  | .hbm, ⟨3, _⟩ => ⟨S16x4x256x64, .f32⟩
  | .hbm, ⟨4, _⟩ => ⟨S16x2x256x64, .f32⟩
  | .hbm, ⟨5, _⟩ => ⟨S16x2x256x64, .f32⟩
  | .hbm, ⟨6, _⟩ => ⟨S16x2304x1024, .f32⟩
  | .hbm, ⟨7, _⟩ => ⟨S64, .f32⟩
  | .hbm, ⟨8, _⟩ => ⟨S64, .f32⟩
  | .hbm, ⟨9, _⟩ => ⟨S16x2x2304x64, .f32⟩
  | .hbm, ⟨10, _⟩ => ⟨S16x2x2304x64, .f32⟩
  | .hbm, ⟨11, _⟩ => ⟨S16x2x2x2048x64, .f32⟩
  | .hbm, ⟨12, _⟩ => ⟨S16x2x2x2048x2304, .f32⟩
  | .hbm, ⟨13, _⟩ => ⟨S_, .f32⟩
  | .hbm, ⟨14, _⟩ => ⟨S16x2x2x2048x2304, .f32⟩
  | .hbm, ⟨15, _⟩ => ⟨S16x2x2x2048x2304, .f32⟩
  | .hbm, ⟨16, _⟩ => ⟨S_, .f32⟩
  | .hbm, ⟨17, _⟩ => ⟨S16x2x2x2048, .f32⟩
  | .hbm, ⟨18, _⟩ => ⟨S_, .f32⟩
  | .hbm, ⟨19, _⟩ => ⟨S16x2x2x2048, .f32⟩
  | .hbm, ⟨20, _⟩ => ⟨S16x2x2x2048, .f32⟩
  | .hbm, ⟨21, _⟩ => ⟨S16x2x2x2048x1, .f32⟩
  | .hbm, ⟨22, _⟩ => ⟨S16x2x2x2048x2304, .f32⟩
  | .hbm, ⟨23, _⟩ => ⟨S16x2x2x2048x2304, .f32⟩
  | .hbm, ⟨24, _⟩ => ⟨S16x2x2x2048x2304, .f32⟩
  | .hbm, ⟨25, _⟩ => ⟨S_, .f32⟩
  | .hbm, ⟨26, _⟩ => ⟨S16x2x2x2048, .f32⟩
  | .hbm, ⟨27, _⟩ => ⟨S16x2x2x2048x1, .f32⟩
  | .hbm, ⟨28, _⟩ => ⟨S16x2x2x2048x2304, .f32⟩
  | .hbm, ⟨29, _⟩ => ⟨S16x2x2x2048x2304, .f32⟩
  | .hbm, ⟨30, _⟩ => ⟨S16x2x2x2048x64, .f32⟩
  | .hbm, ⟨31, _⟩ => ⟨S16x4x2048x64, .f32⟩
  | .hbm, ⟨32, _⟩ => ⟨S16x1x2048x64, .f32⟩
  | .hbm, ⟨33, _⟩ => ⟨S16x2048x64, .f32⟩
  | .hbm, ⟨34, _⟩ => ⟨S16x1x2048x64, .f32⟩
  | .hbm, ⟨35, _⟩ => ⟨S16x2048x64, .f32⟩
  | .hbm, ⟨36, _⟩ => ⟨S16x1x2048x64, .f32⟩
  | .hbm, ⟨37, _⟩ => ⟨S16x2048x64, .f32⟩
  | .hbm, ⟨38, _⟩ => ⟨S16x1x2048x64, .f32⟩
  | .hbm, ⟨39, _⟩ => ⟨S16x2048x64, .f32⟩
  | .hbm, ⟨40, _⟩ => ⟨S16x1x2048x64, .f32⟩
  | .hbm, ⟨41, _⟩ => ⟨S16x1x2048x64, .f32⟩
  | .hbm, ⟨42, _⟩ => ⟨S16x1x2048x64, .f32⟩
  | .hbm, ⟨43, _⟩ => ⟨S16x1x2048x64, .f32⟩
  | .hbm, ⟨44, _⟩ => ⟨S16x4x2048x64, .f32⟩
  | .hbm, ⟨45, _⟩ => ⟨S16x2048x4x64, .f32⟩
  | .hbm, ⟨46, _⟩ => ⟨S16x2048x256, .f32⟩
  | .hbm, ⟨47, _⟩ => ⟨S16x2048x256, .bf16⟩
  | _, _ => ⟨S16x4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S16x2048x256 : Shape := ⟨3, ![16, 2048, 256]⟩
abbrev S16x256x256 : Shape := ⟨3, ![16, 256, 256]⟩
abbrev S256 : Shape := ⟨1, ![256]⟩
abbrev S256x256 : Shape := ⟨2, ![256, 256]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x6144 : Shape := ⟨2, ![1, 6144]⟩
abbrev S_ : Shape := ⟨0, ![]⟩
abbrev S7x6144 : Shape := ⟨2, ![7, 6144]⟩
abbrev S24x6144 : Shape := ⟨2, ![24, 6144]⟩
abbrev S16x2048x64 : Shape := ⟨3, ![16, 2048, 64]⟩
abbrev S16x2304x1024 : Shape := ⟨3, ![16, 2304, 1024]⟩
abbrev S24x1x6144 : Shape := ⟨3, ![24, 1, 6144]⟩
abbrev S16x2304x256 : Shape := ⟨3, ![16, 2304, 256]⟩
abbrev S1x256 : Shape := ⟨2, ![1, 256]⟩
abbrev S64 : Shape := ⟨1, ![64]⟩
abbrev S768 : Shape := ⟨1, ![768]⟩
abbrev S1x1024 : Shape := ⟨2, ![1, 1024]⟩
abbrev S64x1024 : Shape := ⟨2, ![64, 1024]⟩
abbrev S768x1024 : Shape := ⟨2, ![768, 1024]⟩
abbrev S1x256x1024 : Shape := ⟨3, ![1, 256, 1024]⟩
abbrev S1x1x6144 : Shape := ⟨3, ![1, 1, 6144]⟩
abbrev S1x256x256 : Shape := ⟨3, ![1, 256, 256]⟩
abbrev S256x1024 : Shape := ⟨2, ![256, 1024]⟩
abbrev S256x1 : Shape := ⟨2, ![256, 1]⟩
abbrev S256x2816 : Shape := ⟨2, ![256, 2816]⟩

abbrev nBuf : Space → Nat
  | .hbm => 63
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x6144, .f32⟩
  | .hbm, ⟨3, _⟩ => ⟨S6144, .f32⟩
  | .hbm, ⟨4, _⟩ => ⟨S16x2048x256, .f32⟩
  | .hbm, ⟨5, _⟩ => ⟨S16x2048x256, .f32⟩
  | .hbm, ⟨6, _⟩ => ⟨S16x2048x256, .f32⟩
  | .hbm, ⟨7, _⟩ => ⟨S16x2048x256, .f32⟩
  | .hbm, ⟨8, _⟩ => ⟨S16x256x256, .f32⟩
  | .hbm, ⟨9, _⟩ => ⟨S16x2048x256, .f32⟩
  | .hbm, ⟨10, _⟩ => ⟨S16x256x256, .f32⟩
  | .hbm, ⟨11, _⟩ => ⟨S16x2048x256, .f32⟩
  | .hbm, ⟨12, _⟩ => ⟨S16x256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x2816, .f32⟩
  | .hbm, ⟨20, _⟩ => ⟨S1024x2816, .f32⟩
  | .hbm, ⟨21, _⟩ => ⟨S2816x1024, .f32⟩
  | .hbm, ⟨22, _⟩ => ⟨S1x6144, .f32⟩
  | .hbm, ⟨23, _⟩ => ⟨S_, .f32⟩
  | .hbm, ⟨24, _⟩ => ⟨S7x6144, .f32⟩
  | .hbm, ⟨25, _⟩ => ⟨S24x6144, .f32⟩
  | .hbm, ⟨26, _⟩ => ⟨S16x2048x64, .f32⟩
  | .hbm, ⟨27, _⟩ => ⟨S16x2048x64, .f32⟩
  | .hbm, ⟨28, _⟩ => ⟨S16x2048x64, .f32⟩
  | .hbm, ⟨29, _⟩ => ⟨S16x2048x64, .f32⟩
  | .hbm, ⟨30, _⟩ => ⟨S16x2048x256, .f32⟩
  | .hbm, ⟨31, _⟩ => ⟨S16x2304x1024, .f32⟩
  | .hbm, ⟨32, _⟩ => ⟨S24x1x6144, .f32⟩
  | .hbm, ⟨33, _⟩ => ⟨S16x2048x256, .bf16⟩
  | .hbm, ⟨34, _⟩ => ⟨S16x2048x256, .bf16⟩
  | .hbm, ⟨35, _⟩ => ⟨S16x2048x256, .bf16⟩
  | .hbm, ⟨36, _⟩ => ⟨S16x2304x256, .f32⟩
  | .hbm, ⟨37, _⟩ => ⟨S16x2304x256, .f32⟩
  | .hbm, ⟨38, _⟩ => ⟨S16x2304x256, .bf16⟩
  | .hbm, ⟨39, _⟩ => ⟨S16x2304x256, .f32⟩
  | .hbm, ⟨40, _⟩ => ⟨S16x2304x256, .bf16⟩
  | .hbm, ⟨41, _⟩ => ⟨S1x256, .f32⟩
  | .hbm, ⟨42, _⟩ => ⟨S256x256, .bf16⟩
  | .hbm, ⟨43, _⟩ => ⟨S1x256, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S768, .f32⟩
  | .hbm, ⟨49, _⟩ => ⟨S1024, .f32⟩
  | .hbm, ⟨50, _⟩ => ⟨S1x1024, .f32⟩
  | .hbm, ⟨51, _⟩ => ⟨S64x1024, .f32⟩
  | .hbm, ⟨52, _⟩ => ⟨S64x1024, .f32⟩
  | .hbm, ⟨53, _⟩ => ⟨S64x1024, .f32⟩
  | .hbm, ⟨54, _⟩ => ⟨S64x1024, .f32⟩
  | .hbm, ⟨55, _⟩ => ⟨S768x1024, .f32⟩
  | .hbm, ⟨56, _⟩ => ⟨S1024x1024, .f32⟩
  | .hbm, ⟨57, _⟩ => ⟨S1024x1024, .bf16⟩
  | .hbm, ⟨58, _⟩ => ⟨S1x1024, .f32⟩
  | .hbm, ⟨59, _⟩ => ⟨S1024x2816, .bf16⟩
  | .hbm, ⟨60, _⟩ => ⟨S1024x2816, .bf16⟩
  | .hbm, ⟨61, _⟩ => ⟨S2816x1024, .bf16⟩
  | .hbm, ⟨62, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .f32⟩
  | .local _ .vmem, ⟨11, _⟩ => ⟨S1x256x256, .f32⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256, .f32⟩
  | .local _ .vmem, ⟨17, _⟩ => ⟨S256x256, .bf16⟩
  | .local _ .vmem, ⟨18, _⟩ => ⟨S1x256, .f32⟩
  | .local _ .vmem, ⟨19, _⟩ => ⟨S1x1024, .f32⟩
  | .local _ .vmem, ⟨20, _⟩ => ⟨S1024x1024, .bf16⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S1x256x1024, .f32⟩
  | .local _ .vmem, ⟨26, _⟩ => ⟨S1x256x1024, .f32⟩
  | .local _ .vmem, ⟨27, _⟩ => ⟨S256x1024, .f32⟩
  | .local _ .vmem, ⟨28, _⟩ => ⟨S256x1024, .bf16⟩
  | .local _ .vmem, ⟨29, _⟩ => ⟨S1x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c128_i32 : BitVec 32 := 128#32
  let v4 : BitVec 1 := Scalar.cmpi .slt arg0 c128_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c128_i32_3 : BitVec 32 := 128#32
  let v8 : BitVec 1 := Scalar.cmpi .eq arg0 c128_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.addi v27 c1_i32_10
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.addi v27 c1_i32_10
  let c0_i32_11 : BitVec 32 := 0#32
  let v29 : BitVec 1 := Scalar.cmpi .eq v28 c0_i32_11
  let c16_i32 : BitVec 32 := 16#32
  let v30 : BitVec 32 := Scalar.select v29 c16_i32 v17
  let c0_i32_12 : BitVec 32 := 0#32
  let c0_i32_13 : BitVec 32 := 0#32
  let c0_i32_14 : BitVec 32 := 0#32
  ![v30.toNat, c0_i32_12.toNat, c0_i32_13.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_5 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.addi v27 c1_i32_10
  let c0_i32_11 : BitVec 32 := 0#32
  let c0_i32_12 : BitVec 32 := 0#32
  ![v17.toNat, v28.toNat, c0_i32_11.toNat]

def cc0_transform_6 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.addi v27 c1_i32_10
  let c0_i32_11 : BitVec 32 := 0#32
  let c0_i32_12 : BitVec 32 := 0#32
  ![v17.toNat, v28.toNat, c0_i32_11.toNat]

def cc0_transform_7 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.addi v27 c1_i32_10
  let c0_i32_11 : BitVec 32 := 0#32
  let c0_i32_12 : BitVec 32 := 0#32
  ![v17.toNat, v28.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S16x2048x256 : Shape := ⟨3, ![16, 2048, 256]⟩
abbrev S16x256x256 : Shape := ⟨3, ![16, 256, 256]⟩
abbrev S256 : Shape := ⟨1, ![256]⟩
abbrev S256x256 : Shape := ⟨2, ![256, 256]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S16x1024 : Shape := ⟨2, ![16, 1024]⟩
abbrev S16x1x1024 : Shape := ⟨3, ![16, 1, 1024]⟩
abbrev S1x1x256 : Shape := ⟨3, ![1, 1, 256]⟩
abbrev S_ : Shape := ⟨0, ![]⟩
abbrev S16x2048x4x256 : Shape := ⟨4, ![16, 2048, 4, 256]⟩
abbrev S4x256 : Shape := ⟨2, ![4, 256]⟩
abbrev S16x2048x4 : Shape := ⟨3, ![16, 2048, 4]⟩
abbrev S16x2048x4x1 : Shape := ⟨4, ![16, 2048, 4, 1]⟩
abbrev S1x1x4x256 : Shape := ⟨4, ![1, 1, 4, 256]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩

abbrev nBuf : Space → Nat
  | .hbm => 132
  | .vmem => 0
  | .smem => 0
  | _ => 0

abbrev hbmTy0_0 (i : Nat) : BufTy := match i % 128 with
  | 0 => ⟨S16x2048x1024, .f32⟩
  | 1 => ⟨S16x256x1024, .f32⟩
  | 2 => ⟨S16x6144, .f32⟩
  | 3 => ⟨S6144, .f32⟩
  | 4 => ⟨S16x2048x256, .f32⟩
  | 5 => ⟨S16x2048x256, .f32⟩
  | 6 => ⟨S16x2048x256, .f32⟩
  | 7 => ⟨S16x2048x256, .f32⟩
  | 8 => ⟨S16x256x256, .f32⟩
  | 9 => ⟨S16x2048x256, .f32⟩
  | 10 => ⟨S16x256x256, .f32⟩
  | 11 => ⟨S16x2048x256, .f32⟩
  | 12 => ⟨S16x256x256, .f32⟩
  | 13 => ⟨S256, .f32⟩
  | 14 => ⟨S256x256, .f32⟩
  | 15 => ⟨S256, .f32⟩
  | 16 => ⟨S1024, .f32⟩
  | 17 => ⟨S1024x1024, .f32⟩
  | 18 => ⟨S1024, .f32⟩
  | 19 => ⟨S1024x2816, .f32⟩
  | 20 => ⟨S1024x2816, .f32⟩
  | 21 => ⟨S2816x1024, .f32⟩
  | 22 => ⟨S16x1024, .f32⟩
  | 23 => ⟨S16x1024, .f32⟩
  | 24 => ⟨S16x1024, .f32⟩
  | 25 => ⟨S16x1024, .f32⟩
  | 26 => ⟨S16x1024, .f32⟩
  | 27 => ⟨S16x1024, .f32⟩
  | 28 => ⟨S16x1x1024, .f32⟩
  | 29 => ⟨S16x1x1024, .f32⟩
  | 30 => ⟨S16x1x1024, .f32⟩
  | 31 => ⟨S16x1x1024, .f32⟩
  | 32 => ⟨S16x1x1024, .f32⟩
  | 33 => ⟨S16x1x1024, .f32⟩
  | 34 => ⟨S1x1x256, .f32⟩
  | 35 => ⟨S16x2048x256, .f32⟩
  | 36 => ⟨S16x2048x256, .f32⟩
  | 37 => ⟨S16x2048x256, .f32⟩
  | 38 => ⟨S16x2048x256, .f32⟩
  | 39 => ⟨S16x2048x256, .f32⟩
  | 40 => ⟨S16x2048x256, .f32⟩
  | 41 => ⟨S_, .f32⟩
  | 42 => ⟨S16x2048x256, .f32⟩
  | 43 => ⟨S16x2048x256, .f32⟩
  | 44 => ⟨S16x2048x256, .f32⟩
  | 45 => ⟨S_, .f32⟩
  | 46 => ⟨S16x2048x256, .f32⟩
  | 47 => ⟨S16x2048x256, .f32⟩
  | 48 => ⟨S16x2048x256, .f32⟩
  | 49 => ⟨S_, .f32⟩
  | 50 => ⟨S16x2048x256, .f32⟩
  | 51 => ⟨S16x2048x256, .f32⟩
  | 52 => ⟨S_, .f32⟩
  | 53 => ⟨S16x2048x256, .f32⟩
  | 54 => ⟨S16x2048x256, .f32⟩
  | 55 => ⟨S16x2048x256, .f32⟩
  | 56 => ⟨S16x2048x256, .f32⟩
  | 57 => ⟨S1x1x256, .f32⟩
  | 58 => ⟨S16x2048x256, .f32⟩
  | 59 => ⟨S16x2048x256, .f32⟩
  | 60 => ⟨S16x2048x256, .f32⟩
  | 61 => ⟨S16x2048x256, .f32⟩
  | 62 => ⟨S_, .f32⟩
  | 63 => ⟨S16x2048x256, .f32⟩
  | 64 => ⟨S16x2048x256, .f32⟩
  | 65 => ⟨S_, .f32⟩
  | 66 => ⟨S16x2048x256, .f32⟩
  | 67 => ⟨S16x2048x256, .f32⟩
  | 68 => ⟨S16x2048x256, .f32⟩
  | 69 => ⟨S16x2048x1024, .f32⟩
  | 70 => ⟨S16x2048x4x256, .f32⟩
  | 71 => ⟨S4x256, .f32⟩
  | 72 => ⟨S16x2048x4x256, .f32⟩
  | 73 => ⟨S_, .f32⟩
  | 74 => ⟨S16x2048x4, .f32⟩
  | 75 => ⟨S16x2048x4x1, .f32⟩
  | 76 => ⟨S_, .f32⟩
  | 77 => ⟨S16x2048x4x1, .f32⟩
  | 78 => ⟨S16x2048x4x1, .f32⟩
  | 79 => ⟨S_, .f32⟩
  | 80 => ⟨S16x2048x4x1, .f32⟩
  | 81 => ⟨S16x2048x4x1, .f32⟩
  | 82 => ⟨S16x2048x4x1, .f32⟩
  | 83 => ⟨S16x2048x4x256, .f32⟩
  | 84 => ⟨S16x2048x4x256, .f32⟩
  | 85 => ⟨S1x1x4x256, .f32⟩
  | 86 => ⟨S16x2048x4x256, .f32⟩
  | 87 => ⟨S16x2048x4x256, .f32⟩
  | 88 => ⟨S16x2048x1024, .f32⟩
  | 89 => ⟨S16x2048x1024, .f32⟩
  | 90 => ⟨S16x2048x1024, .f32⟩
  | 91 => ⟨S16x2048x1024, .f32⟩
  | 92 => ⟨S16x2048x1024, .f32⟩
  | 93 => ⟨S16x2048x1024, .f32⟩
  | 94 => ⟨S_, .f32⟩
  | 95 => ⟨S16x2048, .f32⟩
  | 96 => ⟨S16x2048x1, .f32⟩
  | 97 => ⟨S_, .f32⟩
  | 98 => ⟨S16x2048x1, .f32⟩
  | 99 => ⟨S16x2048x1, .f32⟩
  | 100 => ⟨S_, .f32⟩
  | 101 => ⟨S16x2048x1, .f32⟩
  | 102 => ⟨S16x2048x1, .f32⟩
  | 103 => ⟨S16x2048x1, .f32⟩
  | 104 => ⟨S16x2048x1024, .f32⟩
  | 105 => ⟨S16x2048x1024, .f32⟩
  | 106 => ⟨S1x1x1024, .f32⟩
  | 107 => ⟨S16x2048x1024, .f32⟩
  | 108 => ⟨S16x2048x1024, .f32⟩
  | 109 => ⟨S_, .f32⟩
  | 110 => ⟨S16x1x1024, .f32⟩
  | 111 => ⟨S16x1x1024, .f32⟩
  | 112 => ⟨S16x2048x1024, .f32⟩
  | 113 => ⟨S16x2048x1024, .f32⟩
  | 114 => ⟨S16x2048x1024, .f32⟩
  | 115 => ⟨S16x2048x1024, .f32⟩
  | 116 => ⟨S16x2048x2816, .f32⟩
  | 117 => ⟨S16x2048x2816, .f32⟩
  | 118 => ⟨S16x2048x2816, .f32⟩
  | 119 => ⟨S_, .f32⟩
  | 120 => ⟨S16x2048x2816, .f32⟩
  | 121 => ⟨S16x2048x2816, .f32⟩
  | 122 => ⟨S_, .f32⟩
  | 123 => ⟨S16x2048x2816, .f32⟩
  | 124 => ⟨S16x2048x2816, .f32⟩
  | 125 => ⟨S16x2048x2816, .f32⟩
  | 126 => ⟨S16x2048x2816, .f32⟩
  | 127 => ⟨S16x2048x2816, .f32⟩
  | _ => ⟨S16x2048x1024, .f32⟩

abbrev hbmTy0_1 (i : Nat) : BufTy := match i % 128 with
  | 0 => ⟨S16x2048x1024, .f32⟩
  | 1 => ⟨S16x2048x1024, .f32⟩
  | 2 => ⟨S16x2048x1024, .f32⟩
  | 3 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call0_v0 : Ref sig .tc := ⟨.hbm, 117, rfl⟩
abbrev main_call0_v1 : Ref sig .tc := ⟨.hbm, 118, rfl⟩
abbrev main_call0_cst : Ref sig .tc := ⟨.hbm, 119, rfl⟩
abbrev main_call0_v2 : Ref sig .tc := ⟨.hbm, 120, rfl⟩
abbrev main_call0_v3 : Ref sig .tc := ⟨.hbm, 121, rfl⟩
abbrev main_call0_cst_0 : Ref sig .tc := ⟨.hbm, 122, rfl⟩
abbrev main_call0_v4 : Ref sig .tc := ⟨.hbm, 123, rfl⟩
abbrev main_call0_v5 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S1024 : Shape := ⟨1, ![1024]⟩
abbrev S1024x1792 : Shape := ⟨2, ![1024, 1792]⟩
abbrev S64 : Shape := ⟨1, ![64]⟩
abbrev S1x6144 : Shape := ⟨2, ![1, 6144]⟩
abbrev S_ : Shape := ⟨0, ![]⟩
abbrev S7x6144 : Shape := ⟨2, ![7, 6144]⟩
abbrev S24x6144 : Shape := ⟨2, ![24, 6144]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S256x64 : Shape := ⟨2, ![256, 64]⟩
abbrev S2304x64 : Shape := ⟨2, ![2304, 64]⟩
abbrev S1x2304x1x64 : Shape := ⟨4, ![1, 2304, 1, 64]⟩
abbrev S1x2304x2x64 : Shape := ⟨4, ![1, 2304, 2, 64]⟩
abbrev S2304x128 : Shape := ⟨2, ![2304, 128]⟩
abbrev S16x2304x1024 : Shape := ⟨3, ![16, 2304, 1024]⟩
abbrev S24x1x6144 : Shape := ⟨3, ![24, 1, 6144]⟩
abbrev S1x1024 : Shape := ⟨2, ![1, 1024]⟩
abbrev S1024x64 : Shape := ⟨2, ![1024, 64]⟩
abbrev S1024x1536 : Shape := ⟨2, ![1024, 1536]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x2304x1536 : Shape := ⟨3, ![16, 2304, 1536]⟩
abbrev S16x2304x256 : Shape := ⟨3, ![16, 2304, 256]⟩
abbrev S4x256x1024 : Shape := ⟨3, ![4, 256, 1024]⟩
abbrev S4x1x6144 : Shape := ⟨3, ![4, 1, 6144]⟩
abbrev S1x1x6144 : Shape := ⟨3, ![1, 1, 6144]⟩
abbrev S256x128 : Shape := ⟨2, ![256, 128]⟩
abbrev S4x256x1536 : Shape := ⟨3, ![4, 256, 1536]⟩
abbrev S4x256x256 : Shape := ⟨3, ![4, 256, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩
abbrev S1x256x128 : Shape := ⟨3, ![1, 256, 128]⟩
abbrev S256x256 : Shape := ⟨2, ![256, 256]⟩
abbrev S1x256x256 : Shape := ⟨3, ![1, 256, 256]⟩

abbrev nBuf : Space → Nat
  | .hbm => 131
  | .vmem => 19
  | .smem => 0
  | _ => 0

abbrev hbmTy0_0 (i : Nat) : BufTy := match i % 128 with
  | 0 => ⟨S16x2048x1024, .f32⟩
  | 1 => ⟨S16x256x1024, .f32⟩
  | 2 => ⟨S16x6144, .f32⟩
  | 3 => ⟨S6144, .f32⟩
  | 4 => ⟨S1024, .f32⟩
  | 5 => ⟨S1024x1792, .f32⟩
  | 6 => ⟨S64, .f32⟩
  | 7 => ⟨S64, .f32⟩
  | 8 => ⟨S64, .f32⟩
  | 9 => ⟨S64, .f32⟩
  | 10 => ⟨S1x6144, .f32⟩
  | 11 => ⟨S_, .f32⟩
  | 12 => ⟨S7x6144, .f32⟩
  | 13 => ⟨S24x6144, .f32⟩
  | 14 => ⟨S2048, .i32⟩
  | 15 => ⟨S_, .i32⟩
  | 16 => ⟨S_, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i1⟩
  | 23 => ⟨S2048, .i32⟩
  | 24 => ⟨S2048, .i32⟩
  | 25 => ⟨S_, .i32⟩
  | 26 => ⟨S2048, .i32⟩
  | 27 => ⟨S2048, .i1⟩
  | 28 => ⟨S2048, .i1⟩
  | 29 => ⟨S_, .i32⟩
  | 30 => ⟨S2048, .i32⟩
  | 31 => ⟨S2048, .i32⟩
  | 32 => ⟨S2048, .i32⟩
  | 33 => ⟨S2048, .f32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i1⟩
  | 45 => ⟨S_, .i32⟩
  | 46 => ⟨S2048, .i32⟩
  | 47 => ⟨S2048, .i1⟩
  | 48 => ⟨S_, .i32⟩
  | 49 => ⟨S_, .i1⟩
  | 50 => ⟨S2048, .i1⟩
  | 51 => ⟨S2048, .i1⟩
  | 52 => ⟨S2048, .i1⟩
  | 53 => ⟨S2048, .i32⟩
  | 54 => ⟨S2048, .i32⟩
  | 55 => ⟨S2048, .i32⟩
  | 56 => ⟨S2048, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S2048x1, .f32⟩
  | 72 => ⟨S1x16, .f32⟩
  | 73 => ⟨S2048x16, .f32⟩
  | 74 => ⟨S2048x16, .f32⟩
  | 75 => ⟨S2048x16, .f32⟩
  | 76 => ⟨S2048x1, .f32⟩
  | 77 => ⟨S1x16, .f32⟩
  | 78 => ⟨S2048x16, .f32⟩
  | 79 => ⟨S2048x16, .f32⟩
  | 80 => ⟨S2048x16, .f32⟩
  | 81 => ⟨S2048x16, .f32⟩
  | 82 => ⟨S2048x16, .f32⟩
  | 83 => ⟨S2048x64, .f32⟩
  | 84 => ⟨S2048x16, .f32⟩
  | 85 => ⟨S2048x16, .f32⟩
  | 86 => ⟨S2048x16, .f32⟩
  | 87 => ⟨S2048x16, .f32⟩
  | 88 => ⟨S2048x16, .f32⟩
  | 89 => ⟨S2048x16, .f32⟩
  | 90 => ⟨S2048x64, .f32⟩
  | 91 => ⟨S_, .f32⟩
  | 92 => ⟨S256x64, .f32⟩
  | 93 => ⟨S2304x64, .f32⟩
  | 94 => ⟨S_, .f32⟩
  | 95 => ⟨S256x64, .f32⟩
  | 96 => ⟨S2304x64, .f32⟩
  | 97 => ⟨S1x2304x1x64, .f32⟩
  | 98 => ⟨S1x2304x2x64, .f32⟩
  | 99 => ⟨S2304x128, .f32⟩
  | 100 => ⟨S1x2304x1x64, .f32⟩
  | 101 => ⟨S1x2304x2x64, .f32⟩
  | 102 => ⟨S2304x128, .f32⟩
  | 103 => ⟨S16x2304x1024, .f32⟩
  | 104 => ⟨S24x1x6144, .f32⟩
  | 105 => ⟨S1x1024, .f32⟩
  | 106 => ⟨S1024x64, .f32⟩
  | 107 => ⟨S1024x64, .f32⟩
  | 108 => ⟨S1024x64, .f32⟩
  | 109 => ⟨S1024x64, .f32⟩
  | 110 => ⟨S1024x1536, .f32⟩
  | 111 => ⟨S1024x1792, .f32⟩
  | 112 => ⟨S1024x1792, .bf16⟩
  | 113 => ⟨S1x64, .f32⟩
  | 114 => ⟨S2x64, .f32⟩
  | 115 => ⟨S128, .f32⟩
  | 116 => ⟨S1x128, .f32⟩
  | 117 => ⟨S1x64, .f32⟩
  | 118 => ⟨S2x64, .f32⟩
  | 119 => ⟨S128, .f32⟩
  | 120 => ⟨S1x128, .f32⟩
  | 121 => ⟨S1x64, .f32⟩
  | 122 => ⟨S2x64, .f32⟩
  | 123 => ⟨S128, .f32⟩
  | 124 => ⟨S1x128, .f32⟩
  | 125 => ⟨S1x64, .f32⟩
  | 126 => ⟨S2x64, .f32⟩
  | 127 => ⟨S128, .f32⟩
  | _ => ⟨S16x2048x1024, .f32⟩

abbrev hbmTy0_1 (i : Nat) : BufTy := match i % 128 with
  | 0 => ⟨S1x128, .f32⟩
  | 1 => ⟨S16x2304x1536, .bf16⟩
  | 2 => ⟨S16x2304x256, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S4x256x1024, .f32⟩
  | .local _ .vmem, ⟨1, _⟩ => ⟨S4x256x1024, .f32⟩
  | .local _ .vmem, ⟨2, _⟩ => ⟨S4x1x6144, .f32⟩
  | .local _ .vmem, ⟨3, _⟩ => ⟨S4x1x6144, .f32⟩
  | .local _ .vmem, ⟨4, _⟩ => ⟨S1x1x6144, .f32⟩
  | .local _ .vmem, ⟨5, _⟩ => ⟨S1x1024, .f32⟩
  | .local _ .vmem, ⟨6, _⟩ => ⟨S1024x1792, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S4x256x1536, .bf16⟩
  | .local _ .vmem, ⟨16, _⟩ => ⟨S4x256x1536, .bf16⟩
  | .local _ .vmem, ⟨17, _⟩ => ⟨S4x256x256, .f32⟩
  | .local _ .vmem, ⟨18, _⟩ => ⟨S4x256x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst_1 : Ref sig .tc := ⟨.hbm, 58, rfl⟩
abbrev main_v9 : Ref sig .tc := ⟨.hbm, 59, rfl⟩
abbrev main_v10 : Ref sig .tc := ⟨.hbm, 60, rfl⟩
abbrev main_cst_2 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_3 : Ref sig .tc := ⟨.hbm, 65, rfl⟩
abbrev main_v14 : Ref sig .tc := ⟨.hbm, 66, rfl⟩
abbrev main_v15 : Ref sig .tc := ⟨.hbm, 67, rfl⟩
abbrev main_cst_4 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_5 : Ref sig .tc := ⟨.hbm, 91, rfl⟩
abbrev main_v38 : Ref sig .tc := ⟨.hbm, 92, rfl⟩
abbrev main_v39 : Ref sig .tc := ⟨.hbm, 93, rfl⟩
abbrev main_cst_6 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74_0 : Ref sig .tc := ⟨.hbm, 129, rfl⟩
abbrev main_v74_1 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S4x256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S1024 : Shape := ⟨1, ![1024]⟩
abbrev S1024x1792 : Shape := ⟨2, ![1024, 1792]⟩
abbrev S64 : Shape := ⟨1, ![64]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S16x2048x1792 : Shape := ⟨3, ![16, 2048, 1792]⟩
abbrev S16x2048x256 : Shape := ⟨3, ![16, 2048, 256]⟩
abbrev S16x2048x128 : Shape := ⟨3, ![16, 2048, 128]⟩
abbrev S16x2048x4x64 : Shape := ⟨4, ![16, 2048, 4, 64]⟩
abbrev S16x4x2048x64 : Shape := ⟨4, ![16, 4, 2048, 64]⟩
abbrev S16x4x2048 : Shape := ⟨3, ![16, 4, 2048]⟩
abbrev S16x4x2048x1 : Shape := ⟨4, ![16, 4, 2048, 1]⟩
abbrev S1x1x1x64 : Shape := ⟨4, ![1, 1, 1, 64]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S16x4x2048x32 : Shape := ⟨4, ![16, 4, 2048, 32]⟩
abbrev S16x4x2048x16 : Shape := ⟨4, ![16, 4, 2048, 16]⟩
abbrev S1x1x2048x16 : Shape := ⟨4, ![1, 1, 2048, 16]⟩
abbrev S16x1x2048x64 : Shape := ⟨4, ![16, 1, 2048, 64]⟩
abbrev S16x2048x64 : Shape := ⟨3, ![16, 2048, 64]⟩
abbrev S16x2048x2x64 : Shape := ⟨4, ![16, 2048, 2, 64]⟩
abbrev S16x2x2048x64 : Shape := ⟨4, ![16, 2, 2048, 64]⟩
abbrev S16x2x2048 : Shape := ⟨3, ![16, 2, 2048]⟩
abbrev S16x2x2048x1 : Shape := ⟨4, ![16, 2, 2048, 1]⟩
abbrev S16x2x2048x32 : Shape := ⟨4, ![16, 2, 2048, 32]⟩
abbrev S16x2x2048x16 : Shape := ⟨4, ![16, 2, 2048, 16]⟩
abbrev S16x2048x1536 : Shape := ⟨3, ![16, 2048, 1536]⟩
abbrev S16x256x1792 : Shape := ⟨3, ![16, 256, 1792]⟩
abbrev S16x256x256 : Shape := ⟨3, ![16, 256, 256]⟩
abbrev S16x256x128 : Shape := ⟨3, ![16, 256, 128]⟩
abbrev S16x256x4x64 : Shape := ⟨4, ![16, 256, 4, 64]⟩
abbrev S16x4x256x64 : Shape := ⟨4, ![16, 4, 256, 64]⟩
abbrev S16x4x256 : Shape := ⟨3, ![16, 4, 256]⟩
abbrev S16x4x256x1 : Shape := ⟨4, ![16, 4, 256, 1]⟩
abbrev S16x1x256x64 : Shape := ⟨4, ![16, 1, 256, 64]⟩
abbrev S16x256x64 : Shape := ⟨3, ![16, 256, 64]⟩
abbrev S16x256x2x64 : Shape := ⟨4, ![16, 256, 2, 64]⟩
abbrev S16x2x256x64 : Shape := ⟨4, ![16, 2, 256, 64]⟩
abbrev S16x2x256 : Shape := ⟨3, ![16, 2, 256]⟩
abbrev S16x2x256x1 : Shape := ⟨4, ![16, 2, 256, 1]⟩
abbrev S16x256x1536 : Shape := ⟨3, ![16, 256, 1536]⟩
abbrev S16x2304x1536 : Shape := ⟨3, ![16, 2304, 1536]⟩
abbrev S16x2304x256 : Shape := ⟨3, ![16, 2304, 256]⟩

abbrev nBuf : Space → Nat
  | .hbm => 489
  | .vmem => 0
  | .smem => 0
  | _ => 0

abbrev hbmTy0_0 (i : Nat) : BufTy := match i % 128 with
  | 0 => ⟨S16x2048x1024, .f32⟩
  | 1 => ⟨S16x256x1024, .f32⟩
  | 2 => ⟨S16x6144, .f32⟩
  | 3 => ⟨S6144, .f32⟩
  | 4 => ⟨S1024, .f32⟩
  | 5 => ⟨S1024x1792, .f32⟩
  | 6 => ⟨S64, .f32⟩
  | 7 => ⟨S64, .f32⟩
  | 8 => ⟨S64, .f32⟩
  | 9 => ⟨S64, .f32⟩
  | 10 => ⟨S16x1024, .f32⟩
  | 11 => ⟨S16x1x1024, .f32⟩
  | 12 => ⟨S16x1024, .f32⟩
  | 13 => ⟨S16x1x1024, .f32⟩
  | 14 => ⟨S1024, .f32⟩
  | 15 => ⟨S1024, .f32⟩
  | 16 => ⟨S16x2048x1024, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S_, .f32⟩
  | 24 => ⟨S16x2048x1, .f32⟩
  | 25 => ⟨S16x2048x1, .f32⟩
  | 26 => ⟨S16x2048x1, .f32⟩
  | 27 => ⟨S16x2048x1024, .f32⟩
  | 28 => ⟨S16x2048x1024, .f32⟩
  | 29 => ⟨S1x1x1024, .f32⟩
  | 30 => ⟨S16x2048x1024, .f32⟩
  | 31 => ⟨S16x2048x1024, .f32⟩
  | 32 => ⟨S_, .f32⟩
  | 33 => ⟨S16x1x1024, .f32⟩
  | 34 => ⟨S16x1x1024, .f32⟩
  | 35 => ⟨S16x2048x1024, .f32⟩
  | 36 => ⟨S16x2048x1024, .f32⟩
  | 37 => ⟨S16x2048x1024, .f32⟩
  | 38 => ⟨S16x2048x1024, .f32⟩
  | 39 => ⟨S16x256x1024, .f32⟩
  | 40 => ⟨S_, .f32⟩
  | 41 => ⟨S16x256, .f32⟩
  | 42 => ⟨S16x256x1, .f32⟩
  | 43 => ⟨S_, .f32⟩
  | 44 => ⟨S16x256x1, .f32⟩
  | 45 => ⟨S16x256x1, .f32⟩
  | 46 => ⟨S_, .f32⟩
  | 47 => ⟨S16x256x1, .f32⟩
  | 48 => ⟨S16x256x1, .f32⟩
  | 49 => ⟨S16x256x1, .f32⟩
  | 50 => ⟨S16x256x1024, .f32⟩
  | 51 => ⟨S16x256x1024, .f32⟩
  | 52 => ⟨S1x1x1024, .f32⟩
  | 53 => ⟨S16x256x1024, .f32⟩
  | 54 => ⟨S16x256x1024, .f32⟩
  | 55 => ⟨S_, .f32⟩
  | 56 => ⟨S1024, .f32⟩
  | 57 => ⟨S1024, .f32⟩
  | 58 => ⟨S1x1x1024, .f32⟩
  | 59 => ⟨S16x256x1024, .f32⟩
  | 60 => ⟨S16x256x1024, .f32⟩
  | 61 => ⟨S1x1x1024, .f32⟩
  | 62 => ⟨S16x256x1024, .f32⟩
  | 63 => ⟨S16x256x1024, .f32⟩
  | 64 => ⟨S16x2048x1792, .f32⟩
  | 65 => ⟨S16x2048x256, .f32⟩
  | 66 => ⟨S16x2048x128, .f32⟩
  | 67 => ⟨S16x2048x128, .f32⟩
  | 68 => ⟨S16x2048x256, .f32⟩
  | 69 => ⟨S16x2048x256, .f32⟩
  | 70 => ⟨S16x2048x256, .f32⟩
  | 71 => ⟨S16x2048x256, .f32⟩
  | 72 => ⟨S16x2048x256, .f32⟩
  | 73 => ⟨S16x2048x4x64, .f32⟩
  | 74 => ⟨S16x4x2048x64, .f32⟩
  | 75 => ⟨S16x4x2048x64, .f32⟩
  | 76 => ⟨S_, .f32⟩
  | 77 => ⟨S16x4x2048, .f32⟩
  | 78 => ⟨S16x4x2048x1, .f32⟩
  | 79 => ⟨S_, .f32⟩
  | 80 => ⟨S16x4x2048x1, .f32⟩
  | 81 => ⟨S16x4x2048x1, .f32⟩
  | 82 => ⟨S_, .f32⟩
  | 83 => ⟨S16x4x2048x1, .f32⟩
  | 84 => ⟨S16x4x2048x1, .f32⟩
  | 85 => ⟨S16x4x2048x1, .f32⟩
  | 86 => ⟨S16x4x2048x64, .f32⟩
  | 87 => ⟨S16x4x2048x64, .f32⟩
  | 88 => ⟨S1x1x1x64, .f32⟩
  | 89 => ⟨S16x4x2048x64, .f32⟩
  | 90 => ⟨S16x4x2048x64, .f32⟩
  | 91 => ⟨S2048, .i32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S_, .i32⟩
  | 107 => ⟨S_, .i32⟩
  | 108 => ⟨S2048, .i32⟩
  | 109 => ⟨S2048, .i32⟩
  | 110 => ⟨S2048, .i32⟩
  | 111 => ⟨S_, .i32⟩
  | 112 => ⟨S2048, .i32⟩
  | 113 => ⟨S2048, .i1⟩
  | 114 => ⟨S2048, .i32⟩
  | 115 => ⟨S2048, .i32⟩
  | 116 => ⟨S_, .i32⟩
  | 117 => ⟨S2048, .i32⟩
  | 118 => ⟨S2048, .i1⟩
  | 119 => ⟨S2048, .i1⟩
  | 120 => ⟨S_, .i32⟩
  | 121 => ⟨S2048, .i32⟩
  | 122 => ⟨S2048, .i32⟩
  | 123 => ⟨S2048, .i32⟩
  | 124 => ⟨S2048, .f32⟩
  | 125 => ⟨S2048x1, .f32⟩
  | 126 => ⟨S1x16, .f32⟩
  | 127 => ⟨S2048x16, .f32⟩
  | _ => ⟨S16x2048x1024, .f32⟩

abbrev hbmTy0_1 (i : Nat) : BufTy := match i % 128 with
  | 0 => ⟨S2048x16, .f32⟩
  | 1 => ⟨S2048x16, .f32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S2048, .i32⟩
  | 9 => ⟨S2048, .i32⟩
  | 10 => ⟨S_, .i32⟩
  | 11 => ⟨S2048, .i32⟩
  | 12 => ⟨S2048, .i1⟩
  | 13 => ⟨S_, .i32⟩
  | 14 => ⟨S2048, .i32⟩
  | 15 => ⟨S2048, .i1⟩
  | 16 => ⟨S_, .i32⟩
  | 17 => ⟨S_, .i1⟩
  | 18 => ⟨S2048, .i1⟩
  | 19 => ⟨S2048, .i1⟩
  | 20 => ⟨S2048, .i1⟩
  | 21 => ⟨S2048, .i32⟩
  | 22 => ⟨S2048, .i32⟩
  | 23 => ⟨S2048, .i32⟩
  | 24 => ⟨S2048, .f32⟩
  | 25 => ⟨S2048x1, .f32⟩
  | 26 => ⟨S1x16, .f32⟩
  | 27 => ⟨S2048x16, .f32⟩
  | 28 => ⟨S2048x16, .f32⟩
  | 29 => ⟨S2048x16, .f32⟩
  | 30 => ⟨S16x4x2048x32, .f32⟩
  | 31 => ⟨S16x4x2048x32, .f32⟩
  | 32 => ⟨S2048x16, .f32⟩
  | 33 => ⟨S2048x16, .f32⟩
  | 34 => ⟨S16x4x2048x16, .f32⟩
  | 35 => ⟨S16x4x2048x16, .f32⟩
  | 36 => ⟨S1x1x2048x16, .f32⟩
  | 37 => ⟨S16x4x2048x16, .f32⟩
  | 38 => ⟨S16x4x2048x16, .f32⟩
  | 39 => ⟨S1x1x2048x16, .f32⟩
  | 40 => ⟨S16x4x2048x16, .f32⟩
  | 41 => ⟨S16x4x2048x16, .f32⟩
  | 42 => ⟨S16x4x2048x16, .f32⟩
  | 43 => ⟨S1x1x2048x16, .f32⟩
  | 44 => ⟨S16x4x2048x16, .f32⟩
  | 45 => ⟨S16x4x2048x16, .f32⟩
  | 46 => ⟨S1x1x2048x16, .f32⟩
  | 47 => ⟨S16x4x2048x16, .f32⟩
  | 48 => ⟨S16x4x2048x16, .f32⟩
  | 49 => ⟨S16x4x2048x16, .f32⟩
  | 50 => ⟨S16x4x2048x32, .f32⟩
  | 51 => ⟨S2048x16, .f32⟩
  | 52 => ⟨S2048x16, .f32⟩
  | 53 => ⟨S16x4x2048x16, .f32⟩
  | 54 => ⟨S16x4x2048x16, .f32⟩
  | 55 => ⟨S1x1x2048x16, .f32⟩
  | 56 => ⟨S16x4x2048x16, .f32⟩
  | 57 => ⟨S16x4x2048x16, .f32⟩
  | 58 => ⟨S1x1x2048x16, .f32⟩
  | 59 => ⟨S16x4x2048x16, .f32⟩
  | 60 => ⟨S16x4x2048x16, .f32⟩
  | 61 => ⟨S16x4x2048x16, .f32⟩
  | 62 => ⟨S1x1x2048x16, .f32⟩
  | 63 => ⟨S16x4x2048x16, .f32⟩
  | 64 => ⟨S16x4x2048x16, .f32⟩
  | 65 => ⟨S1x1x2048x16, .f32⟩
  | 66 => ⟨S16x4x2048x16, .f32⟩
  | 67 => ⟨S16x4x2048x16, .f32⟩
  | 68 => ⟨S16x4x2048x16, .f32⟩
  | 69 => ⟨S16x4x2048x32, .f32⟩
  | 70 => ⟨S16x4x2048x64, .f32⟩
  | 71 => ⟨S16x1x2048x64, .f32⟩
  | 72 => ⟨S16x2048x64, .f32⟩
  | 73 => ⟨S16x1x2048x64, .f32⟩
  | 74 => ⟨S16x2048x64, .f32⟩
  | 75 => ⟨S16x1x2048x64, .f32⟩
  | 76 => ⟨S16x2048x64, .f32⟩
  | 77 => ⟨S16x1x2048x64, .f32⟩
  | 78 => ⟨S16x2048x64, .f32⟩
  | 79 => ⟨S16x1x2048x64, .f32⟩
  | 80 => ⟨S16x1x2048x64, .f32⟩
  | 81 => ⟨S16x1x2048x64, .f32⟩
  | 82 => ⟨S16x1x2048x64, .f32⟩
  | 83 => ⟨S16x4x2048x64, .f32⟩
  | 84 => ⟨S16x2048x2x64, .f32⟩
  | 85 => ⟨S16x2x2048x64, .f32⟩
  | 86 => ⟨S16x2x2048x64, .f32⟩
  | 87 => ⟨S_, .f32⟩
  | 88 => ⟨S16x2x2048, .f32⟩
  | 89 => ⟨S16x2x2048x1, .f32⟩
  | 90 => ⟨S_, .f32⟩
  | 91 => ⟨S16x2x2048x1, .f32⟩
  | 92 => ⟨S16x2x2048x1, .f32⟩
  | 93 => ⟨S_, .f32⟩
  | 94 => ⟨S16x2x2048x1, .f32⟩
  | 95 => ⟨S16x2x2048x1, .f32⟩
  | 96 => ⟨S16x2x2048x1, .f32⟩
  | 97 => ⟨S16x2x2048x64, .f32⟩
  | 98 => ⟨S16x2x2048x64, .f32⟩
  | 99 => ⟨S1x1x1x64, .f32⟩
  | 100 => ⟨S16x2x2048x64, .f32⟩
  | 101 => ⟨S16x2x2048x64, .f32⟩
  | 102 => ⟨S2048, .i32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S_, .i32⟩
  | 118 => ⟨S_, .i32⟩
  | 119 => ⟨S2048, .i32⟩
  | 120 => ⟨S2048, .i32⟩
  | 121 => ⟨S2048, .i32⟩
  | 122 => ⟨S_, .i32⟩
  | 123 => ⟨S2048, .i32⟩
  | 124 => ⟨S2048, .i1⟩
  | 125 => ⟨S2048, .i32⟩
  | 126 => ⟨S2048, .i32⟩
  | 127 => ⟨S_, .i32⟩
  | _ => ⟨S16x2048x1024, .f32⟩

abbrev hbmTy0_2 (i : Nat) : BufTy := match i % 128 with
  | 0 => ⟨S2048, .i32⟩
  | 1 => ⟨S2048, .i1⟩
  | 2 => ⟨S2048, .i1⟩
  | 3 => ⟨S_, .i32⟩
  | 4 => ⟨S2048, .i32⟩
  | 5 => ⟨S2048, .i32⟩
  | 6 => ⟨S2048, .i32⟩
  | 7 => ⟨S2048, .f32⟩
  | 8 => ⟨S2048x1, .f32⟩
  | 9 => ⟨S1x16, .f32⟩
  | 10 => ⟨S2048x16, .f32⟩
  | 11 => ⟨S2048x16, .f32⟩
  | 12 => ⟨S2048x16, .f32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S2048, .i32⟩
  | 20 => ⟨S2048, .i32⟩
  | 21 => ⟨S_, .i32⟩
  | 22 => ⟨S2048, .i32⟩
  | 23 => ⟨S2048, .i1⟩
  | 24 => ⟨S_, .i32⟩
  | 25 => ⟨S2048, .i32⟩
  | 26 => ⟨S2048, .i1⟩
  | 27 => ⟨S_, .i32⟩
  | 28 => ⟨S_, .i1⟩
  | 29 => ⟨S2048, .i1⟩
  | 30 => ⟨S2048, .i1⟩
  | 31 => ⟨S2048, .i1⟩
  | 32 => ⟨S2048, .i32⟩
  | 33 => ⟨S2048, .i32⟩
  | 34 => ⟨S2048, .i32⟩
  | 35 => ⟨S2048, .f32⟩
  | 36 => ⟨S2048x1, .f32⟩
  | 37 => ⟨S1x16, .f32⟩
  | 38 => ⟨S2048x16, .f32⟩
  | 39 => ⟨S2048x16, .f32⟩
  | 40 => ⟨S2048x16, .f32⟩
  | 41 => ⟨S16x2x2048x32, .f32⟩
  | 42 => ⟨S16x2x2048x32, .f32⟩
  | 43 => ⟨S2048x16, .f32⟩
  | 44 => ⟨S2048x16, .f32⟩
  | 45 => ⟨S16x2x2048x16, .f32⟩
  | 46 => ⟨S16x2x2048x16, .f32⟩
  | 47 => ⟨S1x1x2048x16, .f32⟩
  | 48 => ⟨S16x2x2048x16, .f32⟩
  | 49 => ⟨S16x2x2048x16, .f32⟩
  | 50 => ⟨S1x1x2048x16, .f32⟩
  | 51 => ⟨S16x2x2048x16, .f32⟩
  | 52 => ⟨S16x2x2048x16, .f32⟩
  | 53 => ⟨S16x2x2048x16, .f32⟩
  | 54 => ⟨S1x1x2048x16, .f32⟩
  | 55 => ⟨S16x2x2048x16, .f32⟩
  | 56 => ⟨S16x2x2048x16, .f32⟩
  | 57 => ⟨S1x1x2048x16, .f32⟩
  | 58 => ⟨S16x2x2048x16, .f32⟩
  | 59 => ⟨S16x2x2048x16, .f32⟩
  | 60 => ⟨S16x2x2048x16, .f32⟩
  | 61 => ⟨S16x2x2048x32, .f32⟩
  | 62 => ⟨S2048x16, .f32⟩
  | 63 => ⟨S2048x16, .f32⟩
  | 64 => ⟨S16x2x2048x16, .f32⟩
  | 65 => ⟨S16x2x2048x16, .f32⟩
  | 66 => ⟨S1x1x2048x16, .f32⟩
  | 67 => ⟨S16x2x2048x16, .f32⟩
  | 68 => ⟨S16x2x2048x16, .f32⟩
  | 69 => ⟨S1x1x2048x16, .f32⟩
  | 70 => ⟨S16x2x2048x16, .f32⟩
  | 71 => ⟨S16x2x2048x16, .f32⟩
  | 72 => ⟨S16x2x2048x16, .f32⟩
  | 73 => ⟨S1x1x2048x16, .f32⟩
  | 74 => ⟨S16x2x2048x16, .f32⟩
  | 75 => ⟨S16x2x2048x16, .f32⟩
  | 76 => ⟨S1x1x2048x16, .f32⟩
  | 77 => ⟨S16x2x2048x16, .f32⟩
  | 78 => ⟨S16x2x2048x16, .f32⟩
  | 79 => ⟨S16x2x2048x16, .f32⟩
  | 80 => ⟨S16x2x2048x32, .f32⟩
  | 81 => ⟨S16x2x2048x64, .f32⟩
  | 82 => ⟨S16x2048x4x64, .f32⟩
  | 83 => ⟨S16x4x2048x64, .f32⟩
  | 84 => ⟨S16x4x2048x64, .f32⟩
  | 85 => ⟨S_, .f32⟩
  | 86 => ⟨S16x4x2048, .f32⟩
  | 87 => ⟨S16x4x2048x1, .f32⟩
  | 88 => ⟨S_, .f32⟩
  | 89 => ⟨S16x4x2048x1, .f32⟩
  | 90 => ⟨S16x4x2048x1, .f32⟩
  | 91 => ⟨S_, .f32⟩
  | 92 => ⟨S16x4x2048x1, .f32⟩
  | 93 => ⟨S16x4x2048x1, .f32⟩
  | 94 => ⟨S16x4x2048x1, .f32⟩
  | 95 => ⟨S16x4x2048x64, .f32⟩
  | 96 => ⟨S16x4x2048x64, .f32⟩
  | 97 => ⟨S1x1x1x64, .f32⟩
  | 98 => ⟨S16x4x2048x64, .f32⟩
  | 99 => ⟨S16x4x2048x64, .f32⟩
  | 100 => ⟨S16x2048x4x64, .f32⟩
  | 101 => ⟨S16x4x2048x64, .f32⟩
  | 102 => ⟨S16x4x2048x64, .f32⟩
  | 103 => ⟨S_, .f32⟩
  | 104 => ⟨S16x4x2048, .f32⟩
  | 105 => ⟨S16x4x2048x1, .f32⟩
  | 106 => ⟨S_, .f32⟩
  | 107 => ⟨S16x4x2048x1, .f32⟩
  | 108 => ⟨S16x4x2048x1, .f32⟩
  | 109 => ⟨S_, .f32⟩
  | 110 => ⟨S16x4x2048x1, .f32⟩
  | 111 => ⟨S16x4x2048x1, .f32⟩
  | 112 => ⟨S16x4x2048x1, .f32⟩
  | 113 => ⟨S16x4x2048x64, .f32⟩
  | 114 => ⟨S16x4x2048x64, .f32⟩
  | 115 => ⟨S1x1x1x64, .f32⟩
  | 116 => ⟨S16x4x2048x64, .f32⟩
  | 117 => ⟨S16x4x2048x64, .f32⟩
  | 118 => ⟨S16x2048x4x64, .f32⟩
  | 119 => ⟨S16x2048x256, .f32⟩
  | 120 => ⟨S16x2048x2x64, .f32⟩
  | 121 => ⟨S16x2048x128, .f32⟩
  | 122 => ⟨S16x2048x4x64, .f32⟩
  | 123 => ⟨S16x2048x256, .f32⟩
  | 124 => ⟨S16x2048x4x64, .f32⟩
  | 125 => ⟨S16x2048x256, .f32⟩
  | 126 => ⟨S16x2048x1536, .f32⟩
  | 127 => ⟨S16x256x1792, .f32⟩
  | _ => ⟨S16x2048x1024, .f32⟩

abbrev hbmTy0_3 (i : Nat) : BufTy := match i % 128 with
  | 0 => ⟨S16x256x256, .f32⟩
  | 1 => ⟨S16x256x128, .f32⟩
  | 2 => ⟨S16x256x128, .f32⟩
  | 3 => ⟨S16x256x256, .f32⟩
  | 4 => ⟨S16x256x256, .f32⟩
  | 5 => ⟨S16x256x256, .f32⟩
  | 6 => ⟨S16x256x256, .f32⟩
  | 7 => ⟨S16x256x256, .f32⟩
  | 8 => ⟨S16x256x4x64, .f32⟩
  | 9 => ⟨S16x4x256x64, .f32⟩
  | 10 => ⟨S16x4x256x64, .f32⟩
  | 11 => ⟨S_, .f32⟩
  | 12 => ⟨S16x4x256, .f32⟩
  | 13 => ⟨S16x4x256x1, .f32⟩
  | 14 => ⟨S_, .f32⟩
  | 15 => ⟨S16x4x256x1, .f32⟩
  | 16 => ⟨S16x4x256x1, .f32⟩
  | 17 => ⟨S_, .f32⟩
  | 18 => ⟨S16x4x256x1, .f32⟩
  | 19 => ⟨S16x4x256x1, .f32⟩
  | 20 => ⟨S16x4x256x1, .f32⟩
  | 21 => ⟨S16x4x256x64, .f32⟩
  | 22 => ⟨S16x4x256x64, .f32⟩
  | 23 => ⟨S1x1x1x64, .f32⟩
  | 24 => ⟨S16x4x256x64, .f32⟩
  | 25 => ⟨S16x4x256x64, .f32⟩
  | 26 => ⟨S16x1x256x64, .f32⟩
  | 27 => ⟨S16x256x64, .f32⟩
  | 28 => ⟨S16x1x256x64, .f32⟩
  | 29 => ⟨S16x256x64, .f32⟩
  | 30 => ⟨S16x1x256x64, .f32⟩
  | 31 => ⟨S16x256x64, .f32⟩
  | 32 => ⟨S16x1x256x64, .f32⟩
  | 33 => ⟨S16x256x64, .f32⟩
  | 34 => ⟨S16x1x256x64, .f32⟩
  | 35 => ⟨S16x1x256x64, .f32⟩
  | 36 => ⟨S16x1x256x64, .f32⟩
  | 37 => ⟨S16x1x256x64, .f32⟩
  | 38 => ⟨S16x4x256x64, .f32⟩
  | 39 => ⟨S16x256x2x64, .f32⟩
  | 40 => ⟨S16x2x256x64, .f32⟩
  | 41 => ⟨S16x2x256x64, .f32⟩
  | 42 => ⟨S_, .f32⟩
  | 43 => ⟨S16x2x256, .f32⟩
  | 44 => ⟨S16x2x256x1, .f32⟩
  | 45 => ⟨S_, .f32⟩
  | 46 => ⟨S16x2x256x1, .f32⟩
  | 47 => ⟨S16x2x256x1, .f32⟩
  | 48 => ⟨S_, .f32⟩
  | 49 => ⟨S16x2x256x1, .f32⟩
  | 50 => ⟨S16x2x256x1, .f32⟩
  | 51 => ⟨S16x2x256x1, .f32⟩
  | 52 => ⟨S16x2x256x64, .f32⟩
  | 53 => ⟨S16x2x256x64, .f32⟩
  | 54 => ⟨S1x1x1x64, .f32⟩
  | 55 => ⟨S16x2x256x64, .f32⟩
  | 56 => ⟨S16x2x256x64, .f32⟩
  | 57 => ⟨S16x256x4x64, .f32⟩
  | 58 => ⟨S16x4x256x64, .f32⟩
  | 59 => ⟨S16x4x256x64, .f32⟩
  | 60 => ⟨S_, .f32⟩
  | 61 => ⟨S16x4x256, .f32⟩
  | 62 => ⟨S16x4x256x1, .f32⟩
  | 63 => ⟨S_, .f32⟩
  | 64 => ⟨S16x4x256x1, .f32⟩
  | 65 => ⟨S16x4x256x1, .f32⟩
  | 66 => ⟨S_, .f32⟩
  | 67 => ⟨S16x4x256x1, .f32⟩
  | 68 => ⟨S16x4x256x1, .f32⟩
  | 69 => ⟨S16x4x256x1, .f32⟩
  | 70 => ⟨S16x4x256x64, .f32⟩
  | 71 => ⟨S16x4x256x64, .f32⟩
  | 72 => ⟨S1x1x1x64, .f32⟩
  | 73 => ⟨S16x4x256x64, .f32⟩
  | 74 => ⟨S16x4x256x64, .f32⟩
  | 75 => ⟨S16x256x4x64, .f32⟩
  | 76 => ⟨S16x4x256x64, .f32⟩
  | 77 => ⟨S16x4x256x64, .f32⟩
  | 78 => ⟨S_, .f32⟩
  | 79 => ⟨S16x4x256, .f32⟩
  | 80 => ⟨S16x4x256x1, .f32⟩
  | 81 => ⟨S_, .f32⟩
  | 82 => ⟨S16x4x256x1, .f32⟩
  | 83 => ⟨S16x4x256x1, .f32⟩
  | 84 => ⟨S_, .f32⟩
  | 85 => ⟨S16x4x256x1, .f32⟩
  | 86 => ⟨S16x4x256x1, .f32⟩
  | 87 => ⟨S16x4x256x1, .f32⟩
  | 88 => ⟨S16x4x256x64, .f32⟩
  | 89 => ⟨S16x4x256x64, .f32⟩
  | 90 => ⟨S1x1x1x64, .f32⟩
  | 91 => ⟨S16x4x256x64, .f32⟩
  | 92 => ⟨S16x4x256x64, .f32⟩
  | 93 => ⟨S16x256x4x64, .f32⟩
  | 94 => ⟨S16x256x256, .f32⟩
  | 95 => ⟨S16x256x2x64, .f32⟩
  | 96 => ⟨S16x256x128, .f32⟩
  | 97 => ⟨S16x256x4x64, .f32⟩
  | 98 => ⟨S16x256x256, .f32⟩
  | 99 => ⟨S16x256x4x64, .f32⟩
  | 100 => ⟨S16x256x256, .f32⟩
  | 101 => ⟨S16x256x1536, .f32⟩
  | 102 => ⟨S16x2304x1536, .f32⟩
  | 103 => ⟨S16x2304x1536, .bf16⟩
  | 104 => ⟨S16x2304x256, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_c : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_v6 : Ref sig .tc := ⟨.hbm, 113, rfl⟩
abbrev main_call0_v7 : Ref sig .tc := ⟨.hbm, 114, rfl⟩
abbrev main_call0_v8 : Ref sig .tc := ⟨.hbm, 115, rfl⟩
abbrev main_call0_c : Ref sig .tc := ⟨.hbm, 116, rfl⟩
abbrev main_call0_v9 : Ref sig .tc := ⟨.hbm, 117, rfl⟩
abbrev main_call0_v10 : Ref sig .tc := ⟨.hbm, 118, rfl⟩
abbrev main_call0_v11 : Ref sig .tc := ⟨.hbm, 119, rfl⟩
abbrev main_call0_c_0 : Ref sig .tc := ⟨.hbm, 120, rfl⟩
abbrev main_call0_v12 : Ref sig .tc := ⟨.hbm, 121, rfl⟩
abbrev main_call0_v13 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_14 : Ref sig .tc := ⟨.hbm, 130, rfl⟩
abbrev main_call1_v0 : Ref sig .tc := ⟨.hbm, 131, rfl⟩
abbrev main_call1_c : Ref sig .tc := ⟨.hbm, 132, rfl⟩
abbrev main_call1_v1 : Ref sig .tc := ⟨.hbm, 133, rfl⟩
abbrev main_call1_c_0 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_call1_c_1 : Ref sig .tc := ⟨.hbm, 138, rfl⟩
abbrev main_call1_v5 : Ref sig .tc := ⟨.hbm, 139, rfl⟩
abbrev main_call1_v6 : Ref sig .tc := ⟨.hbm, 140, rfl⟩
abbrev main_call1_c_2 : Ref sig .tc := ⟨.hbm, 141, rfl⟩
abbrev main_call1_v7 : Ref sig .tc := ⟨.hbm, 142, rfl⟩
abbrev main_call1_v8 : Ref sig .tc := ⟨.hbm, 143, rfl⟩
abbrev main_call1_c_3 : Ref sig .tc := ⟨.hbm, 144, rfl⟩
abbrev main_call1_v9 : Ref sig .tc := ⟨.hbm, 145, rfl⟩
abbrev main_call1_v10 : Ref sig .tc := ⟨.hbm, 146, rfl⟩
abbrev main_call1_v11 : Ref sig .tc := ⟨.hbm, 147, rfl⟩
abbrev main_call1_v12 : Ref sig .tc := ⟨.hbm, 148, rfl⟩
abbrev main_call1_v13 : Ref sig .tc := ⟨.hbm, 149, rfl⟩
abbrev main_call1_v14 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_15 : Ref sig .tc := ⟨.hbm, 215, rfl⟩
abbrev main_v152 : Ref sig .tc := ⟨.hbm, 216, rfl⟩
abbrev main_v153 : Ref sig .tc := ⟨.hbm, 217, rfl⟩
abbrev main_cst_16 : Ref sig .tc := ⟨.hbm, 218, rfl⟩
abbrev main_v154 : Ref sig .tc := ⟨.hbm, 219, rfl⟩
abbrev main_v155 : Ref sig .tc := ⟨.hbm, 220, rfl⟩
abbrev main_cst_17 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_18 : Ref sig .tc := ⟨.hbm, 232, rfl⟩
abbrev main_v166 : Ref sig .tc := ⟨.hbm, 233, rfl⟩
abbrev main_v167 : Ref sig .tc := ⟨.hbm, 234, rfl⟩
abbrev main_cst_19 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_cst_20 : Ref sig .tc := ⟨.hbm, 239, rfl⟩
abbrev main_v171 : Ref sig .tc := ⟨.hbm, 240, rfl⟩
abbrev main_v172 : Ref sig .tc := ⟨.hbm, 241, rfl⟩
abbrev main_cst_21 : Ref sig .tc := ⟨.hbm, 242, rfl⟩
abbrev main_v173 : Ref sig .tc := ⟨.hbm, 243, rfl⟩
abbrev main_v174 : Ref sig .tc := ⟨.hbm, 244, rfl⟩
abbrev main_c_22 : Ref sig .tc := ⟨.hbm, 245, rfl⟩
abbrev main_call2_v0 : Ref sig .tc := ⟨.hbm, 246, rfl⟩
abbrev main_call2_v1 : Ref sig .tc := ⟨.hbm, 247, rfl⟩
abbrev main_call2_v2 : Ref sig .tc := ⟨.hbm, 248, rfl⟩
abbrev main_call2_v3 : Ref sig .tc := ⟨.hbm, 249, rfl⟩
abbrev main_call2_v4 : Ref sig .tc := ⟨.hbm, 250, rfl⟩
abbrev main_call2_v5 : Ref sig .tc := ⟨.hbm, 251, rfl⟩
abbrev main_call2_v6 : Ref sig .tc := ⟨.hbm, 252, rfl⟩
abbrev main_call2_v7 : Ref sig .tc := ⟨.hbm, 253, rfl⟩
abbrev main_call2_v8 : Ref sig .tc := ⟨.hbm, 254, rfl⟩
abbrev main_call2_c : Ref sig .tc := ⟨.hbm, 255, rfl⟩
abbrev main_call2_v9 : Ref sig .tc := ⟨.hbm, 256, rfl⟩
abbrev main_call2_v10 : Ref sig .tc := ⟨.hbm, 257, rfl⟩
abbrev main_call2_v11 : Ref sig .tc := ⟨.hbm, 258, rfl⟩
abbrev main_call2_c_0 : Ref sig .tc := ⟨.hbm, 259, rfl⟩
abbrev main_call2_v12 : Ref sig .tc := ⟨.hbm, 260, rfl⟩
abbrev main_call2_v13 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_c_23 : Ref sig .tc := ⟨.hbm, 269, rfl⟩
abbrev main_call3_v0 : Ref sig .tc := ⟨.hbm, 270, rfl⟩
abbrev main_call3_c : Ref sig .tc := ⟨.hbm, 271, rfl⟩
abbrev main_call3_v1 : Ref sig .tc := ⟨.hbm, 272, rfl⟩
abbrev main_call3_c_0 : Ref sig .tc := ⟨.hbm, 273, rfl⟩
abbrev main_call3_v2 : Ref sig .tc := ⟨.hbm, 274, rfl⟩
abbrev main_call3_v3 : Ref sig .tc := ⟨.hbm, 275, rfl⟩
abbrev main_call3_v4 : Ref sig .tc := ⟨.hbm, 276, rfl⟩
abbrev main_call3_c_1 : Ref sig .tc := ⟨.hbm, 277, rfl⟩
abbrev main_call3_v5 : Ref sig .tc := ⟨.hbm, 278, rfl⟩
abbrev main_call3_v6 : Ref sig .tc := ⟨.hbm, 279, rfl⟩
abbrev main_call3_c_2 : Ref sig .tc := ⟨.hbm, 280, rfl⟩
abbrev main_call3_v7 : Ref sig .tc := ⟨.hbm, 281, rfl⟩
abbrev main_call3_v8 : Ref sig .tc := ⟨.hbm, 282, rfl⟩
abbrev main_call3_c_3 : Ref sig .tc := ⟨.hbm, 283, rfl⟩
abbrev main_call3_v9 : Ref sig .tc := ⟨.hbm, 284, rfl⟩
abbrev main_call3_v10 : Ref sig .tc := ⟨.hbm, 285, rfl⟩
abbrev main_call3_v11 : Ref sig .tc := ⟨.hbm, 286, rfl⟩
abbrev main_call3_v12 : Ref sig .tc := ⟨.hbm, 287, rfl⟩
abbrev main_call3_v13 : Ref sig .tc := ⟨.hbm, 288, rfl⟩
abbrev main_call3_v14 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_v224 : Ref sig .tc := ⟨.hbm, 332, rfl⟩
abbrev main_v225 : Ref sig .tc := ⟨.hbm, 333, rfl⟩
abbrev main_v226 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_cst_24 : Ref sig .tc := ⟨.hbm, 341, rfl⟩
abbrev main_v233 : Ref sig .tc := ⟨.hbm, 342, rfl⟩
abbrev main_v234 : Ref sig .tc := ⟨.hbm, 343, rfl⟩
abbrev main_cst_25 : Ref sig .tc := ⟨.hbm, 344, rfl⟩
abbrev main_v235 : Ref sig .tc := ⟨.hbm, 345, rfl⟩
abbrev main_v236 : Ref sig .tc := ⟨.hbm, 346, rfl⟩
abbrev main_cst_26 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_cst_27 : Ref sig .tc := ⟨.hbm, 359, rfl⟩
abbrev main_v248 : Ref sig .tc := ⟨.hbm, 360, rfl⟩
abbrev main_v249 : Ref sig .tc := ⟨.hbm, 361, rfl⟩
abbrev main_cst_28 : Ref sig .tc := ⟨.hbm, 362, rfl⟩
abbrev main_v250 : Ref sig .tc := ⟨.hbm, 363, rfl⟩
abbrev main_v251 : Ref sig .tc := ⟨.hbm, 364, rfl⟩
abbrev main_cst_29 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_cst_30 : Ref sig .tc := ⟨.hbm, 395, rfl⟩
abbrev main_v281 : Ref sig .tc := ⟨.hbm, 396, rfl⟩
abbrev main_v282 : Ref sig .tc := ⟨.hbm, 397, rfl⟩
abbrev main_cst_31 : Ref sig .tc := ⟨.hbm, 398, rfl⟩
abbrev main_v283 : Ref sig .tc := ⟨.hbm, 399, rfl⟩
abbrev main_v284 : Ref sig .tc := ⟨.hbm, 400, rfl⟩
abbrev main_cst_32 : Ref sig .tc := ⟨.hbm, 401, rfl⟩
abbrev main_v285 : Ref sig .tc := ⟨.hbm, 402, rfl⟩
abbrev main_v286 : Ref sig .tc := ⟨.hbm, 403, rfl⟩
abbrev main_v287 : Ref sig .tc := ⟨.hbm, 404, rfl⟩
abbrev main_v288 : Ref sig .tc := ⟨.hbm, 405, rfl⟩
abbrev main_v289 : Ref sig .tc := ⟨.hbm, 406, rfl⟩
abbrev main_v290 : Ref sig .tc := ⟨.hbm, 407, rfl⟩
abbrev main_v291 : Ref sig .tc := ⟨.hbm, 408, rfl⟩
abbrev main_v292 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_v301 : Ref sig .tc := ⟨.hbm, 418, rfl⟩
abbrev main_v302 : Ref sig .tc := ⟨.hbm, 419, rfl⟩
abbrev main_v303 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_v308 : Ref sig .tc := ⟨.hbm, 425, rfl⟩
abbrev main_cst_33 : Ref sig .tc := ⟨.hbm, 426, rfl⟩
abbrev main_v309 : Ref sig .tc := ⟨.hbm, 427, rfl⟩
abbrev main_v310 : Ref sig .tc := ⟨.hbm, 428, rfl⟩
abbrev main_cst_34 : Ref sig .tc := ⟨.hbm, 429, rfl⟩
abbrev main_v311 : Ref sig .tc := ⟨.hbm, 430, rfl⟩
abbrev main_v312 : Ref sig .tc := ⟨.hbm, 431, rfl⟩
abbrev main_cst_35 : Ref sig .tc := ⟨.hbm, 432, rfl⟩
abbrev main_v313 : Ref sig .tc := ⟨.hbm, 433, rfl⟩
abbrev main_v314 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_v319 : Ref sig .tc := ⟨.hbm, 439, rfl⟩
abbrev main_v320 : Ref sig .tc := ⟨.hbm, 440, rfl⟩
abbrev main_v321 : Ref sig .tc := ⟨.hbm, 441, rfl⟩
abbrev main_v322 : Ref sig .tc := ⟨.hbm, 442, rfl⟩
abbrev main_v323 : Ref sig .tc := ⟨.hbm, 443, rfl⟩
abbrev main_cst_36 : Ref sig .tc := ⟨.hbm, 444, rfl⟩
abbrev main_v324 : Ref sig .tc := ⟨.hbm, 445, rfl⟩
abbrev main_v325 : Ref sig .tc := ⟨.hbm, 446, rfl⟩
abbrev main_cst_37 : Ref sig .tc := ⟨.hbm, 447, rfl⟩
abbrev main_v326 : Ref sig .tc := ⟨.hbm, 448, rfl⟩
abbrev main_v327 : Ref sig .tc := ⟨.hbm, 449, rfl⟩
abbrev main_cst_38 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_v334 : Ref sig .tc := ⟨.hbm, 457, rfl⟩
abbrev main_v335 : Ref sig .tc := ⟨.hbm, 458, rfl⟩
abbrev main_v336 : Ref sig .tc := ⟨.hbm, 459, rfl⟩
abbrev main_v337 : Ref sig .tc := ⟨.hbm, 460, rfl⟩
abbrev main_v338 : Ref sig .tc := ⟨.hbm, 461, rfl⟩
abbrev main_cst_39 : Ref sig .tc := ⟨.hbm, 462, rfl⟩
abbrev main_v339 : Ref sig .tc := ⟨.hbm, 463, rfl⟩
abbrev main_v340 : Ref sig .tc := ⟨.hbm, 464, rfl⟩
abbrev main_cst_40 : Ref sig .tc := ⟨.hbm, 465, rfl⟩
abbrev main_v341 : Ref sig .tc := ⟨.hbm, 466, rfl⟩
abbrev main_v342 : Ref sig .tc := ⟨.hbm, 467, rfl⟩
abbrev main_cst_41 : Ref sig .tc := ⟨.hbm, 468, rfl⟩
abbrev main_v343 : Ref sig .tc := ⟨.hbm, 469, rfl⟩
abbrev main_v344 : Ref sig .tc := ⟨.hbm, 470, rfl⟩
abbrev main_v345 : Ref sig .tc := ⟨.hbm, 471, rfl⟩
abbrev main_v346 : Ref sig .tc := ⟨.hbm, 472, rfl⟩
abbrev main_v347 : Ref sig .tc := ⟨.hbm, 473, rfl⟩
abbrev main_v348 : Ref sig .tc := ⟨.hbm, 474, rfl⟩
abbrev main_v349 : Ref sig .tc := ⟨.hbm, 475, rfl⟩
abbrev main_v350 : Ref sig .tc := ⟨.hbm, 476, rfl⟩
abbrev main_v351 : Ref sig .tc := ⟨.hbm, 477, rfl⟩
abbrev main_v352 : Ref sig .tc := ⟨.hbm, 478, rfl⟩
abbrev main_v353 : Ref sig .tc := ⟨.hbm, 479, rfl⟩
abbrev main_v354 : Ref sig .tc := ⟨.hbm, 480, rfl⟩
abbrev main_v355 : Ref sig .tc := ⟨.hbm, 481, rfl⟩
abbrev main_v356 : Ref sig .tc := ⟨.hbm, 482, rfl⟩
abbrev main_v357 : Ref sig .tc := ⟨.hbm, 483, rfl⟩
abbrev main_v358 : Ref sig .tc := ⟨.hbm, 484, rfl⟩
abbrev main_v359 : Ref sig .tc := ⟨.hbm, 485, rfl⟩
abbrev main_v360 : Ref sig .tc := ⟨.hbm, 486, rfl⟩
abbrev main_v361 : Ref sig .tc := ⟨.hbm, 487, rfl⟩
abbrev main_v362 : Ref sig .tc := ⟨.hbm, 488, rfl⟩

abbrev nD : Nat := 1
abbrev τ : Topo := Topo.v7x

variable {F : FTy → Type} [FloatOps F]
-- ==== Kernel4.lean ====
abbrev S16x1024 : Shape := ⟨2, ![16, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S2x1x6144 : Shape := ⟨3, ![2, 1, 6144]⟩
abbrev S2x24x6144 : Shape := ⟨3, ![2, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S2x1x6144, .f32⟩
  | .hbm, ⟨9, _⟩ => ⟨S2x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024 : Shape := ⟨2, ![1, 1024]⟩
abbrev S8x1024 : Shape := ⟨2, ![8, 1024]⟩
abbrev S24x1024 : Shape := ⟨2, ![24, 1024]⟩
abbrev S2x6144x24 : Shape := ⟨3, ![2, 6144, 24]⟩
abbrev S2x24x6144 : Shape := ⟨3, ![2, 24, 6144]⟩
abbrev S2x1x6144 : Shape := ⟨3, ![2, 1, 6144]⟩

abbrev nBuf : Space → Nat
  | .hbm => 30
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8x1024, .f32⟩
  | .hbm, ⟨15, _⟩ => ⟨S24x1024, .f32⟩
  | .hbm, ⟨16, _⟩ => ⟨S24x1024, .f32⟩
  | .hbm, ⟨17, _⟩ => ⟨S24x1024, .f32⟩
  | .hbm, ⟨18, _⟩ => ⟨S_, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S24x1024, .f32⟩
  | .hbm, ⟨25, _⟩ => ⟨S2x6144x24, .f32⟩
  | .hbm, ⟨26, _⟩ => ⟨S2x24x6144, .f32⟩
  | .hbm, ⟨27, _⟩ => ⟨S2x1x6144, .f32⟩
  | .hbm, ⟨28, _⟩ => ⟨S2x24x6144, .f32⟩
  | .hbm, ⟨29, _⟩ => ⟨S2x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S1024 : Shape := ⟨1, ![1024]⟩
abbrev S1024x1792 : Shape := ⟨2, ![1024, 1792]⟩
abbrev S64 : Shape := ⟨1, ![64]⟩
abbrev S1x6144 : Shape := ⟨2, ![1, 6144]⟩
abbrev S_ : Shape := ⟨0, ![]⟩
abbrev S7x6144 : Shape := ⟨2, ![7, 6144]⟩
abbrev S24x6144 : Shape := ⟨2, ![24, 6144]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S256x64 : Shape := ⟨2, ![256, 64]⟩
abbrev S2304x64 : Shape := ⟨2, ![2304, 64]⟩
abbrev S1x2304x1x64 : Shape := ⟨4, ![1, 2304, 1, 64]⟩
abbrev S1x2304x2x64 : Shape := ⟨4, ![1, 2304, 2, 64]⟩
abbrev S2304x128 : Shape := ⟨2, ![2304, 128]⟩
abbrev S24x1x6144 : Shape := ⟨3, ![24, 1, 6144]⟩
abbrev S1x1024 : Shape := ⟨2, ![1, 1024]⟩
abbrev S1024x64 : Shape := ⟨2, ![1024, 64]⟩
abbrev S1024x1536 : Shape := ⟨2, ![1024, 1536]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x2304x1536 : Shape := ⟨3, ![16, 2304, 1536]⟩
abbrev S16x2304x256 : Shape := ⟨3, ![16, 2304, 256]⟩
abbrev S4x256x1024 : Shape := ⟨3, ![4, 256, 1024]⟩
abbrev S4x1x6144 : Shape := ⟨3, ![4, 1, 6144]⟩
abbrev S1x1x6144 : Shape := ⟨3, ![1, 1, 6144]⟩
abbrev S256x128 : Shape := ⟨2, ![256, 128]⟩
abbrev S4x256x1536 : Shape := ⟨3, ![4, 256, 1536]⟩
abbrev S4x256x256 : Shape := ⟨3, ![4, 256, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩
abbrev S1x256x128 : Shape := ⟨3, ![1, 256, 128]⟩
abbrev S256x256 : Shape := ⟨2, ![256, 256]⟩
abbrev S1x256x256 : Shape := ⟨3, ![1, 256, 256]⟩

abbrev nBuf : Space → Nat
  | .hbm => 130
  | .vmem => 21
  | .smem => 0
  | _ => 0

abbrev hbmTy0_0 (i : Nat) : BufTy := match i % 128 with
  | 0 => ⟨S16x2048x1024, .f32⟩
  | 1 => ⟨S16x256x1024, .f32⟩
  | 2 => ⟨S16x6144, .f32⟩
  | 3 => ⟨S6144, .f32⟩
  | 4 => ⟨S1024, .f32⟩
  | 5 => ⟨S1024x1792, .f32⟩
  | 6 => ⟨S64, .f32⟩
  | 7 => ⟨S64, .f32⟩
  | 8 => ⟨S64, .f32⟩
  | 9 => ⟨S64, .f32⟩
  | 10 => ⟨S1x6144, .f32⟩
  | 11 => ⟨S_, .f32⟩
  | 12 => ⟨S7x6144, .f32⟩
  | 13 => ⟨S24x6144, .f32⟩
  | 14 => ⟨S2048, .i32⟩
  | 15 => ⟨S_, .i32⟩
  | 16 => ⟨S_, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i1⟩
  | 23 => ⟨S2048, .i32⟩
  | 24 => ⟨S2048, .i32⟩
  | 25 => ⟨S_, .i32⟩
  | 26 => ⟨S2048, .i32⟩
  | 27 => ⟨S2048, .i1⟩
  | 28 => ⟨S2048, .i1⟩
  | 29 => ⟨S_, .i32⟩
  | 30 => ⟨S2048, .i32⟩
  | 31 => ⟨S2048, .i32⟩
  | 32 => ⟨S2048, .i32⟩
  | 33 => ⟨S2048, .f32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i1⟩
  | 45 => ⟨S_, .i32⟩
  | 46 => ⟨S2048, .i32⟩
  | 47 => ⟨S2048, .i1⟩
  | 48 => ⟨S_, .i32⟩
  | 49 => ⟨S_, .i1⟩
  | 50 => ⟨S2048, .i1⟩
  | 51 => ⟨S2048, .i1⟩
  | 52 => ⟨S2048, .i1⟩
  | 53 => ⟨S2048, .i32⟩
  | 54 => ⟨S2048, .i32⟩
  | 55 => ⟨S2048, .i32⟩
  | 56 => ⟨S2048, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S2048x1, .f32⟩
  | 72 => ⟨S1x16, .f32⟩
  | 73 => ⟨S2048x16, .f32⟩
  | 74 => ⟨S2048x16, .f32⟩
  | 75 => ⟨S2048x16, .f32⟩
  | 76 => ⟨S2048x1, .f32⟩
  | 77 => ⟨S1x16, .f32⟩
  | 78 => ⟨S2048x16, .f32⟩
  | 79 => ⟨S2048x16, .f32⟩
  | 80 => ⟨S2048x16, .f32⟩
  | 81 => ⟨S2048x16, .f32⟩
  | 82 => ⟨S2048x16, .f32⟩
  | 83 => ⟨S2048x64, .f32⟩
  | 84 => ⟨S2048x16, .f32⟩
  | 85 => ⟨S2048x16, .f32⟩
  | 86 => ⟨S2048x16, .f32⟩
  | 87 => ⟨S2048x16, .f32⟩
  | 88 => ⟨S2048x16, .f32⟩
  | 89 => ⟨S2048x16, .f32⟩
  | 90 => ⟨S2048x64, .f32⟩
  | 91 => ⟨S_, .f32⟩
  | 92 => ⟨S256x64, .f32⟩
  | 93 => ⟨S2304x64, .f32⟩
  | 94 => ⟨S_, .f32⟩
  | 95 => ⟨S256x64, .f32⟩
  | 96 => ⟨S2304x64, .f32⟩
  | 97 => ⟨S1x2304x1x64, .f32⟩
  | 98 => ⟨S1x2304x2x64, .f32⟩
  | 99 => ⟨S2304x128, .f32⟩
  | 100 => ⟨S1x2304x1x64, .f32⟩
  | 101 => ⟨S1x2304x2x64, .f32⟩
  | 102 => ⟨S2304x128, .f32⟩
  | 103 => ⟨S24x1x6144, .f32⟩
  | 104 => ⟨S1x1024, .f32⟩
  | 105 => ⟨S1024x64, .f32⟩
  | 106 => ⟨S1024x64, .f32⟩
  | 107 => ⟨S1024x64, .f32⟩
  | 108 => ⟨S1024x64, .f32⟩
  | 109 => ⟨S1024x1536, .f32⟩
  | 110 => ⟨S1024x1792, .f32⟩
  | 111 => ⟨S1024x1792, .bf16⟩
  | 112 => ⟨S1x64, .f32⟩
  | 113 => ⟨S2x64, .f32⟩
  | 114 => ⟨S128, .f32⟩
  | 115 => ⟨S1x128, .f32⟩
  | 116 => ⟨S1x64, .f32⟩
  | 117 => ⟨S2x64, .f32⟩
  | 118 => ⟨S128, .f32⟩
  | 119 => ⟨S1x128, .f32⟩
  | 120 => ⟨S1x64, .f32⟩
  | 121 => ⟨S2x64, .f32⟩
  | 122 => ⟨S128, .f32⟩
  | 123 => ⟨S1x128, .f32⟩
  | 124 => ⟨S1x64, .f32⟩
  | 125 => ⟨S2x64, .f32⟩
  | 126 => ⟨S128, .f32⟩
  | 127 => ⟨S1x128, .f32⟩
  | _ => ⟨S16x2048x1024, .f32⟩

abbrev hbmTy0_1 (i : Nat) : BufTy := match i % 128 with
  | 0 => ⟨S16x2304x1536, .bf16⟩
  | 1 => ⟨S16x2304x256, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S4x256x1024, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x1x6144, .f32⟩
  | .local _ .vmem, ⟨5, _⟩ => ⟨S4x1x6144, .f32⟩
  | .local _ .vmem, ⟨6, _⟩ => ⟨S1x1x6144, .f32⟩
  | .local _ .vmem, ⟨7, _⟩ => ⟨S1x1024, .f32⟩
  | .local _ .vmem, ⟨8, _⟩ => ⟨S1024x1792, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S4x256x1536, .bf16⟩
  | .local _ .vmem, ⟨18, _⟩ => ⟨S4x256x1536, .bf16⟩
  | .local _ .vmem, ⟨19, _⟩ => ⟨S4x256x256, .f32⟩
  | .local _ .vmem, ⟨20, _⟩ => ⟨S4x256x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst_1 : Ref sig .tc := ⟨.hbm, 58, rfl⟩
abbrev main_v9 : Ref sig .tc := ⟨.hbm, 59, rfl⟩
abbrev main_v10 : Ref sig .tc := ⟨.hbm, 60, rfl⟩
abbrev main_cst_2 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_3 : Ref sig .tc := ⟨.hbm, 65, rfl⟩
abbrev main_v14 : Ref sig .tc := ⟨.hbm, 66, rfl⟩
abbrev main_v15 : Ref sig .tc := ⟨.hbm, 67, rfl⟩
abbrev main_cst_4 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_5 : Ref sig .tc := ⟨.hbm, 91, rfl⟩
abbrev main_v38 : Ref sig .tc := ⟨.hbm, 92, rfl⟩
abbrev main_v39 : Ref sig .tc := ⟨.hbm, 93, rfl⟩
abbrev main_cst_6 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73_0 : Ref sig .tc := ⟨.hbm, 128, rfl⟩
abbrev main_v73_1 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x256x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.GqaRunB.lean ====
/- The body of the attention call, run once: the branch without subtracting the row maximum (the flag says that the
   logits are bounded). The run finds the pieces that the body stores into the output block. -/
module

public import proofs.«01_k».proof.Proof.Gen.KernelIdeal.Frame
public import proofs.«01_k».proof.Proof.Gen.KernelIdeal.Skeleton

@[expose] public section

set_option maxRecDepth 16384

noncomputable section

namespace Cert.KernelIdeal.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first condition, on the flag word it reads: the logits are bounded. -/
abbrev isBounded (v0 : BitVec 32) : Prop := (Scalar.cmpi .ne (Scalar.extui (Scalar.cmpi .eq v0 1#32)) 0#32) = 1#1

/-- The body's second condition, the negation of the first. -/
abbrev isUnbounded (v0 : BitVec 32) : Prop := (Scalar.cmpi .ne (Scalar.extui (Scalar.xori (Scalar.cmpi .eq v0 1#32) 1#1)) 0#32) = 1#1

/-- Exactly one of the two conditions holds. -/
theorem isUnbounded_iff (v0 : BitVec 32) : isUnbounded v0 ↔ ¬isBounded v0 := by
  unfold isUnbounded isBounded
  have h : ∀ b : BitVec 1, (Scalar.cmpi .ne (Scalar.extui (Scalar.xori b 1#1) : BitVec 32) 0#32) = 1#1
      ↔ ¬(Scalar.cmpi .ne (Scalar.extui b : BitVec 32) 0#32) = 1#1 := by decide
  exact h _

/-- The output block's staging buffer, as a view of the whole of it. -/
abbrev VO : View sig .tc .vmem S4x256x256 .bf16 := (Memref.whole cc0_stg5_0 : Memref sig .tc .vmem S4x256x256 .bf16).view

set_option maxHeartbeats 2000000 in
/-- The body at one grid point when the flag is set: from the input blocks at contents `x0` … `x4` it ends with them
    unchanged and the pieces `L` written into the output block. -/
noncomputable def runB (c : Dev nD) (i : grid0.Coords)
    (arg2 : Memref sig .tc .smem S1 .i32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S4x2304x128 .bf16) (harg5 : arg5.IsWhole) (arg6 : Memref sig .tc .vmem S4x2304x128 .bf16) (harg6 : arg6.IsWhole) (arg7 : Memref sig .tc .vmem S4x256x256 .bf16) (harg7 : arg7.IsWhole)
    (x0 : Vec F S1 .i32) (x1 : Vec F S4x256x128 .bf16) (x2 : Vec F S4x256x128 .bf16) (x3 : Vec F S4x2304x128 .bf16) (x4 : Vec F S4x2304x128 .bf16)
    (hc0 : isBounded (arg2.view.readAt (Elt F) (Rect.unit (s := S1) ![0] S1.size inb_S1_S1_0).toLoadRect (harg2.unread x0) (Shape.Idx.first (numel1_S1.symm ▸ Nat.one_pos)))) (hc1 : ¬isUnbounded (arg2.view.readAt (Elt F) (Rect.unit (s := S1) ![0] S1.size inb_S1_S1_0).toLoadRect (harg2.unread x0) (Shape.Idx.first (numel1_S1.symm ▸ Nat.one_pos)))) :
    { L : List (View.Piece (Elt F) S4x256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0_gqa i arg2 harg2 arg3 harg3 arg4 harg4 arg5 harg5 arg6 harg6 arg7 harg7) K } := by
  refine ⟨?_, fun E K => ?run⟩
  case run =>
    simp only [cc0_gqa_eq_skeleton]; unfold cc0_gqa_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The four slabs that the branch of bounded logits stores, one per batch of the block, cover the output block. -/
theorem cover_B (c : Dev nD) (i : grid0.Coords)
    (arg2 : Memref sig .tc .smem S1 .i32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S4x2304x128 .bf16) (harg5 : arg5.IsWhole) (arg6 : Memref sig .tc .vmem S4x2304x128 .bf16) (harg6 : arg6.IsWhole) (arg7 : Memref sig .tc .vmem S4x256x256 .bf16) (harg7 : arg7.IsWhole)
    (x0 : Vec F S1 .i32) (x1 : Vec F S4x256x128 .bf16) (x2 : Vec F S4x256x128 .bf16) (x3 : Vec F S4x2304x128 .bf16) (x4 : Vec F S4x2304x128 .bf16)
    (hc0 : isBounded (arg2.view.readAt (Elt F) (Rect.unit (s := S1) ![0] S1.size inb_S1_S1_0).toLoadRect (harg2.unread x0) (Shape.Idx.first (numel1_S1.symm ▸ Nat.one_pos)))) (hc1 : ¬isUnbounded (arg2.view.readAt (Elt F) (Rect.unit (s := S1) ![0] S1.size inb_S1_S1_0).toLoadRect (harg2.unread x0) (Shape.Idx.first (numel1_S1.symm ▸ Nat.one_pos)))) (y : S4x256x256.Idx) :
    ∃ pc ∈ (runB c i arg2 harg2 arg3 harg3 arg4 harg4 arg5 harg5 arg6 harg6 arg7 harg7 x0 x1 x2 x3 x4 hc0 hc1).1, y ∈ pc.1.set :=
  View.cover_of_tiledL (runB c i arg2 harg2 arg3 harg3 arg4 harg4 arg5 harg5 arg6 harg6 arg7 harg7 x0 x1 x2 x3 x4 hc0 hc1).1 S1x256x256.size (by sl_kernel_rfl) y

/-- What the branch of bounded logits leaves in the output block. -/
def out_B (c : Dev nD) (i : grid0.Coords)
    (arg2 : Memref sig .tc .smem S1 .i32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S4x2304x128 .bf16) (harg5 : arg5.IsWhole) (arg6 : Memref sig .tc .vmem S4x2304x128 .bf16) (harg6 : arg6.IsWhole) (arg7 : Memref sig .tc .vmem S4x256x256 .bf16) (harg7 : arg7.IsWhole)
    (x0 : Vec F S1 .i32) (x1 : Vec F S4x256x128 .bf16) (x2 : Vec F S4x256x128 .bf16) (x3 : Vec F S4x2304x128 .bf16) (x4 : Vec F S4x2304x128 .bf16)
    (hc0 : isBounded (arg2.view.readAt (Elt F) (Rect.unit (s := S1) ![0] S1.size inb_S1_S1_0).toLoadRect (harg2.unread x0) (Shape.Idx.first (numel1_S1.symm ▸ Nat.one_pos)))) (hc1 : ¬isUnbounded (arg2.view.readAt (Elt F) (Rect.unit (s := S1) ![0] S1.size inb_S1_S1_0).toLoadRect (harg2.unread x0) (Shape.Idx.first (numel1_S1.symm ▸ Nat.one_pos)))) : Vec F S4x256x256 .bf16 :=
  VO.read (Elt F) (VO.writes (Elt F) VO.junk (runB c i arg2 harg2 arg3 harg3 arg4 harg4 arg5 harg5 arg6 harg6 arg7 harg7 x0 x1 x2 x3 x4 hc0 hc1).1)

end Cert.KernelIdeal.Gqa

end
-- ==== Proof.GqaRunU.lean ====
/- The body of the attention call, run once: the branch that subtracts the row maximum (the flag is not set). -/
module

public import proofs.«01_k».proof.Proof.GqaRunB

@[expose] public section

set_option maxRecDepth 16384

noncomputable section

namespace Cert.KernelIdeal.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at one grid point when the flag is not set: from the input blocks at contents `x0` … `x4` it ends with them
    unchanged and the pieces `L` written into the output block. -/
noncomputable def runU (c : Dev nD) (i : grid0.Coords)
    (arg2 : Memref sig .tc .smem S1 .i32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S4x2304x128 .bf16) (harg5 : arg5.IsWhole) (arg6 : Memref sig .tc .vmem S4x2304x128 .bf16) (harg6 : arg6.IsWhole) (arg7 : Memref sig .tc .vmem S4x256x256 .bf16) (harg7 : arg7.IsWhole)
    (x0 : Vec F S1 .i32) (x1 : Vec F S4x256x128 .bf16) (x2 : Vec F S4x256x128 .bf16) (x3 : Vec F S4x2304x128 .bf16) (x4 : Vec F S4x2304x128 .bf16)
    (hc0 : ¬isBounded (arg2.view.readAt (Elt F) (Rect.unit (s := S1) ![0] S1.size inb_S1_S1_0).toLoadRect (harg2.unread x0) (Shape.Idx.first (numel1_S1.symm ▸ Nat.one_pos)))) (hc1 : isUnbounded (arg2.view.readAt (Elt F) (Rect.unit (s := S1) ![0] S1.size inb_S1_S1_0).toLoadRect (harg2.unread x0) (Shape.Idx.first (numel1_S1.symm ▸ Nat.one_pos)))) :
    { L : List (View.Piece (Elt F) S4x256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0_gqa i arg2 harg2 arg3 harg3 arg4 harg4 arg5 harg5 arg6 harg6 arg7 harg7) K } := by
  refine ⟨?_, fun E K => ?run⟩
  case run =>
    simp only [cc0_gqa_eq_skeleton]; unfold cc0_gqa_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The four slabs that the branch with the maximum subtracted stores, one per batch of the block, cover the output block. -/
theorem cover_U (c : Dev nD) (i : grid0.Coords)
    (arg2 : Memref sig .tc .smem S1 .i32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S4x2304x128 .bf16) (harg5 : arg5.IsWhole) (arg6 : Memref sig .tc .vmem S4x2304x128 .bf16) (harg6 : arg6.IsWhole) (arg7 : Memref sig .tc .vmem S4x256x256 .bf16) (harg7 : arg7.IsWhole)
    (x0 : Vec F S1 .i32) (x1 : Vec F S4x256x128 .bf16) (x2 : Vec F S4x256x128 .bf16) (x3 : Vec F S4x2304x128 .bf16) (x4 : Vec F S4x2304x128 .bf16)
    (hc0 : ¬isBounded (arg2.view.readAt (Elt F) (Rect.unit (s := S1) ![0] S1.size inb_S1_S1_0).toLoadRect (harg2.unread x0) (Shape.Idx.first (numel1_S1.symm ▸ Nat.one_pos)))) (hc1 : isUnbounded (arg2.view.readAt (Elt F) (Rect.unit (s := S1) ![0] S1.size inb_S1_S1_0).toLoadRect (harg2.unread x0) (Shape.Idx.first (numel1_S1.symm ▸ Nat.one_pos)))) (y : S4x256x256.Idx) :
    ∃ pc ∈ (runU c i arg2 harg2 arg3 harg3 arg4 harg4 arg5 harg5 arg6 harg6 arg7 harg7 x0 x1 x2 x3 x4 hc0 hc1).1, y ∈ pc.1.set :=
  View.cover_of_tiledL (runU c i arg2 harg2 arg3 harg3 arg4 harg4 arg5 harg5 arg6 harg6 arg7 harg7 x0 x1 x2 x3 x4 hc0 hc1).1 S1x256x256.size (by sl_kernel_rfl) y

/-- What the branch with the maximum subtracted leaves in the output block. -/
def out_U (c : Dev nD) (i : grid0.Coords)
    (arg2 : Memref sig .tc .smem S1 .i32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S4x2304x128 .bf16) (harg5 : arg5.IsWhole) (arg6 : Memref sig .tc .vmem S4x2304x128 .bf16) (harg6 : arg6.IsWhole) (arg7 : Memref sig .tc .vmem S4x256x256 .bf16) (harg7 : arg7.IsWhole)
    (x0 : Vec F S1 .i32) (x1 : Vec F S4x256x128 .bf16) (x2 : Vec F S4x256x128 .bf16) (x3 : Vec F S4x2304x128 .bf16) (x4 : Vec F S4x2304x128 .bf16)
    (hc0 : ¬isBounded (arg2.view.readAt (Elt F) (Rect.unit (s := S1) ![0] S1.size inb_S1_S1_0).toLoadRect (harg2.unread x0) (Shape.Idx.first (numel1_S1.symm ▸ Nat.one_pos)))) (hc1 : isUnbounded (arg2.view.readAt (Elt F) (Rect.unit (s := S1) ![0] S1.size inb_S1_S1_0).toLoadRect (harg2.unread x0) (Shape.Idx.first (numel1_S1.symm ▸ Nat.one_pos)))) : Vec F S4x256x256 .bf16 :=
  VO.read (Elt F) (VO.writes (Elt F) VO.junk (runU c i arg2 harg2 arg3 harg3 arg4 harg4 arg5 harg5 arg6 harg6 arg7 harg7 x0 x1 x2 x3 x4 hc0 hc1).1)

end Cert.KernelIdeal.Gqa

end
-- ==== Proof.GqaRun.lean ====
/- The attention call's run: at every grid point the body leaves its output block at `blockOut`, so the launch ends with
   the result array at what these blocks make, every other buffer as the launch found it, every counter at zero. -/
module

public import proofs.«01_k».proof.Proof.GqaRunU
public import Idealize.ShloMosaic.Lib.Claim

@[expose] public section

set_option maxRecDepth 16384

noncomputable section

namespace Cert.KernelIdeal.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t` and its wholeness. -/
abbrev ms0 (t : Fin cfg0.N) : Memref sig .tc .smem S1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x256x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x256x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x2304x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x2304x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x256x256 .bf16 := win0_5.stage (cfg0.slots t 5)
abbrev hs5 (t : Fin cfg0.N) : (ms5 t).IsWhole := hstage0_5 ((cfg0.slots t 5).cast nbuf0_5)

/-- The flag word as the body reads it at point `t`. -/
abbrev flagAt (c : Dev nD) (t : Fin cfg0.N) : BitVec 32 :=
  (ms0 t).view.readAt (Elt F) (Rect.unit (s := S1) ![0] S1.size inb_S1_S1_0).toLoadRect ((hs0 t).unread (iblk m c 0 t)) (Shape.Idx.first (numel1_S1.symm ▸ Nat.one_pos))

open Classical in
/-- The output block after the body at point `t`. -/
def blockOut (c : Dev nD) (t : Fin cfg0.N) : Vec F S4x256x256 .bf16 :=
  if h : isBounded (flagAt m c t) then
    out_B c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (iblk m c 4 t) h (fun h' => (isUnbounded_iff _).mp h' h)
  else
    out_U c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (iblk m c 4 t) h ((isUnbounded_iff _).mpr h)

/-- The proof data of the one launch: each input block stays in place, the output block is `blockOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blockOut m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body finds at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the branch that the flag selects runs on the input blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : isBounded (flagAt m c t)
  · have e : blockOut m c t = out_B c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (iblk m c 4 t) h0 (fun h' => (isUnbounded_iff _).mp h' h0) := dif_pos h0
    rw [e]
    unfold out_B
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (iblk m c 0 t) (iblk m c 1 t) (iblk m c 2 t) (iblk m c 3 t) (iblk m c 4 t) h0 (fun h' => (isUnbounded_iff _).mp h' h0)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%f5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_B c _ _ _ _ _ _ _ _ _ _ _ _ _ _ _ _ _ _ _ _ )
  · have e : blockOut m c t = out_U c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (iblk m c 4 t) h0 ((isUnbounded_iff _).mpr h0) := dif_neg h0
    rw [e]
    unfold out_U
    iintro ⟨HΦ, Ho, ⟨%d0, H0⟩, ⟨%d1, H1⟩, ⟨%d2, H2⟩, ⟨%d3, H3⟩, ⟨%d4, H4⟩, ⟨%d5, H5⟩⟩
    iapply ((runU c (grid0.coords t) _ _ _ _ _ _ _ _ _ _ _ _ (iblk m c 0 t) (iblk m c 1 t) (iblk m c 2 t) (iblk m c 3 t) (iblk m c 4 t) h0 ((isUnbounded_iff _).mpr h0)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%f5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_U c _ _ _ _ _ _ _ _ _ _ _ _ _ _ _ _ _ _ _ _ )

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the proof data say, every other buffer as the launch found it,
    every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The first half of `run_all`. -/
theorem run_framePost : θ_run defs (onTc (τ := τ) (main (F := F))) (s₀ m ρ) (fun r => Pipeline.FramePost cfgs (dats m) 0 (V m) r) :=
  (θ_run defs _ _).mono (fun _ h => h.1) (run_all m ρ)

/-- The arguments end unchanged and every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_framePost m ρ))
    ((θ_run defs _ _).mono (fun _ h => h.2) (run_all m ρ))

/-- The result array after the run, and the arguments. -/
theorem run_result : θ_run defs (onTc (τ := τ) (main (F := F))) ⟨m, fun _ => 0, ρ⟩ (fun r => ∀ c : Dev nD,
      r.2.mem ((c.tc : Thread nD τ).loc main_v38) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1 5, h.2 c⟩)
    (θ_run_and (run_framePost m ρ) (frame_of m ρ (dats m) (A_eq m) (run_framePost m ρ)))

end Cert.KernelIdeal.Gqa

end
-- ==== Proof.GqaMath.lean ====
/- The mathematics of one softmax row over the extended reals: a mean of values with real weights, the three forms in
   which the kernel's two branches and the reference compute it, and the logits that a half-masked row of queries has. -/
module

public import Idealize.ShloMosaic.PureOps.Ideal
public import Mathlib.Analysis.SpecialFunctions.Pow.Real

@[expose] public section

noncomputable section

namespace Cert.GqaMath

open Idealize.ShloMosaic

variable {ι κ : Type} [Fintype ι] [Fintype κ]

/-- A sum of reals, coerced. -/
theorem coe_sum (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A nonnegative real factor distributes over a sum of any extended reals. -/
theorem mul_sum_of_nonneg (c : ℝ) (hc : 0 ≤ c) (s : Finset ι) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The mean of `v` with the weights `w`. -/
def wmean (w : ι → ℝ) (v : ι → EReal) : EReal := ∑ j, ((w j / ∑ i, w i : ℝ) : EReal) * v j

/-- The mean does not depend on the order in which the keys are listed. -/
theorem wmean_equiv (e : κ ≃ ι) (w : ι → ℝ) (v : ι → EReal) : wmean (fun j => w (e j)) (fun j => v (e j)) = wmean w v := by
  unfold wmean
  rw [e.sum_comp w, e.sum_comp fun j => ((w j / ∑ i, w i : ℝ) : EReal) * v j]

/-- A common factor of the weights drops out. -/
theorem wmean_smul (c : ℝ) (hc : c ≠ 0) (w : ι → ℝ) (v : ι → EReal) : wmean (fun j => c * w j) v = wmean w v := by
  unfold wmean
  refine Finset.sum_congr rfl fun j _ => ?_
  rw [← Finset.mul_sum, mul_div_mul_left _ _ hc]

theorem sum_pos' [Nonempty ι] (w : ι → ℝ) (hw : ∀ j, 0 < w j) : 0 < ∑ j, w j :=
  Finset.sum_pos (fun j _ => hw j) Finset.univ_nonempty

/-- The mean as the kernel computes it: the weighted sum over the sum of the weights. -/
theorem div_sum [Nonempty ι] (w : ι → ℝ) (hw : ∀ j, 0 < w j) (v : ι → EReal) :
    Ideal.div (∑ j, (w j : EReal) * v j) (∑ j, (w j : EReal)) = wmean w v := by
  have hp := sum_pos' w hw
  rw [← coe_sum, Ideal.div_coe hp.ne', mul_comm, mul_sum_of_nonneg _ (by positivity)]
  refine Finset.sum_congr rfl fun j _ => ?_
  rw [← mul_assoc, ← EReal.coe_mul, one_div, mul_comm (∑ j, w j)⁻¹, div_eq_mul_inv]

/-- The mean as the reference computes it: every weight divided first. -/
theorem sum_div [Nonempty ι] (w : ι → ℝ) (hw : ∀ j, 0 < w j) (v : ι → EReal) :
    ∑ j, Ideal.div (w j : EReal) (∑ i, (w i : EReal)) * v j = wmean w v := by
  have hp := sum_pos' w hw
  refine Finset.sum_congr rfl fun j _ => ?_
  rw [← coe_sum, Ideal.div_coe hp.ne', ← EReal.coe_mul, mul_one_div]

/-- The greatest of finitely many reals is a real. -/
theorem fold_max_real [Nonempty ι] (s : ι → ℝ) : ∃ M : ℝ, Finset.fold max (⊥ : EReal) (fun j => (s j : EReal)) Finset.univ = (M : EReal) := by
  obtain ⟨i, _, h⟩ := Finset.exists_mem_eq_sup (Finset.univ : Finset ι) Finset.univ_nonempty fun j => (s j : EReal)
  exact ⟨s i, h⟩

/-- `2 ^ (x · (8⁻¹ · (log 2)⁻¹))` is `exp (x / 8)`. -/
theorem exp2_scaled (x : ℝ) : Ideal.exp2 ((x * (8⁻¹ * (Real.log 2)⁻¹) : ℝ) : EReal) = ((Real.exp (x / 8) : ℝ) : EReal) := by
  have h2 : Real.log 2 ≠ 0 := (Real.log_pos (by norm_num)).ne'
  rw [Ideal.exp2_coe]
  congr 1
  show (2 : ℝ) ^ (x * (8⁻¹ * (Real.log 2)⁻¹)) = _
  rw [Real.rpow_def_of_pos (by norm_num)]
  congr 1
  field_simp

/-- … and with a constant subtracted in the exponent, a fixed multiple of it. -/
theorem exp2_scaled_sub (x M : ℝ) :
    Ideal.exp2 (((x * (8⁻¹ * (Real.log 2)⁻¹) : ℝ) : EReal) - (M : EReal)) = ((Real.exp (-(M * Real.log 2)) * Real.exp (x / 8) : ℝ) : EReal) := by
  have h2 : Real.log 2 ≠ 0 := (Real.log_pos (by norm_num)).ne'
  rw [← EReal.coe_sub, Ideal.exp2_coe]
  congr 1
  show (2 : ℝ) ^ (x * (8⁻¹ * (Real.log 2)⁻¹) - M) = _
  rw [Real.rpow_def_of_pos (by norm_num), ← Real.exp_add]
  congr 1
  field_simp
  ring

/-- The kernel's row without the maximum. -/
theorem bounded_row [Nonempty ι] (s : ι → ℝ) (v : ι → EReal) :
    Ideal.div (∑ j, Ideal.exp2 ((s j * (8⁻¹ * (Real.log 2)⁻¹) : ℝ) : EReal) * v j)
      (∑ j, Ideal.exp2 ((s j * (8⁻¹ * (Real.log 2)⁻¹) : ℝ) : EReal)) = wmean (fun j => Real.exp (s j / 8)) v := by
  simp only [exp2_scaled]
  exact div_sum _ (fun j => Real.exp_pos _) v

/-- The kernel's row with the maximum subtracted. -/
theorem unbounded_row [Nonempty ι] (s : ι → ℝ) (v : ι → EReal) (M : EReal)
    (hM : M = Finset.fold max (⊥ : EReal) (fun j => ((s j * (8⁻¹ * (Real.log 2)⁻¹) : ℝ) : EReal)) Finset.univ) :
    Ideal.div (∑ j, Ideal.exp2 (((s j * (8⁻¹ * (Real.log 2)⁻¹) : ℝ) : EReal) - M) * v j)
      (∑ j, Ideal.exp2 (((s j * (8⁻¹ * (Real.log 2)⁻¹) : ℝ) : EReal) - M)) = wmean (fun j => Real.exp (s j / 8)) v := by
  obtain ⟨M', h⟩ := fold_max_real fun j => s j * (8⁻¹ * (Real.log 2)⁻¹)
  rw [hM, h]
  simp only [exp2_scaled_sub]
  rw [div_sum _ (fun j => by positivity) v, wmean_smul _ (Real.exp_pos _).ne']

/-- The reference's row: the softmax with the maximum subtracted, then the values' weighted sum. -/
theorem softmax_row [Nonempty ι] (s : ι → ℝ) (v : ι → EReal) (M : EReal)
    (hM : M = Finset.fold max (⊥ : EReal) (fun j => ((s j / 8 : ℝ) : EReal)) Finset.univ) :
    ∑ j, Ideal.div (Ideal.exp (((s j / 8 : ℝ) : EReal) - M)) (∑ i, Ideal.exp (((s i / 8 : ℝ) : EReal) - M)) * v j
      = wmean (fun j => Real.exp (s j / 8)) v := by
  obtain ⟨M', h⟩ := fold_max_real fun j => s j / 8
  have he : ∀ j, Ideal.exp (((s j / 8 : ℝ) : EReal) - (M' : EReal)) = ((Real.exp (-M') * Real.exp (s j / 8) : ℝ) : EReal) := fun j => by
    rw [← EReal.coe_sub, Ideal.exp_coe, ← Real.exp_add, sub_eq_neg_add]
  rw [hM, h]
  simp only [he]
  rw [sum_div _ (fun j => by positivity) v, wmean_smul _ (Real.exp_pos _).ne']

/-- A sum over 128 lanes of which only the first half counts. -/
theorem sum_lower (f : Fin 128 → EReal) :
    (∑ d : Fin 128, if (d : ℕ) < 64 then f d else 0) = ∑ d : Fin 64, f ⟨d, by omega⟩ := by
  have h := Fin.sum_univ_add (a := 64) (b := 64) (fun d : Fin (64 + 64) => if (d : ℕ) < 64 then f ⟨d, d.isLt⟩ else 0)
  refine h.trans ?_
  simp

/-- A sum over 128 lanes of which only the second half counts. -/
theorem sum_upper (f : Fin 128 → EReal) :
    (∑ d : Fin 128, if (d : ℕ) < 64 then 0 else f d) = ∑ d : Fin 64, f ⟨d + 64, by omega⟩ := by
  have h := Fin.sum_univ_add (a := 64) (b := 64) (fun d : Fin (64 + 64) => if (d : ℕ) < 64 then 0 else f ⟨d, d.isLt⟩)
  refine h.trans ?_
  simp

end Cert.GqaMath

end
-- ==== Proof.Consts.lean ====
/- The float constants of the programs that the proofs compute with, as the extended reals they denote. -/
module

public import Idealize.ShloMosaic.PureOps.Ideal

@[expose] public section

noncomputable section

namespace Cert.Consts

open Idealize.ShloMosaic

/-- The pattern of `-inf` denotes `⊥`. -/
theorem ofBits_neg_inf : Ideal.ofBits .f32 0xFF800000#32 = (⊥ : EReal) := by
  simp [Ideal.ofBits, Ideal.ieee]

/-- The pattern of `+inf` denotes `⊤`. -/
theorem ofBits_inf : Ideal.ofBits .f32 0x7F800000#32 = (⊤ : EReal) := by
  simp [Ideal.ofBits, Ideal.ieee]

/-- `0.125`. -/
theorem ofBits_eighth : Ideal.ofBits .f32 0x3E000000#32 = ((1 / 8 : ℝ) : EReal) := by
  simp [Ideal.ofBits, Ideal.ieee, -EReal.coe_mul]; norm_num

end Cert.Consts

end
-- ==== Proof.GqaHalf.lean ====
/- What the attention body computes from one block of queries: the two heads that lie side by side in the 128 lanes are
   separated by masking, each row is one softmax over all the keys, and of the two results each lane keeps its head's.
   Both branches give the same mean of the values where queries and keys are real numbers. -/
module

public import proofs.«01_k».proof.Proof.Gen.KernelIdeal.Skeleton
public import proofs.«01_k».proof.Proof.GqaMath
public import proofs.«01_k».proof.Proof.Consts
public import Idealize.ShloMosaic.Lib.Pointwise

@[expose] public section

set_option maxRecDepth 16384

noncomputable section

namespace Cert.KernelIdeal.Gqa

open Cert.KernelIdeal Cert.KernelIdeal.Gen Cert.GqaMath
open Idealize.ShloMosaic Idealize.ShloMosaic.TcCoe

/-- The named constant is `8⁻¹ · (log 2)⁻¹`. -/
theorem log2e_8 : Named.named (F := Ideal) κ "log2e_8" (φ := .f32) 0x3E38AA3B#32 = ((8⁻¹ * (Real.log 2)⁻¹ : ℝ) : EReal) :=
  IdealRules.named_const.ideal_named_scalar _ _ _ _ rfl

/-- Lane `d` of the head that lane `l` belongs to. -/
def headLane (l : Fin 128) (d : Fin 64) : Fin 128 := if (l : ℕ) < 64 then ⟨d, by omega⟩ else ⟨d + 64, by omega⟩

/-- A selection by a lane's half, as a case distinction. -/
theorem select_lane (d : Fin 128) (x y : EReal) :
    Scalar.select (IntOp.cmpi CmpIPredicate.slt (BitVec.ofNat 32 (d : ℕ)) 64#32) x y = if (d : ℕ) < 64 then x else y := by
  have h : IntOp.cmpi CmpIPredicate.slt (BitVec.ofNat 32 (d : ℕ)) 64#32 = if (d : ℕ) < 64 then 1#1 else 0#1 := by
    revert d; decide
  rw [h]; split <;> rfl

variable (q : Vec Ideal S1x256x128 .bf16) (k v : Vec Ideal S1x2304x128 .bf16)
variable (r : Fin 256) (l : Fin 128) (qr : Fin 128 → ℝ) (kr : Fin 2304 → Fin 128 → ℝ)

/-- The masked logit of the lower head. -/
theorem logit_lower (hq : ∀ d, q (ix3 0 r d) = (qr d : EReal)) (hk : ∀ j d, k (ix3 0 j d) = (kr j d : EReal)) (hl : (l : ℕ) < 64) (j : Fin 2304) :
    (∑ d : Fin 128, if (d : ℕ) < 64 then q (ix3 0 r d) * ((8⁻¹ * (Real.log 2)⁻¹ : ℝ) : EReal) * k (ix3 0 j d) else 0)
      = (((∑ d : Fin 64, qr (headLane l d) * kr j (headLane l d)) * (8⁻¹ * (Real.log 2)⁻¹) : ℝ) : EReal) := by
  rw [sum_lower, Finset.sum_mul, coe_sum]
  refine Finset.sum_congr rfl fun d _ => ?_
  rw [hq, hk, ← EReal.coe_mul, ← EReal.coe_mul, headLane, if_pos hl]
  congr 1; ring

/-- The masked logit of the upper head. -/
theorem logit_upper (hq : ∀ d, q (ix3 0 r d) = (qr d : EReal)) (hk : ∀ j d, k (ix3 0 j d) = (kr j d : EReal)) (hl : ¬(l : ℕ) < 64) (j : Fin 2304) :
    (∑ d : Fin 128, if (d : ℕ) < 64 then 0 else q (ix3 0 r d) * ((8⁻¹ * (Real.log 2)⁻¹ : ℝ) : EReal) * k (ix3 0 j d))
      = (((∑ d : Fin 64, qr (headLane l d) * kr j (headLane l d)) * (8⁻¹ * (Real.log 2)⁻¹) : ℝ) : EReal) := by
  rw [sum_upper, Finset.sum_mul, coe_sum]
  refine Finset.sum_congr rfl fun d _ => ?_
  rw [hq, hk, ← EReal.coe_mul, ← EReal.coe_mul, headLane, if_neg hl]
  congr 1; ring

/-- What one block of queries attends to at row `r` and lane `l`. -/
def attended (vl : Fin 2304 → EReal) : EReal :=
  wmean (fun j => Real.exp ((∑ d : Fin 64, qr (headLane l d) * kr j (headLane l d)) / 8)) vl

set_option maxHeartbeats 1000000 in
/-- The branch of bounded logits. -/
theorem halfB (hq : ∀ d, q (ix3 0 r d) = (qr d : EReal)) (hk : ∀ j d, k (ix3 0 j d) = (kr j d : EReal)) :
    k0_pay5 (F := Ideal) k v q (ix2 r l) = attended l qr kr fun j => v (ix3 0 j l) := by
  unfold k0_pay5 k0_pay3 k0_pay4
  pointwise
  simp only [log2e_8, select_lane]
  unfold attended
  by_cases hl : (l : ℕ) < 64
  · rw [if_pos hl]
    simp only [logit_lower q k r l qr kr hq hk hl]
    exact bounded_row _ _
  · rw [if_neg hl]
    simp only [logit_upper q k r l qr kr hq hk hl]
    exact bounded_row _ _

set_option maxHeartbeats 1000000 in
/-- The branch with the maximum subtracted. -/
theorem halfU (hq : ∀ d, q (ix3 0 r d) = (qr d : EReal)) (hk : ∀ j d, k (ix3 0 j d) = (kr j d : EReal)) :
    k0_pay30 (F := Ideal) k v q (ix2 r l) = attended l qr kr fun j => v (ix3 0 j l) := by
  unfold k0_pay30 k0_pay28 k0_pay29
  pointwise
  simp only [log2e_8, select_lane, Cert.Consts.ofBits_neg_inf]
  unfold attended
  by_cases hl : (l : ℕ) < 64
  · rw [if_pos hl]
    simp only [logit_lower q k r l qr kr hq hk hl]
    exact unbounded_row _ _ _ rfl
  · rw [if_neg hl]
    simp only [logit_upper q k r l qr kr hq hk hl]
    exact unbounded_row _ _ _ rfl

/-- Two halves side by side, as the body stores them. -/
def slab (hA hB : FVec Ideal S256x128 .f32) : FVec Ideal S1x256x256 .bf16 :=
  shapeCast S1x256x256 (truncf .bf16 (concatenate S256x256 1 [⟨S256x128, hA⟩, ⟨S256x128, hB⟩] concatenates_S256x128_S256x128_S256x256_d1) bitsLt_bf16_f32) shapeCasts_S256x256_S1x256x256

theorem slab_left (hA hB : FVec Ideal S256x128 .f32) (r l : Fin 256) (hl : (l : ℕ) < 128) :
    slab hA hB (ix3 0 r l) = hA (ix2 r ⟨l, hl⟩) := by
  unfold slab
  pointwise
  simp [hl]

theorem slab_right (hA hB : FVec Ideal S256x128 .f32) (r l : Fin 256) (hl : ¬(l : ℕ) < 128) :
    slab hA hB (ix3 0 r l) = hB (ix2 r ⟨l - 128, by omega⟩) := by
  unfold slab
  pointwise
  simp [hl]

end Cert.KernelIdeal.Gqa

end
-- ==== Proof.GqaBlock.lean ====
/- The attention body's output block, read at an index: slab `b` of the block is, row by row and lane by lane, what the
   queries of slab `b` attend to — in both branches. -/
module

public import proofs.«01_k».proof.Proof.GqaRun
public import proofs.«01_k».proof.Proof.GqaHalf
public import Idealize.ShloMosaic.Lib.Pipeline.ValueKit

@[expose] public section

set_option maxRecDepth 16384

noncomputable section

namespace Cert.KernelIdeal.Gqa

open Cert.KernelIdeal Cert.KernelIdeal.Gen
open Idealize.ShloMosaic Idealize.ShloMosaic.TcCoe Idealize.ShloMosaic.Tactic

/-! ## The four slabs are the same computation -/

section
variable (k v : Vec Ideal S1x2304x128 .bf16) (qa qb : Vec Ideal S1x256x128 .bf16)

theorem slabB_0 : k0_pay8 (k0_pay3 k) (k0_pay4 v) (k0_pay5 k v qa) (k0_pay6 qb) (iota .tc S256x128 32 [1] iota_S256x128_d1_w32) k0_pay7 = slab (k0_pay5 (F := Ideal) k v qa) (k0_pay5 (F := Ideal) k v qb) := rfl
theorem slabB_1 : k0_pay16 (k0_pay15 (k0_pay9 k) (k0_pay10 v) (k0_pay11 qa) k0_pay12 k0_pay13 (k0_pay14 qa) qb) = slab (k0_pay5 (F := Ideal) k v qa) (k0_pay5 (F := Ideal) k v qb) := rfl
theorem slabB_2 : k0_pay21 (k0_pay17 k) (k0_pay18 v) (k0_pay19 k v qa) (k0_pay20 qb) (Named.named κ "log2e_8" 0x3E38AA3B#32) = slab (k0_pay5 (F := Ideal) k v qa) (k0_pay5 (F := Ideal) k v qb) := rfl
theorem slabB_3 : k0_pay1 (k0_pay25 (k0_pay22 k) (k0_pay23 v) (k0_pay24 qa) (iota .tc S256x128 32 [1] iota_S256x128_d1_w32)) (k0_pay26 (k0_pay22 k) (k0_pay23 v) qb) k0_pay27 = slab (k0_pay5 (F := Ideal) k v qa) (k0_pay5 (F := Ideal) k v qb) := rfl
theorem slabU_0 : k0_pay33 (k0_pay28 k) (k0_pay29 v) (k0_pay30 k v qa) (k0_pay31 qb) k0_pay32 = slab (k0_pay30 (F := Ideal) k v qa) (k0_pay30 (F := Ideal) k v qb) := rfl
theorem slabU_1 : k0_pay40 (k0_pay35 v) (k0_pay37 (k0_pay34 k) (k0_pay35 v) (k0_pay36 qa) (Named.named κ "log2e_8" 0x3E38AA3B#32)) (k0_pay38 (k0_pay34 k) qb) (k0_pay39 (k0_pay34 k) qb) = slab (k0_pay30 (F := Ideal) k v qa) (k0_pay30 (F := Ideal) k v qb) := rfl
theorem slabU_2 : k0_pay47 (k0_pay45 (k0_pay42 v) (k0_pay43 k qa) (k0_pay44 k qa)) (k0_pay46 (k0_pay41 k) (k0_pay42 v) qb) = slab (k0_pay30 (F := Ideal) k v qa) (k0_pay30 (F := Ideal) k v qb) := rfl
theorem slabU_3 : k0_pay2 (k0_pay48 k) (k0_pay49 v) k0_pay51 (k0_pay52 k v qa) (k0_pay53 k v qa) qb = slab (k0_pay30 (F := Ideal) k v qa) (k0_pay30 (F := Ideal) k v qb) := rfl

end

/-! ## A slab at an index -/

variable (x1 x2 : Vec Ideal S4x256x128 .bf16) (x3 x4 : Vec Ideal S4x2304x128 .bf16)
variable (qa qb : Fin 4 → Fin 256 → Fin 128 → ℝ) (kr : Fin 4 → Fin 2304 → Fin 128 → ℝ)

/-- The block's value: the first 128 lanes come from the first block of queries, the others from the second. -/
def blockVal (b : Fin 4) (r l : Fin 256) : EReal :=
  if h : (l : ℕ) < 128 then attended ⟨l, h⟩ (qa b r) (kr b) fun j => x4 (ix3 b j ⟨l, h⟩)
  else attended ⟨l - 128, by omega⟩ (qb b r) (kr b) fun j => x4 (ix3 b j ⟨l - 128, by omega⟩)

/-- A load of one slab of a block of queries, and of keys or values. -/
theorem ld_q (x : Vec Ideal S4x256x128 .bf16) (b : Fin 4) (inb) (r : Fin 256) (d : Fin 128) :
    View.ld x (Rect.unit (s := S4x256x128) ![b, 0, 0] S1x256x128.size inb) (ix3 0 r d) = x (ix3 b r d) :=
  View.ld_unit_apply_of x _ _ _ _ _ fun a => by
    match a with
    | ⟨0, _⟩ => show (b : ℕ) = b + 0; omega
    | ⟨1, _⟩ => show (r : ℕ) = 0 + r; omega
    | ⟨2, _⟩ => show (d : ℕ) = 0 + d; omega

theorem ld_k (x : Vec Ideal S4x2304x128 .bf16) (b : Fin 4) (inb) (r : Fin 2304) (d : Fin 128) :
    View.ld x (Rect.unit (s := S4x2304x128) ![b, 0, 0] S1x2304x128.size inb) (ix3 0 r d) = x (ix3 b r d) :=
  View.ld_unit_apply_of x _ _ _ _ _ fun a => by
    match a with
    | ⟨0, _⟩ => show (b : ℕ) = b + 0; omega
    | ⟨1, _⟩ => show (r : ℕ) = 0 + r; omega
    | ⟨2, _⟩ => show (d : ℕ) = 0 + d; omega

variable (ha : ∀ b r d, x1 (ix3 b r d) = (qa b r d : EReal)) (hb : ∀ b r d, x2 (ix3 b r d) = (qb b r d : EReal))
  (hk : ∀ b j d, x3 (ix3 b j d) = (kr b j d : EReal))
include ha hb hk

/-- Slab `b` in the branch B. -/
theorem slab_atB (b : Fin 4) (inbq) (inbk) (r l : Fin 256) :
    slab (k0_pay5 (F := Ideal) (View.ld x3 (Rect.unit (s := S4x2304x128) ![b, 0, 0] S1x2304x128.size inbk)) (View.ld x4 (Rect.unit (s := S4x2304x128) ![b, 0, 0] S1x2304x128.size inbk)) (View.ld x1 (Rect.unit (s := S4x256x128) ![b, 0, 0] S1x256x128.size inbq))) (k0_pay5 (F := Ideal) (View.ld x3 (Rect.unit (s := S4x2304x128) ![b, 0, 0] S1x2304x128.size inbk)) (View.ld x4 (Rect.unit (s := S4x2304x128) ![b, 0, 0] S1x2304x128.size inbk)) (View.ld x2 (Rect.unit (s := S4x256x128) ![b, 0, 0] S1x256x128.size inbq))) (ix3 0 r l)
      = blockVal x4 qa qb kr b r l := by
  unfold blockVal
  by_cases hl : (l : ℕ) < 128
  · rw [slab_left _ _ _ _ hl, dif_pos hl, halfB _ _ _ _ _ (qa b r) (kr b) (fun d => (ld_q x1 _ inbq _ d).trans (ha _ _ d)) (fun j d => (ld_k x3 _ inbk j d).trans (hk _ j d))]
    exact congrArg _ (funext fun j => ld_k x4 _ inbk j _)
  · rw [slab_right _ _ _ _ hl, dif_neg hl, halfB _ _ _ _ _ (qb b r) (kr b) (fun d => (ld_q x2 _ inbq _ d).trans (hb _ _ d)) (fun j d => (ld_k x3 _ inbk j d).trans (hk _ j d))]
    exact congrArg _ (funext fun j => ld_k x4 _ inbk j _)

/-- The same where the stored piece `k` meets the block's index. -/
theorem pieceB (k : Fin 4) (inbq) (inbk) (x : S1x256x256.Idx) (b : Fin 4) (r l : Fin 256) (h0 : (b : ℕ) = k + (x 0 : ℕ)) (x0_lt : (x 0 : ℕ) < 1) (h1 : (r : ℕ) = x 1) (h2 : (l : ℕ) = x 2) :
    slab (k0_pay5 (F := Ideal) (View.ld x3 (Rect.unit (s := S4x2304x128) ![k, 0, 0] S1x2304x128.size inbk)) (View.ld x4 (Rect.unit (s := S4x2304x128) ![k, 0, 0] S1x2304x128.size inbk)) (View.ld x1 (Rect.unit (s := S4x256x128) ![k, 0, 0] S1x256x128.size inbq))) (k0_pay5 (F := Ideal) (View.ld x3 (Rect.unit (s := S4x2304x128) ![k, 0, 0] S1x2304x128.size inbk)) (View.ld x4 (Rect.unit (s := S4x2304x128) ![k, 0, 0] S1x2304x128.size inbk)) (View.ld x2 (Rect.unit (s := S4x256x128) ![k, 0, 0] S1x256x128.size inbq))) x
      = blockVal x4 qa qb kr b r l := by
  obtain rfl : k = b := Fin.ext (by omega)
  obtain rfl : x = ix3 0 r l := funext fun a => by
    match a with
    | ⟨0, _⟩ => exact Fin.ext (by show (x 0 : ℕ) = 0; omega)
    | ⟨1, _⟩ => exact Fin.ext h1.symm
    | ⟨2, _⟩ => exact Fin.ext h2.symm
  exact slab_atB x1 x2 x3 x4 qa qb kr ha hb hk k inbq inbk r l

/-- Slab `b` in the branch U. -/
theorem slab_atU (b : Fin 4) (inbq) (inbk) (r l : Fin 256) :
    slab (k0_pay30 (F := Ideal) (View.ld x3 (Rect.unit (s := S4x2304x128) ![b, 0, 0] S1x2304x128.size inbk)) (View.ld x4 (Rect.unit (s := S4x2304x128) ![b, 0, 0] S1x2304x128.size inbk)) (View.ld x1 (Rect.unit (s := S4x256x128) ![b, 0, 0] S1x256x128.size inbq))) (k0_pay30 (F := Ideal) (View.ld x3 (Rect.unit (s := S4x2304x128) ![b, 0, 0] S1x2304x128.size inbk)) (View.ld x4 (Rect.unit (s := S4x2304x128) ![b, 0, 0] S1x2304x128.size inbk)) (View.ld x2 (Rect.unit (s := S4x256x128) ![b, 0, 0] S1x256x128.size inbq))) (ix3 0 r l)
      = blockVal x4 qa qb kr b r l := by
  unfold blockVal
  by_cases hl : (l : ℕ) < 128
  · rw [slab_left _ _ _ _ hl, dif_pos hl, halfU _ _ _ _ _ (qa b r) (kr b) (fun d => (ld_q x1 _ inbq _ d).trans (ha _ _ d)) (fun j d => (ld_k x3 _ inbk j d).trans (hk _ j d))]
    exact congrArg _ (funext fun j => ld_k x4 _ inbk j _)
  · rw [slab_right _ _ _ _ hl, dif_neg hl, halfU _ _ _ _ _ (qb b r) (kr b) (fun d => (ld_q x2 _ inbq _ d).trans (hb _ _ d)) (fun j d => (ld_k x3 _ inbk j d).trans (hk _ j d))]
    exact congrArg _ (funext fun j => ld_k x4 _ inbk j _)

/-- The same where the stored piece `k` meets the block's index. -/
theorem pieceU (k : Fin 4) (inbq) (inbk) (x : S1x256x256.Idx) (b : Fin 4) (r l : Fin 256) (h0 : (b : ℕ) = k + (x 0 : ℕ)) (x0_lt : (x 0 : ℕ) < 1) (h1 : (r : ℕ) = x 1) (h2 : (l : ℕ) = x 2) :
    slab (k0_pay30 (F := Ideal) (View.ld x3 (Rect.unit (s := S4x2304x128) ![k, 0, 0] S1x2304x128.size inbk)) (View.ld x4 (Rect.unit (s := S4x2304x128) ![k, 0, 0] S1x2304x128.size inbk)) (View.ld x1 (Rect.unit (s := S4x256x128) ![k, 0, 0] S1x256x128.size inbq))) (k0_pay30 (F := Ideal) (View.ld x3 (Rect.unit (s := S4x2304x128) ![k, 0, 0] S1x2304x128.size inbk)) (View.ld x4 (Rect.unit (s := S4x2304x128) ![k, 0, 0] S1x2304x128.size inbk)) (View.ld x2 (Rect.unit (s := S4x256x128) ![k, 0, 0] S1x256x128.size inbq))) x
      = blockVal x4 qa qb kr b r l := by
  obtain rfl : k = b := Fin.ext (by omega)
  obtain rfl : x = ix3 0 r l := funext fun a => by
    match a with
    | ⟨0, _⟩ => exact Fin.ext (by show (x 0 : ℕ) = 0; omega)
    | ⟨1, _⟩ => exact Fin.ext h1.symm
    | ⟨2, _⟩ => exact Fin.ext h2.symm
  exact slab_atU x1 x2 x3 x4 qa qb kr ha hb hk k inbq inbk r l

set_option maxHeartbeats 1000000 in
/-- The output block at an index, in the branch B. -/
theorem out_B_apply (c : Dev nD) (i : grid0.Coords)
    (arg2 : Memref sig .tc .smem S1 .i32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S4x2304x128 .bf16) (harg5 : arg5.IsWhole) (arg6 : Memref sig .tc .vmem S4x2304x128 .bf16) (harg6 : arg6.IsWhole) (arg7 : Memref sig .tc .vmem S4x256x256 .bf16) (harg7 : arg7.IsWhole)
    (x0 : Vec Ideal S1 .i32)
    (hc0 : isBounded (arg2.view.readAt (Elt Ideal) (Rect.unit (s := S1) ![0] S1.size inb_S1_S1_0).toLoadRect (harg2.unread x0) (Shape.Idx.first (numel1_S1.symm ▸ Nat.one_pos)))) (hc1 : ¬isUnbounded (arg2.view.readAt (Elt Ideal) (Rect.unit (s := S1) ![0] S1.size inb_S1_S1_0).toLoadRect (harg2.unread x0) (Shape.Idx.first (numel1_S1.symm ▸ Nat.one_pos)))) (b : Fin 4) (r l : Fin 256) :
    out_B (F := Ideal) c i arg2 harg2 arg3 harg3 arg4 harg4 arg5 harg5 arg6 harg6 arg7 harg7 x0 x1 x2 x3 x4 hc0 hc1 (ix3 b r l) = blockVal x4 qa qb kr b r l := by
  unfold out_B
  rw [View.read_writes_eq_canon _ _ _ (cover_B c i arg2 harg2 arg3 harg3 arg4 harg4 arg5 harg5 arg6 harg6 arg7 harg7 x0 x1 x2 x3 x4 hc0 hc1)]
  unfold runB
  dsimp only
  sl_unfold_words
  simp only [View.readAt_eq_ld, harg3.read_unread, harg4.read_unread, harg5.read_unread, harg6.read_unread]
  canon_tiles x h
  · refine (congrFun (slabB_3 _ _ _ _) x).trans ?_
    exact pieceB x1 x2 x3 x4 qa qb kr ha hb hk 3 (by decide) (by decide) x b r l h0 x0_lt h1 h2
  · refine (congrFun (slabB_2 _ _ _ _) x).trans ?_
    exact pieceB x1 x2 x3 x4 qa qb kr ha hb hk 2 (by decide) (by decide) x b r l h0 x0_lt h1 h2
  · refine (congrFun (slabB_1 _ _ _ _) x).trans ?_
    exact pieceB x1 x2 x3 x4 qa qb kr ha hb hk 1 (by decide) (by decide) x b r l h0 x0_lt h1 h2
  · refine (congrFun (slabB_0 _ _ _ _) x).trans ?_
    exact pieceB x1 x2 x3 x4 qa qb kr ha hb hk 0 (by decide) (by decide) x b r l (h0.trans (Nat.zero_add _).symm) x0_lt h1 h2

set_option maxHeartbeats 1000000 in
/-- The output block at an index, in the branch U. -/
theorem out_U_apply (c : Dev nD) (i : grid0.Coords)
    (arg2 : Memref sig .tc .smem S1 .i32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S4x2304x128 .bf16) (harg5 : arg5.IsWhole) (arg6 : Memref sig .tc .vmem S4x2304x128 .bf16) (harg6 : arg6.IsWhole) (arg7 : Memref sig .tc .vmem S4x256x256 .bf16) (harg7 : arg7.IsWhole)
    (x0 : Vec Ideal S1 .i32)
    (hc0 : ¬isBounded (arg2.view.readAt (Elt Ideal) (Rect.unit (s := S1) ![0] S1.size inb_S1_S1_0).toLoadRect (harg2.unread x0) (Shape.Idx.first (numel1_S1.symm ▸ Nat.one_pos)))) (hc1 : isUnbounded (arg2.view.readAt (Elt Ideal) (Rect.unit (s := S1) ![0] S1.size inb_S1_S1_0).toLoadRect (harg2.unread x0) (Shape.Idx.first (numel1_S1.symm ▸ Nat.one_pos)))) (b : Fin 4) (r l : Fin 256) :
    out_U (F := Ideal) c i arg2 harg2 arg3 harg3 arg4 harg4 arg5 harg5 arg6 harg6 arg7 harg7 x0 x1 x2 x3 x4 hc0 hc1 (ix3 b r l) = blockVal x4 qa qb kr b r l := by
  unfold out_U
  rw [View.read_writes_eq_canon _ _ _ (cover_U c i arg2 harg2 arg3 harg3 arg4 harg4 arg5 harg5 arg6 harg6 arg7 harg7 x0 x1 x2 x3 x4 hc0 hc1)]
  unfold runU
  dsimp only
  sl_unfold_words
  simp only [View.readAt_eq_ld, harg3.read_unread, harg4.read_unread, harg5.read_unread, harg6.read_unread]
  canon_tiles x h
  · refine (congrFun (slabU_3 _ _ _ _) x).trans ?_
    exact pieceU x1 x2 x3 x4 qa qb kr ha hb hk 3 (by decide) (by decide) x b r l h0 x0_lt h1 h2
  · refine (congrFun (slabU_2 _ _ _ _) x).trans ?_
    exact pieceU x1 x2 x3 x4 qa qb kr ha hb hk 2 (by decide) (by decide) x b r l h0 x0_lt h1 h2
  · refine (congrFun (slabU_1 _ _ _ _) x).trans ?_
    exact pieceU x1 x2 x3 x4 qa qb kr ha hb hk 1 (by decide) (by decide) x b r l h0 x0_lt h1 h2
  · refine (congrFun (slabU_0 _ _ _ _) x).trans ?_
    exact pieceU x1 x2 x3 x4 qa qb kr ha hb hk 0 (by decide) (by decide) x b r l (h0.trans (Nat.zero_add _).symm) x0_lt h1 h2

end Cert.KernelIdeal.Gqa

end
-- ==== Proof.GqaValue.lean ====
/- The attention call's result array, read at an index off the array of queries, keys and values. -/
module

public import proofs.«01_k».proof.Proof.GqaBlock

@[expose] public section

set_option maxRecDepth 16384

noncomputable section

namespace Cert.KernelIdeal.Gqa

open Cert.KernelIdeal Cert.KernelIdeal.Gen
open Idealize.ShloMosaic Idealize.ShloMosaic.TcCoe Idealize.ShloMosaic.Tactic

/-- The blocks' places: point `t` works on four batches and on one tile of 256 latent tokens, which lie after the 256
    context tokens in the array of queries; the keys and the values are blocks of all tokens. -/
theorem index_1 : ∀ t : Fin grid0.N, win0_1.index t = ![t.val / 8, t.val % 8 + 1, 0] := by decide +kernel
theorem index_2 : ∀ t : Fin grid0.N, win0_2.index t = ![t.val / 8, t.val % 8 + 1, 1] := by decide +kernel
theorem index_3 : ∀ t : Fin grid0.N, win0_3.index t = ![t.val / 8, 0, 2] := by decide +kernel
theorem index_4 : ∀ t : Fin grid0.N, win0_4.index t = ![t.val / 8, 0, 3] := by decide +kernel
theorem index_5 : ∀ t : Fin grid0.N, win0_5.index t = ![t.val / 8, t.val % 8, 0] := by decide +kernel

variable (m : (ℓ : Loc nD τ sig) → Buf (Elt Ideal) ℓ) (c : Dev nD)

/-- The array of queries, keys and values. -/
abbrev qkv : Vec Ideal S16x2304x1536 .bf16 := V m c main_v26

theorem N_eq : cfg0.N = 32 := N_0

/-- Batch and token of an element of point `t`'s block. -/
def batchAt (t : Fin cfg0.N) (b : Fin 4) : Fin 16 := ⟨t.val / 8 * 4 + b, by have := N_eq; have := t.isLt; omega⟩
def tokenAt (t : Fin cfg0.N) (r : Fin 256) : Fin 2048 := ⟨t.val % 8 * 256 + r, by omega⟩

theorem iblk_1 (t : Fin cfg0.N) (b : Fin 4) (r : Fin 256) (d : Fin 128) :
    (iblk m c 1 t : Vec Ideal S4x256x128 .bf16) (ix3 b r d) = qkv m c (ix3 (batchAt t b) ⟨256 + (tokenAt t r : ℕ), by have := (tokenAt t r).isLt; omega⟩ ⟨d, by omega⟩) := by
  unfold batchAt tokenAt
  blk_ext [iblk, index_1 t]
theorem iblk_2 (t : Fin cfg0.N) (b : Fin 4) (r : Fin 256) (d : Fin 128) :
    (iblk m c 2 t : Vec Ideal S4x256x128 .bf16) (ix3 b r d) = qkv m c (ix3 (batchAt t b) ⟨256 + (tokenAt t r : ℕ), by have := (tokenAt t r).isLt; omega⟩ ⟨128 + d, by omega⟩) := by
  unfold batchAt tokenAt
  blk_ext [iblk, index_2 t]
theorem iblk_3 (t : Fin cfg0.N) (b : Fin 4) (j : Fin 2304) (d : Fin 128) :
    (iblk m c 3 t : Vec Ideal S4x2304x128 .bf16) (ix3 b j d) = qkv m c (ix3 (batchAt t b) j ⟨256 + d, by omega⟩) := by
  unfold batchAt
  blk_ext [iblk, index_3 t]
theorem iblk_4 (t : Fin cfg0.N) (b : Fin 4) (j : Fin 2304) (d : Fin 128) :
    (iblk m c 4 t : Vec Ideal S4x2304x128 .bf16) (ix3 b j d) = qkv m c (ix3 (batchAt t b) j ⟨384 + d, by omega⟩) := by
  unfold batchAt
  blk_ext [iblk, index_4 t]

variable (Xq : Fin 16 → Fin 2048 → Fin 256 → ℝ) (Xk : Fin 16 → Fin 2304 → Fin 128 → ℝ)

/-- The result at batch `b`, latent token `n` and lane `l`. -/
def resVal (b : Fin 16) (n : Fin 2048) (l : Fin 256) : EReal :=
  if h : (l : ℕ) < 128 then
    attended ⟨l, h⟩ (fun d => Xq b n ⟨d, by omega⟩) (Xk b) fun j => qkv m c (ix3 b j ⟨384 + l, by omega⟩)
  else
    attended ⟨l - 128, by omega⟩ (fun d => Xq b n ⟨128 + d, by omega⟩) (Xk b) fun j => qkv m c (ix3 b j ⟨384 + (l - 128), by omega⟩)

/-- The operand's query columns, of the latent tokens, hold the real numbers `Xq`. -/
def HoldsQ : Prop := ∀ b (n : Fin 2048) (d : Fin 256), qkv m c (ix3 b ⟨256 + (n : ℕ), by omega⟩ ⟨d, by omega⟩) = (Xq b n d : EReal)
/-- The operand's key columns hold the real numbers `Xk`. -/
def HoldsK : Prop := ∀ b (j : Fin 2304) (d : Fin 128), qkv m c (ix3 b j ⟨256 + d, by omega⟩) = (Xk b j d : EReal)

variable (hq : HoldsQ m c Xq) (hk : HoldsK m c Xk)
include hq hk

omit hq hk in
/-- A block's element, from the real numbers of its queries and keys, is the result's element at its place. -/
theorem blockVal_eq (t : Fin cfg0.N) (x4 : Vec Ideal S4x2304x128 .bf16)
    (h4 : ∀ b j d, x4 (ix3 b j d) = qkv m c (ix3 (batchAt t b) j ⟨384 + (d : ℕ), by omega⟩)) (b : Fin 4) (r l : Fin 256) :
    blockVal x4 (fun b r d => Xq (batchAt t b) (tokenAt t r) ⟨d, by omega⟩) (fun b r d => Xq (batchAt t b) (tokenAt t r) ⟨128 + d, by omega⟩)
      (fun b => Xk (batchAt t b)) b r l = resVal m c Xq Xk (batchAt t b) (tokenAt t r) l := by
  unfold blockVal resVal
  split <;> simp only [h4]

include hq in
omit hk in
theorem qa_eq (t : Fin cfg0.N) (b : Fin 4) (r : Fin 256) (d : Fin 128) :
    (iblk m c 1 t : Vec Ideal S4x256x128 .bf16) (ix3 b r d) = (Xq (batchAt t b) (tokenAt t r) ⟨d, by omega⟩ : EReal) :=
  (iblk_1 m c t b r d).trans (hq (batchAt t b) (tokenAt t r) ⟨d, by omega⟩)

include hq in
omit hk in
theorem qb_eq (t : Fin cfg0.N) (b : Fin 4) (r : Fin 256) (d : Fin 128) :
    (iblk m c 2 t : Vec Ideal S4x256x128 .bf16) (ix3 b r d) = (Xq (batchAt t b) (tokenAt t r) ⟨128 + d, by omega⟩ : EReal) :=
  (iblk_2 m c t b r d).trans (hq (batchAt t b) (tokenAt t r) ⟨128 + d, by omega⟩)

include hk in
omit hq in
theorem k_eq (t : Fin cfg0.N) (b : Fin 4) (j : Fin 2304) (d : Fin 128) :
    (iblk m c 3 t : Vec Ideal S4x2304x128 .bf16) (ix3 b j d) = (Xk (batchAt t b) j d : EReal) :=
  (iblk_3 m c t b j d).trans (hk (batchAt t b) j d)

/-- One element of the block that point `t` leaves. -/
theorem blockOut_apply (t : Fin cfg0.N) (b : Fin 4) (r l : Fin 256) :
    (blockOut (F := Ideal) m c t : Vec Ideal S4x256x256 .bf16) (ix3 b r l) = resVal m c Xq Xk (batchAt t b) (tokenAt t r) l := by
  unfold blockOut
  split
  · exact (out_B_apply _ _ _ _ (fun b r d => Xq (batchAt t b) (tokenAt t r) ⟨d, by omega⟩)
      (fun b r d => Xq (batchAt t b) (tokenAt t r) ⟨128 + d, by omega⟩) (fun b => Xk (batchAt t b))
      (qa_eq m c Xq hq t) (qb_eq m c Xq hq t) (k_eq m c Xk hk t) _ _ _ _ _ _ _ _ _ _ _ _ _ _ _ _ _ b r l).trans (blockVal_eq m c Xq Xk t _ (iblk_4 m c t) b r l)
  · exact (out_U_apply _ _ _ _ (fun b r d => Xq (batchAt t b) (tokenAt t r) ⟨d, by omega⟩)
      (fun b r d => Xq (batchAt t b) (tokenAt t r) ⟨128 + d, by omega⟩) (fun b => Xk (batchAt t b))
      (qa_eq m c Xq hq t) (qb_eq m c Xq hq t) (k_eq m c Xk hk t) _ _ _ _ _ _ _ _ _ _ _ _ _ _ _ _ _ b r l).trans (blockVal_eq m c Xq Xk t _ (iblk_4 m c t) b r l)

/-- The result array as a function of its index. -/
def resArr : Vec Ideal S16x2048x256 .bf16 := fun y => resVal m c Xq Xk (y 0) (y 1) (y 2)

omit hq hk in
/-- The block of point `t` lies at the point's batches and tokens. -/
theorem resArr_emb (t : Fin cfg0.N) (b : Fin 4) (r l : Fin 256) :
    resVal m c Xq Xk (batchAt t b) (tokenAt t r) l = resArr m c Xq Xk (((cfg0.win 5).blk t).view.emb (ix3 b r l : S4x256x256.Idx)) := by
  have e : ((cfg0.win 5).blk t).view.emb (ix3 b r l : S4x256x256.Idx) = (ix3 (batchAt t b) (tokenAt t r) l : S16x2048x256.Idx) := by
    unfold batchAt tokenAt
    blk_ext [index_5 t]
  rw [e]
  rfl

/-- The result array. -/
theorem result_eq : (dats m 0 c).arrAt 5 cfg0.N = resArr m c Xq Xk := by
  refine (dats m 0 c).arrAt_eq_of_covers 5 _ (by decide +kernel) fun t hf y => ?_
  blk_simp
  rw [after_5]
  obtain ⟨b, r, l, rfl⟩ : ∃ (b : Fin 4) (r l : Fin 256), y = (ix3 b r l : S4x256x256.Idx) :=
    ⟨y 0, y 1, y 2, by funext a; match a with | ⟨0, _⟩ => rfl | ⟨1, _⟩ => rfl | ⟨2, _⟩ => rfl⟩
  exact (blockOut_apply m c Xq Xk hq hk t b r l).trans (resArr_emb m c Xq Xk t b r l)

end Cert.KernelIdeal.Gqa

end
-- ==== Proof.GqaHost.lean ====
/- The attention call's operand: the heads' queries, keys and values laid out as token rows, and what it holds at an index. -/
module

public import proofs.«01_k».proof.Proof.GqaValue
public import Idealize.ShloMosaic.Lib.StableHlo.RunRead
import Idealize.ShloMosaic.Lib.Pointwise

@[expose] public section

set_option maxRecDepth 16384

noncomputable section

namespace Cert.KernelIdeal.Gqa

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The query heads in the order 0, 2, 1, 3, of the context. -/
def ctxHeads (a : FVec Ideal S16x4x256x64 .f32) : FVec Ideal S16x4x256x64 .f32 :=
  concatenate S16x4x256x64 1
    [⟨S16x1x256x64, extractStridedSlice S16x1x256x64 ![0, 0, 0, 0] a slices_S16x4x256x64_S16x1x256x64_0_0_0_0⟩,
     ⟨S16x1x256x64, extractStridedSlice S16x1x256x64 ![0, 2, 0, 0] a slices_S16x4x256x64_S16x1x256x64_0_2_0_0⟩,
     ⟨S16x1x256x64, extractStridedSlice S16x1x256x64 ![0, 1, 0, 0] a slices_S16x4x256x64_S16x1x256x64_0_1_0_0⟩,
     ⟨S16x1x256x64, extractStridedSlice S16x1x256x64 ![0, 3, 0, 0] a slices_S16x4x256x64_S16x1x256x64_0_3_0_0⟩]
    concatenates_S16x1x256x64_S16x1x256x64_S16x1x256x64_S16x1x256x64_S16x4x256x64_d1

/-- The query heads in the order 0, 2, 1, 3, of the latent tokens. -/
def latHeads (a : FVec Ideal S16x4x2048x64 .f32) : FVec Ideal S16x4x2048x64 .f32 :=
  concatenate S16x4x2048x64 1
    [⟨S16x1x2048x64, extractStridedSlice S16x1x2048x64 ![0, 0, 0, 0] a slices_S16x4x2048x64_S16x1x2048x64_0_0_0_0⟩,
     ⟨S16x1x2048x64, extractStridedSlice S16x1x2048x64 ![0, 2, 0, 0] a slices_S16x4x2048x64_S16x1x2048x64_0_2_0_0⟩,
     ⟨S16x1x2048x64, extractStridedSlice S16x1x2048x64 ![0, 1, 0, 0] a slices_S16x4x2048x64_S16x1x2048x64_0_1_0_0⟩,
     ⟨S16x1x2048x64, extractStridedSlice S16x1x2048x64 ![0, 3, 0, 0] a slices_S16x4x2048x64_S16x1x2048x64_0_3_0_0⟩]
    concatenates_S16x1x2048x64_S16x1x2048x64_S16x1x2048x64_S16x1x2048x64_S16x4x2048x64_d1

/-- All queries as token rows. -/
def qRows (a : FVec Ideal S16x4x256x64 .f32) (b : FVec Ideal S16x4x2048x64 .f32) : FVec Ideal S16x2304x256 .f32 :=
  concatenate S16x2304x256 1
    [⟨S16x256x256, shapeCast S16x256x256 (transpose S16x256x4x64 [0, 2, 1, 3] a transposes_S16x4x256x64_S16x256x4x64_0_2_1_3) shapeCasts_S16x256x4x64_S16x256x256⟩,
     ⟨S16x2048x256, shapeCast S16x2048x256 (transpose S16x2048x4x64 [0, 2, 1, 3] b transposes_S16x4x2048x64_S16x2048x4x64_0_2_1_3) shapeCasts_S16x2048x4x64_S16x2048x256⟩]
    concatenates_S16x256x256_S16x2048x256_S16x2304x256_d1

/-- The keys, or the values, as token rows. -/
def kvRows (a : FVec Ideal S16x2x256x64 .f32) (b : FVec Ideal S16x2x2048x64 .f32) : FVec Ideal S16x2304x128 .f32 :=
  concatenate S16x2304x128 1
    [⟨S16x256x128, shapeCast S16x256x128 (transpose S16x256x2x64 [0, 2, 1, 3] a transposes_S16x2x256x64_S16x256x2x64_0_2_1_3) shapeCasts_S16x256x2x64_S16x256x128⟩,
     ⟨S16x2048x128, shapeCast S16x2048x128 (transpose S16x2048x2x64 [0, 2, 1, 3] b transposes_S16x2x2048x64_S16x2048x2x64_0_2_1_3) shapeCasts_S16x2048x2x64_S16x2048x128⟩]
    concatenates_S16x256x128_S16x2048x128_S16x2304x128_d1

/-- The columns of the operand: queries, keys, values and the columns of the other mixers. -/
def joined (q : FVec Ideal S16x2304x256 .f32) (k v : FVec Ideal S16x2304x128 .f32) (r : FVec Ideal S16x2304x1024 .f32) : FVec Ideal S16x2304x1536 .bf16 :=
  truncf .bf16 (concatenate S16x2304x1536 2 [⟨S16x2304x256, q⟩, ⟨S16x2304x128, k⟩, ⟨S16x2304x128, v⟩, ⟨S16x2304x1024, r⟩]
    concatenates_S16x2304x256_S16x2304x128_S16x2304x128_S16x2304x1024_S16x2304x1536_d2) bitsLt_bf16_f32

/-! The rows the host has built before it joins the columns. -/

theorem upto4_0 : upto hostOps0 (fun b => m (c, b)) 4 (Proc.devRef .tc main_v0) = (extractStridedSlice S16x1x256x64 ![0, 0, 0, 0] (m ((c.tc : Thread nD τ).loc main_arg3)) slices_S16x4x256x64_S16x1x256x64_0_0_0_0 : FVec Ideal S16x1x256x64 .f32) := by
  after_reads_simp
theorem upto4_1 : upto hostOps0 (fun b => m (c, b)) 4 (Proc.devRef .tc main_v1) = (extractStridedSlice S16x1x256x64 ![0, 2, 0, 0] (m ((c.tc : Thread nD τ).loc main_arg3)) slices_S16x4x256x64_S16x1x256x64_0_2_0_0 : FVec Ideal S16x1x256x64 .f32) := by
  after_reads_simp
theorem upto4_2 : upto hostOps0 (fun b => m (c, b)) 4 (Proc.devRef .tc main_v2) = (extractStridedSlice S16x1x256x64 ![0, 1, 0, 0] (m ((c.tc : Thread nD τ).loc main_arg3)) slices_S16x4x256x64_S16x1x256x64_0_1_0_0 : FVec Ideal S16x1x256x64 .f32) := by
  after_reads_simp
theorem upto4_3 : upto hostOps0 (fun b => m (c, b)) 4 (Proc.devRef .tc main_v3) = (extractStridedSlice S16x1x256x64 ![0, 3, 0, 0] (m ((c.tc : Thread nD τ).loc main_arg3)) slices_S16x4x256x64_S16x1x256x64_0_3_0_0 : FVec Ideal S16x1x256x64 .f32) := by
  after_reads_simp
theorem upto11_7 : upto hostOps0 (fun b => m (c, b)) 11 (Proc.devRef .tc main_v7) = (extractStridedSlice S16x1x2048x64 ![0, 0, 0, 0] (m ((c.tc : Thread nD τ).loc main_arg0)) slices_S16x4x2048x64_S16x1x2048x64_0_0_0_0 : FVec Ideal S16x1x2048x64 .f32) := by
  after_reads_simp
theorem upto11_8 : upto hostOps0 (fun b => m (c, b)) 11 (Proc.devRef .tc main_v8) = (extractStridedSlice S16x1x2048x64 ![0, 2, 0, 0] (m ((c.tc : Thread nD τ).loc main_arg0)) slices_S16x4x2048x64_S16x1x2048x64_0_2_0_0 : FVec Ideal S16x1x2048x64 .f32) := by
  after_reads_simp
theorem upto11_9 : upto hostOps0 (fun b => m (c, b)) 11 (Proc.devRef .tc main_v9) = (extractStridedSlice S16x1x2048x64 ![0, 1, 0, 0] (m ((c.tc : Thread nD τ).loc main_arg0)) slices_S16x4x2048x64_S16x1x2048x64_0_1_0_0 : FVec Ideal S16x1x2048x64 .f32) := by
  after_reads_simp
theorem upto11_10 : upto hostOps0 (fun b => m (c, b)) 11 (Proc.devRef .tc main_v10) = (extractStridedSlice S16x1x2048x64 ![0, 3, 0, 0] (m ((c.tc : Thread nD τ).loc main_arg0)) slices_S16x4x2048x64_S16x1x2048x64_0_3_0_0 : FVec Ideal S16x1x2048x64 .f32) := by
  after_reads_simp
theorem upto14_6 : upto hostOps0 (fun b => m (c, b)) 14 (Proc.devRef .tc main_v6)
    = (shapeCast S16x256x256 (transpose S16x256x4x64 [0, 2, 1, 3] (ctxHeads (m ((c.tc : Thread nD τ).loc main_arg3))) transposes_S16x4x256x64_S16x256x4x64_0_2_1_3) shapeCasts_S16x256x4x64_S16x256x256 : FVec Ideal S16x256x256 .f32) := by
  after_reads_simp
  dsimp only [Matrix.cons_val]
  rw [upto4_0, upto4_1, upto4_2, upto4_3]
  rfl
theorem upto14_13 : upto hostOps0 (fun b => m (c, b)) 14 (Proc.devRef .tc main_v13)
    = (shapeCast S16x2048x256 (transpose S16x2048x4x64 [0, 2, 1, 3] (latHeads (m ((c.tc : Thread nD τ).loc main_arg0))) transposes_S16x4x2048x64_S16x2048x4x64_0_2_1_3) shapeCasts_S16x2048x4x64_S16x2048x256 : FVec Ideal S16x2048x256 .f32) := by
  after_reads_simp
  dsimp only [Matrix.cons_val]
  rw [upto11_7, upto11_8, upto11_9, upto11_10]
  rfl
theorem upto_q : upto hostOps0 (fun b => m (c, b)) 25 (Proc.devRef .tc main_v14) = qRows (ctxHeads (m ((c.tc : Thread nD τ).loc main_arg3))) (latHeads (m ((c.tc : Thread nD τ).loc main_arg0))) := by
  after_reads_simp
  rw [upto14_6, upto14_13]
  rfl
theorem upto19_16 : upto hostOps0 (fun b => m (c, b)) 19 (Proc.devRef .tc main_v16)
    = (shapeCast S16x256x128 (transpose S16x256x2x64 [0, 2, 1, 3] (m ((c.tc : Thread nD τ).loc main_arg4)) transposes_S16x2x256x64_S16x256x2x64_0_2_1_3) shapeCasts_S16x256x2x64_S16x256x128 : FVec Ideal S16x256x128 .f32) := by
  after_reads_simp
  rfl
theorem upto19_18 : upto hostOps0 (fun b => m (c, b)) 19 (Proc.devRef .tc main_v18)
    = (shapeCast S16x2048x128 (transpose S16x2048x2x64 [0, 2, 1, 3] (m ((c.tc : Thread nD τ).loc main_arg1)) transposes_S16x2x2048x64_S16x2048x2x64_0_2_1_3) shapeCasts_S16x2048x2x64_S16x2048x128 : FVec Ideal S16x2048x128 .f32) := by
  after_reads_simp
  rfl
theorem upto_k : upto hostOps0 (fun b => m (c, b)) 25 (Proc.devRef .tc main_v19) = kvRows (m ((c.tc : Thread nD τ).loc main_arg4)) (m ((c.tc : Thread nD τ).loc main_arg1)) := by
  after_reads_simp
  rw [upto19_16, upto19_18]
  rfl
theorem upto24_21 : upto hostOps0 (fun b => m (c, b)) 24 (Proc.devRef .tc main_v21)
    = (shapeCast S16x256x128 (transpose S16x256x2x64 [0, 2, 1, 3] (m ((c.tc : Thread nD τ).loc main_arg5)) transposes_S16x2x256x64_S16x256x2x64_0_2_1_3) shapeCasts_S16x256x2x64_S16x256x128 : FVec Ideal S16x256x128 .f32) := by
  after_reads_simp
  rfl
theorem upto24_23 : upto hostOps0 (fun b => m (c, b)) 24 (Proc.devRef .tc main_v23)
    = (shapeCast S16x2048x128 (transpose S16x2048x2x64 [0, 2, 1, 3] (m ((c.tc : Thread nD τ).loc main_arg2)) transposes_S16x2x2048x64_S16x2048x2x64_0_2_1_3) shapeCasts_S16x2048x2x64_S16x2048x128 : FVec Ideal S16x2048x128 .f32) := by
  after_reads_simp
  rfl
theorem upto_v : upto hostOps0 (fun b => m (c, b)) 25 (Proc.devRef .tc main_v24) = kvRows (m ((c.tc : Thread nD τ).loc main_arg5)) (m ((c.tc : Thread nD τ).loc main_arg2)) := by
  after_reads_simp
  rw [upto24_21, upto24_23]
  rfl
theorem upto_r : upto hostOps0 (fun b => m (c, b)) 25 (Proc.devRef .tc main_arg6) = m ((c.tc : Thread nD τ).loc main_arg6) := by
  after_reads_simp

/-- What the host's operations leave in the operand. -/
theorem qkv_eq : qkv m c = joined
    (qRows (ctxHeads (m ((c.tc : Thread nD τ).loc main_arg3))) (latHeads (m ((c.tc : Thread nD τ).loc main_arg0))))
    (kvRows (m ((c.tc : Thread nD τ).loc main_arg4)) (m ((c.tc : Thread nD τ).loc main_arg1)))
    (kvRows (m ((c.tc : Thread nD τ).loc main_arg5)) (m ((c.tc : Thread nD τ).loc main_arg2)))
    (m ((c.tc : Thread nD τ).loc main_arg6)) := by
  have hq := upto_q m c
  have hk := upto_k m c
  have hv := upto_v m c
  have hr := upto_r m c
  generalize qRows _ _ = q at hq ⊢
  generalize kvRows (m ((c.tc : Thread nD τ).loc main_arg4)) _ = k at hk ⊢
  generalize kvRows _ _ = v at hv ⊢
  generalize m ((c.tc : Thread nD τ).loc main_arg6) = r at hr ⊢
  unfold qkv
  show StableHlo.after _ _ _ = _
  after_reads_simp
  dsimp only [Matrix.cons_val]
  rw [hq, hk, hv, hr]
  rfl

/-- The head kept at place `p` of a token row. -/
def headOf (p : Fin 4) : Fin 4 := ![0, 2, 1, 3] p

theorem latHeads_apply (a : FVec Ideal S16x4x2048x64 .f32) (b : Fin 16) (p : Fin 4) (n : Fin 2048) (d : Fin 64) :
    latHeads a (ix4 b p n d) = a (ix4 b (headOf p) n d) := by
  match p with
  | ⟨0, _⟩ => simp only [headOf]; pointwise [latHeads]
  | ⟨1, _⟩ => simp only [headOf]; pointwise [latHeads]
  | ⟨2, _⟩ => simp only [headOf]; pointwise [latHeads]
  | ⟨3, _⟩ => simp only [headOf]; pointwise [latHeads]

theorem joined_q (q : FVec Ideal S16x2304x256 .f32) (k v : FVec Ideal S16x2304x128 .f32) (r : FVec Ideal S16x2304x1024 .f32)
    (b : Fin 16) (j : Fin 2304) (l : Fin 256) : joined q k v r (ix3 b j ⟨l, by omega⟩) = q (ix3 b j l) := by
  pointwise [joined]
theorem joined_k (q : FVec Ideal S16x2304x256 .f32) (k v : FVec Ideal S16x2304x128 .f32) (r : FVec Ideal S16x2304x1024 .f32)
    (b : Fin 16) (j : Fin 2304) (l : Fin 128) : joined q k v r (ix3 b j ⟨256 + l, by omega⟩) = k (ix3 b j l) := by
  pointwise [joined]
theorem joined_v (q : FVec Ideal S16x2304x256 .f32) (k v : FVec Ideal S16x2304x128 .f32) (r : FVec Ideal S16x2304x1024 .f32)
    (b : Fin 16) (j : Fin 2304) (l : Fin 128) : joined q k v r (ix3 b j ⟨384 + l, by omega⟩) = v (ix3 b j l) := by
  pointwise [joined]
  rw [dif_neg (by omega), dif_neg (by omega), dif_pos (by omega)]
  congr 2
  exact Fin.ext (by simp; omega)

theorem qRows_lat (a : FVec Ideal S16x4x256x64 .f32) (a' : FVec Ideal S16x4x2048x64 .f32) (b : Fin 16) (n : Fin 2048) (l : Fin 256) :
    qRows a a' (ix3 b ⟨256 + n, by omega⟩ l) = a' (ix4 b ⟨l / 64, by omega⟩ n ⟨l % 64, by omega⟩) := by
  pointwise [qRows]

theorem kvRows_ctx (a : FVec Ideal S16x2x256x64 .f32) (a' : FVec Ideal S16x2x2048x64 .f32) (b : Fin 16) (j : Fin 256) (l : Fin 128) :
    kvRows a a' (ix3 b ⟨j, by omega⟩ l) = a (ix4 b ⟨l / 64, by omega⟩ j ⟨l % 64, by omega⟩) := by
  pointwise [kvRows]
theorem kvRows_lat (a : FVec Ideal S16x2x256x64 .f32) (a' : FVec Ideal S16x2x2048x64 .f32) (b : Fin 16) (n : Fin 2048) (l : Fin 128) :
    kvRows a a' (ix3 b ⟨256 + n, by omega⟩ l) = a' (ix4 b ⟨l / 64, by omega⟩ n ⟨l % 64, by omega⟩) := by
  pointwise [kvRows]

end Cert.KernelIdeal.Gqa

end
-- ==== Proof.GqaRefParts.lean ====
/- The attention reference's result, by its parts: scores, weights, shares, heads, rows. -/
module

public import proofs.«01_k».proof.Proof.Gen.ReferenceIdeal.Run
public import Idealize.ShloMosaic.Lib.Pointwise

@[expose] public section

set_option maxRecDepth 16384

noncomputable section

namespace Cert.ReferenceIdeal.Gqa

open Cert.ReferenceIdeal Cert.ReferenceIdeal.Gen
open Idealize.ShloMosaic Idealize.ShloMosaic.TcCoe Idealize.ShloMosaic.Tactic

/-- The latent tokens' keys (or values), followed by the context's. -/
def allTokens (a : FVec Ideal S16x2x2048x64 .f32) (b : FVec Ideal S16x2x256x64 .f32) : FVec Ideal S16x2x2304x64 .f32 :=
  concatenate S16x2x2304x64 2 [⟨S16x2x2048x64, a⟩, ⟨S16x2x256x64, b⟩] concatenates_S16x2x2048x64_S16x2x256x64_S16x2x2304x64_d2

/-- The scaled scores. -/
def scores (q : FVec Ideal S16x4x2048x64 .f32) (k : FVec Ideal S16x2x2304x64 .f32) : FVec Ideal S16x2x2x2048x2304 .f32 :=
  mulf (Host.dotGeneral dot_S16x2x2x2048x64_S16x2x2304x64_S16x2x2x2048x2304_4_3_23_2_01_01 none
      (shapeCast _ q shapeCasts_S16x4x2048x64_S16x2x2x2048x64) k)
    (broadcastInDim S16x2x2x2048x2304 ![] bcast_S_S16x2x2x2048x2304 (constant S_ .f32 0x3E000000#32))

/-- Each row's largest score. -/
def rowTop (s : FVec Ideal S16x2x2x2048x2304 .f32) : FVec Ideal S16x2x2x2048 .f32 :=
  Host.reduce FloatOps.maximumf s (constant S_ .f32 0xFF800000#32) reducesTo_S16x2x2x2048x2304_S16x2x2x2048_d4 h_S_

/-- The same, never below minus infinity. -/
def floored (t : FVec Ideal S16x2x2x2048 .f32) : FVec Ideal S16x2x2x2048 .f32 :=
  maximumf (broadcastInDim S16x2x2x2048 ![] bcast_S_S16x2x2x2048 (constant S_ .f32 0xFF800000#32)) t

/-- The exponentials of a row's scores less a number of the row. -/
def lowered (s : FVec Ideal S16x2x2x2048x2304 .f32) (t : FVec Ideal S16x2x2x2048 .f32) : FVec Ideal S16x2x2x2048x2304 .f32 :=
  Host.exp (subf s (broadcastInDim S16x2x2x2048x2304 ![0, 1, 2, 3, 4] bcast_S16x2x2x2048x1_S16x2x2x2048x2304_0_1_2_3_4
    (broadcastInDim S16x2x2x2048x1 ![0, 1, 2, 3] bcast_S16x2x2x2048_S16x2x2x2048x1_0_1_2_3 t)))

/-- The exponentials of a row's scores less its largest. -/
def weights (s : FVec Ideal S16x2x2x2048x2304 .f32) : FVec Ideal S16x2x2x2048x2304 .f32 := lowered s (floored (rowTop s))

/-- The weights over their sum. -/
def shares (w : FVec Ideal S16x2x2x2048x2304 .f32) : FVec Ideal S16x2x2x2048x2304 .f32 :=
  Host.divf w (broadcastInDim S16x2x2x2048x2304 ![0, 1, 2, 3, 4] bcast_S16x2x2x2048x1_S16x2x2x2048x2304_0_1_2_3_4
    (broadcastInDim S16x2x2x2048x1 ![0, 1, 2, 3] bcast_S16x2x2x2048_S16x2x2x2048x1_0_1_2_3
      (Host.reduceAdd w (constant S_ .f32 0x00000000#32) reducesTo_S16x2x2x2048x2304_S16x2x2x2048_d4 h_S_)))

/-- Every head's attention. -/
def heads (p : FVec Ideal S16x2x2x2048x2304 .f32) (v : FVec Ideal S16x2x2304x64 .f32) : FVec Ideal S16x2x2x2048x64 .f32 :=
  Host.dotGeneral dot_S16x2x2x2048x2304_S16x2x2304x64_S16x2x2x2048x64_4_2_23_3_01_01 none p v

/-- One head of all of them, as a slab of its own. -/
def oneHead (o : FVec Ideal S16x4x2048x64 .f32) (off : Fin 4 → ℕ) (hs : S16x4x2048x64.Slices off S16x1x2048x64) : FVec Ideal S16x1x2048x64 .f32 :=
  broadcastInDim S16x1x2048x64 ![0, 2, 3] bcast_S16x2048x64_S16x1x2048x64_0_2_3
    (shapeCast S16x2048x64 (extractStridedSlice S16x1x2048x64 off o hs) shapeCasts_S16x1x2048x64_S16x2048x64)

/-- The heads in the order 0, 2, 1, 3, side by side in a token's row. -/
def rows (a : FVec Ideal S16x2x2x2048x64 .f32) : FVec Ideal S16x2048x256 .bf16 :=
  truncf .bf16 (shapeCast S16x2048x256 (transpose S16x2048x4x64 [0, 2, 1, 3]
    (concatenate S16x4x2048x64 1
      [⟨S16x1x2048x64, oneHead (shapeCast S16x4x2048x64 a shapeCasts_S16x2x2x2048x64_S16x4x2048x64) ![0, 0, 0, 0] slices_S16x4x2048x64_S16x1x2048x64_0_0_0_0⟩,
       ⟨S16x1x2048x64, oneHead (shapeCast S16x4x2048x64 a shapeCasts_S16x2x2x2048x64_S16x4x2048x64) ![0, 2, 0, 0] slices_S16x4x2048x64_S16x1x2048x64_0_2_0_0⟩,
       ⟨S16x1x2048x64, oneHead (shapeCast S16x4x2048x64 a shapeCasts_S16x2x2x2048x64_S16x4x2048x64) ![0, 1, 0, 0] slices_S16x4x2048x64_S16x1x2048x64_0_1_0_0⟩,
       ⟨S16x1x2048x64, oneHead (shapeCast S16x4x2048x64 a shapeCasts_S16x2x2x2048x64_S16x4x2048x64) ![0, 3, 0, 0] slices_S16x4x2048x64_S16x1x2048x64_0_3_0_0⟩]
      concatenates_S16x1x2048x64_S16x1x2048x64_S16x1x2048x64_S16x1x2048x64_S16x4x2048x64_d1)
    transposes_S16x4x2048x64_S16x2048x4x64_0_2_1_3) shapeCasts_S16x2048x4x64_S16x2048x256) bitsLt_bf16_f32

/-- The reference's result, by its parts. -/
theorem res_eq (m : (ℓ : Loc nD τ sig) → Buf (Elt Ideal) ℓ) (c : Dev nD) :
    Value.res_main_v34 m c = rows (heads (shares (weights (scores (m ((c.tc : Thread nD τ).loc main_arg0))
      (allTokens (m ((c.tc : Thread nD τ).loc main_arg1)) (m ((c.tc : Thread nD τ).loc main_arg4))))))
      (allTokens (m ((c.tc : Thread nD τ).loc main_arg2)) (m ((c.tc : Thread nD τ).loc main_arg5)))) := rfl

end Cert.ReferenceIdeal.Gqa

end
-- ==== Proof.GqaRef.lean ====
/- What the attention reference computes at an index: for each head the softmax of its scaled scores, applied to the values. -/
module

public import proofs.«01_k».proof.Proof.GqaMath
public import proofs.«01_k».proof.Proof.Consts
public import proofs.«01_k».proof.Proof.GqaRefParts
public import Idealize.ShloMosaic.Lib.Pointwise

@[expose] public section

set_option maxRecDepth 16384

noncomputable section

namespace Cert.ReferenceIdeal.Gqa

open Cert.ReferenceIdeal Cert.ReferenceIdeal.Gen
open Idealize.ShloMosaic Idealize.ShloMosaic.TcCoe Idealize.ShloMosaic.Tactic

/-- The head at place `p` of a token row is head `placed p`: of key group `p % 2`, the `p / 2`th. -/
theorem rows_apply (a : FVec Ideal S16x2x2x2048x64 .f32) (b : Fin 16) (n : Fin 2048) (l : Fin 256) :
    rows a (ix3 b n l) = a (ix5 b ⟨l / 64 % 2, by omega⟩ ⟨l / 64 / 2, by omega⟩ n ⟨l % 64, by omega⟩) := by
  pointwise [rows, oneHead]
  have hl := l.isLt
  have hc : l.val / 64 = 0 ∨ l.val / 64 = 1 ∨ l.val / 64 = 2 ∨ l.val / 64 = 3 := by omega
  rcases hc with hc | hc | hc | hc <;> simp only [hc] <;> rfl

theorem allTokens_apply (x : FVec Ideal S16x2x2048x64 .f32) (y : FVec Ideal S16x2x256x64 .f32) (b : Fin 16) (g : Fin 2) (j : Fin 2304) (d : Fin 64) :
    allTokens x y (ix4 b g j d) = if h : (j : ℕ) < 2048 then x (ix4 b g ⟨j, h⟩ d) else y (ix4 b g ⟨j - 2048, by omega⟩ d) := by
  pointwise [allTokens]

theorem scores_apply (q : FVec Ideal S16x4x2048x64 .f32) (k : FVec Ideal S16x2x2304x64 .f32) (b : Fin 16) (g r : Fin 2) (n : Fin 2048) (j : Fin 2304) :
    scores q k (ix5 b g r n j) = (∑ d : Fin 64, q (ix4 b ⟨2 * g + r, by omega⟩ n d) * k (ix4 b g j d)) * ((1 / 8 : ℝ) : EReal) := by
  pointwise [scores]
  rw [Consts.ofBits_eighth]
  congr 1
  refine Finset.sum_congr rfl fun d _ => ?_
  congr 3
  exact Fin.ext (by simp; omega)

theorem rowTop_apply (s : FVec Ideal S16x2x2x2048x2304 .f32) (b : Fin 16) (g r : Fin 2) (n : Fin 2048) :
    rowTop s (ix4 b g r n) = Finset.fold max ⊥ (fun j => s (ix5 b g r n j)) Finset.univ := by
  unfold rowTop
  generalize hc : (constant S_ .f32 0xFF800000#32 : FVec Ideal S_ .f32) = init
  have hi : init (Shape.Idx.first h_S_) = ⊥ := by subst hc; exact Consts.ofBits_neg_inf
  pointwise
  rw [← hi]

theorem floored_apply (t : FVec Ideal S16x2x2x2048 .f32) (b : Fin 16) (g r : Fin 2) (n : Fin 2048) :
    floored t (ix4 b g r n) = t (ix4 b g r n) := by
  pointwise [floored]
  rw [Consts.ofBits_neg_inf, max_bot_left]

theorem lowered_apply (s : FVec Ideal S16x2x2x2048x2304 .f32) (t : FVec Ideal S16x2x2x2048 .f32) (b : Fin 16) (g r : Fin 2) (n : Fin 2048) (j : Fin 2304) :
    lowered s t (ix5 b g r n j) = Ideal.exp (s (ix5 b g r n j) - t (ix4 b g r n)) := by
  pointwise [lowered]

theorem shares_apply (s : FVec Ideal S16x2x2x2048x2304 .f32) (b : Fin 16) (g r : Fin 2) (n : Fin 2048) (j : Fin 2304) :
    shares s (ix5 b g r n j) = Ideal.div (s (ix5 b g r n j)) (∑ i, s (ix5 b g r n i)) := by
  pointwise [shares]

theorem heads_apply (p : FVec Ideal S16x2x2x2048x2304 .f32) (v : FVec Ideal S16x2x2304x64 .f32) (b : Fin 16) (g r : Fin 2) (n : Fin 2048) (d : Fin 64) :
    heads p v (ix5 b g r n d) = ∑ j, p (ix5 b g r n j) * v (ix4 b g j d) := by
  pointwise [heads]

/-- The keys as real numbers: the latent tokens', then the context's. -/
def keysOf (K : Fin 16 → Fin 2 → Fin 2048 → Fin 64 → ℝ) (Kc : Fin 16 → Fin 2 → Fin 256 → Fin 64 → ℝ) (b : Fin 16) (g : Fin 2) (j : Fin 2304) (d : Fin 64) : ℝ :=
  if h : (j : ℕ) < 2048 then K b g ⟨j, h⟩ d else Kc b g ⟨j - 2048, by omega⟩ d

variable (m : (ℓ : Loc nD τ sig) → Buf (Elt Ideal) ℓ) (c : Dev nD)

abbrev qArg : FVec Ideal S16x4x2048x64 .f32 := m ((c.tc : Thread nD τ).loc main_arg0)
abbrev kArg : FVec Ideal S16x2x2048x64 .f32 := m ((c.tc : Thread nD τ).loc main_arg1)
abbrev vArg : FVec Ideal S16x2x2048x64 .f32 := m ((c.tc : Thread nD τ).loc main_arg2)
abbrev kcArg : FVec Ideal S16x2x256x64 .f32 := m ((c.tc : Thread nD τ).loc main_arg4)
abbrev vcArg : FVec Ideal S16x2x256x64 .f32 := m ((c.tc : Thread nD τ).loc main_arg5)

/-- The reference at batch `b`, latent token `n` and lane `l`: the weighted mean of the values. -/
theorem res_apply (Q : Fin 16 → Fin 4 → Fin 2048 → Fin 64 → ℝ) (K : Fin 16 → Fin 2 → Fin 2048 → Fin 64 → ℝ) (Kc : Fin 16 → Fin 2 → Fin 256 → Fin 64 → ℝ)
    (hq : ∀ b h n d, qArg m c (ix4 b h n d) = (Q b h n d : EReal)) (hk : ∀ b g n d, kArg m c (ix4 b g n d) = (K b g n d : EReal))
    (hkc : ∀ b g n d, kcArg m c (ix4 b g n d) = (Kc b g n d : EReal)) (b : Fin 16) (n : Fin 2048) (l : Fin 256) :
    (Value.res_main_v34 m c : FVec Ideal S16x2048x256 .bf16) (ix3 b n l) = GqaMath.wmean
      (fun j => Real.exp ((∑ d : Fin 64, Q b ⟨2 * (l / 64 % 2) + l / 64 / 2, by omega⟩ n d * keysOf K Kc b ⟨l / 64 % 2, by omega⟩ j d) / 8))
      (fun j => allTokens (vArg m c) (vcArg m c) (ix4 b ⟨l / 64 % 2, by omega⟩ j ⟨l % 64, by omega⟩)) := by
  rw [res_eq, rows_apply, heads_apply]
  have hs : ∀ j, scores (qArg m c) (allTokens (kArg m c) (kcArg m c)) (ix5 b ⟨l / 64 % 2, by omega⟩ ⟨l / 64 / 2, by omega⟩ n j)
      = (((∑ d : Fin 64, Q b ⟨2 * (l / 64 % 2) + l / 64 / 2, by omega⟩ n d * keysOf K Kc b ⟨l / 64 % 2, by omega⟩ j d) / 8 : ℝ) : EReal) := fun j => by
    rw [scores_apply]
    have e : ∀ d : Fin 64, qArg m c (ix4 b ⟨2 * (l / 64 % 2) + l / 64 / 2, by omega⟩ n d) * allTokens (kArg m c) (kcArg m c) (ix4 b ⟨l / 64 % 2, by omega⟩ j d)
        = ((Q b ⟨2 * (l / 64 % 2) + l / 64 / 2, by omega⟩ n d * keysOf K Kc b ⟨l / 64 % 2, by omega⟩ j d : ℝ) : EReal) := fun d => by
      rw [allTokens_apply, hq]
      unfold keysOf
      split
      · rw [hk, EReal.coe_mul]
      · rw [hkc, EReal.coe_mul]
    rw [Finset.sum_congr rfl fun d _ => e d, ← GqaMath.coe_sum, ← EReal.coe_mul]
    congr 1
    ring
  simp only [shares_apply, weights, lowered_apply, floored_apply]
  generalize hM : rowTop _ _ = M
  rw [rowTop_apply] at hM
  simp only [hs] at hM ⊢
  exact GqaMath.softmax_row _ _ M hM.symm

end Cert.ReferenceIdeal.Gqa

end
-- ==== Proof.GqaEq.lean ====
/- The attention call's result is its reference's: the keys are the same, listed with the context first. -/
module

public import proofs.«01_k».proof.Proof.GqaHost
public import proofs.«01_k».proof.Proof.GqaRef

@[expose] public section

set_option maxRecDepth 16384

noncomputable section

namespace Cert.KernelIdeal.Gqa

open Cert.KernelIdeal Cert.KernelIdeal.Gen Cert.GqaMath
open Idealize.ShloMosaic Idealize.ShloMosaic.TcCoe Idealize.ShloMosaic.Tactic
open Cert.ReferenceIdeal.Gqa (keysOf allTokens allTokens_apply)

/-- Where the reference lists the kernel's key `j`: the context's 256 keys come last there. -/
def rot : Fin 2304 ≃ Fin 2304 where
  toFun j := ⟨(j + 2048) % 2304, Nat.mod_lt _ (by decide)⟩
  invFun j := ⟨(j + 256) % 2304, Nat.mod_lt _ (by decide)⟩
  left_inv j := Fin.ext (by simp only; omega)
  right_inv j := Fin.ext (by simp only; omega)

theorem headLane_div (l : Fin 128) (d : Fin 64) : (headLane l d : ℕ) / 64 = l / 64 := by
  unfold headLane; split <;> simp only <;> omega
theorem headLane_mod (l : Fin 128) (d : Fin 64) : (headLane l d : ℕ) % 64 = d := by
  unfold headLane; split <;> simp only <;> omega

/-- A lane's attention over the kernel's list of keys is the mean over the reference's list. -/
theorem attended_eq (l : Fin 128) (qr : Fin 128 → ℝ) (kr : Fin 2304 → Fin 128 → ℝ) (vl : Fin 2304 → EReal)
    (q : Fin 64 → ℝ) (k : Fin 2304 → Fin 64 → ℝ) (v : Fin 2304 → EReal)
    (hq : ∀ d, qr (headLane l d) = q d) (hk : ∀ j d, kr j (headLane l d) = k (rot j) d) (hv : ∀ j, vl j = v (rot j)) :
    attended l qr kr vl = wmean (fun j => Real.exp ((∑ d : Fin 64, q d * k j d) / 8)) v := by
  unfold attended
  rw [show vl = fun j => v (rot j) from funext hv]
  simp only [hq, hk]
  exact wmean_equiv rot (fun j => Real.exp ((∑ d : Fin 64, q d * k j d) / 8)) v

variable (m : (ℓ : Loc nD τ sig) → Buf (Elt Ideal) ℓ) (c : Dev nD)

abbrev qArg : FVec Ideal S16x4x2048x64 .f32 := m ((c.tc : Thread nD τ).loc main_arg0)
abbrev kArg : FVec Ideal S16x2x2048x64 .f32 := m ((c.tc : Thread nD τ).loc main_arg1)
abbrev vArg : FVec Ideal S16x2x2048x64 .f32 := m ((c.tc : Thread nD τ).loc main_arg2)
abbrev kcArg : FVec Ideal S16x2x256x64 .f32 := m ((c.tc : Thread nD τ).loc main_arg4)
abbrev vcArg : FVec Ideal S16x2x256x64 .f32 := m ((c.tc : Thread nD τ).loc main_arg5)

/-- The rows of keys or of values, by the reference's list of tokens. -/
theorem kvRows_eq (a : FVec Ideal S16x2x256x64 .f32) (a' : FVec Ideal S16x2x2048x64 .f32) (b : Fin 16) (j : Fin 2304) (l : Fin 128) :
    kvRows a a' (ix3 b j l) = allTokens a' a (ix4 b ⟨l / 64, by omega⟩ (rot j) ⟨l % 64, by omega⟩) := by
  rw [allTokens_apply]
  by_cases h : (j : ℕ) < 256
  · have hr : ((rot j : Fin 2304) : ℕ) = j + 2048 := by show (j.val + 2048) % 2304 = _; omega
    rw [dif_neg (by omega)]
    refine Eq.trans ?_ ((kvRows_ctx a a' b ⟨j, h⟩ l).trans ?_)
    · rfl
    · congr 2; exact Fin.ext (by simp only [hr]; omega)
  · have hr : ((rot j : Fin 2304) : ℕ) = j - 256 := by show (j.val + 2048) % 2304 = _; omega
    rw [dif_pos (by omega)]
    have hj : j = ⟨256 + (⟨j - 256, by omega⟩ : Fin 2048), by simp only; omega⟩ := Fin.ext (by simp only; omega)
    refine Eq.trans ?_ ((kvRows_lat a a' b ⟨j - 256, by omega⟩ l).trans ?_)
    · exact congrArg (fun j => kvRows a a' (ix3 b j l)) hj
    · congr 2; exact Fin.ext (by simp only [hr])

variable (Q : Fin 16 → Fin 4 → Fin 2048 → Fin 64 → ℝ) (K : Fin 16 → Fin 2 → Fin 2048 → Fin 64 → ℝ) (Kc : Fin 16 → Fin 2 → Fin 256 → Fin 64 → ℝ)

/-- The token rows as real numbers. -/
def rowQ (b : Fin 16) (n : Fin 2048) (l : Fin 256) : ℝ := Q b (headOf ⟨l / 64, by omega⟩) n ⟨l % 64, by omega⟩
def rowK (b : Fin 16) (j : Fin 2304) (l : Fin 128) : ℝ := keysOf K Kc b ⟨l / 64, by omega⟩ (rot j) ⟨l % 64, by omega⟩

variable (hq : ∀ b h n d, qArg m c (ix4 b h n d) = (Q b h n d : EReal)) (hk : ∀ b g n d, kArg m c (ix4 b g n d) = (K b g n d : EReal))
    (hkc : ∀ b g n d, kcArg m c (ix4 b g n d) = (Kc b g n d : EReal))

include hq in
theorem qkv_q (b : Fin 16) (n : Fin 2048) (l : Fin 256) : qkv m c (ix3 b ⟨256 + (n : ℕ), by omega⟩ ⟨l, by omega⟩) = (rowQ Q b n l : EReal) := by
  rw [qkv_eq]
  exact (joined_q _ _ _ _ b ⟨256 + n, by omega⟩ l).trans ((qRows_lat _ _ b n l).trans ((latHeads_apply _ b _ n _).trans (hq _ _ _ _)))

include hk hkc in
theorem qkv_k (b : Fin 16) (j : Fin 2304) (l : Fin 128) : qkv m c (ix3 b j ⟨256 + l, by omega⟩) = (rowK K Kc b j l : EReal) := by
  rw [qkv_eq]
  refine (joined_k _ _ _ _ b j l).trans ((kvRows_eq _ _ b j l).trans ?_)
  rw [allTokens_apply]
  unfold rowK keysOf
  split
  · exact hk _ _ _ _
  · exact hkc _ _ _ _

theorem qkv_v (b : Fin 16) (j : Fin 2304) (l : Fin 128) :
    qkv m c (ix3 b j ⟨384 + l, by omega⟩) = allTokens (vArg m c) (vcArg m c) (ix4 b ⟨l / 64, by omega⟩ (rot j) ⟨l % 64, by omega⟩) := by
  rw [qkv_eq]
  exact (joined_v _ _ _ _ b j l).trans (kvRows_eq _ _ b j l)

/-- The result at batch `b`, latent token `n` and lane `l`, over the reference's list of keys. -/
theorem resVal_eq (b : Fin 16) (n : Fin 2048) (l : Fin 256) : resVal m c (rowQ Q) (rowK K Kc) b n l = wmean
      (fun j => Real.exp ((∑ d : Fin 64, Q b ⟨2 * (l / 64 % 2) + l / 64 / 2, by omega⟩ n d * keysOf K Kc b ⟨l / 64 % 2, by omega⟩ j d) / 8))
      (fun j => allTokens (vArg m c) (vcArg m c) (ix4 b ⟨l / 64 % 2, by omega⟩ j ⟨l % 64, by omega⟩)) := by
  have hh : ∀ p : Fin 4, headOf p = ⟨2 * (p % 2) + p / 2, by omega⟩ := by decide
  unfold resVal
  split
  · rename_i h
    refine attended_eq _ _ _ _ _ _ _ (fun d => ?_) (fun j d => ?_) fun j => ?_
    · unfold rowQ
      rw [hh]
      congr 1 <;> simp only [headLane_div, headLane_mod]
    · unfold rowK
      congr 1 <;> simp only [headLane_div, headLane_mod] <;> congr 1 <;> omega
    · refine (qkv_v m c b j ⟨l, h⟩).trans ?_
      congr 2; exact Fin.ext (by simp only; omega)
  · rename_i h
    refine attended_eq _ _ _ _ _ _ _ (fun d => ?_) (fun j d => ?_) fun j => ?_
    · have h1 : (128 + (headLane ⟨l - 128, by omega⟩ d : ℕ)) / 64 = l / 64 := by
        have := headLane_div ⟨l - 128, by omega⟩ d; simp only at this; omega
      have h2 : (128 + (headLane ⟨l - 128, by omega⟩ d : ℕ)) % 64 = d := by
        have := headLane_mod ⟨l - 128, by omega⟩ d; omega
      unfold rowQ
      rw [hh]
      congr 1 <;> simp only [h1, h2]
    · unfold rowK
      congr 1 <;> simp only [headLane_div, headLane_mod] <;> congr 1 <;> omega
    · refine (qkv_v m c b j ⟨l - 128, by omega⟩).trans ?_
      congr 2 <;> exact Fin.ext (by simp only; omega)

include hq hk hkc in
/-- The call's result array is the reference's, from memories that agree on the arrays read. -/
theorem result_ref (m' : (ℓ : Loc Cert.ReferenceIdeal.nD Cert.ReferenceIdeal.τ Cert.ReferenceIdeal.sig) → Buf (Elt Ideal) ℓ) (c' : Dev Cert.ReferenceIdeal.nD)
    (h0 : Cert.ReferenceIdeal.Gqa.qArg m' c' = qArg m c) (h1 : Cert.ReferenceIdeal.Gqa.kArg m' c' = kArg m c) (h2 : Cert.ReferenceIdeal.Gqa.vArg m' c' = vArg m c)
    (h4 : Cert.ReferenceIdeal.Gqa.kcArg m' c' = kcArg m c) (h5 : Cert.ReferenceIdeal.Gqa.vcArg m' c' = vcArg m c) :
    (Cert.ReferenceIdeal.Value.res_main_v34 m' c' : FVec Ideal S16x2048x256 .bf16) = (dats m 0 c).arrAt 5 cfg0.N := by
  rw [result_eq m c (rowQ Q) (rowK K Kc) (qkv_q m c Q hq) (qkv_k m c K Kc hk hkc)]
  funext y
  obtain ⟨b, n, l, rfl⟩ : ∃ (b : Fin 16) (n : Fin 2048) (l : Fin 256), y = (ix3 b n l : S16x2048x256.Idx) :=
    ⟨y 0, y 1, y 2, by funext a; match a with | ⟨0, _⟩ => rfl | ⟨1, _⟩ => rfl | ⟨2, _⟩ => rfl⟩
  refine (Cert.ReferenceIdeal.Gqa.res_apply m' c' Q K Kc (fun b h n d => by rw [h0, hq]) (fun b g n d => by rw [h1, hk]) (fun b g n d => by rw [h4, hkc]) b n l).trans ?_
  rw [h2, h5]
  exact (resVal_eq m c Q K Kc b n l).symm

end Cert.KernelIdeal.Gqa

end
-- ==== Proof.GqaFinite.lean ====
/- The attention claim's precondition: the queries and the keys that the result reads are real numbers. -/
module

public import proofs.«01_k».proof.Pre_finite_qk
public import proofs.«01_k».proof.Proof.Gen.Pre_finite_qk
public import proofs.«01_k».proof.Proof.Consts
public import Idealize.ShloMosaic.Lib.Pointwise

@[expose] public section

set_option maxRecDepth 16384

noncomputable section

namespace Cert.Pre_finite_qk

open Idealize.ShloMosaic Idealize.ShloMosaic.Tactic

/-- A number whose absolute value lies below plus infinity is real. -/
theorem real_of_abs_lt (x : EReal) (h : BitVec.ofBool (decide (FloatOps.absf (F := Ideal) (φ := .f32) x < Ideal.ofBits FTy.f32 0x7F800000#32)) = 1#1) :
    ∃ r : ℝ, x = (r : EReal) := by
  have h' : max x (-x) < (⊤ : EReal) := by
    rw [Consts.ofBits_inf] at h
    by_contra hc
    rw [show decide (FloatOps.absf (F := Ideal) (φ := .f32) x < (⊤ : EReal)) = false from decide_eq_false hc] at h
    exact absurd h (by decide)
  induction x with
  | bot => exact absurd h' (by simp)
  | top => exact absurd h' (by simp)
  | coe r => exact ⟨r, rfl⟩

variable (a0 : FVec Ideal S16x4x2048x64 .f32) (a1 a2 : FVec Ideal S16x2x2048x64 .f32) (a3 : FVec Ideal S16x4x256x64 .f32)
  (a4 a5 : FVec Ideal S16x2x256x64 .f32) (a6 : FVec Ideal S16x2304x1024 .f32) (a7 a8 : FVec Ideal S64 .f32)

theorem fn_q (b : Fin 16) (h : Fin 4) (n : Fin 2048) (d : Fin 64) (e : (fn (F := Ideal) a0 a1 a2 a3 a4 a5 a6 a7 a8).1 = fun _ => 1#1) :
    ∃ r : ℝ, a0 (ix4 b h n d) = (r : EReal) := by
  have e' := congrFun e (ix4 b h n d)
  dsimp only [fn] at e'
  pointwise at e'
  exact real_of_abs_lt _ e'
theorem fn_k (b : Fin 16) (h : Fin 2) (n : Fin 2048) (d : Fin 64) (e : (fn (F := Ideal) a0 a1 a2 a3 a4 a5 a6 a7 a8).2.1 = fun _ => 1#1) :
    ∃ r : ℝ, a1 (ix4 b h n d) = (r : EReal) := by
  have e' := congrFun e (ix4 b h n d)
  dsimp only [fn] at e'
  pointwise at e'
  exact real_of_abs_lt _ e'
theorem fn_kc (b : Fin 16) (h : Fin 2) (n : Fin 256) (d : Fin 64) (e : (fn (F := Ideal) a0 a1 a2 a3 a4 a5 a6 a7 a8).2.2 = fun _ => 1#1) :
    ∃ r : ℝ, a4 (ix4 b h n d) = (r : EReal) := by
  have e' := congrFun e (ix4 b h n d)
  dsimp only [fn] at e'
  pointwise at e'
  exact real_of_abs_lt _ e'

end Cert.Pre_finite_qk

end
-- ==== Proof.GqaClaim.lean ====
/- The claims about the attention call, from its run, its value and the reference's run. -/
module

public import proofs.«01_k».proof.Defs
public import proofs.«01_k».proof.Proof.GqaEq
public import proofs.«01_k».proof.Proof.GqaFinite
public import Idealize.ShloMosaic.Lib.Quiescent

@[expose] public section

noncomputable section

namespace Cert.Claims

open Idealize.ShloMosaic Idealize.SL.Sem Idealize.ShloMosaic.TcCoe

/-- The kernel leaves its arguments and its counters as it found them. -/
theorem gqa_frame : Cert.quiescent_KernelIdeal := fun m ρ _ => Cert.KernelIdeal.Gqa.frame_args (F := Ideal) m ρ
theorem gqa_frame_pre : Cert.quiescent_KernelIdeal_pre_finite_qk := fun m ρ _ => Cert.KernelIdeal.Gqa.frame_args (F := Ideal) m ρ

/-- So does its reference. -/
theorem gqa_ref_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem gqa_ref_frame_pre : Cert.quiescent_ReferenceIdeal_pre_finite_qk := fun m ρ _ => gqa_ref_frame m ρ trivial

/-- The kernel's ideal program is the kernel's with one constant named. -/
theorem gqa_preserves : Cert.preserves_Kernel_KernelIdeal :=
  IdealRules.named_const.statement Cert.KernelIdeal.κ "log2e_8" .f32 0x3E38AA3B#32 ((8⁻¹ * (Real.log 2)⁻¹ : ℝ) : EReal) rfl

/-- The kernel computes its reference. -/
theorem gqa_value : Cert.algebraic_KernelIdeal_ReferenceIdeal_pre_finite_qk := by
  intro m ρ m' ρ' hpre hagree
  refine ⟨_, Cert.KernelIdeal.Gqa.run_result (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, -⟩ := hagree c
  obtain ⟨p0, p1, p4⟩ := hpre c
  choose Q hQ using fun b h n d => Cert.Pre_finite_qk.fn_q _ _ _ _ _ _ _ _ _ b h n d p0
  choose K hK using fun b h n d => Cert.Pre_finite_qk.fn_k _ _ _ _ _ _ _ _ _ b h n d p1
  choose Kc hKc using fun b h n d => Cert.Pre_finite_qk.fn_kc _ _ _ _ _ _ _ _ _ b h n d p4
  exact Cert.KernelIdeal.Gqa.result_ref m c Q K Kc hQ hK hKc m' c h0 h1 h2 h4 h5

end Cert.Claims

end
-- ==== Proof.MixBlock.lean ====
/- What one grid point of the feed-forward call computes, in the body's own terms: the mixing half leaves the residual
   stream, the normed rows and the gate in the three scratch buffers, the feed-forward half turns the scratch of the
   point before into the output block. -/
module

public import proofs.«01_k».proof.Proof.Gen.Kernel2Ideal.Frame
public import Idealize.ShloMosaic.Lib.Pipeline.Value

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic

variable {F : FTy → Type} [FloatOps F]

/-! ## The two halves -/

/-- The zero accumulator of a product. -/
abbrev zeros : FVec F S256x1024 .f32 := constant S256x1024 .f32 0x00000000#32

/-- A quarter of the group gains. -/
abbrev gain (x11 : Vec F S1x1024 .f32) (k : ℕ) (h : ∀ a, (![0, k] : Fin 2 → ℕ) a + S1x256.size a ≤ S1x1024.size a) : Vec F S1x256 .f32 :=
  View.ld x11 (Rect.unit (s := S1x1024) ![0, k] S1x256.size h)

/-- The state-space mixer's skip and gate. -/
def gated (x5 : Vec F S1x256x256 .f32) (x6 x7 : Vec F S1x256x256 .bf16) (x8 : Vec F S1x256 .f32) (x9 : Vec F S256x256 .bf16) (x10 : Vec F S1x256 .f32) : FVec F S256x256 .f32 :=
  k0_pay16 (k0_pay14 x5 x8 x6 x7) (k0_pay15 x5 x8 x6 x7) x9 x10

/-- The four mixers' outputs beside one another, each normed. -/
def grouped (x2 x3 x4 : Vec F S1x256x256 .bf16) (g : FVec F S256x256 .f32) (x11 : Vec F S1x1024 .f32) : FVec F S256x1024 .bf16 :=
  k0_pay22 g (k0_pay17 x3) (k0_pay18 x4) (k0_pay19 x2 (gain x11 0 inb_S1x1024_S1x256_0_0)) (k0_pay20 x3) k0_pay21
    (gain x11 256 inb_S1x1024_S1x256_0_256) (gain x11 512 inb_S1x1024_S1x256_0_512) (gain x11 768 inb_S1x1024_S1x256_0_768)

/-- The residual stream after the output projection. -/
def stream (x0 : Vec F S1x256x1024 .f32) (x1 : Vec F S1x1x6144 .f32) (o : FVec F S256x1024 .bf16) (x12 : Vec F S1024x1024 .bf16) : FVec F S256x1024 .f32 :=
  k0_pay2 (k0_pay8 x0) (k0_pay9 x1) o (k0_pay23 x12) zeros

/-- Its rows normed and modulated. -/
def rows (x0 : Vec F S1x256x1024 .f32) (x1 : Vec F S1x1x6144 .f32) (o : FVec F S256x1024 .bf16) (x12 : Vec F S1024x1024 .bf16) (x13 : Vec F S1x1024 .f32) : FVec F S256x1024 .bf16 :=
  k0_pay3 (k0_pay8 x0) (k0_pay9 x1) (k0_pay11 x1) (k0_pay12 x1) o (k0_pay23 x12) zeros x13

/-- The feed-forward block's gate. -/
def gate (x1 : Vec F S1x1x6144 .f32) : FVec F S1x1024 .f32 := k0_pay4 (k0_pay13 x1)

/-- The feed-forward half. -/
def fed (h : Vec F S256x1024 .bf16) (x14 x15 : Vec F S1024x2816 .bf16) (x16 : Vec F S2816x1024 .bf16) (x : Vec F S256x1024 .f32) (g : Vec F S1x1024 .f32) : FVec F S1x256x1024 .f32 :=
  k0_pay7 h x14 x15 x16 x g

/-! ## What the body leaves, in each of its three cases -/

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg1 : Memref sig .tc .vmem S1x256x1024 .f32) (harg1 : arg1.IsWhole) (arg2 : Memref sig .tc .vmem S1x1x6144 .f32) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x256x256 .f32) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x1024 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x256x1024 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S1x1024 .f32) (harg21 : arg21.IsWhole)

set_option maxHeartbeats 1000000 in
/-- At point 0: the residual stream goes to scratch 0. -/
theorem sout0_A_0_eq (hc0 : cond0_0 i) (hc1 : ¬cond0_1 i) (hc2 : ¬cond0_2 i)
    (x0 : Vec F S1x256x1024 .f32) (x1 : Vec F S1x1x6144 .f32) (x2 : Vec F S1x256x256 .bf16) (x3 : Vec F S1x256x256 .bf16) (x4 : Vec F S1x256x256 .bf16) (x5 : Vec F S1x256x256 .f32) (x6 : Vec F S1x256x256 .bf16) (x7 : Vec F S1x256x256 .bf16) (x8 : Vec F S1x256 .f32) (x9 : Vec F S256x256 .bf16) (x10 : Vec F S1x256 .f32) (x11 : Vec F S1x1024 .f32) (x12 : Vec F S1024x1024 .bf16) (x13 : Vec F S1x1024 .f32) (x14 : Vec F S1024x2816 .bf16) (x15 : Vec F S1024x2816 .bf16) (x16 : Vec F S2816x1024 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 = stream x0 x1 (grouped x2 x3 x4 (gated x5 x6 x7 x8 x9 x10) x11) x12 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16)]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x1024) hz2, View.ld_unit_zero (S := S1x1024) hz2,
    View.ld_unit_zero (S := S1x256) hz2, View.ld_unit_zero (S := S256x256) hz2, View.ld_unit_zero (S := S1024x1024) hz2,
    View.ld_unit_zero (S := S1024x2816) hz2, View.ld_unit_zero (S := S2816x1024) hz2, View.ld_unit_zero (S := S1x256x1024) hz3,
    View.ld_unit_zero (S := S1x1x6144) hz3, View.ld_unit_zero (S := S1x256x256) hz3]
  rfl

set_option maxHeartbeats 1000000 in
/-- At point 0: the normed rows goes to scratch 1. -/
theorem sout0_A_1_eq (hc0 : cond0_0 i) (hc1 : ¬cond0_1 i) (hc2 : ¬cond0_2 i)
    (x0 : Vec F S1x256x1024 .f32) (x1 : Vec F S1x1x6144 .f32) (x2 : Vec F S1x256x256 .bf16) (x3 : Vec F S1x256x256 .bf16) (x4 : Vec F S1x256x256 .bf16) (x5 : Vec F S1x256x256 .f32) (x6 : Vec F S1x256x256 .bf16) (x7 : Vec F S1x256x256 .bf16) (x8 : Vec F S1x256 .f32) (x9 : Vec F S256x256 .bf16) (x10 : Vec F S1x256 .f32) (x11 : Vec F S1x1024 .f32) (x12 : Vec F S1024x1024 .bf16) (x13 : Vec F S1x1024 .f32) (x14 : Vec F S1024x2816 .bf16) (x15 : Vec F S1024x2816 .bf16) (x16 : Vec F S2816x1024 .bf16) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 = rows x0 x1 (grouped x2 x3 x4 (gated x5 x6 x7 x8 x9 x10) x11) x12 x13 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16)]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x1024) hz2, View.ld_unit_zero (S := S1x1024) hz2,
    View.ld_unit_zero (S := S1x256) hz2, View.ld_unit_zero (S := S256x256) hz2, View.ld_unit_zero (S := S1024x1024) hz2,
    View.ld_unit_zero (S := S1024x2816) hz2, View.ld_unit_zero (S := S2816x1024) hz2, View.ld_unit_zero (S := S1x256x1024) hz3,
    View.ld_unit_zero (S := S1x1x6144) hz3, View.ld_unit_zero (S := S1x256x256) hz3]
  rfl

set_option maxHeartbeats 1000000 in
/-- At point 0: the gate goes to scratch 2. -/
theorem sout0_A_2_eq (hc0 : cond0_0 i) (hc1 : ¬cond0_1 i) (hc2 : ¬cond0_2 i)
    (x0 : Vec F S1x256x1024 .f32) (x1 : Vec F S1x1x6144 .f32) (x2 : Vec F S1x256x256 .bf16) (x3 : Vec F S1x256x256 .bf16) (x4 : Vec F S1x256x256 .bf16) (x5 : Vec F S1x256x256 .f32) (x6 : Vec F S1x256x256 .bf16) (x7 : Vec F S1x256x256 .bf16) (x8 : Vec F S1x256 .f32) (x9 : Vec F S256x256 .bf16) (x10 : Vec F S1x256 .f32) (x11 : Vec F S1x1024 .f32) (x12 : Vec F S1024x1024 .bf16) (x13 : Vec F S1x1024 .f32) (x14 : Vec F S1024x2816 .bf16) (x15 : Vec F S1024x2816 .bf16) (x16 : Vec F S2816x1024 .bf16) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 = gate x1 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16)]
  unfold kernelRun0_A
  dsimp only
  sl_unfold_words
  rw [View.canon_unit_zero (S := S1x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x1024) hz2, View.ld_unit_zero (S := S1x1024) hz2,
    View.ld_unit_zero (S := S1x256) hz2, View.ld_unit_zero (S := S256x256) hz2, View.ld_unit_zero (S := S1024x1024) hz2,
    View.ld_unit_zero (S := S1024x2816) hz2, View.ld_unit_zero (S := S2816x1024) hz2, View.ld_unit_zero (S := S1x256x1024) hz3,
    View.ld_unit_zero (S := S1x1x6144) hz3, View.ld_unit_zero (S := S1x256x256) hz3]
  rfl

set_option maxHeartbeats 1000000 in
/-- At points 1 to 127: the residual stream goes to scratch 0. -/
theorem sout0_B_0_eq (hc0 : ¬cond0_0 i) (hc1 : cond0_1 i) (hc2 : ¬cond0_2 i)
    (x0 : Vec F S1x256x1024 .f32) (x1 : Vec F S1x1x6144 .f32) (x2 : Vec F S1x256x256 .bf16) (x3 : Vec F S1x256x256 .bf16) (x4 : Vec F S1x256x256 .bf16) (x5 : Vec F S1x256x256 .f32) (x6 : Vec F S1x256x256 .bf16) (x7 : Vec F S1x256x256 .bf16) (x8 : Vec F S1x256 .f32) (x9 : Vec F S256x256 .bf16) (x10 : Vec F S1x256 .f32) (x11 : Vec F S1x1024 .f32) (x12 : Vec F S1024x1024 .bf16) (x13 : Vec F S1x1024 .f32) (x14 : Vec F S1024x2816 .bf16) (x15 : Vec F S1024x2816 .bf16) (x16 : Vec F S2816x1024 .bf16) (xs0 : Vec F S256x1024 .f32) (xs1 : Vec F S256x1024 .bf16) (xs2 : Vec F S1x1024 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2 = stream x0 x1 (grouped x2 x3 x4 (gated x5 x6 x7 x8 x9 x10) x11) x12 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x1024) hz2, View.ld_unit_zero (S := S1x1024) hz2,
    View.ld_unit_zero (S := S1x256) hz2, View.ld_unit_zero (S := S256x256) hz2, View.ld_unit_zero (S := S1024x1024) hz2,
    View.ld_unit_zero (S := S1024x2816) hz2, View.ld_unit_zero (S := S2816x1024) hz2, View.ld_unit_zero (S := S1x256x1024) hz3,
    View.ld_unit_zero (S := S1x1x6144) hz3, View.ld_unit_zero (S := S1x256x256) hz3]
  rfl

set_option maxHeartbeats 1000000 in
/-- At points 1 to 127: the normed rows goes to scratch 1. -/
theorem sout0_B_1_eq (hc0 : ¬cond0_0 i) (hc1 : cond0_1 i) (hc2 : ¬cond0_2 i)
    (x0 : Vec F S1x256x1024 .f32) (x1 : Vec F S1x1x6144 .f32) (x2 : Vec F S1x256x256 .bf16) (x3 : Vec F S1x256x256 .bf16) (x4 : Vec F S1x256x256 .bf16) (x5 : Vec F S1x256x256 .f32) (x6 : Vec F S1x256x256 .bf16) (x7 : Vec F S1x256x256 .bf16) (x8 : Vec F S1x256 .f32) (x9 : Vec F S256x256 .bf16) (x10 : Vec F S1x256 .f32) (x11 : Vec F S1x1024 .f32) (x12 : Vec F S1024x1024 .bf16) (x13 : Vec F S1x1024 .f32) (x14 : Vec F S1024x2816 .bf16) (x15 : Vec F S1024x2816 .bf16) (x16 : Vec F S2816x1024 .bf16) (xs0 : Vec F S256x1024 .f32) (xs1 : Vec F S256x1024 .bf16) (xs2 : Vec F S1x1024 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2 = rows x0 x1 (grouped x2 x3 x4 (gated x5 x6 x7 x8 x9 x10) x11) x12 x13 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2)]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x1024) hz2, View.ld_unit_zero (S := S1x1024) hz2,
    View.ld_unit_zero (S := S1x256) hz2, View.ld_unit_zero (S := S256x256) hz2, View.ld_unit_zero (S := S1024x1024) hz2,
    View.ld_unit_zero (S := S1024x2816) hz2, View.ld_unit_zero (S := S2816x1024) hz2, View.ld_unit_zero (S := S1x256x1024) hz3,
    View.ld_unit_zero (S := S1x1x6144) hz3, View.ld_unit_zero (S := S1x256x256) hz3]
  rfl

set_option maxHeartbeats 1000000 in
/-- At points 1 to 127: the gate goes to scratch 2. -/
theorem sout0_B_2_eq (hc0 : ¬cond0_0 i) (hc1 : cond0_1 i) (hc2 : ¬cond0_2 i)
    (x0 : Vec F S1x256x1024 .f32) (x1 : Vec F S1x1x6144 .f32) (x2 : Vec F S1x256x256 .bf16) (x3 : Vec F S1x256x256 .bf16) (x4 : Vec F S1x256x256 .bf16) (x5 : Vec F S1x256x256 .f32) (x6 : Vec F S1x256x256 .bf16) (x7 : Vec F S1x256x256 .bf16) (x8 : Vec F S1x256 .f32) (x9 : Vec F S256x256 .bf16) (x10 : Vec F S1x256 .f32) (x11 : Vec F S1x1024 .f32) (x12 : Vec F S1024x1024 .bf16) (x13 : Vec F S1x1024 .f32) (x14 : Vec F S1024x2816 .bf16) (x15 : Vec F S1024x2816 .bf16) (x16 : Vec F S2816x1024 .bf16) (xs0 : Vec F S256x1024 .f32) (xs1 : Vec F S256x1024 .bf16) (xs2 : Vec F S1x1024 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2 = gate x1 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2)]
  unfold kernelRun0_B
  dsimp only
  sl_unfold_words
  rw [View.canon_unit_zero (S := S1x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x1024) hz2, View.ld_unit_zero (S := S1x1024) hz2,
    View.ld_unit_zero (S := S1x256) hz2, View.ld_unit_zero (S := S256x256) hz2, View.ld_unit_zero (S := S1024x1024) hz2,
    View.ld_unit_zero (S := S1024x2816) hz2, View.ld_unit_zero (S := S2816x1024) hz2, View.ld_unit_zero (S := S1x256x1024) hz3,
    View.ld_unit_zero (S := S1x1x6144) hz3, View.ld_unit_zero (S := S1x256x256) hz3]
  rfl

set_option maxHeartbeats 1000000 in
/-- At points 1 to 127: the output block. -/
theorem out0_B_17_eq (hc0 : ¬cond0_0 i) (hc1 : cond0_1 i) (hc2 : ¬cond0_2 i)
    (x0 : Vec F S1x256x1024 .f32) (x1 : Vec F S1x1x6144 .f32) (x2 : Vec F S1x256x256 .bf16) (x3 : Vec F S1x256x256 .bf16) (x4 : Vec F S1x256x256 .bf16) (x5 : Vec F S1x256x256 .f32) (x6 : Vec F S1x256x256 .bf16) (x7 : Vec F S1x256x256 .bf16) (x8 : Vec F S1x256 .f32) (x9 : Vec F S256x256 .bf16) (x10 : Vec F S1x256 .f32) (x11 : Vec F S1x1024 .f32) (x12 : Vec F S1024x1024 .bf16) (x13 : Vec F S1x1024 .f32) (x14 : Vec F S1024x2816 .bf16) (x15 : Vec F S1024x2816 .bf16) (x16 : Vec F S2816x1024 .bf16) (xs0 : Vec F S256x1024 .f32) (xs1 : Vec F S256x1024 .bf16) (xs2 : Vec F S1x1024 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2 = fed xs1 x14 x15 x16 xs0 xs2 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2)]
  unfold kernelRun0_B
  dsimp only
  sl_unfold_words
  rw [View.canon_unit_zero (S := S1x256x1024) hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x1024) hz2, View.ld_unit_zero (S := S1x1024) hz2,
    View.ld_unit_zero (S := S1x256) hz2, View.ld_unit_zero (S := S256x256) hz2, View.ld_unit_zero (S := S1024x1024) hz2,
    View.ld_unit_zero (S := S1024x2816) hz2, View.ld_unit_zero (S := S2816x1024) hz2, View.ld_unit_zero (S := S1x256x1024) hz3,
    View.ld_unit_zero (S := S1x1x6144) hz3, View.ld_unit_zero (S := S1x256x256) hz3]
  rfl

set_option maxHeartbeats 1000000 in
/-- At point 128: the output block. -/
theorem out0_C_17_eq (hc0 : ¬cond0_0 i) (hc1 : ¬cond0_1 i) (hc2 : cond0_2 i)
    (x0 : Vec F S1x256x1024 .f32) (x1 : Vec F S1x1x6144 .f32) (x2 : Vec F S1x256x256 .bf16) (x3 : Vec F S1x256x256 .bf16) (x4 : Vec F S1x256x256 .bf16) (x5 : Vec F S1x256x256 .f32) (x6 : Vec F S1x256x256 .bf16) (x7 : Vec F S1x256x256 .bf16) (x8 : Vec F S1x256 .f32) (x9 : Vec F S256x256 .bf16) (x10 : Vec F S1x256 .f32) (x11 : Vec F S1x1024 .f32) (x12 : Vec F S1024x1024 .bf16) (x13 : Vec F S1x1024 .f32) (x14 : Vec F S1024x2816 .bf16) (x15 : Vec F S1024x2816 .bf16) (x16 : Vec F S2816x1024 .bf16) (xs0 : Vec F S256x1024 .f32) (xs1 : Vec F S256x1024 .bf16) (xs2 : Vec F S1x1024 .f32) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2 = fed xs1 x14 x15 x16 xs0 xs2 := by
  unfold out0_C_17
  rw [View.read_writes_eq_canon _ _ _ (cover0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 xs0 xs1 xs2)]
  unfold kernelRun0_C
  dsimp only
  sl_unfold_words
  rw [View.canon_unit_zero (S := S1x256x1024) hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x1024) hz2, View.ld_unit_zero (S := S1x1024) hz2,
    View.ld_unit_zero (S := S1x256) hz2, View.ld_unit_zero (S := S256x256) hz2, View.ld_unit_zero (S := S1024x1024) hz2,
    View.ld_unit_zero (S := S1024x2816) hz2, View.ld_unit_zero (S := S2816x1024) hz2, View.ld_unit_zero (S := S1x256x1024) hz3,
    View.ld_unit_zero (S := S1x1x6144) hz3, View.ld_unit_zero (S := S1x256x256) hz3]
  rfl

end Cert.Kernel2Ideal.Mix

end
-- ==== Proof.MixMath.lean ====
/- The feed-forward call's mathematics, one token row at a time: the state-space mixer's gate, the norm of each mixer's
   output, the output projection with its gated residual, and the gated feed-forward block. -/
module

public import Idealize.ShloMosaic.Lib.Pointwise

@[expose] public section

noncomputable section

namespace Cert.MixMath

open Idealize.ShloMosaic

/-- The reals' epsilon of every norm, as its literal stands. -/
abbrev eps : EReal := Ideal.ofBits .f32 0x358637BD#32

/-- The Gaussian linear unit by its hyperbolic tangent. -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- A row, each entry times the logistic function of its product with a matrix. -/
def glued (g : Fin 256 → EReal) (w : Fin 256 → Fin 256 → EReal) (b : Fin 256 → EReal) (l : Fin 256) : EReal :=
  g l * Ideal.logistic (∑ x, g x * w x l + b l)

/-- The state-space mixer's row: skip and read-outs, the unit, the gate. -/
def mixed (u d yf yb : Fin 256 → EReal) (w : Fin 256 → Fin 256 → EReal) (b : Fin 256 → EReal) : Fin 256 → EReal :=
  glued (fun l => gelu (u l * d l + yf l + yb l)) w b

/-- A row over the root of its mean square; `w` is the number of entries. -/
def rms {n : ℕ} (w : EReal) (p : Fin n → EReal) (l : Fin n) : EReal :=
  p l * Ideal.rsqrt (Ideal.div (∑ x, p x * p x) w + eps)

/-- A mixer's row, normed. -/
abbrev rms256 (p : Fin 256 → EReal) : Fin 256 → EReal := rms (Ideal.ofBits .f32 0x43800000#32) p
/-- A stream's row, normed. -/
abbrev rms1024 (p : Fin 1024 → EReal) : Fin 1024 → EReal := rms (Ideal.ofBits .f32 0x44800000#32) p

/-- The four mixers' rows beside one another, each normed, times the gains. -/
def beside (a d f s : Fin 256 → EReal) (gg : Fin 1024 → EReal) (l : Fin 1024) : EReal :=
  if h : (l : ℕ) < 256 then rms256 a ⟨l, h⟩ * gg l
  else if h : (l : ℕ) - 256 < 256 then rms256 d ⟨l - 256, h⟩ * gg l
  else if h : (l : ℕ) - 256 - 256 < 256 then rms256 f ⟨l - 256 - 256, h⟩ * gg l
  else rms256 s ⟨l - 256 - 256 - 256, by omega⟩ * gg l

/-- The stream's row after the output projection. -/
def streamed (x ga o : Fin 1024 → EReal) (w : Fin 1024 → Fin 1024 → EReal) (l : Fin 1024) : EReal :=
  x l + ga l * ∑ k, o k * w k l

/-- A stream's row normed and modulated. -/
def modulated (x g sc sh : Fin 1024 → EReal) (l : Fin 1024) : EReal := rms1024 x l * g l * (1 + sc l) + sh l

/-- The feed-forward block's row, from the row `h` and the residual row `x`. -/
def fedForward (h : Fin 1024 → EReal) (w1 w3 : Fin 1024 → Fin 2816 → EReal) (w2 : Fin 2816 → Fin 1024 → EReal) (x ga : Fin 1024 → EReal) (l : Fin 1024) : EReal :=
  x l + ga l * ∑ j, (∑ k, h k * w1 k j) * Ideal.logistic (∑ k, h k * w1 k j) * (∑ k, h k * w3 k j) * w2 j l

/-- The layer's row after its mixers: `o` is the row of normed mixer outputs, the rest the weights and the modulation. -/
def finished (x o : Fin 1024 → EReal) (wo : Fin 1024 → Fin 1024 → EReal) (g2 : Fin 1024 → EReal) (ga1 sh2 sc2 ga2 : Fin 1024 → EReal)
    (w1 w3 : Fin 1024 → Fin 2816 → EReal) (w2 : Fin 2816 → Fin 1024 → EReal) : Fin 1024 → EReal :=
  fedForward (modulated (streamed x ga1 o wo) g2 sc2 sh2) w1 w3 w2 (streamed x ga1 o wo) ga2

/-- The logistic function by its exponential. -/
theorem logistic_eq (z : EReal) : Ideal.div 1 (1 + Ideal.exp (-z)) = Ideal.logistic z := rfl

/-- Sums of products over lanes do not see an order of the lanes. -/
theorem streamed_perm (σ : Fin 1024 ≃ Fin 1024) (x ga o o' : Fin 1024 → EReal) (w w' : Fin 1024 → Fin 1024 → EReal)
    (ho : ∀ k, o' k = o (σ k)) (hw : ∀ k l, w' k l = w (σ k) l) : streamed x ga o' w' = streamed x ga o w := by
  funext l
  unfold streamed
  rw [Fintype.sum_equiv σ (fun k => o' k * w' k l) (fun k => o k * w k l) fun k => by rw [ho, hw]]

/-- The norm of a row in another order is the norm of the row, in that order. -/
theorem rms_perm {n : ℕ} (σ : Fin n ≃ Fin n) (w : EReal) (p p' : Fin n → EReal) (hp : ∀ k, p' k = p (σ k)) (l : Fin n) :
    rms w p' l = rms w p (σ l) := by
  unfold rms
  rw [Fintype.sum_equiv σ (fun k => p' k * p' k) (fun k => p k * p k) fun k => by rw [hp], hp]

end Cert.MixMath

end
-- ==== Proof.MixRow.lean ====
/- The blocks of the feed-forward call, read at a row and a lane: each is the row mathematics of the rows it was given. -/
module

public import proofs.«01_k».proof.Proof.MixBlock
public import proofs.«01_k».proof.Proof.MixMath
public import Idealize.ShloMosaic.Lib.Pointwise
import Idealize.ShloMosaic.Lib.Pipeline.ValueKit

@[expose] public section

set_option maxRecDepth 16384

noncomputable section

namespace Cert.Kernel2Ideal.Mix

open Cert.Kernel2Ideal Cert.Kernel2Ideal.Gen Cert.MixMath
open Idealize.ShloMosaic Idealize.ShloMosaic.TcCoe Idealize.ShloMosaic.Tactic

theorem gated_apply (x5 : Vec Ideal S1x256x256 .f32) (x6 x7 : Vec Ideal S1x256x256 .bf16) (x8 : Vec Ideal S1x256 .f32) (x9 : Vec Ideal S256x256 .bf16) (x10 : Vec Ideal S1x256 .f32) (r l : Fin 256) :
    gated x5 x6 x7 x8 x9 x10 (ix2 r l) = mixed (fun l => x5 (ix3 0 r l)) (fun l => x8 (ix2 0 l)) (fun l => x6 (ix3 0 r l)) (fun l => x7 (ix3 0 r l)) (fun k l => x9 (ix2 k l)) (fun l => x10 (ix2 0 l)) l := by
  unfold mixed glued gelu
  pointwise [gated, k0_pay14, k0_pay15, k0_pay16]

theorem gain_apply (x11 : Vec Ideal S1x1024 .f32) (k : ℕ) (h) (l : Fin 256) (hk : k + l < 1024) : gain x11 k h (ix2 0 l) = x11 (ix2 0 ⟨k + l, hk⟩) := by
  unfold gain
  exact View.ld_unit_apply_of x11 _ _ _ _ _ fun a => by
    match a with
    | ⟨0, _⟩ => rfl
    | ⟨1, _⟩ => rfl

theorem lane_eq (k n : ℕ) (l : Fin 1024) (h : k + n = l) : (⟨k + n, h ▸ l.isLt⟩ : Fin 1024) = l := Fin.ext h

theorem joined_apply (x2 x3 x4 : Vec Ideal S1x256x256 .bf16) (g : FVec Ideal S256x256 .f32) (g0 g1 g2 g3 : Vec Ideal S1x256 .f32) (gg : Fin 1024 → EReal)
    (h0 : ∀ l : Fin 256, g0 (ix2 0 l) = gg ⟨l, by omega⟩) (h1 : ∀ l : Fin 256, g1 (ix2 0 l) = gg ⟨256 + l, by omega⟩)
    (h2 : ∀ l : Fin 256, g2 (ix2 0 l) = gg ⟨512 + l, by omega⟩) (h3 : ∀ l : Fin 256, g3 (ix2 0 l) = gg ⟨768 + l, by omega⟩) (r : Fin 256) (l : Fin 1024) :
    k0_pay22 g (k0_pay17 x3) (k0_pay18 x4) (k0_pay19 x2 g0) (k0_pay20 x3) k0_pay21 g1 g2 g3 (ix2 r l)
      = beside (fun l => x2 (ix3 0 r l)) (fun l => x3 (ix3 0 r l)) (fun l => x4 (ix3 0 r l)) (fun l => g (ix2 r l)) gg l := by
  unfold beside rms256 rms
  pointwise [k0_pay22, k0_pay17, k0_pay18, k0_pay19, k0_pay20, k0_pay21]
  simp only [h0, h1, h2, h3]
  split
  · rfl
  · split
    · rw [lane_eq 256 (l - 256) l (by omega)]
    · split
      · rw [lane_eq 512 (l - 256 - 256) l (by omega)]
      · rw [lane_eq 768 (l - 256 - 256 - 256) l (by omega)]

theorem grouped_apply (x2 x3 x4 : Vec Ideal S1x256x256 .bf16) (g : FVec Ideal S256x256 .f32) (x11 : Vec Ideal S1x1024 .f32) (r : Fin 256) (l : Fin 1024) :
    grouped x2 x3 x4 g x11 (ix2 r l)
      = beside (fun l => x2 (ix3 0 r l)) (fun l => x3 (ix3 0 r l)) (fun l => x4 (ix3 0 r l)) (fun l => g (ix2 r l)) (fun l => x11 (ix2 0 l)) l := by
  refine joined_apply x2 x3 x4 g _ _ _ _ _ (fun l => ?_) (fun l => ?_) (fun l => ?_) (fun l => ?_) r l
  · rw [gain_apply x11 0 _ l (by omega)]; simp only [Nat.zero_add]
  · exact gain_apply x11 256 _ l (by omega)
  · exact gain_apply x11 512 _ l (by omega)
  · exact gain_apply x11 768 _ l (by omega)

theorem stream_apply (x0 : Vec Ideal S1x256x1024 .f32) (x1 : Vec Ideal S1x1x6144 .f32) (o : FVec Ideal S256x1024 .bf16) (x12 : Vec Ideal S1024x1024 .bf16) (r : Fin 256) (l : Fin 1024) :
    stream x0 x1 o x12 (ix2 r l) = streamed (fun l => x0 (ix3 0 r l)) (fun l => x1 (ix3 0 0 ⟨2048 + l, by omega⟩)) (fun k => o (ix2 r k)) (fun k l => x12 (ix2 k l)) l := by
  unfold streamed
  pointwise [stream, k0_pay1, k0_pay2, k0_pay8, k0_pay9, k0_pay23]

theorem rows_apply (x0 : Vec Ideal S1x256x1024 .f32) (x1 : Vec Ideal S1x1x6144 .f32) (o : FVec Ideal S256x1024 .bf16) (x12 : Vec Ideal S1024x1024 .bf16) (x13 : Vec Ideal S1x1024 .f32) (r : Fin 256) (l : Fin 1024) :
    rows x0 x1 o x12 x13 (ix2 r l)
      = modulated (streamed (fun l => x0 (ix3 0 r l)) (fun l => x1 (ix3 0 0 ⟨2048 + l, by omega⟩)) (fun k => o (ix2 r k)) (fun k l => x12 (ix2 k l)))
          (fun l => x13 (ix2 0 l)) (fun l => x1 (ix3 0 0 ⟨4096 + l, by omega⟩)) (fun l => x1 (ix3 0 0 ⟨3072 + l, by omega⟩)) l := by
  unfold modulated rms1024 rms streamed
  pointwise [rows, k0_pay3, k0_pay1, k0_pay2, k0_pay8, k0_pay9, k0_pay10, k0_pay11, k0_pay12, k0_pay23]

theorem gate_apply (x1 : Vec Ideal S1x1x6144 .f32) (l : Fin 1024) : gate x1 (ix2 0 l) = x1 (ix3 0 0 ⟨5120 + l, by omega⟩) := by
  pointwise [gate, k0_pay4, k0_pay10, k0_pay13]

theorem fed_apply (h : Vec Ideal S256x1024 .bf16) (x14 x15 : Vec Ideal S1024x2816 .bf16) (x16 : Vec Ideal S2816x1024 .bf16) (x : Vec Ideal S256x1024 .f32) (g : Vec Ideal S1x1024 .f32) (r : Fin 256) (l : Fin 1024) :
    fed h x14 x15 x16 x g (ix3 0 r l) = fedForward (fun k => h (ix2 r k)) (fun k j => x14 (ix2 k j)) (fun k j => x15 (ix2 k j)) (fun j l => x16 (ix2 j l)) (fun l => x (ix2 r l)) (fun l => g (ix2 0 l)) l := by
  unfold fedForward
  pointwise [fed, k0_pay7]

end Cert.Kernel2Ideal.Mix

end
-- ==== Proof.MixScratch.lean ====
/- What the three scratch buffers hold after each grid point, and the output block that the next point makes of them. -/
module

public import proofs.«01_k».proof.Proof.MixBlock
public import proofs.«01_k».proof.Proof.Gen.Kernel2Ideal.Value

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- The normed mixer outputs of the tile of point `t`. -/
def tileMixed (t : Fin cfg0.N) : FVec F S256x1024 .bf16 :=
  grouped (iblk m c 2 t) (iblk m c 3 t) (iblk m c 4 t)
    (gated (iblk m c 5 t) (iblk m c 6 t) (iblk m c 7 t) (iblk m c 8 t) (iblk m c 9 t) (iblk m c 10 t)) (iblk m c 11 t)
/-- The residual stream of the tile. -/
def tileStream (t : Fin cfg0.N) : FVec F S256x1024 .f32 := stream (iblk m c 0 t) (iblk m c 1 t) (tileMixed m c t) (iblk m c 12 t)
/-- The normed and modulated rows of the tile. -/
def tileRows (t : Fin cfg0.N) : FVec F S256x1024 .bf16 := rows (iblk m c 0 t) (iblk m c 1 t) (tileMixed m c t) (iblk m c 12 t) (iblk m c 13 t)
/-- The feed-forward gate of the tile. -/
def tileGate (t : Fin cfg0.N) : FVec F S1x1024 .f32 := gate (iblk m c 1 t)

theorem N_eq : cfg0.N = 129 := N_0

/-- Points 0 to 127 mix their tile into the scratch buffers. -/
theorem scratch_eq (t : Fin cfg0.N) (ht : t.val ≤ 127) :
    (outsAt0 m c t.val t.isLt).2.1 = tileStream m c t ∧ (outsAt0 m c t.val t.isLt).2.2.1 = tileRows m c t
      ∧ (outsAt0 m c t.val t.isLt).2.2.2 = tileGate m c t := by
  by_cases h : t.val = 0
  · rw [outsAt0_A m c t (by omega) (by omega) (by omega)]
    refine ⟨?_, ?_, ?_⟩ <;> dsimp only
    · rw [sout0_A_0_eq]; rfl
    · rw [sout0_A_1_eq]; rfl
    · rw [sout0_A_2_eq]; rfl
  · rw [outsAt0_B m c t (by omega) (by omega) (by omega)]
    refine ⟨?_, ?_, ?_⟩ <;> dsimp only
    · rw [sout0_B_0_eq]; rfl
    · rw [sout0_B_1_eq]; rfl
    · rw [sout0_B_2_eq]; rfl

/-- The point before. -/
def before (t : Fin cfg0.N) : Fin cfg0.N := ⟨t.val - 1, by have := t.isLt; omega⟩

/-- Points 1 to 128 leave the output block of the tile before. -/
theorem out_eq (t : Fin cfg0.N) (ht : 1 ≤ t.val) :
    (outsAt0 m c t.val t.isLt).1
      = fed (tileRows m c (before t)) (iblk m c 14 t) (iblk m c 15 t) (iblk m c 16 t) (tileStream m c (before t)) (tileGate m c (before t)) := by
  have hN := N_eq
  have hlt := t.isLt
  obtain ⟨e0, e1, e2⟩ := scratch_eq m c (before t) (by unfold before; dsimp only; omega)
  rw [← e0, ← e1, ← e2]
  by_cases h : t.val ≤ 127
  · rw [outsAt0_B m c t (by omega) (by omega) (by omega)]
    dsimp only
    rw [out0_B_17_eq]
    rfl
  · rw [outsAt0_C m c t (by omega) (by omega) (by omega)]
    dsimp only
    rw [out0_C_17_eq]
    rfl

end Cert.Kernel2Ideal.Mix

end
-- ==== Proof.MixValue.lean ====
/- The feed-forward call's result array, read at an index off the arrays that the call is given. -/
module

public import proofs.«01_k».proof.Proof.MixRow
public import proofs.«01_k».proof.Proof.MixScratch
public import Idealize.ShloMosaic.Lib.Pipeline.ValueKit

@[expose] public section

set_option maxRecDepth 16384

noncomputable section

namespace Cert.Kernel2Ideal.Mix

open Cert.Kernel2Ideal Cert.Kernel2Ideal.Gen Cert.MixMath
open Idealize.ShloMosaic Idealize.ShloMosaic.TcCoe Idealize.ShloMosaic.Tactic

/-! The blocks' places: point `t` mixes tile `min t 127`, of batch `/ 8` and of 256 latent tokens, which lie after the 256
    context tokens in the arrays of all tokens; it writes the output block of the tile before. -/

theorem index_0 : ∀ t : Fin grid0.N, win0_0.index t = ![min t.val 127 / 8, min t.val 127 % 8 + 1, 0] := by decide +kernel
theorem index_1 : ∀ t : Fin grid0.N, win0_1.index t = ![min t.val 127 / 8, 0, 0] := by decide +kernel
theorem index_2 : ∀ t : Fin grid0.N, win0_2.index t = ![min t.val 127 / 8, min t.val 127 % 8, 0] := by decide +kernel
theorem index_3 : ∀ t : Fin grid0.N, win0_3.index t = ![min t.val 127 / 8, min t.val 127 % 8, 0] := by decide +kernel
theorem index_4 : ∀ t : Fin grid0.N, win0_4.index t = ![min t.val 127 / 8, min t.val 127 % 8, 0] := by decide +kernel
theorem index_5 : ∀ t : Fin grid0.N, win0_5.index t = ![min t.val 127 / 8, min t.val 127 % 8 + 1, 0] := by decide +kernel
theorem index_6 : ∀ t : Fin grid0.N, win0_6.index t = ![min t.val 127 / 8, min t.val 127 % 8 + 1, 0] := by decide +kernel
theorem index_7 : ∀ t : Fin grid0.N, win0_7.index t = ![min t.val 127 / 8, min t.val 127 % 8 + 1, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_11 : ∀ t : Fin grid0.N, win0_11.index t = ![0, 0] := by decide +kernel
theorem index_12 : ∀ t : Fin grid0.N, win0_12.index t = ![0, 0] := by decide +kernel
theorem index_13 : ∀ t : Fin grid0.N, win0_13.index t = ![0, 0] := by decide +kernel
theorem index_14 : ∀ t : Fin grid0.N, win0_14.index t = ![0, 0] := by decide +kernel
theorem index_15 : ∀ t : Fin grid0.N, win0_15.index t = ![0, 0] := by decide +kernel
theorem index_16 : ∀ t : Fin grid0.N, win0_16.index t = ![0, 0] := by decide +kernel
theorem index_17 : ∀ t : Fin grid0.N, win0_17.index t = ![(t.val - 1) / 8, (t.val - 1) % 8, 0] := by decide +kernel

variable (m : (ℓ : Loc nD τ sig) → Buf (Elt Ideal) ℓ) (c : Dev nD)

/-! The arrays that the call is given. -/

abbrev aStream : Vec Ideal S16x2304x1024 .f32 := V m c main_v8
abbrev aMod : Vec Ideal S24x1x6144 .f32 := V m c main_v9
abbrev aOa : Vec Ideal S16x2048x256 .bf16 := V m c main_v10
abbrev aOd : Vec Ideal S16x2048x256 .bf16 := V m c main_v11
abbrev aOf : Vec Ideal S16x2048x256 .bf16 := V m c main_v12
abbrev aU : Vec Ideal S16x2304x256 .f32 := V m c main_v13
abbrev aY0 : Vec Ideal S16x2304x256 .bf16 := V m c main_v15
abbrev aY1 : Vec Ideal S16x2304x256 .bf16 := V m c main_v17
abbrev aD : Vec Ideal S1x256 .f32 := V m c main_v18
abbrev aWg : Vec Ideal S256x256 .bf16 := V m c main_v19
abbrev aBg : Vec Ideal S1x256 .f32 := V m c main_v20
abbrev aGg : Vec Ideal S1x1024 .f32 := V m c main_v27
abbrev aWo : Vec Ideal S1024x1024 .bf16 := V m c main_v34
abbrev aG2 : Vec Ideal S1x1024 .f32 := V m c main_v35
abbrev aW1 : Vec Ideal S1024x2816 .bf16 := V m c main_v36
abbrev aW3 : Vec Ideal S1024x2816 .bf16 := V m c main_v37
abbrev aW2 : Vec Ideal S2816x1024 .bf16 := V m c main_v38

/-- Batch and latent token of row `r` of the tile of point `t`. -/
def batchAt (t : Fin cfg0.N) : Fin 16 := ⟨min t.val 127 / 8, by omega⟩
def tokenAt (t : Fin cfg0.N) (r : Fin 256) : Fin 2048 := ⟨min t.val 127 % 8 * 256 + r, by omega⟩
/-- Its token among context and latent tokens. -/
def lat (n : Fin 2048) : Fin 2304 := ⟨256 + n, by omega⟩

theorem iblk_0 (t : Fin cfg0.N) (r : Fin 256) (l : Fin 1024) : (iblk m c 0 t : Vec Ideal S1x256x1024 .f32) (ix3 0 r l) = aStream m c (ix3 (batchAt t) (lat (tokenAt t r)) l) := by
  unfold batchAt tokenAt lat
  blk_ext [iblk, index_0 t]
theorem iblk_1 (t : Fin cfg0.N) (l : Fin 6144) : (iblk m c 1 t : Vec Ideal S1x1x6144 .f32) (ix3 0 0 l) = aMod m c (ix3 ⟨batchAt t, by omega⟩ 0 l) := by
  unfold batchAt
  blk_ext [iblk, index_1 t]
/-- The 1024 lanes of the modulation from lane `s`. -/
theorem iblk_1_from (t : Fin cfg0.N) (s : ℕ) (hs : s + 1024 ≤ 6144) : (fun l : Fin 1024 => (iblk m c 1 t : Vec Ideal S1x1x6144 .f32) (ix3 0 0 ⟨s + l, by omega⟩))
    = fun l : Fin 1024 => aMod m c (ix3 ⟨batchAt t, by omega⟩ 0 ⟨s + l, by omega⟩) := funext fun l => iblk_1 m c t ⟨s + l, by omega⟩
theorem iblk_2 (t : Fin cfg0.N) (r l : Fin 256) : (iblk m c 2 t : Vec Ideal S1x256x256 .bf16) (ix3 0 r l) = aOa m c (ix3 (batchAt t) (tokenAt t r) l) := by
  unfold batchAt tokenAt
  blk_ext [iblk, index_2 t]
theorem iblk_3 (t : Fin cfg0.N) (r l : Fin 256) : (iblk m c 3 t : Vec Ideal S1x256x256 .bf16) (ix3 0 r l) = aOd m c (ix3 (batchAt t) (tokenAt t r) l) := by
  unfold batchAt tokenAt
  blk_ext [iblk, index_3 t]
theorem iblk_4 (t : Fin cfg0.N) (r l : Fin 256) : (iblk m c 4 t : Vec Ideal S1x256x256 .bf16) (ix3 0 r l) = aOf m c (ix3 (batchAt t) (tokenAt t r) l) := by
  unfold batchAt tokenAt
  blk_ext [iblk, index_4 t]
theorem iblk_5 (t : Fin cfg0.N) (r l : Fin 256) : (iblk m c 5 t : Vec Ideal S1x256x256 .f32) (ix3 0 r l) = aU m c (ix3 (batchAt t) (lat (tokenAt t r)) l) := by
  unfold batchAt tokenAt lat
  blk_ext [iblk, index_5 t]
theorem iblk_6 (t : Fin cfg0.N) (r l : Fin 256) : (iblk m c 6 t : Vec Ideal S1x256x256 .bf16) (ix3 0 r l) = aY0 m c (ix3 (batchAt t) (lat (tokenAt t r)) l) := by
  unfold batchAt tokenAt lat
  blk_ext [iblk, index_6 t]
theorem iblk_7 (t : Fin cfg0.N) (r l : Fin 256) : (iblk m c 7 t : Vec Ideal S1x256x256 .bf16) (ix3 0 r l) = aY1 m c (ix3 (batchAt t) (lat (tokenAt t r)) l) := by
  unfold batchAt tokenAt lat
  blk_ext [iblk, index_7 t]
theorem iblk_8 (t : Fin cfg0.N) (l : Fin 256) : (iblk m c 8 t : Vec Ideal S1x256 .f32) (ix2 0 l) = aD m c (ix2 0 l) := by
  blk_ext [iblk, index_8 t]
theorem iblk_9 (t : Fin cfg0.N) (k l : Fin 256) : (iblk m c 9 t : Vec Ideal S256x256 .bf16) (ix2 k l) = aWg m c (ix2 k l) := by
  blk_ext [iblk, index_9 t]
theorem iblk_10 (t : Fin cfg0.N) (l : Fin 256) : (iblk m c 10 t : Vec Ideal S1x256 .f32) (ix2 0 l) = aBg m c (ix2 0 l) := by
  blk_ext [iblk, index_10 t]
theorem iblk_11 (t : Fin cfg0.N) (l : Fin 1024) : (iblk m c 11 t : Vec Ideal S1x1024 .f32) (ix2 0 l) = aGg m c (ix2 0 l) := by
  blk_ext [iblk, index_11 t]
theorem iblk_12 (t : Fin cfg0.N) (k l : Fin 1024) : (iblk m c 12 t : Vec Ideal S1024x1024 .bf16) (ix2 k l) = aWo m c (ix2 k l) := by
  blk_ext [iblk, index_12 t]
theorem iblk_13 (t : Fin cfg0.N) (l : Fin 1024) : (iblk m c 13 t : Vec Ideal S1x1024 .f32) (ix2 0 l) = aG2 m c (ix2 0 l) := by
  blk_ext [iblk, index_13 t]
theorem iblk_14 (t : Fin cfg0.N) (k : Fin 1024) (l : Fin 2816) : (iblk m c 14 t : Vec Ideal S1024x2816 .bf16) (ix2 k l) = aW1 m c (ix2 k l) := by
  blk_ext [iblk, index_14 t]
theorem iblk_15 (t : Fin cfg0.N) (k : Fin 1024) (l : Fin 2816) : (iblk m c 15 t : Vec Ideal S1024x2816 .bf16) (ix2 k l) = aW3 m c (ix2 k l) := by
  blk_ext [iblk, index_15 t]
theorem iblk_16 (t : Fin cfg0.N) (k : Fin 2816) (l : Fin 1024) : (iblk m c 16 t : Vec Ideal S2816x1024 .bf16) (ix2 k l) = aW2 m c (ix2 k l) := by
  blk_ext [iblk, index_16 t]

/-- The normed mixer outputs at batch `b` and latent token `n`. -/
def mixedRow (b : Fin 16) (n : Fin 2048) : Fin 1024 → EReal :=
  beside (fun l => aOa m c (ix3 b n l)) (fun l => aOd m c (ix3 b n l)) (fun l => aOf m c (ix3 b n l))
    (mixed (fun l => aU m c (ix3 b (lat n) l)) (fun l => aD m c (ix2 0 l)) (fun l => aY0 m c (ix3 b (lat n) l)) (fun l => aY1 m c (ix3 b (lat n) l))
      (fun k l => aWg m c (ix2 k l)) (fun l => aBg m c (ix2 0 l)))
    (fun l => aGg m c (ix2 0 l))

/-- The residual stream there. -/
def streamRow (b : Fin 16) (n : Fin 2048) : Fin 1024 → EReal :=
  streamed (fun l => aStream m c (ix3 b (lat n) l)) (fun l => aMod m c (ix3 ⟨b, by omega⟩ 0 ⟨2048 + l, by omega⟩)) (mixedRow m c b n) (fun k l => aWo m c (ix2 k l))

/-- The result there. -/
def resRow (b : Fin 16) (n : Fin 2048) : Fin 1024 → EReal :=
  finished (fun l => aStream m c (ix3 b (lat n) l)) (mixedRow m c b n) (fun k l => aWo m c (ix2 k l)) (fun l => aG2 m c (ix2 0 l))
    (fun l => aMod m c (ix3 ⟨b, by omega⟩ 0 ⟨2048 + l, by omega⟩)) (fun l => aMod m c (ix3 ⟨b, by omega⟩ 0 ⟨3072 + l, by omega⟩))
    (fun l => aMod m c (ix3 ⟨b, by omega⟩ 0 ⟨4096 + l, by omega⟩)) (fun l => aMod m c (ix3 ⟨b, by omega⟩ 0 ⟨5120 + l, by omega⟩))
    (fun k j => aW1 m c (ix2 k j)) (fun k j => aW3 m c (ix2 k j)) (fun j l => aW2 m c (ix2 j l))

theorem tileMixed_apply (t : Fin cfg0.N) (r : Fin 256) (l : Fin 1024) : tileMixed m c t (ix2 r l) = mixedRow m c (batchAt t) (tokenAt t r) l := by
  unfold tileMixed mixedRow
  refine (grouped_apply _ _ _ _ _ r l).trans ?_
  have hs : (fun l => gated (F := Ideal) (iblk m c 5 t) (iblk m c 6 t) (iblk m c 7 t) (iblk m c 8 t) (iblk m c 9 t) (iblk m c 10 t) (ix2 r l))
      = mixed (fun l => aU m c (ix3 (batchAt t) (lat (tokenAt t r)) l)) (fun l => aD m c (ix2 0 l)) (fun l => aY0 m c (ix3 (batchAt t) (lat (tokenAt t r)) l)) (fun l => aY1 m c (ix3 (batchAt t) (lat (tokenAt t r)) l))
      (fun k l => aWg m c (ix2 k l)) (fun l => aBg m c (ix2 0 l)) := by
    funext l
    refine (gated_apply _ _ _ _ _ _ r l).trans ?_
    rw [funext (iblk_5 m c t r), funext (iblk_6 m c t r), funext (iblk_7 m c t r), funext (iblk_8 m c t), funext (iblk_10 m c t), funext fun k => funext (iblk_9 m c t k)]
  rw [hs, funext (iblk_2 m c t r), funext (iblk_3 m c t r), funext (iblk_4 m c t r), funext (iblk_11 m c t)]

theorem tileStream_apply (t : Fin cfg0.N) (r : Fin 256) (l : Fin 1024) : tileStream m c t (ix2 r l) = streamRow m c (batchAt t) (tokenAt t r) l := by
  unfold tileStream streamRow
  refine (stream_apply _ _ _ _ r l).trans ?_
  rw [funext (iblk_0 m c t r), iblk_1_from m c t 2048 (by decide), funext (tileMixed_apply m c t r), funext fun k => funext (iblk_12 m c t k)]

theorem tileRows_apply (t : Fin cfg0.N) (r : Fin 256) (l : Fin 1024) : tileRows m c t (ix2 r l)
    = modulated (streamRow m c (batchAt t) (tokenAt t r)) (fun l => aG2 m c (ix2 0 l)) (fun l => aMod m c (ix3 ⟨batchAt t, by omega⟩ 0 ⟨4096 + l, by omega⟩)) (fun l => aMod m c (ix3 ⟨batchAt t, by omega⟩ 0 ⟨3072 + l, by omega⟩)) l := by
  unfold tileRows streamRow
  refine (rows_apply _ _ _ _ _ r l).trans ?_
  rw [funext (iblk_0 m c t r), iblk_1_from m c t 2048 (by decide), iblk_1_from m c t 3072 (by decide), iblk_1_from m c t 4096 (by decide),
    funext (tileMixed_apply m c t r), funext fun k => funext (iblk_12 m c t k), funext (iblk_13 m c t)]

theorem tileGate_apply (t : Fin cfg0.N) (l : Fin 1024) : tileGate m c t (ix2 0 l) = aMod m c (ix3 ⟨batchAt t, by omega⟩ 0 ⟨5120 + l, by omega⟩) := by
  unfold tileGate
  exact (gate_apply _ l).trans (iblk_1 m c t _)

/-- The block that point `t` leaves, at a row and a lane. -/
theorem out_apply (t : Fin cfg0.N) (ht : 1 ≤ t.val) (r : Fin 256) (l : Fin 1024) :
    ((outsAt0 m c t.val t.isLt).1 : Vec Ideal S1x256x1024 .f32) (ix3 0 r l) = resRow m c (batchAt (before t)) (tokenAt (before t) r) l := by
  rw [out_eq m c t ht]
  refine (fed_apply _ _ _ _ _ _ r l).trans ?_
  rw [funext (tileRows_apply m c (before t) r), funext fun k => funext (iblk_14 m c t k), funext fun k => funext (iblk_15 m c t k), funext fun k => funext (iblk_16 m c t k),
    funext (tileStream_apply m c (before t) r), funext (tileGate_apply m c (before t))]
  rfl

/-- The result array as a function of its index. -/
def resArr : Vec Ideal S16x2048x1024 .f32 := fun y => resRow m c (y 0) (y 1) (y 2)

/-- The block of point `t` lies at the rows of the tile before. -/
theorem resArr_emb (t : Fin cfg0.N) (r : Fin 256) (l : Fin 1024) :
    resRow m c (batchAt (before t)) (tokenAt (before t) r) l = resArr m c (((cfg0.win 17).blk t).view.emb (ix3 0 r l : S1x256x1024.Idx)) := by
  have hN := N_eq
  have hlt := t.isLt
  have e : ((cfg0.win 17).blk t).view.emb (ix3 0 r l : S1x256x1024.Idx) = (ix3 (batchAt (before t)) (tokenAt (before t) r) l : S16x2048x1024.Idx) := by
    unfold batchAt tokenAt before
    dsimp only
    have e : min (t.val - 1) 127 = t.val - 1 := by omega
    simp only [e]
    blk_ext [index_17 t]
  rw [e]
  rfl

/-- The result array. -/
theorem result_eq : (dats m 0 c).arrAt 17 cfg0.N = resArr m c := by
  refine (dats m 0 c).arrAt_eq_of_covers 17 _ (by decide +kernel) fun t hf y => ?_
  have ht : 1 ≤ t.val := by
    by_contra h
    have h0 : t.val = 0 := by omega
    have := noFlush0_17_A t ((hcond0_0 t).mpr (by omega)) (fun h => by have := (hcond0_1 t).mp h; omega) (fun h => by have := (hcond0_2 t).mp h; omega)
    rw [this] at hf
    exact Bool.false_ne_true hf
  blk_simp
  rw [after0_17]
  obtain ⟨r, l, rfl⟩ : ∃ (r : Fin 256) (l : Fin 1024), y = (ix3 0 r l : S1x256x1024.Idx) :=
    ⟨y 1, y 2, by funext a; match a with | ⟨0, _⟩ => exact Subsingleton.elim (α := Fin 1) _ _ | ⟨1, _⟩ => rfl | ⟨2, _⟩ => rfl⟩
  exact (out_apply m c t ht r l).trans (resArr_emb m c t r l)

end Cert.Kernel2Ideal.Mix

end
-- ==== Proof.MixLanes.lean ====
/- The order of the lanes in which the feed-forward call takes the attention's heads, and why it does not show. -/
module

public import proofs.«01_k».proof.Proof.MixMath

@[expose] public section

noncomputable section

namespace Cert.MixMath

/-- The lane kept at place `l` of a row of `n` lanes: the groups of 64 lanes 1 and 2 change places. -/
def laneOf {n : ℕ} (hn : 192 ≤ n) (l : Fin n) : Fin n :=
  if h : 64 ≤ (l : ℕ) ∧ (l : ℕ) < 128 then ⟨l + 64, by omega⟩ else if h : 128 ≤ (l : ℕ) ∧ (l : ℕ) < 192 then ⟨l - 64, by omega⟩ else l

theorem laneOf_val {n : ℕ} (hn : 192 ≤ n) (l : Fin n) : (laneOf hn l : ℕ)
    = if 64 ≤ (l : ℕ) ∧ (l : ℕ) < 128 then (l : ℕ) + 64 else if 128 ≤ (l : ℕ) ∧ (l : ℕ) < 192 then (l : ℕ) - 64 else l := by
  unfold laneOf
  split
  · rfl
  · split <;> rfl

theorem laneOf_laneOf {n : ℕ} (hn : 192 ≤ n) (l : Fin n) : laneOf hn (laneOf hn l) = l := by
  apply Fin.ext
  rw [laneOf_val, laneOf_val]
  split_ifs <;> omega

/-- As an order of the lanes. -/
def lanes {n : ℕ} (hn : 192 ≤ n) : Fin n ≃ Fin n := ⟨laneOf hn, laneOf hn, laneOf_laneOf hn, laneOf_laneOf hn⟩

abbrev lane256 : Fin 256 → Fin 256 := laneOf (by decide)
abbrev lane1024 : Fin 1024 → Fin 1024 := laneOf (by decide)

/-- Four pieces of 64 lanes, the middle ones exchanged, read at a lane. -/
theorem lane256_pick (f : Fin 256 → EReal) (l : Fin 256) :
    (if h : (l : ℕ) < 64 then f l else if h : (l : ℕ) - 64 < 64 then f ⟨128 + ((l : ℕ) - 64), by omega⟩
      else if h : (l : ℕ) - 64 - 64 < 64 then f ⟨64 + ((l : ℕ) - 64 - 64), by omega⟩ else f ⟨192 + ((l : ℕ) - 64 - 64 - 64), by omega⟩) = f (lane256 l) := by
  have hv := laneOf_val (n := 256) (by decide) l
  have hl := l.isLt
  by_cases h1 : (l : ℕ) < 64
  · rw [dif_pos h1]
    exact congrArg f (Fin.ext (by rw [hv, if_neg (by omega), if_neg (by omega)]))
  by_cases h2 : (l : ℕ) - 64 < 64
  · rw [dif_neg h1, dif_pos h2]
    exact congrArg f (Fin.ext (by rw [hv, if_pos (by omega)]; dsimp only; omega))
  by_cases h3 : (l : ℕ) - 64 - 64 < 64
  · rw [dif_neg h1, dif_neg h2, dif_pos h3]
    exact congrArg f (Fin.ext (by rw [hv, if_neg (by omega), if_pos (by omega)]; dsimp only; omega))
  · rw [dif_neg h1, dif_neg h2, dif_neg h3]
    exact congrArg f (Fin.ext (by rw [hv, if_neg (by omega), if_neg (by omega)]; dsimp only; omega))

/-- The same, with the remaining lanes after them. -/
theorem lane1024_pick (f : Fin 1024 → EReal) (l : Fin 1024) :
    (if h : (l : ℕ) < 64 then f l else if h : (l : ℕ) - 64 < 64 then f ⟨128 + ((l : ℕ) - 64), by omega⟩
      else if h : (l : ℕ) - 64 - 64 < 64 then f ⟨64 + ((l : ℕ) - 64 - 64), by omega⟩
      else if h : (l : ℕ) - 64 - 64 - 64 < 64 then f ⟨192 + ((l : ℕ) - 64 - 64 - 64), by omega⟩
      else f ⟨256 + ((l : ℕ) - 64 - 64 - 64 - 64), by omega⟩) = f (lane1024 l) := by
  have hv := laneOf_val (n := 1024) (by decide) l
  have hl := l.isLt
  by_cases h1 : (l : ℕ) < 64
  · rw [dif_pos h1]
    exact congrArg f (Fin.ext (by rw [hv, if_neg (by omega), if_neg (by omega)]))
  by_cases h2 : (l : ℕ) - 64 < 64
  · rw [dif_neg h1, dif_pos h2]
    exact congrArg f (Fin.ext (by rw [hv, if_pos (by omega)]; dsimp only; omega))
  by_cases h3 : (l : ℕ) - 64 - 64 < 64
  · rw [dif_neg h1, dif_neg h2, dif_pos h3]
    exact congrArg f (Fin.ext (by rw [hv, if_neg (by omega), if_pos (by omega)]; dsimp only; omega))
  by_cases h4 : (l : ℕ) - 64 - 64 - 64 < 64
  · rw [dif_neg h1, dif_neg h2, dif_neg h3, dif_pos h4]
    exact congrArg f (Fin.ext (by rw [hv, if_neg (by omega), if_neg (by omega)]; dsimp only; omega))
  · rw [dif_neg h1, dif_neg h2, dif_neg h3, dif_neg h4]
    exact congrArg f (Fin.ext (by rw [hv, if_neg (by omega), if_neg (by omega)]; dsimp only; omega))

/-- The normed mixers in the other order of the first mixer's lanes and of the gains. -/
theorem beside_lanes (a d f s : Fin 256 → EReal) (gg : Fin 1024 → EReal) (l : Fin 1024) :
    beside (fun l => a (lane256 l)) d f s (fun l => gg (lane1024 l)) l = beside a d f s gg (lane1024 l) := by
  have hv := laneOf_val (n := 1024) (by decide) l
  unfold beside
  by_cases h : (l : ℕ) < 256
  · have h' : (lane1024 l : ℕ) < 256 := by rw [hv]; split_ifs <;> omega
    rw [dif_pos h, dif_pos h']
    congr 1
    refine (rms_perm (lanes (n := 256) (by decide)) _ a _ (fun _ => rfl) ⟨l, h⟩).trans ?_
    refine congrArg (rms256 a) (Fin.ext ?_)
    exact (laneOf_val (n := 256) (by decide) ⟨l, h⟩).trans hv.symm
  · have e : lane1024 l = l := Fin.ext (by rw [hv, if_neg (by omega), if_neg (by omega)])
    rw [e, dif_neg h, dif_neg h]
    dsimp only
    rw [e]

/-- The whole row does not see the order. -/
theorem finished_lanes (x o : Fin 1024 → EReal) (wo : Fin 1024 → Fin 1024 → EReal) (g2 ga1 sh2 sc2 ga2 : Fin 1024 → EReal)
    (w1 w3 : Fin 1024 → Fin 2816 → EReal) (w2 : Fin 2816 → Fin 1024 → EReal) :
    finished x (fun k => o (lane1024 k)) (fun k l => wo (lane1024 k) l) g2 ga1 sh2 sc2 ga2 w1 w3 w2 = finished x o wo g2 ga1 sh2 sc2 ga2 w1 w3 w2 := by
  unfold finished
  rw [streamed_perm (lanes (by decide)) x ga1 o (fun k => o (lane1024 k)) wo (fun k l => wo (lane1024 k) l) (fun _ => rfl) fun _ _ => rfl]

end Cert.MixMath

end
-- ==== Proof.MixHost.lean ====
/- The arrays that the feed-forward call is given, as the host lays them out from the arguments. -/
module

public import proofs.«01_k».proof.Proof.MixValue
public import proofs.«01_k».proof.Proof.MixLanes
public import Idealize.ShloMosaic.Lib.StableHlo.RunRead
import Idealize.ShloMosaic.Lib.Pointwise

@[expose] public section

set_option maxRecDepth 16384

noncomputable section

namespace Cert.Kernel2Ideal.Mix

open Cert.Kernel2Ideal Cert.Kernel2Ideal.Gen Cert.MixMath
open Idealize.ShloMosaic Idealize.ShloMosaic.TcCoe Idealize.ShloMosaic.Tactic Idealize.ShloMosaic.StableHlo

variable (m : (ℓ : Loc nD τ sig) → Buf (Elt Ideal) ℓ) (c : Dev nD)

/-- The modulation of the batches, then that of the context, then rows of zeros. -/
def modRows (a : FVec Ideal S16x6144 .f32) (b : FVec Ideal S6144 .f32) : FVec Ideal S24x6144 .f32 :=
  concatenate S24x6144 0 [⟨S16x6144, a⟩, ⟨S1x6144, broadcastInDim S1x6144 ![1] bcast_S6144_S1x6144_1 b⟩,
    ⟨S7x6144, broadcastInDim S7x6144 ![] bcast_S_S7x6144 (constant S_ .f32 0x00000000#32 : FVec Ideal S_ .f32)⟩] concatenates_S16x6144_S1x6144_S7x6144_S24x6144_d0

/-- The attention's heads in the order 0, 2, 1, 3 of their lanes. -/
def headLanes (a : FVec Ideal S16x2048x256 .f32) : FVec Ideal S16x2048x256 .f32 :=
  concatenate S16x2048x256 2
    [⟨S16x2048x64, extractStridedSlice S16x2048x64 ![0, 0, 0] a slices_S16x2048x256_S16x2048x64_0_0_0⟩,
     ⟨S16x2048x64, extractStridedSlice S16x2048x64 ![0, 0, 128] a slices_S16x2048x256_S16x2048x64_0_0_128⟩,
     ⟨S16x2048x64, extractStridedSlice S16x2048x64 ![0, 0, 64] a slices_S16x2048x256_S16x2048x64_0_0_64⟩,
     ⟨S16x2048x64, extractStridedSlice S16x2048x64 ![0, 0, 192] a slices_S16x2048x256_S16x2048x64_0_0_192⟩]
    concatenates_S16x2048x64_S16x2048x64_S16x2048x64_S16x2048x64_S16x2048x256_d2

/-- The norm's gains in that order. -/
def gainLanes (a : FVec Ideal S1024 .f32) : FVec Ideal S1024 .f32 :=
  concatenate S1024 0
    [⟨S64, extractStridedSlice S64 ![0] a slices_S1024_S64_0⟩, ⟨S64, extractStridedSlice S64 ![128] a slices_S1024_S64_128⟩,
     ⟨S64, extractStridedSlice S64 ![64] a slices_S1024_S64_64⟩, ⟨S64, extractStridedSlice S64 ![192] a slices_S1024_S64_192⟩,
     ⟨S768, extractStridedSlice S768 ![256] a slices_S1024_S768_256⟩]
    concatenates_S64_S64_S64_S64_S768_S1024_d0

/-- The projection's rows in that order. -/
def projRows (a : FVec Ideal S1024x1024 .f32) : FVec Ideal S1024x1024 .f32 :=
  concatenate S1024x1024 0
    [⟨S64x1024, extractStridedSlice S64x1024 ![0, 0] a slices_S1024x1024_S64x1024_0_0⟩, ⟨S64x1024, extractStridedSlice S64x1024 ![128, 0] a slices_S1024x1024_S64x1024_128_0⟩,
     ⟨S64x1024, extractStridedSlice S64x1024 ![64, 0] a slices_S1024x1024_S64x1024_64_0⟩, ⟨S64x1024, extractStridedSlice S64x1024 ![192, 0] a slices_S1024x1024_S64x1024_192_0⟩,
     ⟨S768x1024, extractStridedSlice S768x1024 ![256, 0] a slices_S1024x1024_S768x1024_256_0⟩]
    concatenates_S64x1024_S64x1024_S64x1024_S64x1024_S768x1024_S1024x1024_d0

/-- A stream of 1024 lanes: context, then latent tokens. -/
def tokens1024 (a : FVec Ideal S16x256x1024 .f32) (b : FVec Ideal S16x2048x1024 .f32) : FVec Ideal S16x2304x1024 .f32 :=
  concatenate S16x2304x1024 1 [⟨S16x256x1024, a⟩, ⟨S16x2048x1024, b⟩] concatenates_S16x256x1024_S16x2048x1024_S16x2304x1024_d1

/-- A stream of 256 lanes: context, then latent tokens. -/
def tokens256 (a : FVec Ideal S16x256x256 .f32) (b : FVec Ideal S16x2048x256 .f32) : FVec Ideal S16x2304x256 .f32 :=
  concatenate S16x2304x256 1 [⟨S16x256x256, a⟩, ⟨S16x2048x256, b⟩] concatenates_S16x256x256_S16x2048x256_S16x2304x256_d1

/-! The pieces the host has built before it joins them. -/

theorem upto3_2 : upto hostOps0 (fun b => m (c, b)) 3 (Proc.devRef .tc main_arg2) = (m ((c.tc : Thread nD τ).loc main_arg2)) := by
  after_reads_simp
theorem upto3_0 : upto hostOps0 (fun b => m (c, b)) 3 (Proc.devRef .tc main_v0) = (broadcastInDim S1x6144 ![1] bcast_S6144_S1x6144_1 (m ((c.tc : Thread nD τ).loc main_arg3)) : FVec Ideal S1x6144 .f32) := by
  after_reads_simp
theorem upto3_1 : upto hostOps0 (fun b => m (c, b)) 3 (Proc.devRef .tc main_v1) = (broadcastInDim S7x6144 ![] bcast_S_S7x6144 (constant S_ .f32 0x00000000#32 : FVec Ideal S_ .f32) : FVec Ideal S7x6144 .f32) := by
  after_reads_simp
theorem upto8_3 : upto hostOps0 (fun b => m (c, b)) 8 (Proc.devRef .tc main_v3) = (extractStridedSlice S16x2048x64 ![0, 0, 0] (m ((c.tc : Thread nD τ).loc main_arg4)) slices_S16x2048x256_S16x2048x64_0_0_0 : FVec Ideal S16x2048x64 .f32) := by
  after_reads_simp
theorem upto8_4 : upto hostOps0 (fun b => m (c, b)) 8 (Proc.devRef .tc main_v4) = (extractStridedSlice S16x2048x64 ![0, 0, 128] (m ((c.tc : Thread nD τ).loc main_arg4)) slices_S16x2048x256_S16x2048x64_0_0_128 : FVec Ideal S16x2048x64 .f32) := by
  after_reads_simp
theorem upto8_5 : upto hostOps0 (fun b => m (c, b)) 8 (Proc.devRef .tc main_v5) = (extractStridedSlice S16x2048x64 ![0, 0, 64] (m ((c.tc : Thread nD τ).loc main_arg4)) slices_S16x2048x256_S16x2048x64_0_0_64 : FVec Ideal S16x2048x64 .f32) := by
  after_reads_simp
theorem upto8_6 : upto hostOps0 (fun b => m (c, b)) 8 (Proc.devRef .tc main_v6) = (extractStridedSlice S16x2048x64 ![0, 0, 192] (m ((c.tc : Thread nD τ).loc main_arg4)) slices_S16x2048x256_S16x2048x64_0_0_192 : FVec Ideal S16x2048x64 .f32) := by
  after_reads_simp
theorem upto27_21 : upto hostOps0 (fun b => m (c, b)) 27 (Proc.devRef .tc main_v21) = (extractStridedSlice S64 ![0] (m ((c.tc : Thread nD τ).loc main_arg16)) slices_S1024_S64_0 : FVec Ideal S64 .f32) := by
  after_reads_simp
theorem upto27_22 : upto hostOps0 (fun b => m (c, b)) 27 (Proc.devRef .tc main_v22) = (extractStridedSlice S64 ![128] (m ((c.tc : Thread nD τ).loc main_arg16)) slices_S1024_S64_128 : FVec Ideal S64 .f32) := by
  after_reads_simp
theorem upto27_23 : upto hostOps0 (fun b => m (c, b)) 27 (Proc.devRef .tc main_v23) = (extractStridedSlice S64 ![64] (m ((c.tc : Thread nD τ).loc main_arg16)) slices_S1024_S64_64 : FVec Ideal S64 .f32) := by
  after_reads_simp
theorem upto27_24 : upto hostOps0 (fun b => m (c, b)) 27 (Proc.devRef .tc main_v24) = (extractStridedSlice S64 ![192] (m ((c.tc : Thread nD τ).loc main_arg16)) slices_S1024_S64_192 : FVec Ideal S64 .f32) := by
  after_reads_simp
theorem upto27_25 : upto hostOps0 (fun b => m (c, b)) 27 (Proc.devRef .tc main_v25) = (extractStridedSlice S768 ![256] (m ((c.tc : Thread nD τ).loc main_arg16)) slices_S1024_S768_256 : FVec Ideal S768 .f32) := by
  after_reads_simp
theorem upto34_28 : upto hostOps0 (fun b => m (c, b)) 34 (Proc.devRef .tc main_v28) = (extractStridedSlice S64x1024 ![0, 0] (m ((c.tc : Thread nD τ).loc main_arg17)) slices_S1024x1024_S64x1024_0_0 : FVec Ideal S64x1024 .f32) := by
  after_reads_simp
theorem upto34_29 : upto hostOps0 (fun b => m (c, b)) 34 (Proc.devRef .tc main_v29) = (extractStridedSlice S64x1024 ![128, 0] (m ((c.tc : Thread nD τ).loc main_arg17)) slices_S1024x1024_S64x1024_128_0 : FVec Ideal S64x1024 .f32) := by
  after_reads_simp
theorem upto34_30 : upto hostOps0 (fun b => m (c, b)) 34 (Proc.devRef .tc main_v30) = (extractStridedSlice S64x1024 ![64, 0] (m ((c.tc : Thread nD τ).loc main_arg17)) slices_S1024x1024_S64x1024_64_0 : FVec Ideal S64x1024 .f32) := by
  after_reads_simp
theorem upto34_31 : upto hostOps0 (fun b => m (c, b)) 34 (Proc.devRef .tc main_v31) = (extractStridedSlice S64x1024 ![192, 0] (m ((c.tc : Thread nD τ).loc main_arg17)) slices_S1024x1024_S64x1024_192_0 : FVec Ideal S64x1024 .f32) := by
  after_reads_simp
theorem upto34_32 : upto hostOps0 (fun b => m (c, b)) 34 (Proc.devRef .tc main_v32) = (extractStridedSlice S768x1024 ![256, 0] (m ((c.tc : Thread nD τ).loc main_arg17)) slices_S1024x1024_S768x1024_256_0 : FVec Ideal S768x1024 .f32) := by
  after_reads_simp

/-! The arrays. -/

theorem aStream_eq : aStream m c = tokens1024 (m ((c.tc : Thread nD τ).loc main_arg1)) (m ((c.tc : Thread nD τ).loc main_arg0)) := by
  show StableHlo.after _ _ _ = _
  after_reads_simp
  rfl
theorem aMod_eq : aMod m c = shapeCast S24x1x6144 (modRows (m ((c.tc : Thread nD τ).loc main_arg2)) (m ((c.tc : Thread nD τ).loc main_arg3))) shapeCasts_S24x6144_S24x1x6144 := by
  show StableHlo.after _ _ _ = _
  after_reads_simp
  dsimp only [Matrix.cons_val]
  rw [upto3_2, upto3_0, upto3_1]
  rfl
theorem aOa_eq : aOa m c = truncf .bf16 (headLanes (m ((c.tc : Thread nD τ).loc main_arg4))) bitsLt_bf16_f32 := by
  show StableHlo.after _ _ _ = _
  after_reads_simp
  dsimp only [Matrix.cons_val]
  rw [upto8_3, upto8_4, upto8_5, upto8_6]
  rfl
theorem aOd_eq : aOd m c = (truncf .bf16 (m ((c.tc : Thread nD τ).loc main_arg5) : FVec Ideal S16x2048x256 .f32) bitsLt_bf16_f32 : FVec Ideal S16x2048x256 .bf16) := by
  show StableHlo.after _ _ _ = _
  after_reads_simp
theorem aOf_eq : aOf m c = (truncf .bf16 (m ((c.tc : Thread nD τ).loc main_arg6) : FVec Ideal S16x2048x256 .f32) bitsLt_bf16_f32 : FVec Ideal S16x2048x256 .bf16) := by
  show StableHlo.after _ _ _ = _
  after_reads_simp
theorem aU_eq : aU m c = tokens256 (m ((c.tc : Thread nD τ).loc main_arg8)) (m ((c.tc : Thread nD τ).loc main_arg7)) := by
  show StableHlo.after _ _ _ = _
  after_reads_simp
  rfl
theorem aY0_eq : aY0 m c = truncf .bf16 (tokens256 (m ((c.tc : Thread nD τ).loc main_arg10)) (m ((c.tc : Thread nD τ).loc main_arg9))) bitsLt_bf16_f32 := by
  show StableHlo.after _ _ _ = _
  after_reads_simp
  rfl
theorem aY1_eq : aY1 m c = truncf .bf16 (tokens256 (m ((c.tc : Thread nD τ).loc main_arg12)) (m ((c.tc : Thread nD τ).loc main_arg11))) bitsLt_bf16_f32 := by
  show StableHlo.after _ _ _ = _
  after_reads_simp
  rfl
theorem aD_eq : aD m c = broadcastInDim S1x256 ![1] bcast_S256_S1x256_1 (m ((c.tc : Thread nD τ).loc main_arg13)) := by
  show StableHlo.after _ _ _ = _
  after_reads_simp
theorem aWg_eq : aWg m c = (truncf .bf16 (m ((c.tc : Thread nD τ).loc main_arg14) : FVec Ideal S256x256 .f32) bitsLt_bf16_f32 : FVec Ideal S256x256 .bf16) := by
  show StableHlo.after _ _ _ = _
  after_reads_simp
theorem aBg_eq : aBg m c = broadcastInDim S1x256 ![1] bcast_S256_S1x256_1 (m ((c.tc : Thread nD τ).loc main_arg15)) := by
  show StableHlo.after _ _ _ = _
  after_reads_simp
theorem aGg_eq : aGg m c = broadcastInDim S1x1024 ![1] bcast_S1024_S1x1024_1 (gainLanes (m ((c.tc : Thread nD τ).loc main_arg16))) := by
  show StableHlo.after _ _ _ = _
  after_reads_simp
  dsimp only [Matrix.cons_val]
  rw [upto27_21, upto27_22, upto27_23, upto27_24, upto27_25]
  rfl
theorem aWo_eq : aWo m c = truncf .bf16 (projRows (m ((c.tc : Thread nD τ).loc main_arg17))) bitsLt_bf16_f32 := by
  show StableHlo.after _ _ _ = _
  after_reads_simp
  dsimp only [Matrix.cons_val]
  rw [upto34_28, upto34_29, upto34_30, upto34_31, upto34_32]
  rfl
theorem aG2_eq : aG2 m c = broadcastInDim S1x1024 ![1] bcast_S1024_S1x1024_1 (m ((c.tc : Thread nD τ).loc main_arg18)) := by
  show StableHlo.after _ _ _ = _
  after_reads_simp
theorem aW1_eq : aW1 m c = (truncf .bf16 (m ((c.tc : Thread nD τ).loc main_arg19) : FVec Ideal S1024x2816 .f32) bitsLt_bf16_f32 : FVec Ideal S1024x2816 .bf16) := by
  show StableHlo.after _ _ _ = _
  after_reads_simp
theorem aW3_eq : aW3 m c = (truncf .bf16 (m ((c.tc : Thread nD τ).loc main_arg20) : FVec Ideal S1024x2816 .f32) bitsLt_bf16_f32 : FVec Ideal S1024x2816 .bf16) := by
  show StableHlo.after _ _ _ = _
  after_reads_simp
theorem aW2_eq : aW2 m c = (truncf .bf16 (m ((c.tc : Thread nD τ).loc main_arg21) : FVec Ideal S2816x1024 .f32) bitsLt_bf16_f32 : FVec Ideal S2816x1024 .bf16) := by
  show StableHlo.after _ _ _ = _
  after_reads_simp

/-! The layouts at an index. -/

theorem modRows_apply (a : FVec Ideal S16x6144 .f32) (z : FVec Ideal S6144 .f32) (b : Fin 16) (l : Fin 6144) : modRows a z (ix2 ⟨b, by omega⟩ l) = a (ix2 b l) := by
  pointwise [modRows]
theorem tokens1024_lat (x : FVec Ideal S16x256x1024 .f32) (y : FVec Ideal S16x2048x1024 .f32) (b : Fin 16) (n : Fin 2048) (l : Fin 1024) :
    tokens1024 x y (ix3 b (lat n) l) = y (ix3 b n l) := by
  unfold lat
  pointwise [tokens1024]
theorem tokens256_lat (x : FVec Ideal S16x256x256 .f32) (y : FVec Ideal S16x2048x256 .f32) (b : Fin 16) (n : Fin 2048) (l : Fin 256) :
    tokens256 x y (ix3 b (lat n) l) = y (ix3 b n l) := by
  unfold lat
  pointwise [tokens256]
theorem headLanes_apply (a : FVec Ideal S16x2048x256 .f32) (b : Fin 16) (n : Fin 2048) (l : Fin 256) :
    headLanes a (ix3 b n l) = a (ix3 b n (lane256 l)) := by
  pointwise [headLanes]
  exact lane256_pick (fun x => a (ix3 b n x)) l
theorem gainLanes_apply (a : FVec Ideal S1024 .f32) (l : Fin 1024) : gainLanes a (ix1 l) = a (ix1 (lane1024 l)) := by
  pointwise [gainLanes]
  exact lane1024_pick (fun x => a (ix1 x)) l
theorem projRows_apply (a : FVec Ideal S1024x1024 .f32) (k l : Fin 1024) : projRows a (ix2 k l) = a (ix2 (lane1024 k) l) := by
  pointwise [projRows]
  exact lane1024_pick (fun x => a (ix2 x l)) k

end Cert.Kernel2Ideal.Mix

end
-- ==== Proof.MixRef.lean ====
/- What the feed-forward call's reference computes, at an index of its result. -/
module

public import proofs.«01_k».proof.Proof.MixMath
public import proofs.«01_k».proof.Proof.Gen.Reference2Ideal.Run
public import Idealize.ShloMosaic.Lib.Pointwise

@[expose] public section

set_option maxRecDepth 8192

noncomputable section

namespace Cert.Reference2Ideal.Mix

open Cert.Reference2Ideal Cert.Reference2Ideal.Gen Cert.Reference2Ideal.Value Cert.MixMath
open Idealize.ShloMosaic Idealize.ShloMosaic.TcCoe Idealize.ShloMosaic.StableHlo

/-! The reference's stages, as functions of what each reads. -/

/-- Skip and read-outs of the state-space mixer. -/
def readout (u : FVec Ideal S16x2048x256 .f32) (d : FVec Ideal S256 .f32) (y0 y1 : FVec Ideal S16x2048x256 .f32) : FVec Ideal S16x2048x256 .f32 :=
  addf (addf (mulf u (broadcastInDim S16x2048x256 ![0, 1, 2] bcast_S1x1x256_S16x2048x256_0_1_2 (broadcastInDim S1x1x256 ![2] bcast_S256_S1x1x256_2 d))) y0) y1

/-- The Gaussian linear unit. -/
def unit (y : FVec Ideal S16x2048x256 .f32) : FVec Ideal S16x2048x256 .f32 :=
  mulf y (mulf (broadcastInDim S16x2048x256 ![] bcast_S_S16x2048x256 (constant S_ .f32 0x3F000000#32)) (addf (broadcastInDim S16x2048x256 ![] bcast_S_S16x2048x256 (constant S_ .f32 0x3F800000#32)) (Host.tanh (mulf (broadcastInDim S16x2048x256 ![] bcast_S_S16x2048x256 (constant S_ .f32 0x3F4C422A#32)) (addf y (mulf (broadcastInDim S16x2048x256 ![] bcast_S_S16x2048x256 (constant S_ .f32 0x3D372713#32)) (mulf (mulf y y) y)))))))

/-- The gate. -/
def gate (g : FVec Ideal S16x2048x256 .f32) (w : FVec Ideal S256x256 .f32) (bg : FVec Ideal S256 .f32) : FVec Ideal S16x2048x256 .f32 :=
  mulf g (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf (addf (Host.dotGeneral dot_S16x2048x256_S256x256_S16x2048x256_2_0_01_1_n_n none g w) (broadcastInDim S16x2048x256 ![0, 1, 2] bcast_S1x1x256_S16x2048x256_0_1_2 (broadcastInDim S1x1x256 ![2] bcast_S256_S1x1x256_2 bg)))))))

/-- The four mixers, a group of lanes each. -/
def groups (a d f s : FVec Ideal S16x2048x256 .f32) : FVec Ideal S16x2048x4x256 .f32 :=
  shapeCast _ (concatenate S16x2048x1024 2 [⟨S16x2048x256, a⟩, ⟨S16x2048x256, d⟩, ⟨S16x2048x256, f⟩, ⟨S16x2048x256, s⟩] concatenates_S16x2048x256_S16x2048x256_S16x2048x256_S16x2048x256_S16x2048x1024_d2) shapeCasts_S16x2048x1024_S16x2048x4x256

/-- Each group normed, times its gains. -/
def normed (z : FVec Ideal S16x2048x4x256 .f32) (gg : FVec Ideal S1024 .f32) : FVec Ideal S16x2048x1024 .f32 :=
  shapeCast _ (mulf (mulf z (broadcastInDim S16x2048x4x256 ![0, 1, 2, 3] bcast_S16x2048x4x1_S16x2048x4x256_0_1_2_3 (Host.rsqrt (addf (Host.divf (broadcastInDim S16x2048x4x1 ![0, 1, 2] bcast_S16x2048x4_S16x2048x4x1_0_1_2 (Host.reduceAdd (mulf z z) (constant S_ .f32 0x00000000#32) reducesTo_S16x2048x4x256_S16x2048x4_d3 h_S_)) (broadcastInDim S16x2048x4x1 ![] bcast_S_S16x2048x4x1 (constant S_ .f32 0x43800000#32))) (broadcastInDim S16x2048x4x1 ![] bcast_S_S16x2048x4x1 (constant S_ .f32 0x358637BD#32)))))) (broadcastInDim S16x2048x4x256 ![0, 1, 2, 3] bcast_S1x1x4x256_S16x2048x4x256_0_1_2_3 (broadcastInDim S1x1x4x256 ![2, 3] bcast_S4x256_S1x1x4x256_2_3 (shapeCast _ gg shapeCasts_S1024_S4x256)))) shapeCasts_S16x2048x4x256_S16x2048x1024

/-- The 1024 lanes of the modulation from a lane on, for every token. -/
def lanesOf (off : Fin 2 → ℕ) (hs : S16x6144.Slices off S16x1024) (md : FVec Ideal S16x6144 .f32) : FVec Ideal S16x1x1024 .f32 :=
  broadcastInDim S16x1x1024 ![0, 2] bcast_S16x1024_S16x1x1024_0_2 (extractStridedSlice S16x1024 off md hs)
def perToken (v : FVec Ideal S16x1x1024 .f32) : FVec Ideal S16x2048x1024 .f32 := broadcastInDim S16x2048x1024 ![0, 1, 2] bcast_S16x1x1024_S16x2048x1024_0_1_2 v

/-- The stream after the output projection. -/
def projected (x : FVec Ideal S16x2048x1024 .f32) (ga : FVec Ideal S16x1x1024 .f32) (o : FVec Ideal S16x2048x1024 .f32) (wo : FVec Ideal S1024x1024 .f32) : FVec Ideal S16x2048x1024 .f32 :=
  addf x (mulf (perToken ga) (Host.dotGeneral dot_S16x2048x1024_S1024x1024_S16x2048x1024_2_0_01_1_n_n none o wo))

/-- The stream normed and modulated. -/
def modulatedRows (x : FVec Ideal S16x2048x1024 .f32) (g2 : FVec Ideal S1024 .f32) (sc sh : FVec Ideal S16x1x1024 .f32) : FVec Ideal S16x2048x1024 .f32 :=
  addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g2))) (perToken (addf (broadcastInDim S16x1x1024 ![] bcast_S_S16x1x1024 (constant S_ .f32 0x3F800000#32)) sc))) (perToken sh)

/-- The product with one of the two inner matrices. -/
def inner (h : FVec Ideal S16x2048x1024 .f32) (w : FVec Ideal S1024x2816 .f32) : FVec Ideal S16x2048x2816 .f32 :=
  Host.dotGeneral dot_S16x2048x1024_S1024x2816_S16x2048x2816_2_0_01_1_n_n none h w

/-- The gated unit between the two inner products. -/
def swish (p q : FVec Ideal S16x2048x2816 .f32) : FVec Ideal S16x2048x2816 .f32 :=
  mulf (mulf p (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf p))))) q

/-- The result. -/
def closed (x : FVec Ideal S16x2048x1024 .f32) (ga : FVec Ideal S16x1x1024 .f32) (z : FVec Ideal S16x2048x2816 .f32) (w2 : FVec Ideal S2816x1024 .f32) : FVec Ideal S16x2048x1024 .f32 :=
  addf x (mulf (perToken ga) (Host.dotGeneral dot_S16x2048x2816_S2816x1024_S16x2048x1024_2_0_01_1_n_n none z w2))

/-! Each stage at an index. -/

theorem readout_apply (u : FVec Ideal S16x2048x256 .f32) (d : FVec Ideal S256 .f32) (y0 y1 : FVec Ideal S16x2048x256 .f32) (b : Fin 16) (n : Fin 2048) (l : Fin 256) :
    readout u d y0 y1 (ix3 b n l) = u (ix3 b n l) * d (ix1 l) + y0 (ix3 b n l) + y1 (ix3 b n l) := by
  pointwise [readout]

theorem unit_apply (y : FVec Ideal S16x2048x256 .f32) (b : Fin 16) (n : Fin 2048) (l : Fin 256) : unit y (ix3 b n l) = gelu (y (ix3 b n l)) := by
  pointwise [unit]
  rfl

theorem gate_apply (g : FVec Ideal S16x2048x256 .f32) (w : FVec Ideal S256x256 .f32) (bg : FVec Ideal S256 .f32) (b : Fin 16) (n : Fin 2048) (l : Fin 256) :
    gate g w bg (ix3 b n l) = glued (fun l => g (ix3 b n l)) (fun k l => w (ix2 k l)) (fun l => bg (ix1 l)) l := by
  pointwise [gate]
  rfl

theorem groups_0 (a d f s : FVec Ideal S16x2048x256 .f32) (b : Fin 16) (n : Fin 2048) (l : Fin 256) : groups a d f s (ix4 b n 0 l) = a (ix3 b n l) := by
  pointwise [groups]
theorem groups_1 (a d f s : FVec Ideal S16x2048x256 .f32) (b : Fin 16) (n : Fin 2048) (l : Fin 256) : groups a d f s (ix4 b n 1 l) = d (ix3 b n l) := by
  pointwise [groups]
theorem groups_2 (a d f s : FVec Ideal S16x2048x256 .f32) (b : Fin 16) (n : Fin 2048) (l : Fin 256) : groups a d f s (ix4 b n 2 l) = f (ix3 b n l) := by
  pointwise [groups]
  rw [dif_neg (by omega), dif_neg (by omega), dif_pos (by omega)]
  refine congrArg (fun x => f (ix3 b n x)) (Fin.ext ?_)
  dsimp only
  omega
theorem groups_3 (a d f s : FVec Ideal S16x2048x256 .f32) (b : Fin 16) (n : Fin 2048) (l : Fin 256) : groups a d f s (ix4 b n 3 l) = s (ix3 b n l) := by
  pointwise [groups]
  rw [dif_neg (by omega), dif_neg (by omega), dif_neg (by omega)]
  refine congrArg (fun x => s (ix3 b n x)) (Fin.ext ?_)
  dsimp only
  omega

theorem normed_apply (z : FVec Ideal S16x2048x4x256 .f32) (gg : FVec Ideal S1024 .f32) (b : Fin 16) (n : Fin 2048) (l : Fin 1024) :
    normed z gg (ix3 b n l) = rms256 (fun x => z (ix4 b n ⟨l / 256, by omega⟩ x)) ⟨l % 256, by omega⟩ * gg (ix1 l) := by
  pointwise [normed]
  rfl

/-- The normed groups are the normed mixers beside one another. -/
theorem normed_groups (a d f s : FVec Ideal S16x2048x256 .f32) (gg : FVec Ideal S1024 .f32) (b : Fin 16) (n : Fin 2048) (l : Fin 1024) :
    normed (groups a d f s) gg (ix3 b n l) = beside (fun l => a (ix3 b n l)) (fun l => d (ix3 b n l)) (fun l => f (ix3 b n l)) (fun l => s (ix3 b n l)) (fun l => gg (ix1 l)) l := by
  rw [normed_apply]
  have hl := l.isLt
  unfold beside
  split
  · rw [show (⟨l / 256, by omega⟩ : Fin 4) = 0 from Fin.ext (by simp; omega), funext (groups_0 a d f s b n)]
    exact congrArg (fun x => rms256 _ x * gg (ix1 l)) (Fin.ext (by dsimp only; omega))
  split
  · rw [show (⟨l / 256, by omega⟩ : Fin 4) = 1 from Fin.ext (by simp; omega), funext (groups_1 a d f s b n)]
    exact congrArg (fun x => rms256 _ x * gg (ix1 l)) (Fin.ext (by dsimp only; omega))
  split
  · rw [show (⟨l / 256, by omega⟩ : Fin 4) = 2 from Fin.ext (by simp; omega), funext (groups_2 a d f s b n)]
    exact congrArg (fun x => rms256 _ x * gg (ix1 l)) (Fin.ext (by dsimp only; omega))
  · rw [show (⟨l / 256, by omega⟩ : Fin 4) = 3 from Fin.ext (by simp; omega), funext (groups_3 a d f s b n)]
    exact congrArg (fun x => rms256 _ x * gg (ix1 l)) (Fin.ext (by dsimp only; omega))

theorem lanesOf_apply (s : ℕ) (hs : S16x6144.Slices ![0, s] S16x1024) (h : s + 1024 ≤ 6144) (md : FVec Ideal S16x6144 .f32) (b : Fin 16) (l : Fin 1024) :
    lanesOf ![0, s] hs md (ix3 b 0 l) = md (ix2 b ⟨s + l, by omega⟩) := by
  pointwise [lanesOf]

theorem projected_apply (x : FVec Ideal S16x2048x1024 .f32) (ga : FVec Ideal S16x1x1024 .f32) (o : FVec Ideal S16x2048x1024 .f32) (wo : FVec Ideal S1024x1024 .f32) (b : Fin 16) (n : Fin 2048) (l : Fin 1024) :
    projected x ga o wo (ix3 b n l) = streamed (fun l => x (ix3 b n l)) (fun l => ga (ix3 b 0 l)) (fun k => o (ix3 b n k)) (fun k l => wo (ix2 k l)) l := by
  pointwise [projected, perToken]
  rfl

theorem modulatedRows_apply (x : FVec Ideal S16x2048x1024 .f32) (g2 : FVec Ideal S1024 .f32) (sc sh : FVec Ideal S16x1x1024 .f32) (b : Fin 16) (n : Fin 2048) (l : Fin 1024) :
    modulatedRows x g2 sc sh (ix3 b n l) = modulated (fun l => x (ix3 b n l)) (fun l => g2 (ix1 l)) (fun l => sc (ix3 b 0 l)) (fun l => sh (ix3 b 0 l)) l := by
  pointwise [modulatedRows, perToken]
  rfl

theorem inner_apply (h : FVec Ideal S16x2048x1024 .f32) (w : FVec Ideal S1024x2816 .f32) (b : Fin 16) (n : Fin 2048) (j : Fin 2816) :
    inner h w (ix3 b n j) = ∑ k, h (ix3 b n k) * w (ix2 k j) := by
  pointwise [inner]

theorem swish_apply (p q : FVec Ideal S16x2048x2816 .f32) (b : Fin 16) (n : Fin 2048) (j : Fin 2816) :
    swish p q (ix3 b n j) = p (ix3 b n j) * Ideal.logistic (p (ix3 b n j)) * q (ix3 b n j) := by
  pointwise [swish]
  rfl

theorem closed_apply (x : FVec Ideal S16x2048x1024 .f32) (ga : FVec Ideal S16x1x1024 .f32) (z : FVec Ideal S16x2048x2816 .f32) (w2 : FVec Ideal S2816x1024 .f32) (b : Fin 16) (n : Fin 2048) (l : Fin 1024) :
    closed x ga z w2 (ix3 b n l) = x (ix3 b n l) + ga (ix3 b 0 l) * ∑ j, z (ix3 b n j) * w2 (ix2 j l) := by
  pointwise [closed, perToken]

/-! The reference's result. -/

variable (m : (ℓ : Loc nD τ sig) → Buf (Elt Ideal) ℓ) (c : Dev nD)

abbrev xArg : FVec Ideal S16x2048x1024 .f32 := m ((c.tc : Thread nD τ).loc main_arg0)
abbrev mArg : FVec Ideal S16x6144 .f32 := m ((c.tc : Thread nD τ).loc main_arg2)
abbrev oaArg : FVec Ideal S16x2048x256 .f32 := m ((c.tc : Thread nD τ).loc main_arg4)
abbrev odArg : FVec Ideal S16x2048x256 .f32 := m ((c.tc : Thread nD τ).loc main_arg5)
abbrev ofArg : FVec Ideal S16x2048x256 .f32 := m ((c.tc : Thread nD τ).loc main_arg6)
abbrev uArg : FVec Ideal S16x2048x256 .f32 := m ((c.tc : Thread nD τ).loc main_arg7)
abbrev y0Arg : FVec Ideal S16x2048x256 .f32 := m ((c.tc : Thread nD τ).loc main_arg9)
abbrev y1Arg : FVec Ideal S16x2048x256 .f32 := m ((c.tc : Thread nD τ).loc main_arg11)
abbrev dArg : FVec Ideal S256 .f32 := m ((c.tc : Thread nD τ).loc main_arg13)
abbrev wgArg : FVec Ideal S256x256 .f32 := m ((c.tc : Thread nD τ).loc main_arg14)
abbrev bgArg : FVec Ideal S256 .f32 := m ((c.tc : Thread nD τ).loc main_arg15)
abbrev ggArg : FVec Ideal S1024 .f32 := m ((c.tc : Thread nD τ).loc main_arg16)
abbrev woArg : FVec Ideal S1024x1024 .f32 := m ((c.tc : Thread nD τ).loc main_arg17)
abbrev g2Arg : FVec Ideal S1024 .f32 := m ((c.tc : Thread nD τ).loc main_arg18)
abbrev w1Arg : FVec Ideal S1024x2816 .f32 := m ((c.tc : Thread nD τ).loc main_arg19)
abbrev w3Arg : FVec Ideal S1024x2816 .f32 := m ((c.tc : Thread nD τ).loc main_arg20)
abbrev w2Arg : FVec Ideal S2816x1024 .f32 := m ((c.tc : Thread nD τ).loc main_arg21)

/-- The state-space mixer's rows. -/
def stateRows : FVec Ideal S16x2048x256 .f32 := gate (unit (readout (uArg m c) (dArg m c) (y0Arg m c) (y1Arg m c))) (wgArg m c) (bgArg m c)

/-- The stream after the projection. -/
def midRows : FVec Ideal S16x2048x1024 .f32 :=
  projected (xArg m c) (lanesOf ![0, 2048] slices_S16x6144_S16x1024_0_2048 (mArg m c))
    (normed (groups (oaArg m c) (odArg m c) (ofArg m c) (stateRows m c)) (ggArg m c)) (woArg m c)

/-- The rows that the feed-forward block multiplies. -/
def inRows : FVec Ideal S16x2048x1024 .f32 :=
  modulatedRows (midRows m c) (g2Arg m c) (lanesOf ![0, 4096] slices_S16x6144_S16x1024_0_4096 (mArg m c)) (lanesOf ![0, 3072] slices_S16x6144_S16x1024_0_3072 (mArg m c))

/-- The result. -/
def outRows : FVec Ideal S16x2048x1024 .f32 :=
  closed (midRows m c) (lanesOf ![0, 5120] slices_S16x6144_S16x1024_0_5120 (mArg m c)) (swish (inner (inRows m c) (w1Arg m c)) (inner (inRows m c) (w3Arg m c))) (w2Arg m c)

theorem mid_eq : res_main_v61 (F := Ideal) (launchContents m c) = midRows m c := rfl
theorem in_eq : res_main_v80 (F := Ideal) (launchContents m c) = inRows m c := rfl

/-- The reference's run ends with the result. -/
theorem run_result (ρ : Dev nD → PrngReg) :
    θ_run defs (onTc (τ := τ) (main (F := Ideal))) ⟨m, fun _ => 0, ρ⟩ fun r => ∀ c : Dev nD,
      r.2.mem ((c.tc : Thread nD τ).loc main_v88) = outRows m c :=
  (θ_run defs _ _).mono (fun _ h c => (h c).1) (Value.run (F := Ideal) m ρ)

theorem stateRows_apply (b : Fin 16) (n : Fin 2048) (l : Fin 256) : stateRows m c (ix3 b n l)
    = mixed (fun l => uArg m c (ix3 b n l)) (fun l => dArg m c (ix1 l)) (fun l => y0Arg m c (ix3 b n l)) (fun l => y1Arg m c (ix3 b n l)) (fun k l => wgArg m c (ix2 k l)) (fun l => bgArg m c (ix1 l)) l := by
  unfold stateRows mixed
  simp only [gate_apply, unit_apply, readout_apply]

/-- The row of normed mixer outputs. -/
def refRow (b : Fin 16) (n : Fin 2048) : Fin 1024 → EReal :=
  beside (fun l => oaArg m c (ix3 b n l)) (fun l => odArg m c (ix3 b n l)) (fun l => ofArg m c (ix3 b n l))
    (mixed (fun l => uArg m c (ix3 b n l)) (fun l => dArg m c (ix1 l)) (fun l => y0Arg m c (ix3 b n l)) (fun l => y1Arg m c (ix3 b n l)) (fun k l => wgArg m c (ix2 k l)) (fun l => bgArg m c (ix1 l)))
    (fun l => ggArg m c (ix1 l))

theorem mid_apply (b : Fin 16) (n : Fin 2048) (l : Fin 1024) : midRows m c (ix3 b n l)
    = streamed (fun l => xArg m c (ix3 b n l)) (fun l => mArg m c (ix2 b ⟨2048 + l, by omega⟩)) (refRow m c b n) (fun k l => woArg m c (ix2 k l)) l := by
  unfold midRows refRow
  rw [projected_apply, funext (normed_groups _ _ _ _ _ b n), funext (stateRows_apply m c b n), funext (lanesOf_apply 2048 _ (by decide) (mArg m c) b)]

/-- The reference at batch `b`, latent token `n` and lane `l`. -/
theorem out_apply (b : Fin 16) (n : Fin 2048) (l : Fin 1024) : outRows m c (ix3 b n l)
    = finished (fun l => xArg m c (ix3 b n l)) (refRow m c b n) (fun k l => woArg m c (ix2 k l)) (fun l => g2Arg m c (ix1 l))
      (fun l => mArg m c (ix2 b ⟨2048 + l, by omega⟩)) (fun l => mArg m c (ix2 b ⟨3072 + l, by omega⟩))
      (fun l => mArg m c (ix2 b ⟨4096 + l, by omega⟩)) (fun l => mArg m c (ix2 b ⟨5120 + l, by omega⟩))
      (fun k j => w1Arg m c (ix2 k j)) (fun k j => w3Arg m c (ix2 k j)) (fun j l => w2Arg m c (ix2 j l)) l := by
  unfold outRows finished fedForward
  rw [closed_apply, mid_apply, lanesOf_apply 5120 _ (by decide)]
  congr 2
  refine Finset.sum_congr rfl fun j _ => ?_
  have hin : ∀ k, inRows m c (ix3 b n k) = modulated (streamed (fun l => xArg m c (ix3 b n l)) (fun l => mArg m c (ix2 b ⟨2048 + l, by omega⟩)) (refRow m c b n) (fun k l => woArg m c (ix2 k l)))
      (fun l => g2Arg m c (ix1 l)) (fun l => mArg m c (ix2 b ⟨4096 + l, by omega⟩)) (fun l => mArg m c (ix2 b ⟨3072 + l, by omega⟩)) k := by
    intro k
    unfold inRows
    rw [modulatedRows_apply, funext (mid_apply m c b n), funext (lanesOf_apply 4096 _ (by decide) (mArg m c) b), funext (lanesOf_apply 3072 _ (by decide) (mArg m c) b)]
  rw [swish_apply, inner_apply, inner_apply]
  simp only [hin]

end Cert.Reference2Ideal.Mix

end
-- ==== Proof.MixEq.lean ====
/- The feed-forward call's result array is its reference's. -/
module

public import proofs.«01_k».proof.Proof.MixHost
public import proofs.«01_k».proof.Proof.MixRef
import Idealize.ShloMosaic.Lib.Pointwise

@[expose] public section

set_option maxRecDepth 16384

noncomputable section

namespace Cert.Kernel2Ideal.Mix

open Cert.Kernel2Ideal Cert.Kernel2Ideal.Gen Cert.MixMath
open Idealize.ShloMosaic Idealize.ShloMosaic.TcCoe Idealize.ShloMosaic.Tactic Idealize.ShloMosaic.StableHlo

variable (m : (ℓ : Loc nD τ sig) → Buf (Elt Ideal) ℓ) (c : Dev nD)

/-! The arguments. -/

abbrev xArg : FVec Ideal S16x2048x1024 .f32 := m ((c.tc : Thread nD τ).loc main_arg0)
abbrev mArg : FVec Ideal S16x6144 .f32 := m ((c.tc : Thread nD τ).loc main_arg2)
abbrev oaArg : FVec Ideal S16x2048x256 .f32 := m ((c.tc : Thread nD τ).loc main_arg4)
abbrev odArg : FVec Ideal S16x2048x256 .f32 := m ((c.tc : Thread nD τ).loc main_arg5)
abbrev ofArg : FVec Ideal S16x2048x256 .f32 := m ((c.tc : Thread nD τ).loc main_arg6)
abbrev uArg : FVec Ideal S16x2048x256 .f32 := m ((c.tc : Thread nD τ).loc main_arg7)
abbrev y0Arg : FVec Ideal S16x2048x256 .f32 := m ((c.tc : Thread nD τ).loc main_arg9)
abbrev y1Arg : FVec Ideal S16x2048x256 .f32 := m ((c.tc : Thread nD τ).loc main_arg11)
abbrev dArg : FVec Ideal S256 .f32 := m ((c.tc : Thread nD τ).loc main_arg13)
abbrev wgArg : FVec Ideal S256x256 .f32 := m ((c.tc : Thread nD τ).loc main_arg14)
abbrev bgArg : FVec Ideal S256 .f32 := m ((c.tc : Thread nD τ).loc main_arg15)
abbrev ggArg : FVec Ideal S1024 .f32 := m ((c.tc : Thread nD τ).loc main_arg16)
abbrev woArg : FVec Ideal S1024x1024 .f32 := m ((c.tc : Thread nD τ).loc main_arg17)
abbrev g2Arg : FVec Ideal S1024 .f32 := m ((c.tc : Thread nD τ).loc main_arg18)
abbrev w1Arg : FVec Ideal S1024x2816 .f32 := m ((c.tc : Thread nD τ).loc main_arg19)
abbrev w3Arg : FVec Ideal S1024x2816 .f32 := m ((c.tc : Thread nD τ).loc main_arg20)
abbrev w2Arg : FVec Ideal S2816x1024 .f32 := m ((c.tc : Thread nD τ).loc main_arg21)

/-! The arrays that the call is given, at an index. -/

theorem aStream_apply (b : Fin 16) (n : Fin 2048) (l : Fin 1024) : aStream m c (ix3 b (lat n) l) = xArg m c (ix3 b n l) := by
  rw [aStream_eq, tokens1024_lat]
theorem cast_apply (a : FVec Ideal S24x6144 .f32) (b : Fin 24) (l : Fin 6144) : shapeCast S24x1x6144 a shapeCasts_S24x6144_S24x1x6144 (ix3 b 0 l) = a (ix2 b l) := by
  pointwise
theorem aMod_apply (b : Fin 16) (l : Fin 6144) : aMod m c (ix3 ⟨b, by omega⟩ 0 l) = mArg m c (ix2 b l) := by
  rw [aMod_eq, cast_apply, modRows_apply]
theorem aMod_from (s : ℕ) (hs : s + 1024 ≤ 6144) (b : Fin 16) : (fun l : Fin 1024 => aMod m c (ix3 ⟨b, by omega⟩ 0 ⟨s + l, by omega⟩))
    = fun l : Fin 1024 => mArg m c (ix2 b ⟨s + l, by omega⟩) := funext fun l => aMod_apply m c b ⟨s + l, by omega⟩
theorem aOa_apply (b : Fin 16) (n : Fin 2048) (l : Fin 256) : aOa m c (ix3 b n l) = oaArg m c (ix3 b n (lane256 l)) := by
  rw [aOa_eq]
  exact headLanes_apply _ b n l
theorem aOd_apply (b : Fin 16) (n : Fin 2048) (l : Fin 256) : aOd m c (ix3 b n l) = odArg m c (ix3 b n l) := by
  rw [aOd_eq]; rfl
theorem aOf_apply (b : Fin 16) (n : Fin 2048) (l : Fin 256) : aOf m c (ix3 b n l) = ofArg m c (ix3 b n l) := by
  rw [aOf_eq]; rfl
theorem aU_apply (b : Fin 16) (n : Fin 2048) (l : Fin 256) : aU m c (ix3 b (lat n) l) = uArg m c (ix3 b n l) := by
  rw [aU_eq, tokens256_lat]
theorem aY0_apply (b : Fin 16) (n : Fin 2048) (l : Fin 256) : aY0 m c (ix3 b (lat n) l) = y0Arg m c (ix3 b n l) := by
  rw [aY0_eq]
  exact tokens256_lat _ _ b n l
theorem aY1_apply (b : Fin 16) (n : Fin 2048) (l : Fin 256) : aY1 m c (ix3 b (lat n) l) = y1Arg m c (ix3 b n l) := by
  rw [aY1_eq]
  exact tokens256_lat _ _ b n l
theorem row256_apply (a : FVec Ideal S256 .f32) (l : Fin 256) : broadcastInDim S1x256 ![1] bcast_S256_S1x256_1 a (ix2 0 l) = a (ix1 l) := by
  pointwise
theorem row1024_apply (a : FVec Ideal S1024 .f32) (l : Fin 1024) : broadcastInDim S1x1024 ![1] bcast_S1024_S1x1024_1 a (ix2 0 l) = a (ix1 l) := by
  pointwise
theorem aD_apply (l : Fin 256) : aD m c (ix2 0 l) = dArg m c (ix1 l) := by
  rw [aD_eq]
  exact row256_apply _ l
theorem aBg_apply (l : Fin 256) : aBg m c (ix2 0 l) = bgArg m c (ix1 l) := by
  rw [aBg_eq]
  exact row256_apply _ l
theorem aWg_apply (k l : Fin 256) : aWg m c (ix2 k l) = wgArg m c (ix2 k l) := by
  rw [aWg_eq]; rfl
theorem aGg_apply (l : Fin 1024) : aGg m c (ix2 0 l) = ggArg m c (ix1 (lane1024 l)) := by
  rw [aGg_eq]
  exact (row1024_apply _ l).trans (gainLanes_apply _ l)
theorem aWo_apply (k l : Fin 1024) : aWo m c (ix2 k l) = woArg m c (ix2 (lane1024 k) l) := by
  rw [aWo_eq]
  exact projRows_apply _ k l
theorem aG2_apply (l : Fin 1024) : aG2 m c (ix2 0 l) = g2Arg m c (ix1 l) := by
  rw [aG2_eq]
  exact row1024_apply _ l
theorem aW1_apply (k : Fin 1024) (j : Fin 2816) : aW1 m c (ix2 k j) = w1Arg m c (ix2 k j) := by
  rw [aW1_eq]; rfl
theorem aW3_apply (k : Fin 1024) (j : Fin 2816) : aW3 m c (ix2 k j) = w3Arg m c (ix2 k j) := by
  rw [aW3_eq]; rfl
theorem aW2_apply (j : Fin 2816) (l : Fin 1024) : aW2 m c (ix2 j l) = w2Arg m c (ix2 j l) := by
  rw [aW2_eq]; rfl

/-- The normed mixer outputs, in the order of the arguments' lanes. -/
def argRow (b : Fin 16) (n : Fin 2048) : Fin 1024 → EReal :=
  beside (fun l => oaArg m c (ix3 b n l)) (fun l => odArg m c (ix3 b n l)) (fun l => ofArg m c (ix3 b n l))
    (mixed (fun l => uArg m c (ix3 b n l)) (fun l => dArg m c (ix1 l)) (fun l => y0Arg m c (ix3 b n l)) (fun l => y1Arg m c (ix3 b n l)) (fun k l => wgArg m c (ix2 k l)) (fun l => bgArg m c (ix1 l)))
    (fun l => ggArg m c (ix1 l))

theorem mixedRow_eq (b : Fin 16) (n : Fin 2048) : mixedRow m c b n = fun k => argRow m c b n (lane1024 k) := by
  funext l
  unfold mixedRow argRow
  rw [funext (aOa_apply m c b n), funext (aOd_apply m c b n), funext (aOf_apply m c b n), funext (aU_apply m c b n), funext (aY0_apply m c b n), funext (aY1_apply m c b n),
    funext (aD_apply m c), funext (aBg_apply m c), funext fun k => funext (aWg_apply m c k), funext (aGg_apply m c)]
  exact beside_lanes (fun l => oaArg m c (ix3 b n l)) _ _ _ (fun l => ggArg m c (ix1 l)) l

/-- The result at batch `b` and latent token `n`, of the arguments. -/
theorem resRow_eq (b : Fin 16) (n : Fin 2048) : resRow m c b n
    = finished (fun l => xArg m c (ix3 b n l)) (argRow m c b n) (fun k l => woArg m c (ix2 k l)) (fun l => g2Arg m c (ix1 l))
      (fun l => mArg m c (ix2 b ⟨2048 + l, by omega⟩)) (fun l => mArg m c (ix2 b ⟨3072 + l, by omega⟩))
      (fun l => mArg m c (ix2 b ⟨4096 + l, by omega⟩)) (fun l => mArg m c (ix2 b ⟨5120 + l, by omega⟩))
      (fun k j => w1Arg m c (ix2 k j)) (fun k j => w3Arg m c (ix2 k j)) (fun j l => w2Arg m c (ix2 j l)) := by
  unfold resRow
  rw [funext (aStream_apply m c b n), mixedRow_eq, funext fun k => funext (aWo_apply m c k), funext (aG2_apply m c),
    aMod_from m c 2048 (by decide) b, aMod_from m c 3072 (by decide) b, aMod_from m c 4096 (by decide) b, aMod_from m c 5120 (by decide) b,
    funext fun k => funext (aW1_apply m c k), funext fun k => funext (aW3_apply m c k), funext fun k => funext (aW2_apply m c k)]
  exact finished_lanes _ (argRow m c b n) (fun k l => woArg m c (ix2 k l)) _ _ _ _ _ _ _ _

/-- The call's result array is the reference's, from memories that agree on the arrays read. -/
theorem result_ref (m' : (ℓ : Loc Cert.Reference2Ideal.nD Cert.Reference2Ideal.τ Cert.Reference2Ideal.sig) → Buf (Elt Ideal) ℓ) (c' : Dev Cert.Reference2Ideal.nD)
    (h0 : Cert.Reference2Ideal.Mix.xArg m' c' = xArg m c) (h2 : Cert.Reference2Ideal.Mix.mArg m' c' = mArg m c)
    (h4 : Cert.Reference2Ideal.Mix.oaArg m' c' = oaArg m c) (h5 : Cert.Reference2Ideal.Mix.odArg m' c' = odArg m c) (h6 : Cert.Reference2Ideal.Mix.ofArg m' c' = ofArg m c)
    (h7 : Cert.Reference2Ideal.Mix.uArg m' c' = uArg m c) (h9 : Cert.Reference2Ideal.Mix.y0Arg m' c' = y0Arg m c) (h11 : Cert.Reference2Ideal.Mix.y1Arg m' c' = y1Arg m c)
    (h13 : Cert.Reference2Ideal.Mix.dArg m' c' = dArg m c) (h14 : Cert.Reference2Ideal.Mix.wgArg m' c' = wgArg m c) (h15 : Cert.Reference2Ideal.Mix.bgArg m' c' = bgArg m c)
    (h16 : Cert.Reference2Ideal.Mix.ggArg m' c' = ggArg m c) (h17 : Cert.Reference2Ideal.Mix.woArg m' c' = woArg m c) (h18 : Cert.Reference2Ideal.Mix.g2Arg m' c' = g2Arg m c)
    (h19 : Cert.Reference2Ideal.Mix.w1Arg m' c' = w1Arg m c) (h20 : Cert.Reference2Ideal.Mix.w3Arg m' c' = w3Arg m c) (h21 : Cert.Reference2Ideal.Mix.w2Arg m' c' = w2Arg m c) :
    (Cert.Reference2Ideal.Mix.outRows m' c' : FVec Ideal S16x2048x1024 .f32) = (dats m 0 c).arrAt 17 cfg0.N := by
  rw [result_eq]
  funext y
  obtain ⟨b, n, l, rfl⟩ : ∃ (b : Fin 16) (n : Fin 2048) (l : Fin 1024), y = (ix3 b n l : S16x2048x1024.Idx) :=
    ⟨y 0, y 1, y 2, by funext a; match a with | ⟨0, _⟩ => rfl | ⟨1, _⟩ => rfl | ⟨2, _⟩ => rfl⟩
  refine (Cert.Reference2Ideal.Mix.out_apply m' c' b n l).trans ?_
  unfold Cert.Reference2Ideal.Mix.refRow
  rw [h0, h2, h4, h5, h6, h7, h9, h11, h13, h14, h15, h16, h17, h18, h19, h20, h21]
  exact (congrFun (resRow_eq m c b n) l).symm

end Cert.Kernel2Ideal.Mix

end
-- ==== Proof.MixClaim.lean ====
/- The claims about the feed-forward call, from its run, its value and the reference's run. -/
module

public import proofs.«01_k».proof.Defs
public import proofs.«01_k».proof.Proof.MixEq
public import Idealize.ShloMosaic.Lib.Quiescent

@[expose] public section

noncomputable section

namespace Cert.Claims

open Idealize.ShloMosaic Idealize.SL.Sem Idealize.ShloMosaic.TcCoe

/-- The reference leaves its arguments and its counters as it found them. -/
theorem mix_ref_frame : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The kernel computes its reference. -/
theorem mix_value : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  obtain ⟨h0, -, h2, -, h4, h5, h6, h7, -, h9, -, h11, -, h13, h14, h15, h16, h17, h18, h19, h20, h21⟩ := hagree c
  exact Cert.Kernel2Ideal.Mix.result_ref m c m' c h0 h2 h4 h5 h6 h7 h9 h11 h13 h14 h15 h16 h17 h18 h19 h20 h21

end Cert.Claims

end
-- ==== Proof.ProjMath.lean ====
/- The input projection's mathematics, one token row at a time: the heads' norms and the rotary embedding, once as
   reference.py has them (64 lanes at a time) and once as the call has them (128 lanes at a time). -/
module

public import proofs.«01_k».proof.Proof.MixMath
public import proofs.«01_k».proof.Proof.GqaMath

@[expose] public section

noncomputable section

namespace Cert.ProjMath

open Idealize.ShloMosaic
open Cert.MixMath (eps rms modulated)

/-- A row times the input matrix. -/
def projected (h : Fin 1024 → EReal) (w : Fin 1024 → Fin 1792 → EReal) (j : Fin 1792) : EReal := ∑ k, h k * w k j

/-- The 64 lanes of a projected row from a lane on. -/
def headAt (p : Fin 1792 → EReal) (o : ℕ) (d : Fin 64) : EReal := if h : o + d < 1792 then p ⟨o + d, h⟩ else 0

/-- A head's lanes normed, times the gains. -/
def normed (p g : Fin 64 → EReal) (d : Fin 64) : EReal := rms (Ideal.ofBits .f32 0x42800000#32) p d * g d

/-- The rotary embedding in two axes: the first 32 lanes by the row's angles, the others by the column's. -/
def turned (cr sr cc sc : Fin 16 → EReal) (t : Fin 64 → EReal) (d : Fin 64) : EReal :=
  if h : (d : ℕ) < 16 then t d * cr ⟨d, h⟩ - t ⟨d + 16, by omega⟩ * sr ⟨d, h⟩
  else if h : (d : ℕ) < 32 then t d * cr ⟨d - 16, by omega⟩ + t ⟨d - 16, by omega⟩ * sr ⟨d - 16, by omega⟩
  else if h : (d : ℕ) < 48 then t d * cc ⟨d - 32, by omega⟩ - t ⟨d + 16, by omega⟩ * sc ⟨d - 32, by omega⟩
  else t d * cc ⟨d - 48, by omega⟩ + t ⟨d - 16, by omega⟩ * sc ⟨d - 48, by omega⟩

/-- The order of the attention's query heads. -/
def headOrder (s : ℕ) : ℕ := if s = 1 then 2 else if s = 2 then 1 else s

/-- What the mixers read of a token, from its projected row: queries and keys of the attention, its values, queries and
    keys of the neighbourhood attention, its values, and the Fourier mixer's lanes. -/
def mixerLane (turn : (Fin 64 → EReal) → Fin 64 → EReal) (p : Fin 1792 → EReal) (gq gk nq nk : Fin 64 → EReal) (l : Fin 1536) : EReal :=
  if (l : ℕ) < 256 then turn (normed (headAt p (64 * headOrder (l / 64))) gq) ⟨l % 64, by omega⟩
  else if (l : ℕ) < 384 then turn (normed (headAt p (64 * (l / 64))) gk) ⟨l % 64, by omega⟩
  else if (l : ℕ) < 512 then p ⟨l, by omega⟩
  else if (l : ℕ) < 768 then normed (headAt p (64 * (l / 64))) nq ⟨l % 64, by omega⟩
  else if (l : ℕ) < 1024 then normed (headAt p (64 * (l / 64))) nk ⟨l % 64, by omega⟩
  else p ⟨l, by omega⟩

/-! The same, 128 lanes at a time. -/

/-- The 128 lanes of a projected row that are its `j`-th tile. -/
def tileAt (p : Fin 1792 → EReal) (j : ℕ) (e : Fin 128) : EReal := if h : 128 * j + e < 1792 then p ⟨128 * j + e, h⟩ else 0

/-- Two heads' lanes normed, times the gains. -/
def normedTile (p g : Fin 128 → EReal) (e : Fin 128) : EReal :=
  if h : (e : ℕ) < 64 then normed (fun d => p ⟨d, by omega⟩) (fun d => g ⟨d, by omega⟩) ⟨e, h⟩
  else normed (fun d => p ⟨d + 64, by omega⟩) (fun d => g ⟨d + 64, by omega⟩) ⟨e - 64, by omega⟩

/-- The lane with which the rotary embedding pairs a lane. -/
def partner (e : Fin 128) : Fin 128 := if (e : ℕ) / 16 % 2 = 0 then ⟨(e + 16) % 128, by omega⟩ else ⟨(e + 112) % 128, by omega⟩

/-- The rotary embedding by signed sines. -/
def turnedTile (c s : Fin 128 → EReal) (t : Fin 128 → EReal) (e : Fin 128) : EReal := t e * c e + t (partner e) * s e

/-- What the mixers read of a token, tile by tile. -/
def tiledLane (p : Fin 1792 → EReal) (gq gk nq nk c s : Fin 128 → EReal) (l : Fin 1536) : EReal :=
  if (l : ℕ) < 256 then turnedTile c s (normedTile (tileAt p (l / 128)) gq) ⟨l % 128, by omega⟩
  else if (l : ℕ) < 384 then turnedTile c s (normedTile (tileAt p (l / 128)) gk) ⟨l % 128, by omega⟩
  else if (l : ℕ) < 512 then p ⟨l, by omega⟩
  else if (l : ℕ) < 768 then normedTile (tileAt p (l / 128)) nq ⟨l % 128, by omega⟩
  else if (l : ℕ) < 1024 then normedTile (tileAt p (l / 128)) nk ⟨l % 128, by omega⟩
  else p ⟨l, by omega⟩

/-- `1 / 64` and `64`. -/
theorem ofBits_inv64 : Ideal.ofBits .f32 0x3C800000#32 = ((1 / 64 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num

/-- The product with `1 / 64` is the quotient by 64. -/
theorem mul_inv64 (x : EReal) : x * Ideal.ofBits .f32 0x3C800000#32 = Ideal.div x (Ideal.ofBits .f32 0x42800000#32) := by
  rw [ofBits_inv64, ofBits_64, Ideal.div_coe (by norm_num)]

/-- The tile's norm, as the call computes it: the mean square of a lane's half by sums over all 128 lanes. -/
theorem normedTile_eq (p g : Fin 128 → EReal) (e : Fin 128) :
    p e * Ideal.rsqrt ((if (e : ℕ) < 64 then ∑ x : Fin 128, (if (x : ℕ) < 64 then p x * p x else 0) else ∑ x : Fin 128, (if (x : ℕ) < 64 then 0 else p x * p x))
      * Ideal.ofBits .f32 0x3C800000#32 + eps) * g e = normedTile p g e := by
  unfold normedTile normed rms
  rw [mul_inv64, GqaMath.sum_lower fun x => p x * p x, GqaMath.sum_upper fun x => p x * p x]
  by_cases h : (e : ℕ) < 64
  · rw [if_pos h, dif_pos h]
  · rw [if_neg h, dif_neg h]
    have he : (⟨e - 64 + 64, by omega⟩ : Fin 128) = e := Fin.ext (by dsimp only; omega)
    simp only [he]

/-- A tile of normed heads at a lane, when the gains are the same in both halves. -/
theorem normedTile_head (p : Fin 128 → EReal) (g : Fin 64 → EReal) (e : Fin 128) :
    normedTile p (fun e => g ⟨e % 64, by omega⟩) e = normed (fun d => p ⟨64 * (e / 64) + d, by omega⟩) g ⟨e % 64, by omega⟩ := by
  unfold normedTile
  split
  · rename_i h
    have h0 : (e : ℕ) / 64 = 0 := by omega
    have h1 : (e : ℕ) % 64 = e := by omega
    simp only [h0, h1, Nat.mul_zero, Nat.zero_add]
    exact congrArg (fun gg => normed _ gg _) (funext fun d => congrArg g (Fin.ext (by dsimp only; omega)))
  · rename_i h
    have h0 : (e : ℕ) / 64 = 1 := by omega
    have h1 : (e : ℕ) % 64 = e - 64 := by omega
    simp only [h0, h1, Nat.mul_one, Nat.add_comm 64]
    exact congrArg (fun gg => normed _ gg _) (funext fun d => congrArg g (Fin.ext (by dsimp only; omega)))

/-- Without positions the embedding leaves the lanes as they are. -/
theorem turnedTile_none (c s t : Fin 128 → EReal) (hc : ∀ e, c e = 1) (hs : ∀ e, s e = 0) (e : Fin 128) : turnedTile c s t e = t e := by
  unfold turnedTile
  rw [hc, hs, mul_one, mul_zero, add_zero]

/-- The cosines and signed sines of a head's 64 lanes. -/
def cosLane (cr cc : Fin 16 → EReal) (d : Fin 64) : EReal :=
  if h : (d : ℕ) < 16 then cr ⟨d, h⟩ else if h : (d : ℕ) < 32 then cr ⟨d - 16, by omega⟩
  else if h : (d : ℕ) < 48 then cc ⟨d - 32, by omega⟩ else cc ⟨d - 48, by omega⟩
def sinLane (sr sc : Fin 16 → EReal) (d : Fin 64) : EReal :=
  if h : (d : ℕ) < 16 then -sr ⟨d, h⟩ else if h : (d : ℕ) < 32 then sr ⟨d - 16, by omega⟩
  else if h : (d : ℕ) < 48 then -sc ⟨d - 32, by omega⟩ else sc ⟨d - 48, by omega⟩

/-- The embedding by signed sines is the embedding in two axes, head by head. -/
theorem turnedTile_head (cr sr cc sc : Fin 16 → EReal) (c s t : Fin 128 → EReal)
    (hc : ∀ e : Fin 128, c e = cosLane cr cc ⟨e % 64, by omega⟩) (hs : ∀ e : Fin 128, s e = sinLane sr sc ⟨e % 64, by omega⟩) (e : Fin 128) :
    turnedTile c s t e = turned cr sr cc sc (fun d => t ⟨64 * (e / 64) + d, by omega⟩) ⟨e % 64, by omega⟩ := by
  unfold turnedTile turned
  rw [hc, hs]
  unfold cosLane sinLane partner
  have h0 : (⟨64 * (e / 64) + e % 64, by omega⟩ : Fin 128) = e := Fin.ext (by dsimp only; omega)
  dsimp only
  by_cases h1 : (e : ℕ) % 64 < 16
  · rw [dif_pos h1, dif_pos h1, dif_pos h1, if_pos (by omega), h0, mul_neg, ← sub_eq_add_neg]
    exact congrArg (fun i => t e * _ - t i * _) (Fin.ext (by dsimp only; omega))
  rw [dif_neg h1, dif_neg h1, dif_neg h1]
  by_cases h2 : (e : ℕ) % 64 < 32
  · rw [dif_pos h2, dif_pos h2, dif_pos h2, if_neg (by omega), h0]
    exact congrArg (fun i => t e * _ + t i * _) (Fin.ext (by dsimp only; omega))
  rw [dif_neg h2, dif_neg h2, dif_neg h2]
  by_cases h3 : (e : ℕ) % 64 < 48
  · rw [dif_pos h3, dif_pos h3, dif_pos h3, if_pos (by omega), h0, mul_neg, ← sub_eq_add_neg]
    exact congrArg (fun i => t e * _ - t i * _) (Fin.ext (by dsimp only; omega))
  · rw [dif_neg h3, dif_neg h3, dif_neg h3, if_neg (by omega), h0]
    exact congrArg (fun i => t e * _ + t i * _) (Fin.ext (by dsimp only; omega))

/-- The lane of the input matrix that stands at a lane of the call's matrix. -/
def laneOf (j : Fin 1792) : Fin 1792 := if h : (j : ℕ) < 256 then ⟨64 * headOrder (j / 64) + j % 64, by unfold headOrder; split_ifs <;> omega⟩ else j

/-- A head of a tile of the call's projected row is a head of the reference's. -/
theorem tile_head (p : Fin 1792 → EReal) (j : ℕ) (hj : 2 ≤ j) (hj' : j < 14) (e : Fin 128) (d : Fin 64) :
    tileAt (fun i => p (laneOf i)) j ⟨64 * (e / 64) + d, by omega⟩ = headAt p (64 * ((128 * j + e) / 64)) d := by
  unfold tileAt headAt laneOf
  rw [dif_pos (by dsimp only; omega), dif_pos (by omega)]
  beta_reduce
  rw [dif_neg (by dsimp only; omega)]
  exact congrArg p (Fin.ext (by dsimp only; omega))

theorem tile_query (p : Fin 1792 → EReal) (j : ℕ) (hj' : j < 2) (e : Fin 128) (d : Fin 64) :
    tileAt (fun i => p (laneOf i)) j ⟨64 * (e / 64) + d, by omega⟩ = headAt p (64 * headOrder ((128 * j + e) / 64)) d := by
  unfold tileAt headAt laneOf
  have hs : headOrder ((128 * j + e) / 64) < 4 := by unfold headOrder; split_ifs <;> omega
  rw [dif_pos (by dsimp only; omega), dif_pos (by omega)]
  beta_reduce
  rw [dif_pos (by dsimp only; omega)]
  refine congrArg p (Fin.ext ?_)
  dsimp only
  rw [show (128 * j + (64 * (↑e / 64) + ↑d)) / 64 = (128 * j + ↑e) / 64 by omega]
  omega

/-- What the call computes of a row is what the mixers read of it, given how its embedding acts on a tile. -/
theorem tiledLane_eq (turn : (Fin 64 → EReal) → Fin 64 → EReal) (p : Fin 1792 → EReal) (gq gk nq nk : Fin 64 → EReal) (c s : Fin 128 → EReal)
    (ht : ∀ (t : Fin 128 → EReal) (e : Fin 128), turnedTile c s t e = turn (fun d => t ⟨64 * (e / 64) + d, by omega⟩) ⟨e % 64, by omega⟩) (l : Fin 1536) :
    tiledLane (fun i => p (laneOf i)) (fun e => gq ⟨e % 64, by omega⟩) (fun e => gk ⟨e % 64, by omega⟩) (fun e => nq ⟨e % 64, by omega⟩) (fun e => nk ⟨e % 64, by omega⟩) c s l
      = mixerLane turn p gq gk nq nk l := by
  have hl := l.isLt
  have hm : (⟨(l : ℕ) % 128 % 64, by omega⟩ : Fin 64) = ⟨l % 64, by omega⟩ := Fin.ext (by dsimp only; omega)
  have hd : ∀ e : ℕ, e < 64 → 64 * ((64 * ((l : ℕ) % 128 / 64) + e) / 64) = 64 * (l % 128 / 64) := fun e he => by omega
  have hn : ∀ (g : Fin 64 → EReal) (d : Fin 64), normedTile (tileAt (fun i => p (laneOf i)) (l / 128)) (fun e => g ⟨e % 64, by omega⟩) ⟨64 * (l % 128 / 64) + d, by omega⟩
      = normed (fun d => tileAt (fun i => p (laneOf i)) (l / 128) ⟨64 * (l % 128 / 64) + d, by omega⟩) g d := fun g d => by
    rw [normedTile_head]
    dsimp only
    have h1 : (⟨(64 * ((l : ℕ) % 128 / 64) + d) % 64, by omega⟩ : Fin 64) = d := Fin.ext (by dsimp only; omega)
    simp only [h1, hd d d.isLt]
  have hq : (128 * ((l : ℕ) / 128) + l % 128) / 64 = l / 64 := by omega
  have hk : 256 ≤ (l : ℕ) → ∀ d : Fin 64, tileAt (fun i => p (laneOf i)) (l / 128) ⟨64 * (l % 128 / 64) + d, by omega⟩ = headAt p (64 * (l / 64)) d := fun h d =>
    (tile_head p (l / 128) (by omega) (by omega) ⟨l % 128, by omega⟩ d).trans (by dsimp only; rw [hq])
  have hk' : (l : ℕ) < 256 → ∀ d : Fin 64, tileAt (fun i => p (laneOf i)) (l / 128) ⟨64 * (l % 128 / 64) + d, by omega⟩ = headAt p (64 * headOrder (l / 64)) d := fun h d =>
    (tile_query p (l / 128) (by omega) ⟨l % 128, by omega⟩ d).trans (by dsimp only; rw [hq])
  unfold tiledLane mixerLane
  by_cases h1 : (l : ℕ) < 256
  · rw [if_pos h1, if_pos h1, ht]
    simp only [hn, hk' h1, hm]
  rw [if_neg h1, if_neg h1]
  by_cases h2 : (l : ℕ) < 384
  · rw [if_pos h2, if_pos h2, ht]
    simp only [hn, hk (by omega), hm]
  rw [if_neg h2, if_neg h2]
  have hid : laneOf ⟨l, by omega⟩ = ⟨l, by omega⟩ := by unfold laneOf; rw [dif_neg h1]
  by_cases h3 : (l : ℕ) < 512
  · rw [if_pos h3, if_pos h3]
    exact congrArg p hid
  rw [if_neg h3, if_neg h3]
  by_cases h4 : (l : ℕ) < 768
  · rw [if_pos h4, if_pos h4, normedTile_head]
    simp only [hk (by omega), hm]
  rw [if_neg h4, if_neg h4]
  by_cases h5 : (l : ℕ) < 1024
  · rw [if_pos h5, if_pos h5, normedTile_head]
    simp only [hk (by omega), hm]
  rw [if_neg h5, if_neg h5]
  exact congrArg p hid

/-- A token's projected row, from its lanes, the norm's gains and its modulation. -/
def rowOf (x g : Fin 1024 → EReal) (md : Fin 6144 → EReal) (w : Fin 1024 → Fin 1792 → EReal) : Fin 1792 → EReal :=
  projected (modulated x g (fun l => md ⟨1024 + l, by omega⟩) (fun l => md ⟨l, by omega⟩)) w

end Cert.ProjMath

end
-- ==== Proof.ProjTile.lean ====
/- The input projection's body, tile by tile: the modulated rows, their projection, the heads' norm and the rotary
   embedding of a tile of 128 lanes, each as a function of what it reads and at an index. -/
module

public import proofs.«01_k».proof.Proof.ProjMath
public import proofs.«01_k».proof.Proof.Gen.Kernel3Ideal.Skeleton
public import Idealize.ShloMosaic.Lib.Pointwise

@[expose] public section

set_option maxRecDepth 16384

noncomputable section

namespace Cert.Kernel3Ideal.Proj

open Cert.Kernel3Ideal Cert.Kernel3Ideal.Gen Cert.MixMath Cert.ProjMath
open Idealize.ShloMosaic Idealize.ShloMosaic.TcCoe

/-- A tile of the projection. -/
def slice (o : Fin 2 → ℕ) (h : S256x1792.Slices o S256x128) (P : FVec Ideal S256x1792 .f32) : FVec Ideal S256x128 .f32 := extractStridedSlice S256x128 o P h

/-- The lanes of a tile's first head. -/
def lower : IVec S256x128 1 := cmpi .slt (iota .tc S256x128 32 [1] iota_S256x128_d1_w32) (broadcast S256x128 64#32)

/-- A sum of every row's lanes, for each of them. -/
def rowSum (v : FVec Ideal S256x128 .f32) : FVec Ideal S256x128 .f32 :=
  broadcastTo S256x128 (shapeCast S256x1 (shapeCast S256x1 (multiReduction .add [1] S256 v 0x00000000#32 reduces_S256x128_S256 (.inl rfl) rfl) shapeCasts_S256_S256x1) shapeCasts_S256x1_S256x1) broadcasts_S256x1_S256x128

/-- Two heads' norm. -/
def norm (t : FVec Ideal S256x128 .f32) (g : Vec Ideal S1x128 .f32) : FVec Ideal S256x128 .f32 :=
  mulf (mulf t (rsqrt (addf (mulf (select lower (rowSum (select lower (mulf t t) (broadcast S256x128 (Scalar.ofBits .f32 0x00000000#32)))) (rowSum (select lower (broadcast S256x128 (Scalar.ofBits .f32 0x00000000#32)) (mulf t t))))
    (broadcast S256x128 (Scalar.ofBits .f32 0x3C800000#32))) (broadcast S256x128 (Scalar.ofBits .f32 0x358637BD#32)))))
    (broadcastTo S256x128 (shapeCast S1x128 g shapeCasts_S1x128_S1x128) broadcasts_S1x128_S256x128)

/-- The rotary embedding of a tile. -/
def turn (c s : Vec Ideal S256x128 .f32) (t : FVec Ideal S256x128 .f32) : FVec Ideal S256x128 .f32 :=
  addf (mulf t (shapeCast S256x128 c shapeCasts_S256x128_S256x128))
    (mulf (select (cmpi .eq (andi (iota .tc S256x128 32 [1] iota_S256x128_d1_w32) (broadcast S256x128 16#32)) (broadcast S256x128 0#32))
      (dynamicRotate 1 112#32 none t rotates_S256x128_d1) (dynamicRotate 1 16#32 none t rotates_S256x128_d1))
      (shapeCast S256x128 s shapeCasts_S256x128_S256x128))

/-- A tile as it is stored. -/
def stored (t : FVec Ideal S256x128 .f32) : FVec Ideal S1x256x128 .bf16 :=
  shapeCast S1x256x128 (truncf .bf16 t bitsLt_bf16_f32 : FVec Ideal S256x128 .bf16) shapeCasts_S256x128_S1x256x128

/-- The projection of a batch's rows. -/
def project (i : grid0.Coords) (v5 : Vec Ideal S1x256x1024 .f32) (v7 v9 : Vec Ideal S1x1x6144 .f32) (v24 : Vec Ideal S1x1024 .f32) (v35 : Vec Ideal S1024x1792 .bf16) : FVec Ideal S256x1792 .f32 :=
  k0_pay5 (k0_pay4 (F := Ideal) i v5 v7 v9 v24) v35

theorem select_lane (d : Fin 128) (x y : EReal) :
    Scalar.select (IntOp.cmpi CmpIPredicate.slt (BitVec.ofNat 32 (d : ℕ)) 64#32) x y = if (d : ℕ) < 64 then x else y := by
  have h : IntOp.cmpi CmpIPredicate.slt (BitVec.ofNat 32 (d : ℕ)) 64#32 = if (d : ℕ) < 64 then 1#1 else 0#1 := by
    revert d; decide
  rw [h]; split <;> rfl

theorem select_pair (d : Fin 128) (x y : EReal) :
    Scalar.select (IntOp.cmpi CmpIPredicate.eq (IntOp.andi (BitVec.ofNat 32 (d : ℕ)) 16#32) 0#32) x y = if (d : ℕ) / 16 % 2 = 0 then x else y := by
  have h : IntOp.cmpi CmpIPredicate.eq (IntOp.andi (BitVec.ofNat 32 (d : ℕ)) 16#32) 0#32 = if (d : ℕ) / 16 % 2 = 0 then 1#1 else 0#1 := by
    revert d; decide
  rw [h]; split <;> rfl

theorem slice_apply (o : ℕ) (h : S256x1792.Slices ![0, o] S256x128) (ho : o + 128 ≤ 1792) (P : FVec Ideal S256x1792 .f32) (r : Fin 256) (e : Fin 128) :
    slice ![0, o] h P (ix2 r e) = P (ix2 r ⟨o + e, by omega⟩) := by
  pointwise [slice]

theorem rowSum_apply (v : FVec Ideal S256x128 .f32) (r : Fin 256) (e : Fin 128) : rowSum v (ix2 r e) = ∑ x, v (ix2 r x) := by
  pointwise [rowSum]

theorem norm_apply (t : FVec Ideal S256x128 .f32) (g : Vec Ideal S1x128 .f32) (r : Fin 256) (e : Fin 128) :
    norm t g (ix2 r e) = normedTile (fun e => t (ix2 r e)) (fun e => g (ix2 0 e)) e := by
  pointwise [norm, lower, rowSum]
  simp only [select_lane]
  exact normedTile_eq (fun e => t (ix2 r e)) (fun e => g (ix2 0 e)) e

theorem turn_apply (c s : Vec Ideal S256x128 .f32) (t : FVec Ideal S256x128 .f32) (r : Fin 256) (e : Fin 128) :
    turn c s t (ix2 r e) = turnedTile (fun e => c (ix2 r e)) (fun e => s (ix2 r e)) (fun e => t (ix2 r e)) e := by
  unfold turnedTile partner
  pointwise [turn]
  rw [select_pair]
  split
  · exact congrArg (fun k => _ + t (ix2 r k) * _) (Fin.ext (by dsimp only; omega))
  · exact congrArg (fun k => _ + t (ix2 r k) * _) (Fin.ext (by dsimp only; omega))

theorem stored_apply (t : FVec Ideal S256x128 .f32) (r : Fin 256) (e : Fin 128) : stored t (ix3 0 r e) = t (ix2 r e) := by
  pointwise [stored]

/-- The modulation that a step's rows take: the context's in the first step of a batch group, else the batch's own. -/
def chosen (i : grid0.Coords) (ctx lat : Fin 6144 → EReal) (l : Fin 6144) : EReal := if (i 1 : ℕ) = 0 then ctx l else lat l

theorem select_chosen (i : grid0.Coords) (x y : EReal) :
    Scalar.select (Scalar.cmpi .eq (BitVec.ofNat 32 (i 1).val) 0#32) x y = if (i 1 : ℕ) = 0 then x else y := by
  have h : ∀ a : Fin 9, Scalar.cmpi .eq (BitVec.ofNat 32 a.val) 0#32 = if (a : ℕ) = 0 then 1#1 else 0#1 := by decide
  have h1 := h (i 1)
  rw [h1]; split <;> rfl

theorem project_apply (i : grid0.Coords) (v5 : Vec Ideal S1x256x1024 .f32) (v7 v9 : Vec Ideal S1x1x6144 .f32) (v24 : Vec Ideal S1x1024 .f32) (v35 : Vec Ideal S1024x1792 .bf16) (r : Fin 256) (j : Fin 1792) :
    project i v5 v7 v9 v24 v35 (ix2 r j)
      = projected (modulated (fun l => v5 (ix3 0 r l)) (fun l => v24 (ix2 0 l)) (fun l => chosen i (fun l => v7 (ix3 0 0 l)) (fun l => v9 (ix3 0 0 l)) ⟨1024 + l, by omega⟩)
          (fun l => chosen i (fun l => v7 (ix3 0 0 l)) (fun l => v9 (ix3 0 0 l)) ⟨l, by omega⟩)) (fun k j => v35 (ix2 k j)) j := by
  unfold projected modulated rms1024 rms chosen
  pointwise [project, k0_pay4, k0_pay5]
  simp only [select_chosen]

/-! The same, of what the reads are known to be. -/

theorem norm_of (t : FVec Ideal S256x128 .f32) (g : Vec Ideal S1x128 .f32) (r : Fin 256) (p gg : Fin 128 → EReal) (hp : (fun e => t (ix2 r e)) = p) (hg : ∀ e, g (ix2 0 e) = gg e) (e : Fin 128) :
    norm t g (ix2 r e) = normedTile p gg e := by
  rw [norm_apply, hp, funext hg]

theorem turn_of (c s : Vec Ideal S256x128 .f32) (t : FVec Ideal S256x128 .f32) (r : Fin 256) (cc ss tt : Fin 128 → EReal) (hc : ∀ e, c (ix2 r e) = cc e) (hs : ∀ e, s (ix2 r e) = ss e)
    (ht : ∀ e, t (ix2 r e) = tt e) (e : Fin 128) : turn c s t (ix2 r e) = turnedTile cc ss tt e := by
  rw [turn_apply, funext hc, funext hs, funext ht]

theorem project_of (i : grid0.Coords) (v5 : Vec Ideal S1x256x1024 .f32) (v7 v9 : Vec Ideal S1x1x6144 .f32) (v24 : Vec Ideal S1x1024 .f32) (v35 : Vec Ideal S1024x1792 .bf16) (r : Fin 256) (j : Fin 1792)
    (x g : Fin 1024 → EReal) (c m : Fin 6144 → EReal) (w : Fin 1024 → Fin 1792 → EReal) (hx : ∀ l, v5 (ix3 0 r l) = x l) (hc : ∀ l, v7 (ix3 0 0 l) = c l) (hm : ∀ l, v9 (ix3 0 0 l) = m l)
    (hg : ∀ l, v24 (ix2 0 l) = g l) (hw : ∀ k j, v35 (ix2 k j) = w k j) :
    project i v5 v7 v9 v24 v35 (ix2 r j) = projected (modulated x g (fun l => chosen i c m ⟨1024 + l, by omega⟩) (fun l => chosen i c m ⟨l, by omega⟩)) w j := by
  rw [project_apply, funext hx, funext hc, funext hm, funext hg, show (fun k j => v35 (ix2 k j)) = w from funext fun k => funext (hw k)]

end Cert.Kernel3Ideal.Proj

end
-- ==== Proof.ProjPieces.lean ====
/- Each value that the input projection's body stores is a tile of one of the four batches' projections, normed and turned
   where its tile is a query's or a key's. -/
module

public import proofs.«01_k».proof.Proof.ProjTile
public import proofs.«01_k».proof.Proof.Gen.Kernel3Ideal.Frame

@[expose] public section

set_option maxRecDepth 16384

noncomputable section

namespace Cert.Kernel3Ideal.Proj

open Cert.Kernel3Ideal Cert.Kernel3Ideal.Gen
open Idealize.ShloMosaic Idealize.ShloMosaic.TcCoe

variable (i : grid0.Coords) (x0 : Vec Ideal S4x256x1024 .f32) (x1 : Vec Ideal S4x1x6144 .f32) (x2 : Vec Ideal S1x1x6144 .f32) (x3 : Vec Ideal S1x1024 .f32) (x4 : Vec Ideal S1024x1792 .bf16) (x5 : Vec Ideal S256x128 .f32) (x6 : Vec Ideal S256x128 .f32) (x7 : Vec Ideal S1x128 .f32) (x8 : Vec Ideal S1x128 .f32) (x9 : Vec Ideal S1x128 .f32) (x10 : Vec Ideal S1x128 .f32)

/-! The four batches' projections. -/

def batch0 : FVec Ideal S256x1792 .f32 := project i (View.ld x0 r0_1) (View.ld x2 r0_2) (View.ld x1 r0_3) (View.ld x3 r0_4) (View.ld x4 r0_5)
def batch1 : FVec Ideal S256x1792 .f32 := project i (View.ld x0 r0_20) (View.ld x2 r0_2) (View.ld x1 r0_21) (View.ld x3 r0_4) (View.ld x4 r0_5)
def batch2 : FVec Ideal S256x1792 .f32 := project i (View.ld x0 r0_35) (View.ld x2 r0_2) (View.ld x1 r0_36) (View.ld x3 r0_4) (View.ld x4 r0_5)
def batch3 : FVec Ideal S256x1792 .f32 := project i (View.ld x0 r0_50) (View.ld x2 r0_2) (View.ld x1 r0_51) (View.ld x3 r0_4) (View.ld x4 r0_5)

/-- A tile of plain lanes, of normed heads, and of normed and turned heads, as stored. -/
def plainTile (o : Fin 2 → ℕ) (h : S256x1792.Slices o S256x128) (P : FVec Ideal S256x1792 .f32) : FVec Ideal S1x256x128 .bf16 := stored (slice o h P)
def normTile (o : Fin 2 → ℕ) (h : S256x1792.Slices o S256x128) (P : FVec Ideal S256x1792 .f32) (g : Vec Ideal S1x128 .f32) : FVec Ideal S1x256x128 .bf16 := stored (norm (slice o h P) g)
def turnTile (o : Fin 2 → ℕ) (h : S256x1792.Slices o S256x128) (P : FVec Ideal S256x1792 .f32) (g : Vec Ideal S1x128 .f32) (c s : Vec Ideal S256x128 .f32) : FVec Ideal S1x256x128 .bf16 := stored (turn c s (norm (slice o h P) g))

/-! The stored values. -/

theorem tile3_11 : k0_pay189 (k0_pay176 (k0_pay204 i x0 x1 x2 x3 x4 x5 x6 x7 x8 x9 x10)) = plainTile ![0, 1408] slices_S256x1792_o0_1408_S256x128 (batch3 i x0 x1 x2 x3 x4) := rfl
theorem tile3_10 : k0_pay188 (k0_pay175 (k0_pay204 i x0 x1 x2 x3 x4 x5 x6 x7 x8 x9 x10)) = plainTile ![0, 1280] slices_S256x1792_o0_1280_S256x128 (batch3 i x0 x1 x2 x3 x4) := rfl
theorem tile3_9 : k0_pay187 (k0_pay174 (k0_pay204 i x0 x1 x2 x3 x4 x5 x6 x7 x8 x9 x10)) = plainTile ![0, 1152] slices_S256x1792_o0_1152_S256x128 (batch3 i x0 x1 x2 x3 x4) := rfl
theorem tile3_8 : k0_pay186 (k0_pay173 (k0_pay204 i x0 x1 x2 x3 x4 x5 x6 x7 x8 x9 x10)) = plainTile ![0, 1024] slices_S256x1792_o0_1024_S256x128 (batch3 i x0 x1 x2 x3 x4) := rfl
theorem tile3_7 : k0_pay185 (k0_pay172 (k0_pay167 (k0_pay204 i x0 x1 x2 x3 x4 x5 x6 x7 x8 x9 x10)) (k0_pay168 (View.ld x10 r0_6)) k0_pay169 (k0_pay170 (k0_pay204 i x0 x1 x2 x3 x4 x5 x6 x7 x8 x9 x10)) (k0_pay171 (k0_pay204 i x0 x1 x2 x3 x4 x5 x6 x7 x8 x9 x10)) (Scalar.ofBits .f32 0x00000000#32)) = normTile ![0, 896] slices_S256x1792_o0_896_S256x128 (batch3 i x0 x1 x2 x3 x4) (View.ld x10 r0_6) := rfl
theorem tile3_6 : k0_pay184 (k0_pay166 (k0_pay204 i x0 x1 x2 x3 x4 x5 x6 x7 x8 x9 x10) (View.ld x10 r0_6)) = normTile ![0, 768] slices_S256x1792_o0_768_S256x128 (batch3 i x0 x1 x2 x3 x4) (View.ld x10 r0_6) := rfl
theorem tile3_5 : k0_pay183 (k0_pay165 (k0_pay162 (k0_pay204 i x0 x1 x2 x3 x4 x5 x6 x7 x8 x9 x10)) (k0_pay163 (View.ld x9 r0_6)) (k0_pay164 (k0_pay204 i x0 x1 x2 x3 x4 x5 x6 x7 x8 x9 x10)) (Scalar.ofBits .f32 0x358637BD#32)) = normTile ![0, 640] slices_S256x1792_o0_640_S256x128 (batch3 i x0 x1 x2 x3 x4) (View.ld x9 r0_6) := rfl
theorem tile3_4 : k0_pay182 (k0_pay181 (k0_pay161 (k0_pay158 (k0_pay204 i x0 x1 x2 x3 x4 x5 x6 x7 x8 x9 x10)) (k0_pay159 (View.ld x9 r0_6)) (iota .tc S256x128 32 [1] iota_S256x128_d1_w32) k0_pay160)) = normTile ![0, 512] slices_S256x1792_o0_512_S256x128 (batch3 i x0 x1 x2 x3 x4) (View.ld x9 r0_6) := rfl
theorem tile3_3 : k0_pay180 (k0_pay157 (k0_pay204 i x0 x1 x2 x3 x4 x5 x6 x7 x8 x9 x10)) = plainTile ![0, 384] slices_S256x1792_o0_384_S256x128 (batch3 i x0 x1 x2 x3 x4) := rfl
theorem tile3_2 : k0_pay179 (k0_pay156 (k0_pay190 i x0 x1 x2 x3 x4 x5 x6 x7 x8 x9 x10) (k0_pay191 i x0 x1 x2 x3 x4 x5 x6 x7 x8 x9 x10) (k0_pay155 (k0_pay204 i x0 x1 x2 x3 x4 x5 x6 x7 x8 x9 x10)) (View.ld x8 r0_6)) = turnTile ![0, 256] slices_S256x1792_o0_256_S256x128 (batch3 i x0 x1 x2 x3 x4) (View.ld x8 r0_6) (View.ld x5 r0_0) (View.ld x6 r0_0) := rfl
theorem tile3_1 : k0_pay178 (k0_pay154 (k0_pay190 i x0 x1 x2 x3 x4 x5 x6 x7 x8 x9 x10) (k0_pay191 i x0 x1 x2 x3 x4 x5 x6 x7 x8 x9 x10) (k0_pay204 i x0 x1 x2 x3 x4 x5 x6 x7 x8 x9 x10) (View.ld x7 r0_6)) = turnTile ![0, 128] slices_S256x1792_o0_128_S256x128 (batch3 i x0 x1 x2 x3 x4) (View.ld x7 r0_6) (View.ld x5 r0_0) (View.ld x6 r0_0) := rfl
theorem tile3_0 : k0_pay177 (k0_pay153 (k0_pay190 i x0 x1 x2 x3 x4 x5 x6 x7 x8 x9 x10) (k0_pay191 i x0 x1 x2 x3 x4 x5 x6 x7 x8 x9 x10) (k0_pay151 (k0_pay200 i x0 x1 x2 x3 x4 x5 x6 x7 x8 x9 x10) (k0_pay201 i x0 x1 x2 x3 x4 x5 x6 x7 x8 x9 x10) (k0_pay202 i x0 x1 x2 x3 x4 x5 x6 x7 x8 x9 x10) (k0_pay203 i x0 x1 x2 x3 x4 x5 x6 x7 x8 x9 x10) (View.ld x4 r0_5) (View.ld x7 r0_6)) k0_pay152 112#32) = turnTile ![0, 0] slices_S256x1792_o0_0_S256x128 (batch3 i x0 x1 x2 x3 x4) (View.ld x7 r0_6) (View.ld x5 r0_0) (View.ld x6 r0_0) := rfl
theorem tile2_11 : k0_pay143 (k0_pay130 (k0_pay199 i x0 x1 x2 x3 x4 x5 x6 x7 x8 x9 x10)) = plainTile ![0, 1408] slices_S256x1792_o0_1408_S256x128 (batch2 i x0 x1 x2 x3 x4) := rfl
theorem tile2_10 : k0_pay142 (k0_pay129 (k0_pay199 i x0 x1 x2 x3 x4 x5 x6 x7 x8 x9 x10)) = plainTile ![0, 1280] slices_S256x1792_o0_1280_S256x128 (batch2 i x0 x1 x2 x3 x4) := rfl
theorem tile2_9 : k0_pay141 (k0_pay128 (k0_pay199 i x0 x1 x2 x3 x4 x5 x6 x7 x8 x9 x10)) = plainTile ![0, 1152] slices_S256x1792_o0_1152_S256x128 (batch2 i x0 x1 x2 x3 x4) := rfl
theorem tile2_8 : k0_pay140 (k0_pay127 (k0_pay199 i x0 x1 x2 x3 x4 x5 x6 x7 x8 x9 x10)) = plainTile ![0, 1024] slices_S256x1792_o0_1024_S256x128 (batch2 i x0 x1 x2 x3 x4) := rfl
theorem tile2_7 : k0_pay139 (k0_pay126 (k0_pay125 (k0_pay199 i x0 x1 x2 x3 x4 x5 x6 x7 x8 x9 x10)) (View.ld x10 r0_6)) = normTile ![0, 896] slices_S256x1792_o0_896_S256x128 (batch2 i x0 x1 x2 x3 x4) (View.ld x10 r0_6) := rfl
theorem tile2_6 : k0_pay138 (k0_pay124 (k0_pay199 i x0 x1 x2 x3 x4 x5 x6 x7 x8 x9 x10) (View.ld x10 r0_6)) = normTile ![0, 768] slices_S256x1792_o0_768_S256x128 (batch2 i x0 x1 x2 x3 x4) (View.ld x10 r0_6) := rfl
theorem tile2_5 : k0_pay137 (k0_pay123 (k0_pay118 (k0_pay199 i x0 x1 x2 x3 x4 x5 x6 x7 x8 x9 x10)) (k0_pay119 (View.ld x9 r0_6)) k0_pay120 (k0_pay121 (k0_pay199 i x0 x1 x2 x3 x4 x5 x6 x7 x8 x9 x10)) (k0_pay122 (k0_pay199 i x0 x1 x2 x3 x4 x5 x6 x7 x8 x9 x10))) = normTile ![0, 640] slices_S256x1792_o0_640_S256x128 (batch2 i x0 x1 x2 x3 x4) (View.ld x9 r0_6) := rfl
theorem tile2_4 : k0_pay136 (k0_pay117 (k0_pay199 i x0 x1 x2 x3 x4 x5 x6 x7 x8 x9 x10) (View.ld x9 r0_6)) = normTile ![0, 512] slices_S256x1792_o0_512_S256x128 (batch2 i x0 x1 x2 x3 x4) (View.ld x9 r0_6) := rfl
theorem tile2_3 : k0_pay135 (k0_pay116 (k0_pay199 i x0 x1 x2 x3 x4 x5 x6 x7 x8 x9 x10)) = plainTile ![0, 384] slices_S256x1792_o0_384_S256x128 (batch2 i x0 x1 x2 x3 x4) := rfl
theorem tile2_2 : k0_pay134 (k0_pay133 (k0_pay115 (k0_pay190 i x0 x1 x2 x3 x4 x5 x6 x7 x8 x9 x10) (k0_pay191 i x0 x1 x2 x3 x4 x5 x6 x7 x8 x9 x10) (k0_pay113 (k0_pay199 i x0 x1 x2 x3 x4 x5 x6 x7 x8 x9 x10) (View.ld x8 r0_6)) k0_pay114 112#32)) = turnTile ![0, 256] slices_S256x1792_o0_256_S256x128 (batch2 i x0 x1 x2 x3 x4) (View.ld x8 r0_6) (View.ld x5 r0_0) (View.ld x6 r0_0) := rfl
theorem tile2_1 : k0_pay132 (k0_pay112 (k0_pay190 i x0 x1 x2 x3 x4 x5 x6 x7 x8 x9 x10) (k0_pay191 i x0 x1 x2 x3 x4 x5 x6 x7 x8 x9 x10) (k0_pay111 (k0_pay199 i x0 x1 x2 x3 x4 x5 x6 x7 x8 x9 x10) (View.ld x7 r0_6))) = turnTile ![0, 128] slices_S256x1792_o0_128_S256x128 (batch2 i x0 x1 x2 x3 x4) (View.ld x7 r0_6) (View.ld x5 r0_0) (View.ld x6 r0_0) := rfl
theorem tile2_0 : k0_pay131 (k0_pay110 (k0_pay190 i x0 x1 x2 x3 x4 x5 x6 x7 x8 x9 x10) (k0_pay191 i x0 x1 x2 x3 x4 x5 x6 x7 x8 x9 x10) (k0_pay106 (k0_pay195 i x0 x1 x2 x3 x4 x5 x6 x7 x8 x9 x10) (k0_pay196 i x0 x1 x2 x3 x4 x5 x6 x7 x8 x9 x10) (k0_pay197 i x0 x1 x2 x3 x4 x5 x6 x7 x8 x9 x10) (k0_pay198 i x0 x1 x2 x3 x4 x5 x6 x7 x8 x9 x10) (View.ld x3 r0_4) (View.ld x4 r0_5)) (k0_pay107 (View.ld x7 r0_6)) (k0_pay108 (k0_pay195 i x0 x1 x2 x3 x4 x5 x6 x7 x8 x9 x10) (k0_pay196 i x0 x1 x2 x3 x4 x5 x6 x7 x8 x9 x10) (k0_pay197 i x0 x1 x2 x3 x4 x5 x6 x7 x8 x9 x10) (k0_pay198 i x0 x1 x2 x3 x4 x5 x6 x7 x8 x9 x10) (View.ld x3 r0_4) (View.ld x4 r0_5)) (k0_pay109 (F := Ideal))) = turnTile ![0, 0] slices_S256x1792_o0_0_S256x128 (batch2 i x0 x1 x2 x3 x4) (View.ld x7 r0_6) (View.ld x5 r0_0) (View.ld x6 r0_0) := rfl
theorem tile1_11 : k0_pay98 (k0_pay85 (k0_pay194 i x0 x1 x2 x3 x4 x5 x6 x7 x8 x9 x10)) = plainTile ![0, 1408] slices_S256x1792_o0_1408_S256x128 (batch1 i x0 x1 x2 x3 x4) := rfl
theorem tile1_10 : k0_pay97 (k0_pay84 (k0_pay194 i x0 x1 x2 x3 x4 x5 x6 x7 x8 x9 x10)) = plainTile ![0, 1280] slices_S256x1792_o0_1280_S256x128 (batch1 i x0 x1 x2 x3 x4) := rfl
theorem tile1_9 : k0_pay96 (k0_pay83 (k0_pay194 i x0 x1 x2 x3 x4 x5 x6 x7 x8 x9 x10)) = plainTile ![0, 1152] slices_S256x1792_o0_1152_S256x128 (batch1 i x0 x1 x2 x3 x4) := rfl
theorem tile1_8 : k0_pay95 (k0_pay82 (k0_pay194 i x0 x1 x2 x3 x4 x5 x6 x7 x8 x9 x10)) = plainTile ![0, 1024] slices_S256x1792_o0_1024_S256x128 (batch1 i x0 x1 x2 x3 x4) := rfl
theorem tile1_7 : k0_pay94 (k0_pay81 (k0_pay194 i x0 x1 x2 x3 x4 x5 x6 x7 x8 x9 x10) (View.ld x10 r0_6)) = normTile ![0, 896] slices_S256x1792_o0_896_S256x128 (batch1 i x0 x1 x2 x3 x4) (View.ld x10 r0_6) := rfl
theorem tile1_6 : k0_pay93 (k0_pay80 (k0_pay74 (k0_pay194 i x0 x1 x2 x3 x4 x5 x6 x7 x8 x9 x10)) (k0_pay75 (View.ld x10 r0_6)) k0_pay76 (k0_pay78 (k0_pay194 i x0 x1 x2 x3 x4 x5 x6 x7 x8 x9 x10)) (k0_pay79 (k0_pay194 i x0 x1 x2 x3 x4 x5 x6 x7 x8 x9 x10))) = normTile ![0, 768] slices_S256x1792_o0_768_S256x128 (batch1 i x0 x1 x2 x3 x4) (View.ld x10 r0_6) := rfl
theorem tile1_5 : k0_pay92 (k0_pay73 (k0_pay194 i x0 x1 x2 x3 x4 x5 x6 x7 x8 x9 x10) (View.ld x9 r0_6)) = normTile ![0, 640] slices_S256x1792_o0_640_S256x128 (batch1 i x0 x1 x2 x3 x4) (View.ld x9 r0_6) := rfl
theorem tile1_4 : k0_pay91 (k0_pay72 (k0_pay70 (k0_pay194 i x0 x1 x2 x3 x4 x5 x6 x7 x8 x9 x10)) (k0_pay71 (View.ld x9 r0_6))) = normTile ![0, 512] slices_S256x1792_o0_512_S256x128 (batch1 i x0 x1 x2 x3 x4) (View.ld x9 r0_6) := rfl
theorem tile1_3 : k0_pay90 (k0_pay69 (k0_pay194 i x0 x1 x2 x3 x4 x5 x6 x7 x8 x9 x10)) = plainTile ![0, 384] slices_S256x1792_o0_384_S256x128 (batch1 i x0 x1 x2 x3 x4) := rfl
theorem tile1_2 : k0_pay89 (k0_pay68 (k0_pay190 i x0 x1 x2 x3 x4 x5 x6 x7 x8 x9 x10) (k0_pay191 i x0 x1 x2 x3 x4 x5 x6 x7 x8 x9 x10) (k0_pay64 (k0_pay194 i x0 x1 x2 x3 x4 x5 x6 x7 x8 x9 x10)) (k0_pay65 (View.ld x8 r0_6)) (k0_pay66 (k0_pay194 i x0 x1 x2 x3 x4 x5 x6 x7 x8 x9 x10)) (k0_pay67 (F := Ideal))) = turnTile ![0, 256] slices_S256x1792_o0_256_S256x128 (batch1 i x0 x1 x2 x3 x4) (View.ld x8 r0_6) (View.ld x5 r0_0) (View.ld x6 r0_0) := rfl
theorem tile1_1 : k0_pay88 (k0_pay63 (k0_pay190 i x0 x1 x2 x3 x4 x5 x6 x7 x8 x9 x10) (k0_pay191 i x0 x1 x2 x3 x4 x5 x6 x7 x8 x9 x10) (k0_pay57 (k0_pay194 i x0 x1 x2 x3 x4 x5 x6 x7 x8 x9 x10)) (k0_pay58 (View.ld x7 r0_6)) k0_pay59 (k0_pay61 (k0_pay194 i x0 x1 x2 x3 x4 x5 x6 x7 x8 x9 x10)) (k0_pay62 (k0_pay194 i x0 x1 x2 x3 x4 x5 x6 x7 x8 x9 x10))) = turnTile ![0, 128] slices_S256x1792_o0_128_S256x128 (batch1 i x0 x1 x2 x3 x4) (View.ld x7 r0_6) (View.ld x5 r0_0) (View.ld x6 r0_0) := rfl
theorem tile1_0 : k0_pay87 (k0_pay86 (k0_pay56 (k0_pay190 i x0 x1 x2 x3 x4 x5 x6 x7 x8 x9 x10) (k0_pay191 i x0 x1 x2 x3 x4 x5 x6 x7 x8 x9 x10) (k0_pay51 (Scalar.cmpi .eq (BitVec.ofNat 32 (i 1).val) 0#32) (View.ld x0 r0_20) (View.ld x2 r0_2) (View.ld x1 r0_21) (View.ld x3 r0_4) (View.ld x4 r0_5)) (k0_pay52 (View.ld x7 r0_6)) k0_pay53 (k0_pay54 (Scalar.cmpi .eq (BitVec.ofNat 32 (i 1).val) 0#32) (View.ld x0 r0_20) (View.ld x2 r0_2) (View.ld x1 r0_21) (View.ld x3 r0_4) (View.ld x4 r0_5)) (k0_pay55 (Scalar.cmpi .eq (BitVec.ofNat 32 (i 1).val) 0#32) (View.ld x0 r0_20) (View.ld x2 r0_2) (View.ld x1 r0_21) (View.ld x3 r0_4) (View.ld x4 r0_5)))) = turnTile ![0, 0] slices_S256x1792_o0_0_S256x128 (batch1 i x0 x1 x2 x3 x4) (View.ld x7 r0_6) (View.ld x5 r0_0) (View.ld x6 r0_0) := rfl
theorem tile0_11 : k0_pay48 (k0_pay36 (k0_pay193 i x0 x1 x2 x3 x4 x5 x6 x7 x8 x9 x10)) = plainTile ![0, 1408] slices_S256x1792_o0_1408_S256x128 (batch0 i x0 x1 x2 x3 x4) := rfl
theorem tile0_10 : k0_pay47 (k0_pay35 (k0_pay193 i x0 x1 x2 x3 x4 x5 x6 x7 x8 x9 x10)) = plainTile ![0, 1280] slices_S256x1792_o0_1280_S256x128 (batch0 i x0 x1 x2 x3 x4) := rfl
theorem tile0_9 : k0_pay46 (k0_pay34 (k0_pay193 i x0 x1 x2 x3 x4 x5 x6 x7 x8 x9 x10)) = plainTile ![0, 1152] slices_S256x1792_o0_1152_S256x128 (batch0 i x0 x1 x2 x3 x4) := rfl
theorem tile0_8 : k0_pay45 (k0_pay33 (k0_pay193 i x0 x1 x2 x3 x4 x5 x6 x7 x8 x9 x10)) = plainTile ![0, 1024] slices_S256x1792_o0_1024_S256x128 (batch0 i x0 x1 x2 x3 x4) := rfl
theorem tile0_7 : k0_pay44 (k0_pay32 (k0_pay28 (k0_pay193 i x0 x1 x2 x3 x4 x5 x6 x7 x8 x9 x10)) (k0_pay29 (View.ld x10 r0_6)) (k0_pay30 (k0_pay193 i x0 x1 x2 x3 x4 x5 x6 x7 x8 x9 x10)) (k0_pay31 (F := Ideal))) = normTile ![0, 896] slices_S256x1792_o0_896_S256x128 (batch0 i x0 x1 x2 x3 x4) (View.ld x10 r0_6) := rfl
theorem tile0_6 : k0_pay43 (k0_pay27 (k0_pay25 (k0_pay193 i x0 x1 x2 x3 x4 x5 x6 x7 x8 x9 x10)) (k0_pay26 (View.ld x10 r0_6)) (iota .tc S256x128 32 [1] iota_S256x128_d1_w32)) = normTile ![0, 768] slices_S256x1792_o0_768_S256x128 (batch0 i x0 x1 x2 x3 x4) (View.ld x10 r0_6) := rfl
theorem tile0_5 : k0_pay42 (k0_pay24 (k0_pay193 i x0 x1 x2 x3 x4 x5 x6 x7 x8 x9 x10) (View.ld x9 r0_6)) = normTile ![0, 640] slices_S256x1792_o0_640_S256x128 (batch0 i x0 x1 x2 x3 x4) (View.ld x9 r0_6) := rfl
theorem tile0_4 : k0_pay41 (k0_pay23 (k0_pay17 (k0_pay193 i x0 x1 x2 x3 x4 x5 x6 x7 x8 x9 x10)) (k0_pay18 (View.ld x9 r0_6)) k0_pay19 (k0_pay21 (k0_pay193 i x0 x1 x2 x3 x4 x5 x6 x7 x8 x9 x10)) (k0_pay22 (k0_pay193 i x0 x1 x2 x3 x4 x5 x6 x7 x8 x9 x10))) = normTile ![0, 512] slices_S256x1792_o0_512_S256x128 (batch0 i x0 x1 x2 x3 x4) (View.ld x9 r0_6) := rfl
theorem tile0_3 : k0_pay40 (k0_pay16 (k0_pay193 i x0 x1 x2 x3 x4 x5 x6 x7 x8 x9 x10)) = plainTile ![0, 384] slices_S256x1792_o0_384_S256x128 (batch0 i x0 x1 x2 x3 x4) := rfl
theorem tile0_2 : k0_pay39 (k0_pay15 (k0_pay190 i x0 x1 x2 x3 x4 x5 x6 x7 x8 x9 x10) (k0_pay191 i x0 x1 x2 x3 x4 x5 x6 x7 x8 x9 x10) (k0_pay10 (k0_pay193 i x0 x1 x2 x3 x4 x5 x6 x7 x8 x9 x10)) (k0_pay11 (View.ld x8 r0_6)) k0_pay12 (k0_pay13 (k0_pay193 i x0 x1 x2 x3 x4 x5 x6 x7 x8 x9 x10)) (k0_pay14 (k0_pay193 i x0 x1 x2 x3 x4 x5 x6 x7 x8 x9 x10))) = turnTile ![0, 256] slices_S256x1792_o0_256_S256x128 (batch0 i x0 x1 x2 x3 x4) (View.ld x8 r0_6) (View.ld x5 r0_0) (View.ld x6 r0_0) := rfl
theorem tile0_1 : k0_pay38 (k0_pay9 (k0_pay190 i x0 x1 x2 x3 x4 x5 x6 x7 x8 x9 x10) (k0_pay191 i x0 x1 x2 x3 x4 x5 x6 x7 x8 x9 x10) (k0_pay7 (k0_pay192 i x0 x1 x2 x3 x4 x5 x6 x7 x8 x9 x10) (View.ld x4 r0_5)) (k0_pay8 (View.ld x7 r0_6))) = turnTile ![0, 128] slices_S256x1792_o0_128_S256x128 (batch0 i x0 x1 x2 x3 x4) (View.ld x7 r0_6) (View.ld x5 r0_0) (View.ld x6 r0_0) := rfl
theorem tile0_0 : k0_pay37 (k0_pay6 (k0_pay190 i x0 x1 x2 x3 x4 x5 x6 x7 x8 x9 x10) (k0_pay191 i x0 x1 x2 x3 x4 x5 x6 x7 x8 x9 x10) (k0_pay192 i x0 x1 x2 x3 x4 x5 x6 x7 x8 x9 x10) (View.ld x4 r0_5) (View.ld x7 r0_6)) = turnTile ![0, 0] slices_S256x1792_o0_0_S256x128 (batch0 i x0 x1 x2 x3 x4) (View.ld x7 r0_6) (View.ld x5 r0_0) (View.ld x6 r0_0) := rfl

/-! The state-space mixer's lanes. -/

def inputTile (P : FVec Ideal S256x1792 .f32) : FVec Ideal S1x256x256 .f32 := k0_pay49 (F := Ideal) P

theorem input3 : k0_pay1 (k0_pay204 i x0 x1 x2 x3 x4 x5 x6 x7 x8 x9 x10) = inputTile (batch3 i x0 x1 x2 x3 x4) := rfl
theorem input2 : k0_pay144 (k0_pay199 i x0 x1 x2 x3 x4 x5 x6 x7 x8 x9 x10) = inputTile (batch2 i x0 x1 x2 x3 x4) := rfl
theorem input1 : k0_pay99 (k0_pay194 i x0 x1 x2 x3 x4 x5 x6 x7 x8 x9 x10) = inputTile (batch1 i x0 x1 x2 x3 x4) := rfl
theorem input0 : k0_pay49 (k0_pay193 i x0 x1 x2 x3 x4 x5 x6 x7 x8 x9 x10) = inputTile (batch0 i x0 x1 x2 x3 x4) := rfl

end Cert.Kernel3Ideal.Proj

end
-- ==== Proof.ProjBlock.lean ====
/- The input projection's output blocks, read at an index: every row of a batch's block is what the mixers read of the
   row's projection. -/
module

public import proofs.«01_k».proof.Proof.ProjPieces
public import Idealize.ShloMosaic.Lib.Pipeline.ValueKit

@[expose] public section

set_option maxRecDepth 16384

noncomputable section

namespace Cert.Kernel3Ideal.Proj

open Cert.Kernel3Ideal Cert.Kernel3Ideal.Gen Cert.MixMath Cert.ProjMath
open Idealize.ShloMosaic Idealize.ShloMosaic.TcCoe

variable (i : grid0.Coords) (x0 : Vec Ideal S4x256x1024 .f32) (x1 : Vec Ideal S4x1x6144 .f32) (x2 : Vec Ideal S1x1x6144 .f32) (x3 : Vec Ideal S1x1024 .f32) (x4 : Vec Ideal S1024x1792 .bf16) (x5 : Vec Ideal S256x128 .f32) (x6 : Vec Ideal S256x128 .f32) (x7 : Vec Ideal S1x128 .f32) (x8 : Vec Ideal S1x128 .f32) (x9 : Vec Ideal S1x128 .f32) (x10 : Vec Ideal S1x128 .f32)

/-- The modulation of batch `b`'s rows. -/
def blockMod (b : Fin 4) : Fin 6144 → EReal := chosen i (fun l => x2 (ix3 0 0 l)) (fun l => x1 (ix3 b 0 l))

/-- The projected row `r` of batch `b`. -/
def blockRow (b : Fin 4) (r : Fin 256) : Fin 1792 → EReal :=
  projected (modulated (fun l => x0 (ix3 b r l)) (fun l => x3 (ix2 0 l)) (fun l => blockMod i x1 x2 b ⟨1024 + l, by omega⟩) (fun l => blockMod i x1 x2 b ⟨l, by omega⟩)) (fun k j => x4 (ix2 k j))

/-- What the mixers read of it. -/
def blockLane (b : Fin 4) (r : Fin 256) : Fin 1536 → EReal :=
  tiledLane (blockRow i x0 x1 x2 x3 x4 b r) (fun e => x7 (ix2 0 e)) (fun e => x8 (ix2 0 e)) (fun e => x9 (ix2 0 e)) (fun e => x10 (ix2 0 e)) (fun e => x5 (ix2 r e)) (fun e => x6 (ix2 r e))

theorem ld_rows (b : Fin 4) (inb) (r : Fin 256) (l : Fin 1024) :
    View.ld x0 (Rect.unit (s := S4x256x1024) ![b, 0, 0] S1x256x1024.size inb) (ix3 0 r l) = x0 (ix3 b r l) :=
  View.ld_unit_apply_of x0 _ _ _ _ _ fun a => by
    match a with
    | ⟨0, _⟩ => show (b : ℕ) = b + 0; omega
    | ⟨1, _⟩ => show (r : ℕ) = 0 + r; omega
    | ⟨2, _⟩ => show (l : ℕ) = 0 + l; omega

theorem ld_mod (b : Fin 4) (inb) (l : Fin 6144) :
    View.ld x1 (Rect.unit (s := S4x1x6144) ![b, 0, 0] S1x1x6144.size inb) (ix3 0 0 l) = x1 (ix3 b 0 l) :=
  View.ld_unit_apply_of x1 _ _ _ _ _ fun a => by
    match a with
    | ⟨0, _⟩ => show (b : ℕ) = b + 0; omega
    | ⟨1, _⟩ => rfl
    | ⟨2, _⟩ => show (l : ℕ) = 0 + l; omega

theorem ld_context (l : Fin 6144) : View.ld x2 r0_2 (ix3 0 0 l) = x2 (ix3 0 0 l) :=
  View.ld_unit_apply_of x2 _ _ _ _ _ fun a => by
    match a with
    | ⟨0, _⟩ => rfl
    | ⟨1, _⟩ => rfl
    | ⟨2, _⟩ => show (l : ℕ) = 0 + l; omega

theorem ld_gain (l : Fin 1024) : View.ld x3 r0_4 (ix2 0 l) = x3 (ix2 0 l) :=
  View.ld_unit_apply_of x3 _ _ _ _ _ fun a => by
    match a with
    | ⟨0, _⟩ => rfl
    | ⟨1, _⟩ => show (l : ℕ) = 0 + l; omega

theorem ld_matrix (k : Fin 1024) (j : Fin 1792) : View.ld x4 r0_5 (ix2 k j) = x4 (ix2 k j) :=
  View.ld_unit_apply_of x4 _ _ _ _ _ fun a => by
    match a with
    | ⟨0, _⟩ => show (k : ℕ) = 0 + k; omega
    | ⟨1, _⟩ => show (j : ℕ) = 0 + j; omega

theorem ld_table (x : Vec Ideal S256x128 .f32) (r : Fin 256) (e : Fin 128) : View.ld x r0_0 (ix2 r e) = x (ix2 r e) :=
  View.ld_unit_apply_of x _ _ _ _ _ fun a => by
    match a with
    | ⟨0, _⟩ => show (r : ℕ) = 0 + r; omega
    | ⟨1, _⟩ => show (e : ℕ) = 0 + e; omega

theorem ld_heads (x : Vec Ideal S1x128 .f32) (e : Fin 128) : View.ld x r0_6 (ix2 0 e) = x (ix2 0 e) :=
  View.ld_unit_apply_of x _ _ _ _ _ fun a => by
    match a with
    | ⟨0, _⟩ => rfl
    | ⟨1, _⟩ => show (e : ℕ) = 0 + e; omega

/-- A batch's projection, at an index. -/
theorem batch_apply (b : Fin 4) (inb) (inb') (r : Fin 256) (j : Fin 1792) :
    project i (View.ld x0 (Rect.unit (s := S4x256x1024) ![b, 0, 0] S1x256x1024.size inb)) (View.ld x2 r0_2) (View.ld x1 (Rect.unit (s := S4x1x6144) ![b, 0, 0] S1x1x6144.size inb')) (View.ld x3 r0_4) (View.ld x4 r0_5) (ix2 r j)
      = blockRow i x0 x1 x2 x3 x4 b r j := by
  exact project_of i _ _ _ _ _ r j _ _ _ _ _ (ld_rows x0 b inb r) (ld_context x2) (ld_mod x1 b inb') (ld_gain x3) (ld_matrix x4)

theorem batch0_apply (r : Fin 256) (j : Fin 1792) : batch0 i x0 x1 x2 x3 x4 (ix2 r j) = blockRow i x0 x1 x2 x3 x4 0 r j := batch_apply i x0 x1 x2 x3 x4 0 _ _ r j
theorem batch1_apply (r : Fin 256) (j : Fin 1792) : batch1 i x0 x1 x2 x3 x4 (ix2 r j) = blockRow i x0 x1 x2 x3 x4 1 r j := batch_apply i x0 x1 x2 x3 x4 1 _ _ r j
theorem batch2_apply (r : Fin 256) (j : Fin 1792) : batch2 i x0 x1 x2 x3 x4 (ix2 r j) = blockRow i x0 x1 x2 x3 x4 2 r j := batch_apply i x0 x1 x2 x3 x4 2 _ _ r j
theorem batch3_apply (r : Fin 256) (j : Fin 1792) : batch3 i x0 x1 x2 x3 x4 (ix2 r j) = blockRow i x0 x1 x2 x3 x4 3 r j := batch_apply i x0 x1 x2 x3 x4 3 _ _ r j

/-! A stored tile where it meets the block's index. -/

section
variable (P : FVec Ideal S256x1792 .f32) (k : Fin 4) (hP : ∀ r j, P (ix2 r j) = blockRow i x0 x1 x2 x3 x4 k r j)
  (o : ℕ) (ho : 128 * (o / 128) = o) (hs : S256x1792.Slices ![0, o] S256x128) (b : Fin 4) (r : Fin 256) (l : Fin 1536) (x : S1x256x128.Idx)
  (hx : ∀ a, ((ix3 b r l : S4x256x1536.Idx) a : ℕ) = (![k, 0, o] : Fin 3 → ℕ) a + (x a : ℕ))

include hx in
theorem place (ho : 128 * (o / 128) = o) : b = k ∧ ∃ e : Fin 128, x = ix3 0 r e ∧ (l : ℕ) = o + e ∧ (l : ℕ) / 128 = o / 128 ∧ (l : ℕ) % 128 = e := by
  have h0 : (b : ℕ) = k + (x 0 : ℕ) := hx 0
  have h1 : (r : ℕ) = 0 + (x 1 : ℕ) := hx 1
  have h2 : (l : ℕ) = o + (x 2 : ℕ) := hx 2
  have l0 : (x 0 : ℕ) < 1 := (x 0).isLt
  have l2 : (x 2 : ℕ) < 128 := (x 2).isLt
  refine ⟨Fin.ext (by omega), x 2, funext fun a => ?_, h2, by omega, by omega⟩
  match a with
  | ⟨0, _⟩ => exact Fin.ext (by show (x 0 : ℕ) = 0; omega)
  | ⟨1, _⟩ => exact Fin.ext (by show (x 1 : ℕ) = r; omega)
  | ⟨2, _⟩ => rfl

include hP in
theorem slice_row (h : o + 128 ≤ 1792) (ho : 128 * (o / 128) = o) : (fun e => slice ![0, o] hs P (ix2 r e)) = tileAt (blockRow i x0 x1 x2 x3 x4 k r) (o / 128) := by
  funext e
  rw [slice_apply o hs h, hP]
  unfold tileAt
  rw [dif_pos (by omega)]
  exact congrArg _ (Fin.ext (by dsimp only; omega))

include hP hx ho

theorem plain_at (h : (384 ≤ o ∧ o < 512) ∨ (1024 ≤ o ∧ o < 1536)) : plainTile ![0, o] hs P x = blockLane i x0 x1 x2 x3 x4 x5 x6 x7 x8 x9 x10 b r l := by
  obtain ⟨rfl, e, rfl, hl, hd, hm⟩ := place k o b r l x hx ho
  unfold plainTile blockLane tiledLane
  rw [stored_apply, slice_apply o hs (by omega), hP]
  have he : (⟨o + e, by omega⟩ : Fin 1792) = ⟨l, by omega⟩ := Fin.ext hl.symm
  rw [he]
  split_ifs <;> first | rfl | omega

theorem q_at (h : o < 256) : turnTile ![0, o] hs P (View.ld x7 r0_6) (View.ld x5 r0_0) (View.ld x6 r0_0) x = blockLane i x0 x1 x2 x3 x4 x5 x6 x7 x8 x9 x10 b r l := by
  obtain ⟨rfl, e, rfl, hl, hd, hm⟩ := place k o b r l x hx ho
  refine (stored_apply _ r e).trans ?_
  refine (turn_of _ _ _ r _ _ _ (ld_table x5 r) (ld_table x6 r) (norm_of _ _ r _ _ (slice_row i x0 x1 x2 x3 x4 P b hP o hs r (by omega) ho) (ld_heads x7)) e).trans ?_
  unfold blockLane tiledLane
  rw [if_pos (by omega)]
  simp only [hd, hm]

theorem k_at (h : 256 ≤ o) (h' : o < 384) : turnTile ![0, o] hs P (View.ld x8 r0_6) (View.ld x5 r0_0) (View.ld x6 r0_0) x = blockLane i x0 x1 x2 x3 x4 x5 x6 x7 x8 x9 x10 b r l := by
  obtain ⟨rfl, e, rfl, hl, hd, hm⟩ := place k o b r l x hx ho
  refine (stored_apply _ r e).trans ?_
  refine (turn_of _ _ _ r _ _ _ (ld_table x5 r) (ld_table x6 r) (norm_of _ _ r _ _ (slice_row i x0 x1 x2 x3 x4 P b hP o hs r (by omega) ho) (ld_heads x8)) e).trans ?_
  unfold blockLane tiledLane
  rw [if_neg (by omega), if_pos (by omega)]
  simp only [hd, hm]

theorem nq_at (h : 512 ≤ o) (h' : o < 768) : normTile ![0, o] hs P (View.ld x9 r0_6) x = blockLane i x0 x1 x2 x3 x4 x5 x6 x7 x8 x9 x10 b r l := by
  obtain ⟨rfl, e, rfl, hl, hd, hm⟩ := place k o b r l x hx ho
  refine (stored_apply _ r e).trans ?_
  refine (norm_of _ _ r _ _ (slice_row i x0 x1 x2 x3 x4 P b hP o hs r (by omega) ho) (ld_heads x9) e).trans ?_
  unfold blockLane tiledLane
  rw [if_neg (by omega), if_neg (by omega), if_neg (by omega), if_pos (by omega)]
  simp only [hd, hm]

theorem nk_at (h : 768 ≤ o) (h' : o < 1024) : normTile ![0, o] hs P (View.ld x10 r0_6) x = blockLane i x0 x1 x2 x3 x4 x5 x6 x7 x8 x9 x10 b r l := by
  obtain ⟨rfl, e, rfl, hl, hd, hm⟩ := place k o b r l x hx ho
  refine (stored_apply _ r e).trans ?_
  refine (norm_of _ _ r _ _ (slice_row i x0 x1 x2 x3 x4 P b hP o hs r (by omega) ho) (ld_heads x10) e).trans ?_
  unfold blockLane tiledLane
  rw [if_neg (by omega), if_neg (by omega), if_neg (by omega), if_neg (by omega), if_pos (by omega)]
  simp only [hd, hm]

end

theorem input_at (P : FVec Ideal S256x1792 .f32) (k : Fin 4) (hP : ∀ r j, P (ix2 r j) = blockRow i x0 x1 x2 x3 x4 k r j) (b : Fin 4) (r l : Fin 256) (x : S1x256x256.Idx)
    (hx : ∀ a, ((ix3 b r l : S4x256x256.Idx) a : ℕ) = (![k, 0, 0] : Fin 3 → ℕ) a + (x a : ℕ)) :
    inputTile P x = blockRow i x0 x1 x2 x3 x4 b r ⟨1536 + l, by omega⟩ := by
  have h0 : (b : ℕ) = k + (x 0 : ℕ) := hx 0
  have h1 : (r : ℕ) = 0 + (x 1 : ℕ) := hx 1
  have h2 : (l : ℕ) = 0 + (x 2 : ℕ) := hx 2
  have l0 : (x 0 : ℕ) < 1 := (x 0).isLt
  obtain rfl : k = b := Fin.ext (by omega)
  obtain rfl : x = ix3 0 r l := funext fun a => by
    match a with
    | ⟨0, _⟩ => exact Fin.ext (by show (x 0 : ℕ) = 0; omega)
    | ⟨1, _⟩ => exact Fin.ext (by show (x 1 : ℕ) = r; omega)
    | ⟨2, _⟩ => exact Fin.ext (by show (x 2 : ℕ) = l; omega)
  rw [← hP]
  pointwise [inputTile, k0_pay49]

set_option maxHeartbeats 1000000 in
/-- The block of the mixers' operands, at an index. -/
theorem block_lane (b : Fin 4) (r : Fin 256) (l : Fin 1536) :
    out0_11 (F := Ideal) i x0 x1 x2 x3 x4 x5 x6 x7 x8 x9 x10 (ix3 b r l) = blockLane i x0 x1 x2 x3 x4 x5 x6 x7 x8 x9 x10 b r l := by
  unfold out0_11
  refine View.canon_eq_of_allAt _ _ _ (cover0_11 ..) ?_
  refine View.allAt_cons_unit _ _ _ _ _ (fun x hx => (congrFun (tile3_11 i x0 x1 x2 x3 x4 x5 x6 x7 x8 x9 x10) x).trans (plain_at i x0 x1 x2 x3 x4 x5 x6 x7 x8 x9 x10 _ 3 (batch3_apply i x0 x1 x2 x3 x4) 1408 (by decide) _ b r l x hx (by decide))) ?_
  refine View.allAt_cons_unit _ _ _ _ _ (fun x hx => (congrFun (tile3_10 i x0 x1 x2 x3 x4 x5 x6 x7 x8 x9 x10) x).trans (plain_at i x0 x1 x2 x3 x4 x5 x6 x7 x8 x9 x10 _ 3 (batch3_apply i x0 x1 x2 x3 x4) 1280 (by decide) _ b r l x hx (by decide))) ?_
  refine View.allAt_cons_unit _ _ _ _ _ (fun x hx => (congrFun (tile3_9 i x0 x1 x2 x3 x4 x5 x6 x7 x8 x9 x10) x).trans (plain_at i x0 x1 x2 x3 x4 x5 x6 x7 x8 x9 x10 _ 3 (batch3_apply i x0 x1 x2 x3 x4) 1152 (by decide) _ b r l x hx (by decide))) ?_
  refine View.allAt_cons_unit _ _ _ _ _ (fun x hx => (congrFun (tile3_8 i x0 x1 x2 x3 x4 x5 x6 x7 x8 x9 x10) x).trans (plain_at i x0 x1 x2 x3 x4 x5 x6 x7 x8 x9 x10 _ 3 (batch3_apply i x0 x1 x2 x3 x4) 1024 (by decide) _ b r l x hx (by decide))) ?_
  refine View.allAt_cons_unit _ _ _ _ _ (fun x hx => (congrFun (tile3_7 i x0 x1 x2 x3 x4 x5 x6 x7 x8 x9 x10) x).trans (nk_at i x0 x1 x2 x3 x4 x5 x6 x7 x8 x9 x10 _ 3 (batch3_apply i x0 x1 x2 x3 x4) 896 (by decide) _ b r l x hx (by decide) (by decide))) ?_
  refine View.allAt_cons_unit _ _ _ _ _ (fun x hx => (congrFun (tile3_6 i x0 x1 x2 x3 x4 x5 x6 x7 x8 x9 x10) x).trans (nk_at i x0 x1 x2 x3 x4 x5 x6 x7 x8 x9 x10 _ 3 (batch3_apply i x0 x1 x2 x3 x4) 768 (by decide) _ b r l x hx (by decide) (by decide))) ?_
  refine View.allAt_cons_unit _ _ _ _ _ (fun x hx => (congrFun (tile3_5 i x0 x1 x2 x3 x4 x5 x6 x7 x8 x9 x10) x).trans (nq_at i x0 x1 x2 x3 x4 x5 x6 x7 x8 x9 x10 _ 3 (batch3_apply i x0 x1 x2 x3 x4) 640 (by decide) _ b r l x hx (by decide) (by decide))) ?_
  refine View.allAt_cons_unit _ _ _ _ _ (fun x hx => (congrFun (tile3_4 i x0 x1 x2 x3 x4 x5 x6 x7 x8 x9 x10) x).trans (nq_at i x0 x1 x2 x3 x4 x5 x6 x7 x8 x9 x10 _ 3 (batch3_apply i x0 x1 x2 x3 x4) 512 (by decide) _ b r l x hx (by decide) (by decide))) ?_
  refine View.allAt_cons_unit _ _ _ _ _ (fun x hx => (congrFun (tile3_3 i x0 x1 x2 x3 x4 x5 x6 x7 x8 x9 x10) x).trans (plain_at i x0 x1 x2 x3 x4 x5 x6 x7 x8 x9 x10 _ 3 (batch3_apply i x0 x1 x2 x3 x4) 384 (by decide) _ b r l x hx (by decide))) ?_
  refine View.allAt_cons_unit _ _ _ _ _ (fun x hx => (congrFun (tile3_2 i x0 x1 x2 x3 x4 x5 x6 x7 x8 x9 x10) x).trans (k_at i x0 x1 x2 x3 x4 x5 x6 x7 x8 x9 x10 _ 3 (batch3_apply i x0 x1 x2 x3 x4) 256 (by decide) _ b r l x hx (by decide) (by decide))) ?_
  refine View.allAt_cons_unit _ _ _ _ _ (fun x hx => (congrFun (tile3_1 i x0 x1 x2 x3 x4 x5 x6 x7 x8 x9 x10) x).trans (q_at i x0 x1 x2 x3 x4 x5 x6 x7 x8 x9 x10 _ 3 (batch3_apply i x0 x1 x2 x3 x4) 128 (by decide) _ b r l x hx (by decide))) ?_
  refine View.allAt_cons_unit _ _ _ _ _ (fun x hx => (congrFun (tile3_0 i x0 x1 x2 x3 x4 x5 x6 x7 x8 x9 x10) x).trans (q_at i x0 x1 x2 x3 x4 x5 x6 x7 x8 x9 x10 _ 3 (batch3_apply i x0 x1 x2 x3 x4) 0 (by decide) _ b r l x hx (by decide))) ?_
  refine View.allAt_cons_unit _ _ _ _ _ (fun x hx => (congrFun (tile2_11 i x0 x1 x2 x3 x4 x5 x6 x7 x8 x9 x10) x).trans (plain_at i x0 x1 x2 x3 x4 x5 x6 x7 x8 x9 x10 _ 2 (batch2_apply i x0 x1 x2 x3 x4) 1408 (by decide) _ b r l x hx (by decide))) ?_
  refine View.allAt_cons_unit _ _ _ _ _ (fun x hx => (congrFun (tile2_10 i x0 x1 x2 x3 x4 x5 x6 x7 x8 x9 x10) x).trans (plain_at i x0 x1 x2 x3 x4 x5 x6 x7 x8 x9 x10 _ 2 (batch2_apply i x0 x1 x2 x3 x4) 1280 (by decide) _ b r l x hx (by decide))) ?_
  refine View.allAt_cons_unit _ _ _ _ _ (fun x hx => (congrFun (tile2_9 i x0 x1 x2 x3 x4 x5 x6 x7 x8 x9 x10) x).trans (plain_at i x0 x1 x2 x3 x4 x5 x6 x7 x8 x9 x10 _ 2 (batch2_apply i x0 x1 x2 x3 x4) 1152 (by decide) _ b r l x hx (by decide))) ?_
  refine View.allAt_cons_unit _ _ _ _ _ (fun x hx => (congrFun (tile2_8 i x0 x1 x2 x3 x4 x5 x6 x7 x8 x9 x10) x).trans (plain_at i x0 x1 x2 x3 x4 x5 x6 x7 x8 x9 x10 _ 2 (batch2_apply i x0 x1 x2 x3 x4) 1024 (by decide) _ b r l x hx (by decide))) ?_
  refine View.allAt_cons_unit _ _ _ _ _ (fun x hx => (congrFun (tile2_7 i x0 x1 x2 x3 x4 x5 x6 x7 x8 x9 x10) x).trans (nk_at i x0 x1 x2 x3 x4 x5 x6 x7 x8 x9 x10 _ 2 (batch2_apply i x0 x1 x2 x3 x4) 896 (by decide) _ b r l x hx (by decide) (by decide))) ?_
  refine View.allAt_cons_unit _ _ _ _ _ (fun x hx => (congrFun (tile2_6 i x0 x1 x2 x3 x4 x5 x6 x7 x8 x9 x10) x).trans (nk_at i x0 x1 x2 x3 x4 x5 x6 x7 x8 x9 x10 _ 2 (batch2_apply i x0 x1 x2 x3 x4) 768 (by decide) _ b r l x hx (by decide) (by decide))) ?_
  refine View.allAt_cons_unit _ _ _ _ _ (fun x hx => (congrFun (tile2_5 i x0 x1 x2 x3 x4 x5 x6 x7 x8 x9 x10) x).trans (nq_at i x0 x1 x2 x3 x4 x5 x6 x7 x8 x9 x10 _ 2 (batch2_apply i x0 x1 x2 x3 x4) 640 (by decide) _ b r l x hx (by decide) (by decide))) ?_
  refine View.allAt_cons_unit _ _ _ _ _ (fun x hx => (congrFun (tile2_4 i x0 x1 x2 x3 x4 x5 x6 x7 x8 x9 x10) x).trans (nq_at i x0 x1 x2 x3 x4 x5 x6 x7 x8 x9 x10 _ 2 (batch2_apply i x0 x1 x2 x3 x4) 512 (by decide) _ b r l x hx (by decide) (by decide))) ?_
  refine View.allAt_cons_unit _ _ _ _ _ (fun x hx => (congrFun (tile2_3 i x0 x1 x2 x3 x4 x5 x6 x7 x8 x9 x10) x).trans (plain_at i x0 x1 x2 x3 x4 x5 x6 x7 x8 x9 x10 _ 2 (batch2_apply i x0 x1 x2 x3 x4) 384 (by decide) _ b r l x hx (by decide))) ?_
  refine View.allAt_cons_unit _ _ _ _ _ (fun x hx => (congrFun (tile2_2 i x0 x1 x2 x3 x4 x5 x6 x7 x8 x9 x10) x).trans (k_at i x0 x1 x2 x3 x4 x5 x6 x7 x8 x9 x10 _ 2 (batch2_apply i x0 x1 x2 x3 x4) 256 (by decide) _ b r l x hx (by decide) (by decide))) ?_
  refine View.allAt_cons_unit _ _ _ _ _ (fun x hx => (congrFun (tile2_1 i x0 x1 x2 x3 x4 x5 x6 x7 x8 x9 x10) x).trans (q_at i x0 x1 x2 x3 x4 x5 x6 x7 x8 x9 x10 _ 2 (batch2_apply i x0 x1 x2 x3 x4) 128 (by decide) _ b r l x hx (by decide))) ?_
  refine View.allAt_cons_unit _ _ _ _ _ (fun x hx => (congrFun (tile2_0 i x0 x1 x2 x3 x4 x5 x6 x7 x8 x9 x10) x).trans (q_at i x0 x1 x2 x3 x4 x5 x6 x7 x8 x9 x10 _ 2 (batch2_apply i x0 x1 x2 x3 x4) 0 (by decide) _ b r l x hx (by decide))) ?_
  refine View.allAt_cons_unit _ _ _ _ _ (fun x hx => (congrFun (tile1_11 i x0 x1 x2 x3 x4 x5 x6 x7 x8 x9 x10) x).trans (plain_at i x0 x1 x2 x3 x4 x5 x6 x7 x8 x9 x10 _ 1 (batch1_apply i x0 x1 x2 x3 x4) 1408 (by decide) _ b r l x hx (by decide))) ?_
  refine View.allAt_cons_unit _ _ _ _ _ (fun x hx => (congrFun (tile1_10 i x0 x1 x2 x3 x4 x5 x6 x7 x8 x9 x10) x).trans (plain_at i x0 x1 x2 x3 x4 x5 x6 x7 x8 x9 x10 _ 1 (batch1_apply i x0 x1 x2 x3 x4) 1280 (by decide) _ b r l x hx (by decide))) ?_
  refine View.allAt_cons_unit _ _ _ _ _ (fun x hx => (congrFun (tile1_9 i x0 x1 x2 x3 x4 x5 x6 x7 x8 x9 x10) x).trans (plain_at i x0 x1 x2 x3 x4 x5 x6 x7 x8 x9 x10 _ 1 (batch1_apply i x0 x1 x2 x3 x4) 1152 (by decide) _ b r l x hx (by decide))) ?_
  refine View.allAt_cons_unit _ _ _ _ _ (fun x hx => (congrFun (tile1_8 i x0 x1 x2 x3 x4 x5 x6 x7 x8 x9 x10) x).trans (plain_at i x0 x1 x2 x3 x4 x5 x6 x7 x8 x9 x10 _ 1 (batch1_apply i x0 x1 x2 x3 x4) 1024 (by decide) _ b r l x hx (by decide))) ?_
  refine View.allAt_cons_unit _ _ _ _ _ (fun x hx => (congrFun (tile1_7 i x0 x1 x2 x3 x4 x5 x6 x7 x8 x9 x10) x).trans (nk_at i x0 x1 x2 x3 x4 x5 x6 x7 x8 x9 x10 _ 1 (batch1_apply i x0 x1 x2 x3 x4) 896 (by decide) _ b r l x hx (by decide) (by decide))) ?_
  refine View.allAt_cons_unit _ _ _ _ _ (fun x hx => (congrFun (tile1_6 i x0 x1 x2 x3 x4 x5 x6 x7 x8 x9 x10) x).trans (nk_at i x0 x1 x2 x3 x4 x5 x6 x7 x8 x9 x10 _ 1 (batch1_apply i x0 x1 x2 x3 x4) 768 (by decide) _ b r l x hx (by decide) (by decide))) ?_
  refine View.allAt_cons_unit _ _ _ _ _ (fun x hx => (congrFun (tile1_5 i x0 x1 x2 x3 x4 x5 x6 x7 x8 x9 x10) x).trans (nq_at i x0 x1 x2 x3 x4 x5 x6 x7 x8 x9 x10 _ 1 (batch1_apply i x0 x1 x2 x3 x4) 640 (by decide) _ b r l x hx (by decide) (by decide))) ?_
  refine View.allAt_cons_unit _ _ _ _ _ (fun x hx => (congrFun (tile1_4 i x0 x1 x2 x3 x4 x5 x6 x7 x8 x9 x10) x).trans (nq_at i x0 x1 x2 x3 x4 x5 x6 x7 x8 x9 x10 _ 1 (batch1_apply i x0 x1 x2 x3 x4) 512 (by decide) _ b r l x hx (by decide) (by decide))) ?_
  refine View.allAt_cons_unit _ _ _ _ _ (fun x hx => (congrFun (tile1_3 i x0 x1 x2 x3 x4 x5 x6 x7 x8 x9 x10) x).trans (plain_at i x0 x1 x2 x3 x4 x5 x6 x7 x8 x9 x10 _ 1 (batch1_apply i x0 x1 x2 x3 x4) 384 (by decide) _ b r l x hx (by decide))) ?_
  refine View.allAt_cons_unit _ _ _ _ _ (fun x hx => (congrFun (tile1_2 i x0 x1 x2 x3 x4 x5 x6 x7 x8 x9 x10) x).trans (k_at i x0 x1 x2 x3 x4 x5 x6 x7 x8 x9 x10 _ 1 (batch1_apply i x0 x1 x2 x3 x4) 256 (by decide) _ b r l x hx (by decide) (by decide))) ?_
  refine View.allAt_cons_unit _ _ _ _ _ (fun x hx => (congrFun (tile1_1 i x0 x1 x2 x3 x4 x5 x6 x7 x8 x9 x10) x).trans (q_at i x0 x1 x2 x3 x4 x5 x6 x7 x8 x9 x10 _ 1 (batch1_apply i x0 x1 x2 x3 x4) 128 (by decide) _ b r l x hx (by decide))) ?_
  refine View.allAt_cons_unit _ _ _ _ _ (fun x hx => (congrFun (tile1_0 i x0 x1 x2 x3 x4 x5 x6 x7 x8 x9 x10) x).trans (q_at i x0 x1 x2 x3 x4 x5 x6 x7 x8 x9 x10 _ 1 (batch1_apply i x0 x1 x2 x3 x4) 0 (by decide) _ b r l x hx (by decide))) ?_
  refine View.allAt_cons_unit _ _ _ _ _ (fun x hx => (congrFun (tile0_11 i x0 x1 x2 x3 x4 x5 x6 x7 x8 x9 x10) x).trans (plain_at i x0 x1 x2 x3 x4 x5 x6 x7 x8 x9 x10 _ 0 (batch0_apply i x0 x1 x2 x3 x4) 1408 (by decide) _ b r l x hx (by decide))) ?_
  refine View.allAt_cons_unit _ _ _ _ _ (fun x hx => (congrFun (tile0_10 i x0 x1 x2 x3 x4 x5 x6 x7 x8 x9 x10) x).trans (plain_at i x0 x1 x2 x3 x4 x5 x6 x7 x8 x9 x10 _ 0 (batch0_apply i x0 x1 x2 x3 x4) 1280 (by decide) _ b r l x hx (by decide))) ?_
  refine View.allAt_cons_unit _ _ _ _ _ (fun x hx => (congrFun (tile0_9 i x0 x1 x2 x3 x4 x5 x6 x7 x8 x9 x10) x).trans (plain_at i x0 x1 x2 x3 x4 x5 x6 x7 x8 x9 x10 _ 0 (batch0_apply i x0 x1 x2 x3 x4) 1152 (by decide) _ b r l x hx (by decide))) ?_
  refine View.allAt_cons_unit _ _ _ _ _ (fun x hx => (congrFun (tile0_8 i x0 x1 x2 x3 x4 x5 x6 x7 x8 x9 x10) x).trans (plain_at i x0 x1 x2 x3 x4 x5 x6 x7 x8 x9 x10 _ 0 (batch0_apply i x0 x1 x2 x3 x4) 1024 (by decide) _ b r l x hx (by decide))) ?_
  refine View.allAt_cons_unit _ _ _ _ _ (fun x hx => (congrFun (tile0_7 i x0 x1 x2 x3 x4 x5 x6 x7 x8 x9 x10) x).trans (nk_at i x0 x1 x2 x3 x4 x5 x6 x7 x8 x9 x10 _ 0 (batch0_apply i x0 x1 x2 x3 x4) 896 (by decide) _ b r l x hx (by decide) (by decide))) ?_
  refine View.allAt_cons_unit _ _ _ _ _ (fun x hx => (congrFun (tile0_6 i x0 x1 x2 x3 x4 x5 x6 x7 x8 x9 x10) x).trans (nk_at i x0 x1 x2 x3 x4 x5 x6 x7 x8 x9 x10 _ 0 (batch0_apply i x0 x1 x2 x3 x4) 768 (by decide) _ b r l x hx (by decide) (by decide))) ?_
  refine View.allAt_cons_unit _ _ _ _ _ (fun x hx => (congrFun (tile0_5 i x0 x1 x2 x3 x4 x5 x6 x7 x8 x9 x10) x).trans (nq_at i x0 x1 x2 x3 x4 x5 x6 x7 x8 x9 x10 _ 0 (batch0_apply i x0 x1 x2 x3 x4) 640 (by decide) _ b r l x hx (by decide) (by decide))) ?_
  refine View.allAt_cons_unit _ _ _ _ _ (fun x hx => (congrFun (tile0_4 i x0 x1 x2 x3 x4 x5 x6 x7 x8 x9 x10) x).trans (nq_at i x0 x1 x2 x3 x4 x5 x6 x7 x8 x9 x10 _ 0 (batch0_apply i x0 x1 x2 x3 x4) 512 (by decide) _ b r l x hx (by decide) (by decide))) ?_
  refine View.allAt_cons_unit _ _ _ _ _ (fun x hx => (congrFun (tile0_3 i x0 x1 x2 x3 x4 x5 x6 x7 x8 x9 x10) x).trans (plain_at i x0 x1 x2 x3 x4 x5 x6 x7 x8 x9 x10 _ 0 (batch0_apply i x0 x1 x2 x3 x4) 384 (by decide) _ b r l x hx (by decide))) ?_
  refine View.allAt_cons_unit _ _ _ _ _ (fun x hx => (congrFun (tile0_2 i x0 x1 x2 x3 x4 x5 x6 x7 x8 x9 x10) x).trans (k_at i x0 x1 x2 x3 x4 x5 x6 x7 x8 x9 x10 _ 0 (batch0_apply i x0 x1 x2 x3 x4) 256 (by decide) _ b r l x hx (by decide) (by decide))) ?_
  refine View.allAt_cons_unit _ _ _ _ _ (fun x hx => (congrFun (tile0_1 i x0 x1 x2 x3 x4 x5 x6 x7 x8 x9 x10) x).trans (q_at i x0 x1 x2 x3 x4 x5 x6 x7 x8 x9 x10 _ 0 (batch0_apply i x0 x1 x2 x3 x4) 128 (by decide) _ b r l x hx (by decide))) ?_
  refine View.allAt_cons_unit _ _ _ _ _ (fun x hx => (congrFun (tile0_0 i x0 x1 x2 x3 x4 x5 x6 x7 x8 x9 x10) x).trans (q_at i x0 x1 x2 x3 x4 x5 x6 x7 x8 x9 x10 _ 0 (batch0_apply i x0 x1 x2 x3 x4) 0 (by decide) _ b r l x hx (by decide))) ?_
  exact View.allAt_nil _ _

/-- The block of the state-space mixer's input, at an index. -/
theorem block_input (b : Fin 4) (r l : Fin 256) :
    out0_12 (F := Ideal) i x0 x1 x2 x3 x4 x5 x6 x7 x8 x9 x10 (ix3 b r l) = blockRow i x0 x1 x2 x3 x4 b r ⟨1536 + l, by omega⟩ := by
  unfold out0_12
  refine View.canon_eq_of_allAt _ _ _ (cover0_12 ..) ?_
  refine View.allAt_cons_unit _ _ _ _ _ (fun x hx => (congrFun (input3 i x0 x1 x2 x3 x4 x5 x6 x7 x8 x9 x10) x).trans (input_at i x0 x1 x2 x3 x4 _ 3 (batch3_apply i x0 x1 x2 x3 x4) b r l x hx)) ?_
  refine View.allAt_cons_unit _ _ _ _ _ (fun x hx => (congrFun (input2 i x0 x1 x2 x3 x4 x5 x6 x7 x8 x9 x10) x).trans (input_at i x0 x1 x2 x3 x4 _ 2 (batch2_apply i x0 x1 x2 x3 x4) b r l x hx)) ?_
  refine View.allAt_cons_unit _ _ _ _ _ (fun x hx => (congrFun (input1 i x0 x1 x2 x3 x4 x5 x6 x7 x8 x9 x10) x).trans (input_at i x0 x1 x2 x3 x4 _ 1 (batch1_apply i x0 x1 x2 x3 x4) b r l x hx)) ?_
  refine View.allAt_cons_unit _ _ _ _ _ (fun x hx => (congrFun (input0 i x0 x1 x2 x3 x4 x5 x6 x7 x8 x9 x10) x).trans (input_at i x0 x1 x2 x3 x4 _ 0 (batch0_apply i x0 x1 x2 x3 x4) b r l x hx)) ?_
  exact View.allAt_nil _ _

end Cert.Kernel3Ideal.Proj

end
-- ==== Proof.ProjValue.lean ====
/- The input projection's result arrays, read at an index off the arrays that the call is given. -/
module

public import proofs.«01_k».proof.Proof.ProjBlock

@[expose] public section

set_option maxRecDepth 16384

noncomputable section

namespace Cert.Kernel3Ideal.Proj

open Cert.Kernel3Ideal Cert.Kernel3Ideal.Gen Cert.MixMath Cert.ProjMath
open Idealize.ShloMosaic Idealize.ShloMosaic.TcCoe Idealize.ShloMosaic.Tactic

/-! The blocks' places: point `t` projects 256 tokens, tile `t % 9` of the 2304 of each batch, for the four batches of group
    `t / 9`. -/

theorem coord_eq : ∀ t : Fin grid0.N, ((grid0.coords t 1 : Fin _) : ℕ) = t.val % 9 := by decide +kernel
theorem index_0 : ∀ t : Fin grid0.N, win0_0.index t = ![t.val / 9, t.val % 9, 0] := by decide +kernel
theorem index_1 : ∀ t : Fin grid0.N, win0_1.index t = ![t.val / 9, 0, 0] := by decide +kernel
theorem index_2 : ∀ t : Fin grid0.N, win0_2.index t = ![16, 0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![t.val % 9, 0] := by decide +kernel
theorem index_6 : ∀ t : Fin grid0.N, win0_6.index t = ![t.val % 9, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_11 : ∀ t : Fin grid0.N, win0_11.index t = ![t.val / 9, t.val % 9, 0] := by decide +kernel
theorem index_12 : ∀ t : Fin grid0.N, win0_12.index t = ![t.val / 9, t.val % 9, 0] := by decide +kernel
theorem N_eq : cfg0.N = 36 := by decide +kernel

variable (m : (ℓ : Loc nD τ sig) → Buf (Elt Ideal) ℓ) (c : Dev nD)

/-! The arrays that the call is given. -/

abbrev aStream : Vec Ideal S16x2304x1024 .f32 := V m c main_v48
abbrev aMod : Vec Ideal S24x1x6144 .f32 := V m c main_v49
abbrev aG : Vec Ideal S1x1024 .f32 := V m c main_v50
abbrev aW : Vec Ideal S1024x1792 .bf16 := V m c main_v57
abbrev aCos : Vec Ideal S2304x128 .f32 := V m c main_v44
abbrev aSin : Vec Ideal S2304x128 .f32 := V m c main_v47
abbrev aGq : Vec Ideal S1x128 .f32 := V m c main_v61
abbrev aGk : Vec Ideal S1x128 .f32 := V m c main_v65
abbrev aNq : Vec Ideal S1x128 .f32 := V m c main_v69
abbrev aNk : Vec Ideal S1x128 .f32 := V m c main_v73

/-- Batch `b` of the group of point `t`, and the token of row `r` of its tile. -/
def batchAt (t : Fin cfg0.N) (b : Fin 4) : Fin 16 := ⟨t.val / 9 * 4 + b, by have := t.isLt; have := N_eq; omega⟩
def tokenAt (t : Fin cfg0.N) (r : Fin 256) : Fin 2304 := ⟨t.val % 9 * 256 + r, by omega⟩

theorem iblk_0 (t : Fin cfg0.N) (b : Fin 4) (r : Fin 256) (l : Fin 1024) : (iblk m c 0 t : Vec Ideal S4x256x1024 .f32) (ix3 b r l) = aStream m c (ix3 (batchAt t b) (tokenAt t r) l) := by
  unfold batchAt tokenAt
  blk_ext [iblk, index_0 t]
theorem iblk_1 (t : Fin cfg0.N) (b : Fin 4) (l : Fin 6144) : (iblk m c 1 t : Vec Ideal S4x1x6144 .f32) (ix3 b 0 l) = aMod m c (ix3 ⟨batchAt t b, by omega⟩ 0 l) := by
  unfold batchAt
  blk_ext [iblk, index_1 t]
theorem iblk_2 (t : Fin cfg0.N) (l : Fin 6144) : (iblk m c 2 t : Vec Ideal S1x1x6144 .f32) (ix3 0 0 l) = aMod m c (ix3 16 0 l) := by
  blk_ext [iblk, index_2 t]
theorem iblk_3 (t : Fin cfg0.N) (l : Fin 1024) : (iblk m c 3 t : Vec Ideal S1x1024 .f32) (ix2 0 l) = aG m c (ix2 0 l) := by
  blk_ext [iblk, index_3 t]
theorem iblk_4 (t : Fin cfg0.N) (k : Fin 1024) (j : Fin 1792) : (iblk m c 4 t : Vec Ideal S1024x1792 .bf16) (ix2 k j) = aW m c (ix2 k j) := by
  blk_ext [iblk, index_4 t]
theorem iblk_5 (t : Fin cfg0.N) (r : Fin 256) (e : Fin 128) : (iblk m c 5 t : Vec Ideal S256x128 .f32) (ix2 r e) = aCos m c (ix2 (tokenAt t r) e) := by
  unfold tokenAt
  blk_ext [iblk, index_5 t]
theorem iblk_6 (t : Fin cfg0.N) (r : Fin 256) (e : Fin 128) : (iblk m c 6 t : Vec Ideal S256x128 .f32) (ix2 r e) = aSin m c (ix2 (tokenAt t r) e) := by
  unfold tokenAt
  blk_ext [iblk, index_6 t]
theorem iblk_7 (t : Fin cfg0.N) (e : Fin 128) : (iblk m c 7 t : Vec Ideal S1x128 .f32) (ix2 0 e) = aGq m c (ix2 0 e) := by
  blk_ext [iblk, index_7 t]
theorem iblk_8 (t : Fin cfg0.N) (e : Fin 128) : (iblk m c 8 t : Vec Ideal S1x128 .f32) (ix2 0 e) = aGk m c (ix2 0 e) := by
  blk_ext [iblk, index_8 t]
theorem iblk_9 (t : Fin cfg0.N) (e : Fin 128) : (iblk m c 9 t : Vec Ideal S1x128 .f32) (ix2 0 e) = aNq m c (ix2 0 e) := by
  blk_ext [iblk, index_9 t]
theorem iblk_10 (t : Fin cfg0.N) (e : Fin 128) : (iblk m c 10 t : Vec Ideal S1x128 .f32) (ix2 0 e) = aNk m c (ix2 0 e) := by
  blk_ext [iblk, index_10 t]

/-- The modulation at batch `b` and token `n`: the context's own for the first 256 tokens. -/
def modAt (b : Fin 16) (n : Fin 2304) (l : Fin 6144) : EReal := if (n : ℕ) < 256 then aMod m c (ix3 16 0 l) else aMod m c (ix3 ⟨b, by omega⟩ 0 l)

/-- The projected row there. -/
def rowAt (b : Fin 16) (n : Fin 2304) : Fin 1792 → EReal :=
  projected (modulated (fun l => aStream m c (ix3 b n l)) (fun l => aG m c (ix2 0 l)) (fun l => modAt m c b n ⟨1024 + l, by omega⟩) (fun l => modAt m c b n ⟨l, by omega⟩)) (fun k j => aW m c (ix2 k j))

/-- What the mixers read there. -/
def laneAt (b : Fin 16) (n : Fin 2304) : Fin 1536 → EReal :=
  tiledLane (rowAt m c b n) (fun e => aGq m c (ix2 0 e)) (fun e => aGk m c (ix2 0 e)) (fun e => aNq m c (ix2 0 e)) (fun e => aNk m c (ix2 0 e)) (fun e => aCos m c (ix2 n e)) (fun e => aSin m c (ix2 n e))

theorem blockMod_eq (t : Fin cfg0.N) (b : Fin 4) (r : Fin 256) :
    blockMod (grid0.coords t) (iblk m c 1 t) (iblk m c 2 t) b = modAt m c (batchAt t b) (tokenAt t r) := by
  funext l
  unfold blockMod chosen modAt
  have h := coord_eq t
  refine if_congr ?_ (iblk_2 m c t l) (iblk_1 m c t b l)
  rw [h]
  unfold tokenAt
  dsimp only
  omega

theorem blockRow_eq (t : Fin cfg0.N) (b : Fin 4) (r : Fin 256) :
    blockRow (grid0.coords t) (iblk m c 0 t) (iblk m c 1 t) (iblk m c 2 t) (iblk m c 3 t) (iblk m c 4 t) b r = rowAt m c (batchAt t b) (tokenAt t r) := by
  unfold blockRow rowAt
  rw [blockMod_eq m c t b r, funext (iblk_0 m c t b r), funext (iblk_3 m c t), show (fun k j => (iblk m c 4 t : Vec Ideal S1024x1792 .bf16) (ix2 k j)) = _ from funext fun k => funext (iblk_4 m c t k)]

theorem blockLane_eq (t : Fin cfg0.N) (b : Fin 4) (r : Fin 256) :
    blockLane (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) b r
      = laneAt m c (batchAt t b) (tokenAt t r) := by
  unfold blockLane laneAt
  rw [blockRow_eq, funext (iblk_5 m c t r), funext (iblk_6 m c t r), funext (iblk_7 m c t), funext (iblk_8 m c t), funext (iblk_9 m c t), funext (iblk_10 m c t)]

/-- The result arrays as functions of their index. -/
def lanesArr : Vec Ideal S16x2304x1536 .bf16 := fun y => laneAt m c (y 0) (y 1) (y 2)
def inputArr : Vec Ideal S16x2304x256 .f32 := fun y => rowAt m c (y 0) (y 1) ⟨1536 + (y 2 : ℕ), by have h : (y 2 : ℕ) < 256 := (y 2).isLt; omega⟩

/-- The array of the mixers' operands. -/
theorem lanes_eq : (dats m 0 c).arrAt 11 cfg0.N = lanesArr m c := by
  refine (dats m 0 c).arrAt_eq_of_covers 11 _ (by decide +kernel) fun t hf y => ?_
  blk_simp
  rw [after0_11]
  obtain ⟨b, r, l, rfl⟩ : ∃ (b : Fin 4) (r : Fin 256) (l : Fin 1536), y = (ix3 b r l : S4x256x1536.Idx) :=
    ⟨y 0, y 1, y 2, by funext a; match a with | ⟨0, _⟩ => rfl | ⟨1, _⟩ => rfl | ⟨2, _⟩ => rfl⟩
  refine (block_lane _ _ _ _ _ _ _ _ _ _ _ _ b r l).trans ?_
  rw [blockLane_eq]
  have e : ((cfg0.win 11).blk t).view.emb (ix3 b r l : S4x256x1536.Idx) = (ix3 (batchAt t b) (tokenAt t r) l : S16x2304x1536.Idx) := by
    unfold batchAt tokenAt
    blk_ext [index_11 t]
  rw [e]
  rfl

/-- The array of the state-space mixer's input. -/
theorem input_eq : (dats m 0 c).arrAt 12 cfg0.N = inputArr m c := by
  refine (dats m 0 c).arrAt_eq_of_covers 12 _ (by decide +kernel) fun t hf y => ?_
  blk_simp
  rw [after0_12]
  obtain ⟨b, r, l, rfl⟩ : ∃ (b : Fin 4) (r l : Fin 256), y = (ix3 b r l : S4x256x256.Idx) :=
    ⟨y 0, y 1, y 2, by funext a; match a with | ⟨0, _⟩ => rfl | ⟨1, _⟩ => rfl | ⟨2, _⟩ => rfl⟩
  refine (block_input _ _ _ _ _ _ _ _ _ _ _ _ b r l).trans ?_
  rw [blockRow_eq]
  have e : ((cfg0.win 12).blk t).view.emb (ix3 b r l : S4x256x256.Idx) = (ix3 (batchAt t b) (tokenAt t r) l : S16x2304x256.Idx) := by
    unfold batchAt tokenAt
    blk_ext [index_12 t]
  rw [e]
  rfl

end Cert.Kernel3Ideal.Proj

end
-- ==== Proof.ProjLanes.lean ====
/- Rows laid out piece by piece, read at a lane. -/
module

public import proofs.«01_k».proof.Proof.ProjMath

@[expose] public section

noncomputable section

namespace Cert.ProjMath

/-- Four pieces of 64 lanes, the middle ones exchanged, and the remaining lanes after them. -/
theorem laneOf_pick (f : Fin 1792 → EReal) (l : Fin 1792) :
    (if h : (l : ℕ) < 64 then f ⟨l, by omega⟩ else if h : (l : ℕ) - 64 < 64 then f ⟨128 + ((l : ℕ) - 64), by omega⟩
      else if h : (l : ℕ) - 64 - 64 < 64 then f ⟨64 + ((l : ℕ) - 64 - 64), by omega⟩
      else if h : (l : ℕ) - 64 - 64 - 64 < 64 then f ⟨192 + ((l : ℕ) - 64 - 64 - 64), by omega⟩
      else f ⟨256 + ((l : ℕ) - 64 - 64 - 64 - 64), by omega⟩) = f (laneOf l) := by
  have hl := l.isLt
  have hv : ((laneOf l : Fin 1792) : ℕ) = if (l : ℕ) < 256 then 64 * headOrder (l / 64) + l % 64 else l := by
    unfold laneOf
    split <;> rfl
  unfold headOrder at hv
  split_ifs <;> refine congrArg f (Fin.ext ?_) <;> rw [hv] <;> dsimp only <;> split_ifs <;> omega

/-- Four pieces of 16 lanes: a row's, twice, and a column's, twice. -/
theorem cosLane_pick (a b : Fin 16 → EReal) (d : Fin 64) :
    (if h : (d : ℕ) < 16 then a ⟨d, h⟩ else if h : (d : ℕ) - 16 < 16 then a ⟨(d : ℕ) - 16, h⟩
      else if h : (d : ℕ) - 16 - 16 < 16 then b ⟨(d : ℕ) - 16 - 16, h⟩ else b ⟨(d : ℕ) - 16 - 16 - 16, by omega⟩) = cosLane a b d := by
  have hd := d.isLt
  unfold cosLane
  split_ifs <;> first | omega | rfl | exact congrArg _ (Fin.ext (by dsimp only; omega))

/-- The same with the first of each two negated. -/
theorem sinLane_pick (a b : Fin 16 → EReal) (d : Fin 64) :
    (if h : (d : ℕ) < 16 then -a ⟨d, h⟩ else if h : (d : ℕ) - 16 < 16 then a ⟨(d : ℕ) - 16, h⟩
      else if h : (d : ℕ) - 16 - 16 < 16 then -b ⟨(d : ℕ) - 16 - 16, h⟩ else b ⟨(d : ℕ) - 16 - 16 - 16, by omega⟩) = sinLane a b d := by
  have hd := d.isLt
  unfold sinLane
  split_ifs <;> first | omega | rfl | exact congrArg _ (Fin.ext (by dsimp only; omega)) | exact congrArg (fun x => -b x) (Fin.ext (by dsimp only; omega))

/-- The query head kept at a place. -/
def headOf (h : Fin 4) : Fin 4 := ⟨headOrder h, by unfold headOrder; split_ifs <;> omega⟩

/-- Seven pieces of a row beside one another. -/
def joined (q : Fin 256 → EReal) (k v : Fin 128 → EReal) (nq nk dv f : Fin 256 → EReal) (l : Fin 1536) : EReal :=
  if h : (l : ℕ) < 256 then q ⟨l, h⟩ else if h : (l : ℕ) < 384 then k ⟨l - 256, by omega⟩ else if h : (l : ℕ) < 512 then v ⟨l - 384, by omega⟩
  else if h : (l : ℕ) < 768 then nq ⟨l - 512, by omega⟩ else if h : (l : ℕ) < 1024 then nk ⟨l - 768, by omega⟩
  else if h : (l : ℕ) < 1280 then dv ⟨l - 1024, by omega⟩ else f ⟨l - 1280, by omega⟩

theorem joined_pick (q : Fin 256 → EReal) (k v : Fin 128 → EReal) (nq nk dv f : Fin 256 → EReal) (l : Fin 1536) :
    (if h : (l : ℕ) < 256 then q ⟨l, h⟩ else if h : (l : ℕ) - 256 < 128 then k ⟨(l : ℕ) - 256, h⟩ else if h : (l : ℕ) - 256 - 128 < 128 then v ⟨(l : ℕ) - 256 - 128, h⟩
      else if h : (l : ℕ) - 256 - 128 - 128 < 256 then nq ⟨(l : ℕ) - 256 - 128 - 128, h⟩
      else if h : (l : ℕ) - 256 - 128 - 128 - 256 < 256 then nk ⟨(l : ℕ) - 256 - 128 - 128 - 256, h⟩
      else if h : (l : ℕ) - 256 - 128 - 128 - 256 - 256 < 256 then dv ⟨(l : ℕ) - 256 - 128 - 128 - 256 - 256, h⟩
      else f ⟨(l : ℕ) - 256 - 128 - 128 - 256 - 256 - 256, by omega⟩) = joined q k v nq nk dv f l := by
  have hl := l.isLt
  unfold joined
  split_ifs <;> first | omega | exact congrArg _ (Fin.ext (by first | rfl | (dsimp only; omega)))

theorem headOf_pick (f : Fin 4 → EReal) (h : Fin 4) :
    (if _h : (h : ℕ) < 1 then f 0 else if _h : (h : ℕ) - 1 < 1 then f 2 else if _h : (h : ℕ) - 1 - 1 < 1 then f 1 else f 3) = f (headOf h) := by
  match h with
  | 0 => rfl
  | 1 => rfl
  | 2 => rfl
  | 3 => rfl

/-- The rotary embedding, half by half. -/
theorem turned_pick (cr sr cc sc : Fin 16 → EReal) (t : Fin 64 → EReal) (d : Fin 64) :
    (if h1 : (d : ℕ) < 32 then
      if h2 : (d : ℕ) < 16 then t d * cr ⟨d, h2⟩ - t ⟨16 + d, by omega⟩ * sr ⟨d, h2⟩
      else t ⟨16 + ((d : ℕ) - 16), by omega⟩ * cr ⟨(d : ℕ) - 16, by omega⟩ + t ⟨(d : ℕ) - 16, by omega⟩ * sr ⟨(d : ℕ) - 16, by omega⟩
    else
      if h2 : (d : ℕ) - 32 < 16 then t ⟨32 + ((d : ℕ) - 32), by omega⟩ * cc ⟨(d : ℕ) - 32, h2⟩ - t ⟨32 + (16 + ((d : ℕ) - 32)), by omega⟩ * sc ⟨(d : ℕ) - 32, h2⟩
      else t ⟨32 + (16 + ((d : ℕ) - 32 - 16)), by omega⟩ * cc ⟨(d : ℕ) - 32 - 16, by omega⟩ + t ⟨32 + ((d : ℕ) - 32 - 16), by omega⟩ * sc ⟨(d : ℕ) - 32 - 16, by omega⟩)
      = turned cr sr cc sc t d := by
  have hd := d.isLt
  have hf : ∀ (n : ℕ) (f : Fin n → EReal) (i j : Fin n), (i : ℕ) = j → f i = f j := fun n f i j h => congrArg f (Fin.ext h)
  unfold turned
  split_ifs
  all_goals first
    | omega
    | (refine congrArg₂ (· - ·) (congrArg₂ (· * ·) (hf _ t _ _ ?_) (hf _ _ _ _ ?_)) (congrArg₂ (· * ·) (hf _ t _ _ ?_) (hf _ _ _ _ ?_)) <;> dsimp only <;> omega)
    | (refine congrArg₂ (· + ·) (congrArg₂ (· * ·) (hf _ t _ _ ?_) (hf _ _ _ _ ?_)) (congrArg₂ (· * ·) (hf _ t _ _ ?_) (hf _ _ _ _ ?_)) <;> dsimp only <;> omega)

/-- They are what the mixers read when each is. -/
theorem joined_mixer (turn : (Fin 64 → EReal) → Fin 64 → EReal) (p : Fin 1792 → EReal) (gq gk gnq gnk : Fin 64 → EReal)
    (q : Fin 256 → EReal) (k v : Fin 128 → EReal) (nq nk dv f : Fin 256 → EReal)
    (hq : ∀ l : Fin 256, q l = turn (normed (headAt p (0 + 64 * headOrder (l / 64))) gq) ⟨l % 64, by omega⟩)
    (hk : ∀ l : Fin 128, k l = turn (normed (headAt p (256 + 64 * (l / 64))) gk) ⟨l % 64, by omega⟩)
    (hv : ∀ l : Fin 128, v l = p ⟨384 + l, by omega⟩)
    (hnq : ∀ l : Fin 256, nq l = normed (headAt p (512 + 64 * (l / 64))) gnq ⟨l % 64, by omega⟩)
    (hnk : ∀ l : Fin 256, nk l = normed (headAt p (768 + 64 * (l / 64))) gnk ⟨l % 64, by omega⟩)
    (hd : ∀ l : Fin 256, dv l = p ⟨1024 + l, by omega⟩) (hf : ∀ l : Fin 256, f l = p ⟨1280 + l, by omega⟩) (l : Fin 1536) :
    joined q k v nq nk dv f l = mixerLane turn p gq gk gnq gnk l := by
  have hl := l.isLt
  unfold joined mixerLane
  split
  · rw [hq, Nat.zero_add]
  split
  · rw [hk, show 256 + 64 * (((⟨l - 256, by omega⟩ : Fin 128) : ℕ) / 64) = 64 * ((l : ℕ) / 64) by dsimp only; omega]
    exact congrArg _ (Fin.ext (by dsimp only; omega))
  split
  · rw [hv]
    exact congrArg p (Fin.ext (by dsimp only; omega))
  split
  · rw [hnq, show 512 + 64 * (((⟨l - 512, by omega⟩ : Fin 256) : ℕ) / 64) = 64 * ((l : ℕ) / 64) by dsimp only; omega]
    exact congrArg _ (Fin.ext (by dsimp only; omega))
  split
  · rw [hnk, show 768 + 64 * (((⟨l - 768, by omega⟩ : Fin 256) : ℕ) / 64) = 64 * ((l : ℕ) / 64) by dsimp only; omega]
    exact congrArg _ (Fin.ext (by dsimp only; omega))
  split
  · rw [hd]
    exact congrArg p (Fin.ext (by dsimp only; omega))
  · rw [hf]
    exact congrArg p (Fin.ext (by dsimp only; omega))

end Cert.ProjMath

end
-- ==== Proof.ProjHost.lean ====
/- The arrays that the input projection's call is given, as the host lays them out from the arguments. -/
module

public import proofs.«01_k».proof.Proof.ProjValue
public import proofs.«01_k».proof.Proof.ProjLanes
public import Idealize.ShloMosaic.Lib.StableHlo.RunRead
import Idealize.ShloMosaic.Lib.Pointwise

@[expose] public section

set_option maxRecDepth 16384

noncomputable section

namespace Cert.Kernel3Ideal.Proj

open Cert.Kernel3Ideal Cert.Kernel3Ideal.Gen Cert.MixMath Cert.ProjMath
open Idealize.ShloMosaic Idealize.ShloMosaic.TcCoe Idealize.ShloMosaic.Tactic Idealize.ShloMosaic.StableHlo

variable (m : (ℓ : Loc nD τ sig) → Buf (Elt Ideal) ℓ) (c : Dev nD)

/-- The modulation of the batches, then that of the context, then rows of zeros. -/
def modRows (a : FVec Ideal S16x6144 .f32) (b : FVec Ideal S6144 .f32) : FVec Ideal S24x6144 .f32 :=
  concatenate S24x6144 0 [⟨S16x6144, a⟩, ⟨S1x6144, broadcastInDim S1x6144 ![1] bcast_S6144_S1x6144_1 b⟩,
    ⟨S7x6144, broadcastInDim S7x6144 ![] bcast_S_S7x6144 (constant S_ .f32 0x00000000#32 : FVec Ideal S_ .f32)⟩] concatenates_S16x6144_S1x6144_S7x6144_S24x6144_d0

/-- The stream: context, then latent tokens. -/
def tokens (a : FVec Ideal S16x256x1024 .f32) (b : FVec Ideal S16x2048x1024 .f32) : FVec Ideal S16x2304x1024 .f32 :=
  concatenate S16x2304x1024 1 [⟨S16x256x1024, a⟩, ⟨S16x2048x1024, b⟩] concatenates_S16x256x1024_S16x2048x1024_S16x2304x1024_d1

/-- The matrix with the columns of the attention's query heads in the order 0, 2, 1, 3. -/
def columns (a : FVec Ideal S1024x1792 .f32) : FVec Ideal S1024x1792 .f32 :=
  concatenate S1024x1792 1
    [⟨S1024x64, extractStridedSlice S1024x64 ![0, 0] a slices_S1024x1792_S1024x64_0_0⟩,
     ⟨S1024x64, extractStridedSlice S1024x64 ![0, 128] a slices_S1024x1792_S1024x64_0_128⟩,
     ⟨S1024x64, extractStridedSlice S1024x64 ![0, 64] a slices_S1024x1792_S1024x64_0_64⟩,
     ⟨S1024x64, extractStridedSlice S1024x64 ![0, 192] a slices_S1024x1792_S1024x64_0_192⟩,
     ⟨S1024x1536, extractStridedSlice S1024x1536 ![0, 256] a slices_S1024x1792_S1024x1536_0_256⟩]
    concatenates_S1024x64_S1024x64_S1024x64_S1024x64_S1024x1536_S1024x1792_d1

/-- A head's gains, twice. -/
def twice (g : FVec Ideal S64 .f32) : FVec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)

/-- The rotary embedding's frequencies. -/
def frequencies : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- A place's angles. -/
def angles (p : FVec Ideal S2048 .f32) : FVec Ideal S2048x16 .f32 :=
  mulf (broadcastInDim S2048x16 ![0, 1] bcast_S2048x1_S2048x16_0_1 (broadcastInDim S2048x1 ![0] bcast_S2048_S2048x1_0 p))
    (broadcastInDim S2048x16 ![0, 1] bcast_S1x16_S2048x16_0_1 (broadcastInDim S1x16 ![1] bcast_S16_S1x16_1 frequencies))

/-- The tokens, and the number of places in a row. -/
def ids : IVec S2048 32 := iotaInDim S2048 32 0
def width : IVec S_ 32 := id (constantI S_ 32 64#32)
def spread (x : IVec S_ 32) : IVec S2048 32 := broadcastInDim S2048 ![] bcast_S_S2048 x

/-- A token's row: its quotient by the width, rounded down. -/
def rowPlace : IVec S2048 32 :=
  select (andi (cmpi .ne (signi ids) (spread (signi width))) (cmpi .ne (Host.remsi ids (spread width)) (spread (constantI S_ 32 0#32))))
    (subi (Host.divsi ids (spread width)) (spread (constantI S_ 32 1#32))) (Host.divsi ids (spread width))

/-- A token's column: its remainder by the width, of the width's sign. -/
def divisor : IVec S_ 32 := select (cmpi .eq width (constantI S_ 32 0#32)) (constantI S_ 32 1#32) width
def remainder : IVec S2048 32 := Host.remsi ids (spread divisor)
def colPlace : IVec S2048 32 :=
  select (andi (cmpi .ne (cmpi .slt remainder (spread (constantI S_ 32 0#32))) (broadcastInDim S2048 ![] bcast_S_S2048 (cmpi .slt divisor (constantI S_ 32 0#32))))
      (cmpi .ne remainder (spread (constantI S_ 32 0#32)))) (addi remainder (spread divisor)) remainder

/-- The angles of a token's row and of its column. -/
def rowAngles : FVec Ideal S2048x16 .f32 := angles (sitofp .f32 rowPlace)
def colAngles : FVec Ideal S2048x16 .f32 := angles (sitofp .f32 colPlace)

/-- Four pieces of 16 lanes beside one another. -/
def four (a b d e : FVec Ideal S2048x16 .f32) : FVec Ideal S2048x64 .f32 :=
  concatenate S2048x64 1 [⟨S2048x16, a⟩, ⟨S2048x16, b⟩, ⟨S2048x16, d⟩, ⟨S2048x16, e⟩] concatenates_S2048x16_S2048x16_S2048x16_S2048x16_S2048x64_d1

/-- A table of the latent tokens under one number for all of the context, for two heads. -/
def under (z : FVec Ideal S_ .f32) (t : FVec Ideal S2048x64 .f32) : FVec Ideal S2304x64 .f32 :=
  concatenate S2304x64 0 [⟨S256x64, broadcastInDim S256x64 ![] bcast_S_S256x64 z⟩, ⟨S2048x64, t⟩] concatenates_S256x64_S2048x64_S2304x64_d0
def twoHeads (t : FVec Ideal S2304x64 .f32) : FVec Ideal S2304x128 .f32 :=
  shapeCast S2304x128 (broadcastInDim S1x2304x2x64 ![0, 1, 2, 3] bcast_S1x2304x1x64_S1x2304x2x64_0_1_2_3 (shapeCast S1x2304x1x64 t shapeCasts_S2304x64_S1x2304x1x64)) shapeCasts_S1x2304x2x64_S2304x128

/-- The host's operations before the call. -/
abbrev hostOps : List (HloOp τ sig (Elt Ideal)) := List.flatten [hostOps0, hostOps0_1, hostOps0_2, hostOps0_3, hostOps0_4]

/-! The pieces the host has built before it joins them. -/

theorem upto3_0 : upto hostOps (fun b => m (c, b)) 3 (Proc.devRef .tc main_arg2) = ((m ((c.tc : Thread nD τ).loc main_arg2)) : FVec Ideal S16x6144 .f32) := by
  after_reads_simp
theorem upto3_1 : upto hostOps (fun b => m (c, b)) 3 (Proc.devRef .tc main_v0) = (broadcastInDim S1x6144 ![1] bcast_S6144_S1x6144_1 (m ((c.tc : Thread nD τ).loc main_arg3)) : FVec Ideal S1x6144 .f32) := by
  after_reads_simp
theorem upto3_2 : upto hostOps (fun b => m (c, b)) 3 (Proc.devRef .tc main_v1) = (broadcastInDim S7x6144 ![] bcast_S_S7x6144 (constant S_ .f32 0x00000000#32 : FVec Ideal S_ .f32) : FVec Ideal S7x6144 .f32) := by
  after_reads_simp
theorem upto73_0 : upto hostOps (fun b => m (c, b)) 73 (Proc.devRef .tc main_v28) = (Host.cos rowAngles : FVec Ideal S2048x16 .f32) := by
  after_reads_simp
  rfl
theorem upto73_1 : upto hostOps (fun b => m (c, b)) 73 (Proc.devRef .tc main_v29) = (Host.cos colAngles : FVec Ideal S2048x16 .f32) := by
  after_reads_simp
  rfl
theorem upto80_0 : upto hostOps (fun b => m (c, b)) 80 (Proc.devRef .tc main_v32) = (Host.negf (Host.sin rowAngles) : FVec Ideal S2048x16 .f32) := by
  after_reads_simp
  rfl
theorem upto80_1 : upto hostOps (fun b => m (c, b)) 80 (Proc.devRef .tc main_v33) = (Host.sin rowAngles : FVec Ideal S2048x16 .f32) := by
  after_reads_simp
  rfl
theorem upto80_2 : upto hostOps (fun b => m (c, b)) 80 (Proc.devRef .tc main_v35) = (Host.negf (Host.sin colAngles) : FVec Ideal S2048x16 .f32) := by
  after_reads_simp
  rfl
theorem upto80_3 : upto hostOps (fun b => m (c, b)) 80 (Proc.devRef .tc main_v36) = (Host.sin colAngles : FVec Ideal S2048x16 .f32) := by
  after_reads_simp
  rfl
theorem upto83_0 : upto hostOps (fun b => m (c, b)) 83 (Proc.devRef .tc main_v38) = (broadcastInDim S256x64 ![] bcast_S_S256x64 (constant S_ .f32 0x3F800000#32 : FVec Ideal S_ .f32) : FVec Ideal S256x64 .f32) := by
  after_reads_simp
theorem upto83_1 : upto hostOps (fun b => m (c, b)) 83 (Proc.devRef .tc main_v30) = (four (Host.cos rowAngles) (Host.cos rowAngles) (Host.cos colAngles) (Host.cos colAngles) : FVec Ideal S2048x64 .f32) := by
  after_reads_simp
  dsimp only [Matrix.cons_val]
  rw [upto73_0, upto73_1]
  rfl
theorem upto86_0 : upto hostOps (fun b => m (c, b)) 86 (Proc.devRef .tc main_v40) = (broadcastInDim S256x64 ![] bcast_S_S256x64 (constant S_ .f32 0x00000000#32 : FVec Ideal S_ .f32) : FVec Ideal S256x64 .f32) := by
  after_reads_simp
theorem upto86_1 : upto hostOps (fun b => m (c, b)) 86 (Proc.devRef .tc main_v37) = (four (Host.negf (Host.sin rowAngles)) (Host.sin rowAngles) (Host.negf (Host.sin colAngles)) (Host.sin colAngles) : FVec Ideal S2048x64 .f32) := by
  after_reads_simp
  dsimp only [Matrix.cons_val]
  rw [upto80_0, upto80_1, upto80_2, upto80_3]
  rfl
theorem upto101_0 : upto hostOps (fun b => m (c, b)) 101 (Proc.devRef .tc main_v51) = (extractStridedSlice S1024x64 ![0, 0] (m ((c.tc : Thread nD τ).loc main_arg5)) slices_S1024x1792_S1024x64_0_0 : FVec Ideal S1024x64 .f32) := by
  after_reads_simp
theorem upto101_1 : upto hostOps (fun b => m (c, b)) 101 (Proc.devRef .tc main_v52) = (extractStridedSlice S1024x64 ![0, 128] (m ((c.tc : Thread nD τ).loc main_arg5)) slices_S1024x1792_S1024x64_0_128 : FVec Ideal S1024x64 .f32) := by
  after_reads_simp
theorem upto101_2 : upto hostOps (fun b => m (c, b)) 101 (Proc.devRef .tc main_v53) = (extractStridedSlice S1024x64 ![0, 64] (m ((c.tc : Thread nD τ).loc main_arg5)) slices_S1024x1792_S1024x64_0_64 : FVec Ideal S1024x64 .f32) := by
  after_reads_simp
theorem upto101_3 : upto hostOps (fun b => m (c, b)) 101 (Proc.devRef .tc main_v54) = (extractStridedSlice S1024x64 ![0, 192] (m ((c.tc : Thread nD τ).loc main_arg5)) slices_S1024x1792_S1024x64_0_192 : FVec Ideal S1024x64 .f32) := by
  after_reads_simp
theorem upto101_4 : upto hostOps (fun b => m (c, b)) 101 (Proc.devRef .tc main_v55) = (extractStridedSlice S1024x1536 ![0, 256] (m ((c.tc : Thread nD τ).loc main_arg5)) slices_S1024x1792_S1024x1536_0_256 : FVec Ideal S1024x1536 .f32) := by
  after_reads_simp

/-! The arrays. -/

theorem aStream_eq : aStream m c = tokens (m ((c.tc : Thread nD τ).loc main_arg1)) (m ((c.tc : Thread nD τ).loc main_arg0)) := by
  show StableHlo.after _ _ _ = _
  after_reads_simp
  rfl
theorem aMod_eq : aMod m c = shapeCast S24x1x6144 (modRows (m ((c.tc : Thread nD τ).loc main_arg2)) (m ((c.tc : Thread nD τ).loc main_arg3))) shapeCasts_S24x6144_S24x1x6144 := by
  show StableHlo.after _ _ _ = _
  after_reads_simp
  dsimp only [Matrix.cons_val]
  rw [upto3_0, upto3_1, upto3_2]
  rfl
theorem aG_eq : aG m c = broadcastInDim S1x1024 ![1] bcast_S1024_S1x1024_1 (m ((c.tc : Thread nD τ).loc main_arg4)) := by
  show StableHlo.after _ _ _ = _
  after_reads_simp
theorem aW_eq : aW m c = (truncf .bf16 (columns (m ((c.tc : Thread nD τ).loc main_arg5))) bitsLt_bf16_f32 : FVec Ideal S1024x1792 .bf16) := by
  show StableHlo.after _ _ _ = _
  after_reads_simp
  dsimp only [Matrix.cons_val]
  rw [upto101_0, upto101_1, upto101_2, upto101_3, upto101_4]
  rfl
theorem aCos_eq : aCos m c = twoHeads (under (constant S_ .f32 0x3F800000#32) (four (Host.cos rowAngles) (Host.cos rowAngles) (Host.cos colAngles) (Host.cos colAngles))) := by
  show StableHlo.after _ _ _ = _
  after_reads_simp
  rw [upto83_0, upto83_1]
  rfl
theorem aSin_eq : aSin m c = twoHeads (under (constant S_ .f32 0x00000000#32) (four (Host.negf (Host.sin rowAngles)) (Host.sin rowAngles) (Host.negf (Host.sin colAngles)) (Host.sin colAngles))) := by
  show StableHlo.after _ _ _ = _
  after_reads_simp
  rw [upto86_0, upto86_1]
  rfl
theorem aGq_eq : aGq m c = twice (m ((c.tc : Thread nD τ).loc main_arg6)) := by
  show StableHlo.after _ _ _ = _
  after_reads_simp
  rfl
theorem aGk_eq : aGk m c = twice (m ((c.tc : Thread nD τ).loc main_arg7)) := by
  show StableHlo.after _ _ _ = _
  after_reads_simp
  rfl
theorem aNq_eq : aNq m c = twice (m ((c.tc : Thread nD τ).loc main_arg8)) := by
  show StableHlo.after _ _ _ = _
  after_reads_simp
  rfl
theorem aNk_eq : aNk m c = twice (m ((c.tc : Thread nD τ).loc main_arg9)) := by
  show StableHlo.after _ _ _ = _
  after_reads_simp
  rfl

/-! The layouts at an index. -/

theorem modRows_batch (a : FVec Ideal S16x6144 .f32) (z : FVec Ideal S6144 .f32) (b : Fin 16) (l : Fin 6144) : modRows a z (ix2 ⟨b, by omega⟩ l) = a (ix2 b l) := by
  pointwise [modRows]
theorem modRows_context (a : FVec Ideal S16x6144 .f32) (z : FVec Ideal S6144 .f32) (l : Fin 6144) : modRows a z (ix2 16 l) = z (ix1 l) := by
  pointwise [modRows]
theorem flat_apply (a : FVec Ideal S24x6144 .f32) (b : Fin 24) (l : Fin 6144) : shapeCast S24x1x6144 a shapeCasts_S24x6144_S24x1x6144 (ix3 b 0 l) = a (ix2 b l) := by
  pointwise
theorem tokens_context (x : FVec Ideal S16x256x1024 .f32) (y : FVec Ideal S16x2048x1024 .f32) (b : Fin 16) (n : Fin 256) (l : Fin 1024) :
    tokens x y (ix3 b ⟨n, by omega⟩ l) = x (ix3 b n l) := by
  pointwise [tokens]
theorem tokens_latent (x : FVec Ideal S16x256x1024 .f32) (y : FVec Ideal S16x2048x1024 .f32) (b : Fin 16) (n : Fin 2048) (l : Fin 1024) :
    tokens x y (ix3 b ⟨256 + n, by omega⟩ l) = y (ix3 b n l) := by
  pointwise [tokens]
theorem row_apply (a : FVec Ideal S1024 .f32) (l : Fin 1024) : broadcastInDim S1x1024 ![1] bcast_S1024_S1x1024_1 a (ix2 0 l) = a (ix1 l) := by
  pointwise
theorem twice_apply (g : FVec Ideal S64 .f32) (e : Fin 128) : twice g (ix2 0 e) = g (ix1 ⟨e % 64, by omega⟩) := by
  pointwise [twice]
theorem twoHeads_apply (t : FVec Ideal S2304x64 .f32) (n : Fin 2304) (e : Fin 128) : twoHeads t (ix2 n e) = t (ix2 n ⟨e % 64, by omega⟩) := by
  pointwise [twoHeads]
theorem under_context (z : FVec Ideal S_ .f32) (t : FVec Ideal S2048x64 .f32) (n : Fin 256) (d : Fin 64) : under z t (ix2 ⟨n, by omega⟩ d) = z ix0 := by
  pointwise [under]
theorem under_latent (z : FVec Ideal S_ .f32) (t : FVec Ideal S2048x64 .f32) (n : Fin 2048) (d : Fin 64) : under z t (ix2 ⟨256 + n, by omega⟩ d) = t (ix2 n d) := by
  pointwise [under]
theorem columns_apply (a : FVec Ideal S1024x1792 .f32) (k : Fin 1024) (j : Fin 1792) : columns a (ix2 k j) = a (ix2 k (laneOf j)) := by
  pointwise [columns]
  exact laneOf_pick (fun x => a (ix2 k x)) j
theorem cosines_apply (a b : FVec Ideal S2048x16 .f32) (n : Fin 2048) (d : Fin 64) : four a a b b (ix2 n d) = cosLane (fun j => a (ix2 n j)) (fun j => b (ix2 n j)) d := by
  pointwise [four]
  exact cosLane_pick (fun j => a (ix2 n j)) (fun j => b (ix2 n j)) d
theorem sines_apply (a b : FVec Ideal S2048x16 .f32) (n : Fin 2048) (d : Fin 64) :
    four (Host.negf a) a (Host.negf b) b (ix2 n d) = sinLane (fun j => a (ix2 n j)) (fun j => b (ix2 n j)) d := by
  pointwise [four]
  exact sinLane_pick (fun j => a (ix2 n j)) (fun j => b (ix2 n j)) d

end Cert.Kernel3Ideal.Proj

end
-- ==== Proof.ProjCall.lean ====
/- What the input projection's call computes, from the program's arguments. -/
module

public import proofs.«01_k».proof.Proof.ProjHost
import Idealize.ShloMosaic.Lib.Pointwise

@[expose] public section

set_option maxRecDepth 16384

noncomputable section

namespace Cert.Kernel3Ideal.Proj

open Cert.Kernel3Ideal Cert.Kernel3Ideal.Gen Cert.MixMath Cert.ProjMath
open Idealize.ShloMosaic Idealize.ShloMosaic.TcCoe Idealize.ShloMosaic.Tactic Idealize.ShloMosaic.StableHlo

variable (m : (ℓ : Loc nD τ sig) → Buf (Elt Ideal) ℓ) (c : Dev nD)

/-! The arguments. -/

abbrev xArg : FVec Ideal S16x2048x1024 .f32 := m ((c.tc : Thread nD τ).loc main_arg0)
abbrev xcArg : FVec Ideal S16x256x1024 .f32 := m ((c.tc : Thread nD τ).loc main_arg1)
abbrev mArg : FVec Ideal S16x6144 .f32 := m ((c.tc : Thread nD τ).loc main_arg2)
abbrev mcArg : FVec Ideal S6144 .f32 := m ((c.tc : Thread nD τ).loc main_arg3)
abbrev gArg : FVec Ideal S1024 .f32 := m ((c.tc : Thread nD τ).loc main_arg4)
abbrev wArg : FVec Ideal S1024x1792 .f32 := m ((c.tc : Thread nD τ).loc main_arg5)
abbrev gqArg : FVec Ideal S64 .f32 := m ((c.tc : Thread nD τ).loc main_arg6)
abbrev gkArg : FVec Ideal S64 .f32 := m ((c.tc : Thread nD τ).loc main_arg7)
abbrev nqArg : FVec Ideal S64 .f32 := m ((c.tc : Thread nD τ).loc main_arg8)
abbrev nkArg : FVec Ideal S64 .f32 := m ((c.tc : Thread nD τ).loc main_arg9)

/-! The arrays that the call is given, at an index. -/

theorem aMod_batch (b : Fin 16) (l : Fin 6144) : aMod m c (ix3 ⟨b, by omega⟩ 0 l) = mArg m c (ix2 b l) := by
  rw [aMod_eq, flat_apply, modRows_batch]
theorem aMod_context (l : Fin 6144) : aMod m c (ix3 16 0 l) = mcArg m c (ix1 l) := by
  rw [aMod_eq, flat_apply, modRows_context]
theorem aStream_context (b : Fin 16) (n : Fin 256) (l : Fin 1024) : aStream m c (ix3 b ⟨n, by omega⟩ l) = xcArg m c (ix3 b n l) := by
  rw [aStream_eq, tokens_context]
theorem aStream_latent (b : Fin 16) (n : Fin 2048) (l : Fin 1024) : aStream m c (ix3 b ⟨256 + n, by omega⟩ l) = xArg m c (ix3 b n l) := by
  rw [aStream_eq, tokens_latent]
theorem aG_apply (l : Fin 1024) : aG m c (ix2 0 l) = gArg m c (ix1 l) := by
  rw [aG_eq]
  exact row_apply _ l
theorem aW_apply (k : Fin 1024) (j : Fin 1792) : aW m c (ix2 k j) = wArg m c (ix2 k (laneOf j)) := by
  rw [aW_eq]
  exact columns_apply _ k j
theorem aGq_apply (e : Fin 128) : aGq m c (ix2 0 e) = gqArg m c (ix1 ⟨e % 64, by omega⟩) := by
  rw [aGq_eq, twice_apply]
theorem aGk_apply (e : Fin 128) : aGk m c (ix2 0 e) = gkArg m c (ix1 ⟨e % 64, by omega⟩) := by
  rw [aGk_eq, twice_apply]
theorem aNq_apply (e : Fin 128) : aNq m c (ix2 0 e) = nqArg m c (ix1 ⟨e % 64, by omega⟩) := by
  rw [aNq_eq, twice_apply]
theorem aNk_apply (e : Fin 128) : aNk m c (ix2 0 e) = nkArg m c (ix1 ⟨e % 64, by omega⟩) := by
  rw [aNk_eq, twice_apply]
theorem one_apply : (constant S_ .f32 0x3F800000#32 : FVec Ideal S_ .f32) ix0 = 1 := by
  show Ideal.ofBits .f32 0x3F800000#32 = 1
  simp [Ideal.ofBits, Ideal.ieee, -EReal.coe_mul]
  norm_num
theorem zero_apply : (constant S_ .f32 0x00000000#32 : FVec Ideal S_ .f32) ix0 = 0 := by
  show Ideal.ofBits .f32 0x00000000#32 = 0
  simp [Ideal.ofBits, Ideal.ieee]
theorem aCos_context (n : Fin 256) (e : Fin 128) : aCos m c (ix2 ⟨n, by omega⟩ e) = 1 := by
  rw [aCos_eq, twoHeads_apply, under_context, one_apply]
theorem aSin_context (n : Fin 256) (e : Fin 128) : aSin m c (ix2 ⟨n, by omega⟩ e) = 0 := by
  rw [aSin_eq, twoHeads_apply, under_context, zero_apply]

/-- The cosines and sines of a latent token's angles. -/
abbrev cosRow (n : Fin 2048) (j : Fin 16) : EReal := (Host.cos rowAngles : FVec Ideal S2048x16 .f32) (ix2 n j)
abbrev sinRow (n : Fin 2048) (j : Fin 16) : EReal := (Host.sin rowAngles : FVec Ideal S2048x16 .f32) (ix2 n j)
abbrev cosCol (n : Fin 2048) (j : Fin 16) : EReal := (Host.cos colAngles : FVec Ideal S2048x16 .f32) (ix2 n j)
abbrev sinCol (n : Fin 2048) (j : Fin 16) : EReal := (Host.sin colAngles : FVec Ideal S2048x16 .f32) (ix2 n j)

theorem aCos_latent (n : Fin 2048) (e : Fin 128) : aCos m c (ix2 ⟨256 + n, by omega⟩ e) = cosLane (cosRow n) (cosCol n) ⟨e % 64, by omega⟩ := by
  rw [aCos_eq, twoHeads_apply, under_latent, cosines_apply]
theorem aSin_latent (n : Fin 2048) (e : Fin 128) : aSin m c (ix2 ⟨256 + n, by omega⟩ e) = sinLane (sinRow n) (sinCol n) ⟨e % 64, by omega⟩ := by
  rw [aSin_eq, twoHeads_apply, under_latent, sines_apply]

/-! The projected rows. -/

/-- A context token's row and a latent token's, by the matrix as it is given. -/
def contextRow (b : Fin 16) (n : Fin 256) : Fin 1792 → EReal :=
  rowOf (fun l => xcArg m c (ix3 b n l)) (fun l => gArg m c (ix1 l)) (fun l => mcArg m c (ix1 l)) (fun k j => wArg m c (ix2 k j))
def latentRow (b : Fin 16) (n : Fin 2048) : Fin 1792 → EReal :=
  rowOf (fun l => xArg m c (ix3 b n l)) (fun l => gArg m c (ix1 l)) (fun l => mArg m c (ix2 b l)) (fun k j => wArg m c (ix2 k j))

theorem modAt_context (b : Fin 16) (n : Fin 256) : modAt m c b ⟨n, by omega⟩ = fun l => mcArg m c (ix1 l) := by
  funext l
  unfold modAt
  rw [if_pos n.isLt, aMod_context]
theorem modAt_latent (b : Fin 16) (n : Fin 2048) : modAt m c b ⟨256 + n, by omega⟩ = fun l => mArg m c (ix2 b l) := by
  funext l
  unfold modAt
  rw [if_neg (by dsimp only; omega), aMod_batch]

theorem rowAt_context (b : Fin 16) (n : Fin 256) : rowAt m c b ⟨n, by omega⟩ = fun i => contextRow m c b n (laneOf i) := by
  unfold rowAt contextRow rowOf
  rw [modAt_context, funext (aStream_context m c b n), funext (aG_apply m c), show (fun k j => aW m c (ix2 k j)) = _ from funext fun k => funext (aW_apply m c k)]
  rfl
theorem rowAt_latent (b : Fin 16) (n : Fin 2048) : rowAt m c b ⟨256 + n, by omega⟩ = fun i => latentRow m c b n (laneOf i) := by
  unfold rowAt latentRow rowOf
  rw [modAt_latent, funext (aStream_latent m c b n), funext (aG_apply m c), show (fun k j => aW m c (ix2 k j)) = _ from funext fun k => funext (aW_apply m c k)]
  rfl

theorem laneOf_input (l : Fin 256) : laneOf ⟨1536 + l, by omega⟩ = ⟨1536 + l, by omega⟩ := by
  unfold laneOf
  rw [dif_neg (by dsimp only; omega)]

/-! The results. -/

/-- The gains of a head. -/
abbrev gains (g : FVec Ideal S64 .f32) (d : Fin 64) : EReal := g (ix1 d)

theorem input_context (b : Fin 16) (n l : Fin 256) : inputArr m c (ix3 b ⟨n, by omega⟩ l) = contextRow m c b n ⟨1536 + l, by omega⟩ := by
  show rowAt m c b ⟨n, by omega⟩ ⟨1536 + l, by omega⟩ = _
  rw [rowAt_context]
  exact congrArg (contextRow m c b n) (laneOf_input l)
theorem input_latent (b : Fin 16) (n : Fin 2048) (l : Fin 256) : inputArr m c (ix3 b ⟨256 + n, by omega⟩ l) = latentRow m c b n ⟨1536 + l, by omega⟩ := by
  show rowAt m c b ⟨256 + n, by omega⟩ ⟨1536 + l, by omega⟩ = _
  rw [rowAt_latent]
  exact congrArg (latentRow m c b n) (laneOf_input l)

theorem lanes_context (b : Fin 16) (n : Fin 256) (l : Fin 1536) : lanesArr m c (ix3 b ⟨n, by omega⟩ l)
    = mixerLane (fun t => t) (contextRow m c b n) (gains (gqArg m c)) (gains (gkArg m c)) (gains (nqArg m c)) (gains (nkArg m c)) l := by
  show laneAt m c b ⟨n, by omega⟩ l = _
  unfold laneAt
  rw [rowAt_context, funext (aGq_apply m c), funext (aGk_apply m c), funext (aNq_apply m c), funext (aNk_apply m c)]
  refine tiledLane_eq _ _ (gains (gqArg m c)) (gains (gkArg m c)) (gains (nqArg m c)) (gains (nkArg m c)) _ _ (fun t e => ?_) l
  rw [turnedTile_none _ _ t (aCos_context m c n) (aSin_context m c n)]
  exact congrArg t (Fin.ext (by dsimp only; omega))
theorem lanes_latent (b : Fin 16) (n : Fin 2048) (l : Fin 1536) : lanesArr m c (ix3 b ⟨256 + n, by omega⟩ l)
    = mixerLane (turned (cosRow n) (sinRow n) (cosCol n) (sinCol n)) (latentRow m c b n) (gains (gqArg m c)) (gains (gkArg m c)) (gains (nqArg m c)) (gains (nkArg m c)) l := by
  show laneAt m c b ⟨256 + n, by omega⟩ l = _
  unfold laneAt
  rw [rowAt_latent, funext (aGq_apply m c), funext (aGk_apply m c), funext (aNq_apply m c), funext (aNk_apply m c)]
  exact tiledLane_eq _ _ (gains (gqArg m c)) (gains (gkArg m c)) (gains (nqArg m c)) (gains (nkArg m c)) _ _
    (fun t e => turnedTile_head _ _ _ _ _ _ t (aCos_latent m c n) (aSin_latent m c n) e) l

end Cert.Kernel3Ideal.Proj

end
-- ==== Proof.ProjRef.lean ====
/- The stages of the input projection's reference, at an index. -/
module

public import proofs.«01_k».proof.Proof.ProjLanes
public import proofs.«01_k».proof.Proof.Gen.Reference3Ideal.Run
public import Idealize.ShloMosaic.Lib.Pointwise

@[expose] public section

set_option maxRecDepth 8192

noncomputable section

namespace Cert.Reference3Ideal.Proj

open Cert.Reference3Ideal Cert.Reference3Ideal.Gen Cert.Reference3Ideal.Value Cert.MixMath Cert.ProjMath
open Idealize.ShloMosaic Idealize.ShloMosaic.TcCoe Idealize.ShloMosaic.StableHlo

/-! The latent tokens. -/

/-- The rows normed and modulated. -/
def modulatedL (x : FVec Ideal S16x2048x1024 .f32) (g : FVec Ideal S1024 .f32) (md : FVec Ideal S16x6144 .f32) : FVec Ideal S16x2048x1024 .f32 :=
  addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] md slices_S16x6144_S16x1024_0_1024))))) (broadcastInDim S16x2048x1024 ![0, 1, 2] bcast_S16x1x1024_S16x2048x1024_0_1_2 (broadcastInDim S16x1x1024 ![0, 2] bcast_S16x1024_S16x1x1024_0_2 (extractStridedSlice S16x1024 ![0, 0] md slices_S16x6144_S16x1024_0_0)))

/-- The projected rows. -/
def rowsL (h : FVec Ideal S16x2048x1024 .f32) (w : FVec Ideal S1024x1792 .f32) : FVec Ideal S16x2048x1792 .f32 :=
  Host.dotGeneral dot_S16x2048x1024_S1024x1792_S16x2048x1792_2_0_01_1_n_n none h w

theorem modulatedL_apply (x : FVec Ideal S16x2048x1024 .f32) (g : FVec Ideal S1024 .f32) (md : FVec Ideal S16x6144 .f32) (b : Fin 16) (n : Fin 2048) (l : Fin 1024) :
    modulatedL x g md (ix3 b n l) = modulated (fun l => x (ix3 b n l)) (fun l => g (ix1 l)) (fun l : Fin 1024 => (fun l => md (ix2 b l)) (⟨1024 + l, by omega⟩ : Fin 6144)) (fun l : Fin 1024 => (fun l => md (ix2 b l)) (⟨l, by omega⟩ : Fin 6144)) l := by
  pointwise [modulatedL]
  rfl

theorem rowsL_apply (h : FVec Ideal S16x2048x1024 .f32) (w : FVec Ideal S1024x1792 .f32) (b : Fin 16) (n : Fin 2048) (j : Fin 1792) :
    rowsL h w (ix3 b n j) = ∑ k, h (ix3 b n k) * w (ix2 k j) := by
  pointwise [rowsL]

/-- A token's projected row. -/
theorem rowL_eq (x : FVec Ideal S16x2048x1024 .f32) (g : FVec Ideal S1024 .f32) (md : FVec Ideal S16x6144 .f32) (w : FVec Ideal S1024x1792 .f32) (b : Fin 16) (n : Fin 2048) :
    (fun j => rowsL (modulatedL x g md) w (ix3 b n j)) = rowOf (fun l => x (ix3 b n l)) (fun l => g (ix1 l)) (fun l => md (ix2 b l)) (fun k j => w (ix2 k j)) := by
  funext j
  rw [rowsL_apply]
  unfold rowOf projected
  exact Finset.sum_congr rfl fun k _ => by rw [modulatedL_apply]

/-- 4 heads of the rows from a lane on; each normed, times the gains; and the heads beside one another. -/
def headsL4 (off : Fin 3 → ℕ) (hs : S16x2048x1792.Slices off S16x2048x256) (p : FVec Ideal S16x2048x1792 .f32) : FVec Ideal S16x4x2048x64 .f32 :=
  transpose S16x4x2048x64 [0, 2, 1, 3] (shapeCast _ (extractStridedSlice S16x2048x256 off p hs) shapeCasts_S16x2048x256_S16x2048x4x64) transposes_S16x2048x4x64_S16x4x2048x64_0_2_1_3
def normL4 (z : FVec Ideal S16x4x2048x64 .f32) (g : FVec Ideal S64 .f32) : FVec Ideal S16x4x2048x64 .f32 :=
  mulf (mulf z (broadcastInDim S16x4x2048x64 ![0, 1, 2, 3] bcast_S16x4x2048x1_S16x4x2048x64_0_1_2_3 (Host.rsqrt (addf (Host.divf (broadcastInDim S16x4x2048x1 ![0, 1, 2] bcast_S16x4x2048_S16x4x2048x1_0_1_2 (Host.reduceAdd (mulf z z) (constant S_ .f32 0x00000000#32) reducesTo_S16x4x2048x64_S16x4x2048_d3 h_S_)) (broadcastInDim S16x4x2048x1 ![] bcast_S_S16x4x2048x1 (constant S_ .f32 0x42800000#32))) (broadcastInDim S16x4x2048x1 ![] bcast_S_S16x4x2048x1 (constant S_ .f32 0x358637BD#32)))))) (broadcastInDim S16x4x2048x64 ![0, 1, 2, 3] bcast_S1x1x1x64_S16x4x2048x64_0_1_2_3 (broadcastInDim S1x1x1x64 ![3] bcast_S64_S1x1x1x64_3 g))
def mergeL4 (z : FVec Ideal S16x4x2048x64 .f32) : FVec Ideal S16x2048x256 .f32 :=
  shapeCast _ (transpose S16x2048x4x64 [0, 2, 1, 3] z transposes_S16x4x2048x64_S16x2048x4x64_0_2_1_3) shapeCasts_S16x2048x4x64_S16x2048x256

theorem headsL4_apply (o : ℕ) (hs : S16x2048x1792.Slices ![0, 0, o] S16x2048x256) (ho : o + 256 ≤ 1792) (p : FVec Ideal S16x2048x1792 .f32) (b : Fin 16) (h : Fin 4) (n : Fin 2048) (d : Fin 64) :
    headsL4 ![0, 0, o] hs p (ix4 b h n d) = p (ix3 b n ⟨o + (h * 64 + d), by omega⟩) := by
  pointwise [headsL4]
theorem headsL4_row (o : ℕ) (hs : S16x2048x1792.Slices ![0, 0, o] S16x2048x256) (ho : o + 256 ≤ 1792) (p : FVec Ideal S16x2048x1792 .f32) (b : Fin 16) (h : Fin 4) (n : Fin 2048) :
    (fun d => headsL4 ![0, 0, o] hs p (ix4 b h n d)) = headAt (fun j => p (ix3 b n j)) (o + 64 * h) := by
  funext d
  rw [headsL4_apply o hs ho]
  unfold headAt
  rw [dif_pos (by omega)]
  exact congrArg (fun j => p (ix3 b n j)) (Fin.ext (by dsimp only; omega))
theorem normL4_apply (z : FVec Ideal S16x4x2048x64 .f32) (g : FVec Ideal S64 .f32) (b : Fin 16) (h : Fin 4) (n : Fin 2048) (d : Fin 64) :
    normL4 z g (ix4 b h n d) = normed (fun d => z (ix4 b h n d)) (fun d => g (ix1 d)) d := by
  pointwise [normL4]
  rfl
theorem mergeL4_apply (z : FVec Ideal S16x4x2048x64 .f32) (b : Fin 16) (n : Fin 2048) (l : Fin 256) :
    mergeL4 z (ix3 b n l) = z (ix4 b ⟨l / 64, by omega⟩ n ⟨l % 64, by omega⟩) := by
  pointwise [mergeL4]

/-- Half of a head's lanes, turned by one angle for each of 16 pairs; and both halves. -/
def half4 (z : FVec Ideal S16x4x2048x32 .f32) (c s : FVec Ideal S2048x16 .f32) : FVec Ideal S16x4x2048x32 .f32 :=
  concatenate S16x4x2048x32 3 [⟨S16x4x2048x16, subf (mulf (extractStridedSlice S16x4x2048x16 ![0, 0, 0, 0] z slices_S16x4x2048x32_S16x4x2048x16_0_0_0_0) (broadcastInDim S16x4x2048x16 ![0, 1, 2, 3] bcast_S1x1x2048x16_S16x4x2048x16_0_1_2_3 (broadcastInDim S1x1x2048x16 ![2, 3] bcast_S2048x16_S1x1x2048x16_2_3 c))) (mulf (extractStridedSlice S16x4x2048x16 ![0, 0, 0, 16] z slices_S16x4x2048x32_S16x4x2048x16_0_0_0_16) (broadcastInDim S16x4x2048x16 ![0, 1, 2, 3] bcast_S1x1x2048x16_S16x4x2048x16_0_1_2_3 (broadcastInDim S1x1x2048x16 ![2, 3] bcast_S2048x16_S1x1x2048x16_2_3 s)))⟩,
    ⟨S16x4x2048x16, addf (mulf (extractStridedSlice S16x4x2048x16 ![0, 0, 0, 16] z slices_S16x4x2048x32_S16x4x2048x16_0_0_0_16) (broadcastInDim S16x4x2048x16 ![0, 1, 2, 3] bcast_S1x1x2048x16_S16x4x2048x16_0_1_2_3 (broadcastInDim S1x1x2048x16 ![2, 3] bcast_S2048x16_S1x1x2048x16_2_3 c))) (mulf (extractStridedSlice S16x4x2048x16 ![0, 0, 0, 0] z slices_S16x4x2048x32_S16x4x2048x16_0_0_0_0) (broadcastInDim S16x4x2048x16 ![0, 1, 2, 3] bcast_S1x1x2048x16_S16x4x2048x16_0_1_2_3 (broadcastInDim S1x1x2048x16 ![2, 3] bcast_S2048x16_S1x1x2048x16_2_3 s)))⟩] concatenates_S16x4x2048x16_S16x4x2048x16_S16x4x2048x32_d3
def turn4 (z : FVec Ideal S16x4x2048x64 .f32) (cr sr cc sc : FVec Ideal S2048x16 .f32) : FVec Ideal S16x4x2048x64 .f32 :=
  concatenate S16x4x2048x64 3 [⟨S16x4x2048x32, half4 (extractStridedSlice S16x4x2048x32 ![0, 0, 0, 0] z slices_S16x4x2048x64_S16x4x2048x32_0_0_0_0) cr sr⟩, ⟨S16x4x2048x32, half4 (extractStridedSlice S16x4x2048x32 ![0, 0, 0, 32] z slices_S16x4x2048x64_S16x4x2048x32_0_0_0_32) cc sc⟩] concatenates_S16x4x2048x32_S16x4x2048x32_S16x4x2048x64_d3

theorem turn4_apply (z : FVec Ideal S16x4x2048x64 .f32) (cr sr cc sc : FVec Ideal S2048x16 .f32) (b : Fin 16) (h : Fin 4) (n : Fin 2048) (d : Fin 64) :
    turn4 z cr sr cc sc (ix4 b h n d) = turned (fun j => cr (ix2 n j)) (fun j => sr (ix2 n j)) (fun j => cc (ix2 n j)) (fun j => sc (ix2 n j)) (fun d => z (ix4 b h n d)) d := by
  pointwise [turn4, half4]
  exact turned_pick (fun j => cr (ix2 n j)) (fun j => sr (ix2 n j)) (fun j => cc (ix2 n j)) (fun j => sc (ix2 n j)) (fun d => z (ix4 b h n d)) d

/-- 2 heads of the rows from a lane on; each normed, times the gains; and the heads beside one another. -/
def headsL2 (off : Fin 3 → ℕ) (hs : S16x2048x1792.Slices off S16x2048x128) (p : FVec Ideal S16x2048x1792 .f32) : FVec Ideal S16x2x2048x64 .f32 :=
  transpose S16x2x2048x64 [0, 2, 1, 3] (shapeCast _ (extractStridedSlice S16x2048x128 off p hs) shapeCasts_S16x2048x128_S16x2048x2x64) transposes_S16x2048x2x64_S16x2x2048x64_0_2_1_3
def normL2 (z : FVec Ideal S16x2x2048x64 .f32) (g : FVec Ideal S64 .f32) : FVec Ideal S16x2x2048x64 .f32 :=
  mulf (mulf z (broadcastInDim S16x2x2048x64 ![0, 1, 2, 3] bcast_S16x2x2048x1_S16x2x2048x64_0_1_2_3 (Host.rsqrt (addf (Host.divf (broadcastInDim S16x2x2048x1 ![0, 1, 2] bcast_S16x2x2048_S16x2x2048x1_0_1_2 (Host.reduceAdd (mulf z z) (constant S_ .f32 0x00000000#32) reducesTo_S16x2x2048x64_S16x2x2048_d3 h_S_)) (broadcastInDim S16x2x2048x1 ![] bcast_S_S16x2x2048x1 (constant S_ .f32 0x42800000#32))) (broadcastInDim S16x2x2048x1 ![] bcast_S_S16x2x2048x1 (constant S_ .f32 0x358637BD#32)))))) (broadcastInDim S16x2x2048x64 ![0, 1, 2, 3] bcast_S1x1x1x64_S16x2x2048x64_0_1_2_3 (broadcastInDim S1x1x1x64 ![3] bcast_S64_S1x1x1x64_3 g))
def mergeL2 (z : FVec Ideal S16x2x2048x64 .f32) : FVec Ideal S16x2048x128 .f32 :=
  shapeCast _ (transpose S16x2048x2x64 [0, 2, 1, 3] z transposes_S16x2x2048x64_S16x2048x2x64_0_2_1_3) shapeCasts_S16x2048x2x64_S16x2048x128

theorem headsL2_apply (o : ℕ) (hs : S16x2048x1792.Slices ![0, 0, o] S16x2048x128) (ho : o + 128 ≤ 1792) (p : FVec Ideal S16x2048x1792 .f32) (b : Fin 16) (h : Fin 2) (n : Fin 2048) (d : Fin 64) :
    headsL2 ![0, 0, o] hs p (ix4 b h n d) = p (ix3 b n ⟨o + (h * 64 + d), by omega⟩) := by
  pointwise [headsL2]
theorem headsL2_row (o : ℕ) (hs : S16x2048x1792.Slices ![0, 0, o] S16x2048x128) (ho : o + 128 ≤ 1792) (p : FVec Ideal S16x2048x1792 .f32) (b : Fin 16) (h : Fin 2) (n : Fin 2048) :
    (fun d => headsL2 ![0, 0, o] hs p (ix4 b h n d)) = headAt (fun j => p (ix3 b n j)) (o + 64 * h) := by
  funext d
  rw [headsL2_apply o hs ho]
  unfold headAt
  rw [dif_pos (by omega)]
  exact congrArg (fun j => p (ix3 b n j)) (Fin.ext (by dsimp only; omega))
theorem normL2_apply (z : FVec Ideal S16x2x2048x64 .f32) (g : FVec Ideal S64 .f32) (b : Fin 16) (h : Fin 2) (n : Fin 2048) (d : Fin 64) :
    normL2 z g (ix4 b h n d) = normed (fun d => z (ix4 b h n d)) (fun d => g (ix1 d)) d := by
  pointwise [normL2]
  rfl
theorem mergeL2_apply (z : FVec Ideal S16x2x2048x64 .f32) (b : Fin 16) (n : Fin 2048) (l : Fin 128) :
    mergeL2 z (ix3 b n l) = z (ix4 b ⟨l / 64, by omega⟩ n ⟨l % 64, by omega⟩) := by
  pointwise [mergeL2]

/-- Half of a head's lanes, turned by one angle for each of 16 pairs; and both halves. -/
def half2 (z : FVec Ideal S16x2x2048x32 .f32) (c s : FVec Ideal S2048x16 .f32) : FVec Ideal S16x2x2048x32 .f32 :=
  concatenate S16x2x2048x32 3 [⟨S16x2x2048x16, subf (mulf (extractStridedSlice S16x2x2048x16 ![0, 0, 0, 0] z slices_S16x2x2048x32_S16x2x2048x16_0_0_0_0) (broadcastInDim S16x2x2048x16 ![0, 1, 2, 3] bcast_S1x1x2048x16_S16x2x2048x16_0_1_2_3 (broadcastInDim S1x1x2048x16 ![2, 3] bcast_S2048x16_S1x1x2048x16_2_3 c))) (mulf (extractStridedSlice S16x2x2048x16 ![0, 0, 0, 16] z slices_S16x2x2048x32_S16x2x2048x16_0_0_0_16) (broadcastInDim S16x2x2048x16 ![0, 1, 2, 3] bcast_S1x1x2048x16_S16x2x2048x16_0_1_2_3 (broadcastInDim S1x1x2048x16 ![2, 3] bcast_S2048x16_S1x1x2048x16_2_3 s)))⟩,
    ⟨S16x2x2048x16, addf (mulf (extractStridedSlice S16x2x2048x16 ![0, 0, 0, 16] z slices_S16x2x2048x32_S16x2x2048x16_0_0_0_16) (broadcastInDim S16x2x2048x16 ![0, 1, 2, 3] bcast_S1x1x2048x16_S16x2x2048x16_0_1_2_3 (broadcastInDim S1x1x2048x16 ![2, 3] bcast_S2048x16_S1x1x2048x16_2_3 c))) (mulf (extractStridedSlice S16x2x2048x16 ![0, 0, 0, 0] z slices_S16x2x2048x32_S16x2x2048x16_0_0_0_0) (broadcastInDim S16x2x2048x16 ![0, 1, 2, 3] bcast_S1x1x2048x16_S16x2x2048x16_0_1_2_3 (broadcastInDim S1x1x2048x16 ![2, 3] bcast_S2048x16_S1x1x2048x16_2_3 s)))⟩] concatenates_S16x2x2048x16_S16x2x2048x16_S16x2x2048x32_d3
def turn2 (z : FVec Ideal S16x2x2048x64 .f32) (cr sr cc sc : FVec Ideal S2048x16 .f32) : FVec Ideal S16x2x2048x64 .f32 :=
  concatenate S16x2x2048x64 3 [⟨S16x2x2048x32, half2 (extractStridedSlice S16x2x2048x32 ![0, 0, 0, 0] z slices_S16x2x2048x64_S16x2x2048x32_0_0_0_0) cr sr⟩, ⟨S16x2x2048x32, half2 (extractStridedSlice S16x2x2048x32 ![0, 0, 0, 32] z slices_S16x2x2048x64_S16x2x2048x32_0_0_0_32) cc sc⟩] concatenates_S16x2x2048x32_S16x2x2048x32_S16x2x2048x64_d3

theorem turn2_apply (z : FVec Ideal S16x2x2048x64 .f32) (cr sr cc sc : FVec Ideal S2048x16 .f32) (b : Fin 16) (h : Fin 2) (n : Fin 2048) (d : Fin 64) :
    turn2 z cr sr cc sc (ix4 b h n d) = turned (fun j => cr (ix2 n j)) (fun j => sr (ix2 n j)) (fun j => cc (ix2 n j)) (fun j => sc (ix2 n j)) (fun d => z (ix4 b h n d)) d := by
  pointwise [turn2, half2]
  exact turned_pick (fun j => cr (ix2 n j)) (fun j => sr (ix2 n j)) (fun j => cc (ix2 n j)) (fun j => sc (ix2 n j)) (fun d => z (ix4 b h n d)) d

/-- The query heads in the order 0, 2, 1, 3. -/
def orderL (z : FVec Ideal S16x4x2048x64 .f32) : FVec Ideal S16x4x2048x64 .f32 :=
  concatenate S16x4x2048x64 1 [⟨S16x1x2048x64, broadcastInDim S16x1x2048x64 ![0, 2, 3] bcast_S16x2048x64_S16x1x2048x64_0_2_3 (shapeCast _ (extractStridedSlice S16x1x2048x64 ![0, 0, 0, 0] z slices_S16x4x2048x64_S16x1x2048x64_0_0_0_0) shapeCasts_S16x1x2048x64_S16x2048x64 : FVec Ideal S16x2048x64 .f32)⟩, ⟨S16x1x2048x64, broadcastInDim S16x1x2048x64 ![0, 2, 3] bcast_S16x2048x64_S16x1x2048x64_0_2_3 (shapeCast _ (extractStridedSlice S16x1x2048x64 ![0, 2, 0, 0] z slices_S16x4x2048x64_S16x1x2048x64_0_2_0_0) shapeCasts_S16x1x2048x64_S16x2048x64 : FVec Ideal S16x2048x64 .f32)⟩, ⟨S16x1x2048x64, broadcastInDim S16x1x2048x64 ![0, 2, 3] bcast_S16x2048x64_S16x1x2048x64_0_2_3 (shapeCast _ (extractStridedSlice S16x1x2048x64 ![0, 1, 0, 0] z slices_S16x4x2048x64_S16x1x2048x64_0_1_0_0) shapeCasts_S16x1x2048x64_S16x2048x64 : FVec Ideal S16x2048x64 .f32)⟩, ⟨S16x1x2048x64, broadcastInDim S16x1x2048x64 ![0, 2, 3] bcast_S16x2048x64_S16x1x2048x64_0_2_3 (shapeCast _ (extractStridedSlice S16x1x2048x64 ![0, 3, 0, 0] z slices_S16x4x2048x64_S16x1x2048x64_0_3_0_0) shapeCasts_S16x1x2048x64_S16x2048x64 : FVec Ideal S16x2048x64 .f32)⟩] concatenates_S16x1x2048x64_S16x1x2048x64_S16x1x2048x64_S16x1x2048x64_S16x4x2048x64_d1

theorem orderL_apply (z : FVec Ideal S16x4x2048x64 .f32) (b : Fin 16) (h : Fin 4) (n : Fin 2048) (d : Fin 64) : orderL z (ix4 b h n d) = z (ix4 b (headOf h) n d) := by
  pointwise [orderL]
  exact headOf_pick (fun h => z (ix4 b h n d)) h

/-- What the mixers read, beside one another. -/
def joinL (q : FVec Ideal S16x2048x256 .f32) (k v : FVec Ideal S16x2048x128 .f32) (nq nk dv f : FVec Ideal S16x2048x256 .f32) : FVec Ideal S16x2048x1536 .f32 :=
  concatenate S16x2048x1536 2 [⟨S16x2048x256, q⟩, ⟨S16x2048x128, k⟩, ⟨S16x2048x128, v⟩, ⟨S16x2048x256, nq⟩, ⟨S16x2048x256, nk⟩, ⟨S16x2048x256, dv⟩, ⟨S16x2048x256, f⟩] concatenates_S16x2048x256_S16x2048x128_S16x2048x128_S16x2048x256_S16x2048x256_S16x2048x256_S16x2048x256_S16x2048x1536_d2

theorem joinL_apply (q : FVec Ideal S16x2048x256 .f32) (k v : FVec Ideal S16x2048x128 .f32) (nq nk dv f : FVec Ideal S16x2048x256 .f32) (b : Fin 16) (n : Fin 2048) (l : Fin 1536) :
    joinL q k v nq nk dv f (ix3 b n l) = joined (fun l => q (ix3 b n l)) (fun l => k (ix3 b n l)) (fun l => v (ix3 b n l)) (fun l => nq (ix3 b n l)) (fun l => nk (ix3 b n l)) (fun l => dv (ix3 b n l)) (fun l => f (ix3 b n l)) l := by
  pointwise [joinL]
  exact joined_pick (fun l => q (ix3 b n l)) (fun l => k (ix3 b n l)) (fun l => v (ix3 b n l)) (fun l => nq (ix3 b n l)) (fun l => nk (ix3 b n l)) (fun l => dv (ix3 b n l)) (fun l => f (ix3 b n l)) l

/-! The context tokens. -/

/-- The rows normed and modulated. -/
def modulatedC (x : FVec Ideal S16x256x1024 .f32) (g : FVec Ideal S1024 .f32) (md : FVec Ideal S6144 .f32) : FVec Ideal S16x256x1024 .f32 :=
  addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] md slices_S6144_S1024_1024))))) (broadcastInDim S16x256x1024 ![0, 1, 2] bcast_S1x1x1024_S16x256x1024_0_1_2 (broadcastInDim S1x1x1024 ![2] bcast_S1024_S1x1x1024_2 (extractStridedSlice S1024 ![0] md slices_S6144_S1024_0)))

/-- The projected rows. -/
def rowsC (h : FVec Ideal S16x256x1024 .f32) (w : FVec Ideal S1024x1792 .f32) : FVec Ideal S16x256x1792 .f32 :=
  Host.dotGeneral dot_S16x256x1024_S1024x1792_S16x256x1792_2_0_01_1_n_n none h w

theorem modulatedC_apply (x : FVec Ideal S16x256x1024 .f32) (g : FVec Ideal S1024 .f32) (md : FVec Ideal S6144 .f32) (b : Fin 16) (n : Fin 256) (l : Fin 1024) :
    modulatedC x g md (ix3 b n l) = modulated (fun l => x (ix3 b n l)) (fun l => g (ix1 l)) (fun l : Fin 1024 => (fun l => md (ix1 l)) (⟨1024 + l, by omega⟩ : Fin 6144)) (fun l : Fin 1024 => (fun l => md (ix1 l)) (⟨l, by omega⟩ : Fin 6144)) l := by
  pointwise [modulatedC]
  rfl

theorem rowsC_apply (h : FVec Ideal S16x256x1024 .f32) (w : FVec Ideal S1024x1792 .f32) (b : Fin 16) (n : Fin 256) (j : Fin 1792) :
    rowsC h w (ix3 b n j) = ∑ k, h (ix3 b n k) * w (ix2 k j) := by
  pointwise [rowsC]

/-- A token's projected row. -/
theorem rowC_eq (x : FVec Ideal S16x256x1024 .f32) (g : FVec Ideal S1024 .f32) (md : FVec Ideal S6144 .f32) (w : FVec Ideal S1024x1792 .f32) (b : Fin 16) (n : Fin 256) :
    (fun j => rowsC (modulatedC x g md) w (ix3 b n j)) = rowOf (fun l => x (ix3 b n l)) (fun l => g (ix1 l)) (fun l => md (ix1 l)) (fun k j => w (ix2 k j)) := by
  funext j
  rw [rowsC_apply]
  unfold rowOf projected
  exact Finset.sum_congr rfl fun k _ => by rw [modulatedC_apply]

/-- 4 heads of the rows from a lane on; each normed, times the gains; and the heads beside one another. -/
def headsC4 (off : Fin 3 → ℕ) (hs : S16x256x1792.Slices off S16x256x256) (p : FVec Ideal S16x256x1792 .f32) : FVec Ideal S16x4x256x64 .f32 :=
  transpose S16x4x256x64 [0, 2, 1, 3] (shapeCast _ (extractStridedSlice S16x256x256 off p hs) shapeCasts_S16x256x256_S16x256x4x64) transposes_S16x256x4x64_S16x4x256x64_0_2_1_3
def normC4 (z : FVec Ideal S16x4x256x64 .f32) (g : FVec Ideal S64 .f32) : FVec Ideal S16x4x256x64 .f32 :=
  mulf (mulf z (broadcastInDim S16x4x256x64 ![0, 1, 2, 3] bcast_S16x4x256x1_S16x4x256x64_0_1_2_3 (Host.rsqrt (addf (Host.divf (broadcastInDim S16x4x256x1 ![0, 1, 2] bcast_S16x4x256_S16x4x256x1_0_1_2 (Host.reduceAdd (mulf z z) (constant S_ .f32 0x00000000#32) reducesTo_S16x4x256x64_S16x4x256_d3 h_S_)) (broadcastInDim S16x4x256x1 ![] bcast_S_S16x4x256x1 (constant S_ .f32 0x42800000#32))) (broadcastInDim S16x4x256x1 ![] bcast_S_S16x4x256x1 (constant S_ .f32 0x358637BD#32)))))) (broadcastInDim S16x4x256x64 ![0, 1, 2, 3] bcast_S1x1x1x64_S16x4x256x64_0_1_2_3 (broadcastInDim S1x1x1x64 ![3] bcast_S64_S1x1x1x64_3 g))
def mergeC4 (z : FVec Ideal S16x4x256x64 .f32) : FVec Ideal S16x256x256 .f32 :=
  shapeCast _ (transpose S16x256x4x64 [0, 2, 1, 3] z transposes_S16x4x256x64_S16x256x4x64_0_2_1_3) shapeCasts_S16x256x4x64_S16x256x256

theorem headsC4_apply (o : ℕ) (hs : S16x256x1792.Slices ![0, 0, o] S16x256x256) (ho : o + 256 ≤ 1792) (p : FVec Ideal S16x256x1792 .f32) (b : Fin 16) (h : Fin 4) (n : Fin 256) (d : Fin 64) :
    headsC4 ![0, 0, o] hs p (ix4 b h n d) = p (ix3 b n ⟨o + (h * 64 + d), by omega⟩) := by
  pointwise [headsC4]
theorem headsC4_row (o : ℕ) (hs : S16x256x1792.Slices ![0, 0, o] S16x256x256) (ho : o + 256 ≤ 1792) (p : FVec Ideal S16x256x1792 .f32) (b : Fin 16) (h : Fin 4) (n : Fin 256) :
    (fun d => headsC4 ![0, 0, o] hs p (ix4 b h n d)) = headAt (fun j => p (ix3 b n j)) (o + 64 * h) := by
  funext d
  rw [headsC4_apply o hs ho]
  unfold headAt
  rw [dif_pos (by omega)]
  exact congrArg (fun j => p (ix3 b n j)) (Fin.ext (by dsimp only; omega))
theorem normC4_apply (z : FVec Ideal S16x4x256x64 .f32) (g : FVec Ideal S64 .f32) (b : Fin 16) (h : Fin 4) (n : Fin 256) (d : Fin 64) :
    normC4 z g (ix4 b h n d) = normed (fun d => z (ix4 b h n d)) (fun d => g (ix1 d)) d := by
  pointwise [normC4]
  rfl
theorem mergeC4_apply (z : FVec Ideal S16x4x256x64 .f32) (b : Fin 16) (n : Fin 256) (l : Fin 256) :
    mergeC4 z (ix3 b n l) = z (ix4 b ⟨l / 64, by omega⟩ n ⟨l % 64, by omega⟩) := by
  pointwise [mergeC4]

/-- 2 heads of the rows from a lane on; each normed, times the gains; and the heads beside one another. -/
def headsC2 (off : Fin 3 → ℕ) (hs : S16x256x1792.Slices off S16x256x128) (p : FVec Ideal S16x256x1792 .f32) : FVec Ideal S16x2x256x64 .f32 :=
  transpose S16x2x256x64 [0, 2, 1, 3] (shapeCast _ (extractStridedSlice S16x256x128 off p hs) shapeCasts_S16x256x128_S16x256x2x64) transposes_S16x256x2x64_S16x2x256x64_0_2_1_3
def normC2 (z : FVec Ideal S16x2x256x64 .f32) (g : FVec Ideal S64 .f32) : FVec Ideal S16x2x256x64 .f32 :=
  mulf (mulf z (broadcastInDim S16x2x256x64 ![0, 1, 2, 3] bcast_S16x2x256x1_S16x2x256x64_0_1_2_3 (Host.rsqrt (addf (Host.divf (broadcastInDim S16x2x256x1 ![0, 1, 2] bcast_S16x2x256_S16x2x256x1_0_1_2 (Host.reduceAdd (mulf z z) (constant S_ .f32 0x00000000#32) reducesTo_S16x2x256x64_S16x2x256_d3 h_S_)) (broadcastInDim S16x2x256x1 ![] bcast_S_S16x2x256x1 (constant S_ .f32 0x42800000#32))) (broadcastInDim S16x2x256x1 ![] bcast_S_S16x2x256x1 (constant S_ .f32 0x358637BD#32)))))) (broadcastInDim S16x2x256x64 ![0, 1, 2, 3] bcast_S1x1x1x64_S16x2x256x64_0_1_2_3 (broadcastInDim S1x1x1x64 ![3] bcast_S64_S1x1x1x64_3 g))
def mergeC2 (z : FVec Ideal S16x2x256x64 .f32) : FVec Ideal S16x256x128 .f32 :=
  shapeCast _ (transpose S16x256x2x64 [0, 2, 1, 3] z transposes_S16x2x256x64_S16x256x2x64_0_2_1_3) shapeCasts_S16x256x2x64_S16x256x128

theorem headsC2_apply (o : ℕ) (hs : S16x256x1792.Slices ![0, 0, o] S16x256x128) (ho : o + 128 ≤ 1792) (p : FVec Ideal S16x256x1792 .f32) (b : Fin 16) (h : Fin 2) (n : Fin 256) (d : Fin 64) :
    headsC2 ![0, 0, o] hs p (ix4 b h n d) = p (ix3 b n ⟨o + (h * 64 + d), by omega⟩) := by
  pointwise [headsC2]
theorem headsC2_row (o : ℕ) (hs : S16x256x1792.Slices ![0, 0, o] S16x256x128) (ho : o + 128 ≤ 1792) (p : FVec Ideal S16x256x1792 .f32) (b : Fin 16) (h : Fin 2) (n : Fin 256) :
    (fun d => headsC2 ![0, 0, o] hs p (ix4 b h n d)) = headAt (fun j => p (ix3 b n j)) (o + 64 * h) := by
  funext d
  rw [headsC2_apply o hs ho]
  unfold headAt
  rw [dif_pos (by omega)]
  exact congrArg (fun j => p (ix3 b n j)) (Fin.ext (by dsimp only; omega))
theorem normC2_apply (z : FVec Ideal S16x2x256x64 .f32) (g : FVec Ideal S64 .f32) (b : Fin 16) (h : Fin 2) (n : Fin 256) (d : Fin 64) :
    normC2 z g (ix4 b h n d) = normed (fun d => z (ix4 b h n d)) (fun d => g (ix1 d)) d := by
  pointwise [normC2]
  rfl
theorem mergeC2_apply (z : FVec Ideal S16x2x256x64 .f32) (b : Fin 16) (n : Fin 256) (l : Fin 128) :
    mergeC2 z (ix3 b n l) = z (ix4 b ⟨l / 64, by omega⟩ n ⟨l % 64, by omega⟩) := by
  pointwise [mergeC2]

/-- The query heads in the order 0, 2, 1, 3. -/
def orderC (z : FVec Ideal S16x4x256x64 .f32) : FVec Ideal S16x4x256x64 .f32 :=
  concatenate S16x4x256x64 1 [⟨S16x1x256x64, broadcastInDim S16x1x256x64 ![0, 2, 3] bcast_S16x256x64_S16x1x256x64_0_2_3 (shapeCast _ (extractStridedSlice S16x1x256x64 ![0, 0, 0, 0] z slices_S16x4x256x64_S16x1x256x64_0_0_0_0) shapeCasts_S16x1x256x64_S16x256x64 : FVec Ideal S16x256x64 .f32)⟩, ⟨S16x1x256x64, broadcastInDim S16x1x256x64 ![0, 2, 3] bcast_S16x256x64_S16x1x256x64_0_2_3 (shapeCast _ (extractStridedSlice S16x1x256x64 ![0, 2, 0, 0] z slices_S16x4x256x64_S16x1x256x64_0_2_0_0) shapeCasts_S16x1x256x64_S16x256x64 : FVec Ideal S16x256x64 .f32)⟩, ⟨S16x1x256x64, broadcastInDim S16x1x256x64 ![0, 2, 3] bcast_S16x256x64_S16x1x256x64_0_2_3 (shapeCast _ (extractStridedSlice S16x1x256x64 ![0, 1, 0, 0] z slices_S16x4x256x64_S16x1x256x64_0_1_0_0) shapeCasts_S16x1x256x64_S16x256x64 : FVec Ideal S16x256x64 .f32)⟩, ⟨S16x1x256x64, broadcastInDim S16x1x256x64 ![0, 2, 3] bcast_S16x256x64_S16x1x256x64_0_2_3 (shapeCast _ (extractStridedSlice S16x1x256x64 ![0, 3, 0, 0] z slices_S16x4x256x64_S16x1x256x64_0_3_0_0) shapeCasts_S16x1x256x64_S16x256x64 : FVec Ideal S16x256x64 .f32)⟩] concatenates_S16x1x256x64_S16x1x256x64_S16x1x256x64_S16x1x256x64_S16x4x256x64_d1

theorem orderC_apply (z : FVec Ideal S16x4x256x64 .f32) (b : Fin 16) (h : Fin 4) (n : Fin 256) (d : Fin 64) : orderC z (ix4 b h n d) = z (ix4 b (headOf h) n d) := by
  pointwise [orderC]
  exact headOf_pick (fun h => z (ix4 b h n d)) h

/-- What the mixers read, beside one another. -/
def joinC (q : FVec Ideal S16x256x256 .f32) (k v : FVec Ideal S16x256x128 .f32) (nq nk dv f : FVec Ideal S16x256x256 .f32) : FVec Ideal S16x256x1536 .f32 :=
  concatenate S16x256x1536 2 [⟨S16x256x256, q⟩, ⟨S16x256x128, k⟩, ⟨S16x256x128, v⟩, ⟨S16x256x256, nq⟩, ⟨S16x256x256, nk⟩, ⟨S16x256x256, dv⟩, ⟨S16x256x256, f⟩] concatenates_S16x256x256_S16x256x128_S16x256x128_S16x256x256_S16x256x256_S16x256x256_S16x256x256_S16x256x1536_d2

theorem joinC_apply (q : FVec Ideal S16x256x256 .f32) (k v : FVec Ideal S16x256x128 .f32) (nq nk dv f : FVec Ideal S16x256x256 .f32) (b : Fin 16) (n : Fin 256) (l : Fin 1536) :
    joinC q k v nq nk dv f (ix3 b n l) = joined (fun l => q (ix3 b n l)) (fun l => k (ix3 b n l)) (fun l => v (ix3 b n l)) (fun l => nq (ix3 b n l)) (fun l => nk (ix3 b n l)) (fun l => dv (ix3 b n l)) (fun l => f (ix3 b n l)) l := by
  pointwise [joinC]
  exact joined_pick (fun l => q (ix3 b n l)) (fun l => k (ix3 b n l)) (fun l => v (ix3 b n l)) (fun l => nq (ix3 b n l)) (fun l => nk (ix3 b n l)) (fun l => dv (ix3 b n l)) (fun l => f (ix3 b n l)) l

/-- What the mixers read of the latent tokens. -/
def lanesL (p : FVec Ideal S16x2048x1792 .f32) (gq gk nq nk : FVec Ideal S64 .f32) (cr sr cc sc : FVec Ideal S2048x16 .f32) : FVec Ideal S16x2048x1536 .f32 :=
  joinL (mergeL4 (orderL (turn4 (normL4 (headsL4 ![0, 0, 0] slices_S16x2048x1792_S16x2048x256_0_0_0 p) gq) cr sr cc sc))) (mergeL2 (turn2 (normL2 (headsL2 ![0, 0, 256] slices_S16x2048x1792_S16x2048x128_0_0_256 p) gk) cr sr cc sc)) (extractStridedSlice S16x2048x128 ![0, 0, 384] p slices_S16x2048x1792_S16x2048x128_0_0_384)
    (mergeL4 (normL4 (headsL4 ![0, 0, 512] slices_S16x2048x1792_S16x2048x256_0_0_512 p) nq)) (mergeL4 (normL4 (headsL4 ![0, 0, 768] slices_S16x2048x1792_S16x2048x256_0_0_768 p) nk)) (extractStridedSlice S16x2048x256 ![0, 0, 1024] p slices_S16x2048x1792_S16x2048x256_0_0_1024) (extractStridedSlice S16x2048x256 ![0, 0, 1280] p slices_S16x2048x1792_S16x2048x256_0_0_1280)

theorem lanesL_apply (p : FVec Ideal S16x2048x1792 .f32) (gq gk nq nk : FVec Ideal S64 .f32) (cr sr cc sc : FVec Ideal S2048x16 .f32) (b : Fin 16) (n : Fin 2048) (l : Fin 1536) :
    lanesL p gq gk nq nk cr sr cc sc (ix3 b n l) = mixerLane (turned (fun j => cr (ix2 n j)) (fun j => sr (ix2 n j)) (fun j => cc (ix2 n j)) (fun j => sc (ix2 n j))) (fun j => p (ix3 b n j)) (fun d => gq (ix1 d)) (fun d => gk (ix1 d)) (fun d => nq (ix1 d)) (fun d => nk (ix1 d)) l := by
  unfold lanesL
  rw [joinL_apply]
  refine joined_mixer (turned (fun j => cr (ix2 n j)) (fun j => sr (ix2 n j)) (fun j => cc (ix2 n j)) (fun j => sc (ix2 n j))) (fun j => p (ix3 b n j)) (fun d => gq (ix1 d)) (fun d => gk (ix1 d)) (fun d => nq (ix1 d)) (fun d => nk (ix1 d)) _ _ _ _ _ _ _ (fun l => ?_) (fun l => ?_) (fun l => ?_) (fun l => ?_) (fun l => ?_) (fun l => ?_) (fun l => ?_) l
  · rw [mergeL4_apply, orderL_apply, turn4_apply, funext (normL4_apply _ _ b _ n), headsL4_row 0 _ (by decide)]
    rfl
  · rw [mergeL2_apply, turn2_apply, funext (normL2_apply _ _ b _ n), headsL2_row 256 _ (by decide)]
  · pointwise
  · rw [mergeL4_apply, normL4_apply, headsL4_row 512 _ (by decide)]
  · rw [mergeL4_apply, normL4_apply, headsL4_row 768 _ (by decide)]
  · pointwise
  · pointwise

/-- What the mixers read of the context tokens. -/
def lanesC (p : FVec Ideal S16x256x1792 .f32) (gq gk nq nk : FVec Ideal S64 .f32) : FVec Ideal S16x256x1536 .f32 :=
  joinC (mergeC4 (orderC (normC4 (headsC4 ![0, 0, 0] slices_S16x256x1792_S16x256x256_0_0_0 p) gq))) (mergeC2 (normC2 (headsC2 ![0, 0, 256] slices_S16x256x1792_S16x256x128_0_0_256 p) gk)) (extractStridedSlice S16x256x128 ![0, 0, 384] p slices_S16x256x1792_S16x256x128_0_0_384)
    (mergeC4 (normC4 (headsC4 ![0, 0, 512] slices_S16x256x1792_S16x256x256_0_0_512 p) nq)) (mergeC4 (normC4 (headsC4 ![0, 0, 768] slices_S16x256x1792_S16x256x256_0_0_768 p) nk)) (extractStridedSlice S16x256x256 ![0, 0, 1024] p slices_S16x256x1792_S16x256x256_0_0_1024) (extractStridedSlice S16x256x256 ![0, 0, 1280] p slices_S16x256x1792_S16x256x256_0_0_1280)

theorem lanesC_apply (p : FVec Ideal S16x256x1792 .f32) (gq gk nq nk : FVec Ideal S64 .f32) (b : Fin 16) (n : Fin 256) (l : Fin 1536) :
    lanesC p gq gk nq nk (ix3 b n l) = mixerLane (fun t => t) (fun j => p (ix3 b n j)) (fun d => gq (ix1 d)) (fun d => gk (ix1 d)) (fun d => nq (ix1 d)) (fun d => nk (ix1 d)) l := by
  unfold lanesC
  rw [joinC_apply]
  refine joined_mixer (fun t => t) (fun j => p (ix3 b n j)) (fun d => gq (ix1 d)) (fun d => gk (ix1 d)) (fun d => nq (ix1 d)) (fun d => nk (ix1 d)) _ _ _ _ _ _ _ (fun l => ?_) (fun l => ?_) (fun l => ?_) (fun l => ?_) (fun l => ?_) (fun l => ?_) (fun l => ?_) l
  · rw [mergeC4_apply, orderC_apply, normC4_apply, headsC4_row 0 _ (by decide)]
    rfl
  · rw [mergeC2_apply, normC2_apply, headsC2_row 256 _ (by decide)]
  · pointwise
  · rw [mergeC4_apply, normC4_apply, headsC4_row 512 _ (by decide)]
  · rw [mergeC4_apply, normC4_apply, headsC4_row 768 _ (by decide)]
  · pointwise
  · pointwise

end Cert.Reference3Ideal.Proj

end
-- ==== Proof.ProjOut.lean ====
/- What the input projection's reference computes, from its arguments. -/
module

public import proofs.«01_k».proof.Proof.ProjRef

@[expose] public section

set_option maxRecDepth 8192

noncomputable section

namespace Cert.Reference3Ideal.Proj

open Cert.Reference3Ideal Cert.Reference3Ideal.Gen Cert.Reference3Ideal.Value Cert.MixMath Cert.ProjMath
open Idealize.ShloMosaic Idealize.ShloMosaic.TcCoe Idealize.ShloMosaic.StableHlo

variable (m : (ℓ : Loc nD τ sig) → Buf (Elt Ideal) ℓ) (c : Dev nD)

abbrev xArg : FVec Ideal S16x2048x1024 .f32 := m ((c.tc : Thread nD τ).loc main_arg0)
abbrev xcArg : FVec Ideal S16x256x1024 .f32 := m ((c.tc : Thread nD τ).loc main_arg1)
abbrev mArg : FVec Ideal S16x6144 .f32 := m ((c.tc : Thread nD τ).loc main_arg2)
abbrev mcArg : FVec Ideal S6144 .f32 := m ((c.tc : Thread nD τ).loc main_arg3)
abbrev gArg : FVec Ideal S1024 .f32 := m ((c.tc : Thread nD τ).loc main_arg4)
abbrev wArg : FVec Ideal S1024x1792 .f32 := m ((c.tc : Thread nD τ).loc main_arg5)
abbrev gqArg : FVec Ideal S64 .f32 := m ((c.tc : Thread nD τ).loc main_arg6)
abbrev gkArg : FVec Ideal S64 .f32 := m ((c.tc : Thread nD τ).loc main_arg7)
abbrev nqArg : FVec Ideal S64 .f32 := m ((c.tc : Thread nD τ).loc main_arg8)
abbrev nkArg : FVec Ideal S64 .f32 := m ((c.tc : Thread nD τ).loc main_arg9)

/-- The projected rows of the latent tokens and of the context. -/
def latentRows : FVec Ideal S16x2048x1792 .f32 := rowsL (modulatedL (xArg m c) (gArg m c) (mArg m c)) (wArg m c)
def contextRows : FVec Ideal S16x256x1792 .f32 := rowsC (modulatedC (xcArg m c) (gArg m c) (mcArg m c)) (wArg m c)

/-- The angles of the tokens' rows and columns. -/
abbrev rowAngles : FVec Ideal S2048x16 .f32 := res_main_v87 (F := Ideal) (launchContents m c)
abbrev colAngles : FVec Ideal S2048x16 .f32 := res_main_v94 (F := Ideal) (launchContents m c)

/-- What the mixers read of each. -/
def latentLanes : FVec Ideal S16x2048x1536 .f32 :=
  lanesL (latentRows m c) (gqArg m c) (gkArg m c) (nqArg m c) (nkArg m c) (Host.cos (rowAngles m c)) (Host.sin (rowAngles m c)) (Host.cos (colAngles m c)) (Host.sin (colAngles m c))
def contextLanes : FVec Ideal S16x256x1536 .f32 := lanesC (contextRows m c) (gqArg m c) (gkArg m c) (nqArg m c) (nkArg m c)

theorem latentRows_eq : res_main_v46 (F := Ideal) (launchContents m c) = latentRows m c := rfl
theorem contextRows_eq : res_main_v269 (F := Ideal) (launchContents m c) = contextRows m c := rfl
theorem keyRowAngles_eq : res_main_v181 (F := Ideal) (launchContents m c) = rowAngles m c := rfl
theorem keyColAngles_eq : res_main_v188 (F := Ideal) (launchContents m c) = colAngles m c := rfl
theorem contextLanes_eq : res_main_v359 (F := Ideal) (launchContents m c) = contextLanes m c := rfl
theorem latentLanes_eq : res_main_v268 (F := Ideal) (launchContents m c) = latentLanes m c := rfl

/-- Context tokens, then latent tokens. -/
def tokens1536 (a : FVec Ideal S16x256x1536 .f32) (b : FVec Ideal S16x2048x1536 .f32) : FVec Ideal S16x2304x1536 .f32 :=
  concatenate S16x2304x1536 1 [⟨S16x256x1536, a⟩, ⟨S16x2048x1536, b⟩] concatenates_S16x256x1536_S16x2048x1536_S16x2304x1536_d1
def tokens256 (a : FVec Ideal S16x256x256 .f32) (b : FVec Ideal S16x2048x256 .f32) : FVec Ideal S16x2304x256 .f32 :=
  concatenate S16x2304x256 1 [⟨S16x256x256, a⟩, ⟨S16x2048x256, b⟩] concatenates_S16x256x256_S16x2048x256_S16x2304x256_d1

/-- The results. -/
def outLanes : FVec Ideal S16x2304x1536 .bf16 := truncf .bf16 (tokens1536 (contextLanes m c) (latentLanes m c)) bitsLt_bf16_f32
def outInput : FVec Ideal S16x2304x256 .f32 :=
  tokens256 (extractStridedSlice S16x256x256 ![0, 0, 1536] (contextRows m c) slices_S16x256x1792_S16x256x256_0_0_1536)
    (extractStridedSlice S16x2048x256 ![0, 0, 1536] (latentRows m c) slices_S16x2048x1792_S16x2048x256_0_0_1536)

theorem tokens1536_context (x : FVec Ideal S16x256x1536 .f32) (y : FVec Ideal S16x2048x1536 .f32) (b : Fin 16) (n : Fin 256) (l : Fin 1536) :
    tokens1536 x y (ix3 b ⟨n, by omega⟩ l) = x (ix3 b n l) := by
  pointwise [tokens1536]
theorem tokens1536_latent (x : FVec Ideal S16x256x1536 .f32) (y : FVec Ideal S16x2048x1536 .f32) (b : Fin 16) (n : Fin 2048) (l : Fin 1536) :
    tokens1536 x y (ix3 b ⟨256 + n, by omega⟩ l) = y (ix3 b n l) := by
  pointwise [tokens1536]
theorem tokens256_context (x : FVec Ideal S16x256x256 .f32) (y : FVec Ideal S16x2048x256 .f32) (b : Fin 16) (n l : Fin 256) :
    tokens256 x y (ix3 b ⟨n, by omega⟩ l) = x (ix3 b n l) := by
  pointwise [tokens256]
theorem tokens256_latent (x : FVec Ideal S16x256x256 .f32) (y : FVec Ideal S16x2048x256 .f32) (b : Fin 16) (n : Fin 2048) (l : Fin 256) :
    tokens256 x y (ix3 b ⟨256 + n, by omega⟩ l) = y (ix3 b n l) := by
  pointwise [tokens256]
theorem sliceC_apply (p : FVec Ideal S16x256x1792 .f32) (b : Fin 16) (n l : Fin 256) :
    extractStridedSlice S16x256x256 ![0, 0, 1536] p slices_S16x256x1792_S16x256x256_0_0_1536 (ix3 b n l) = p (ix3 b n ⟨1536 + l, by omega⟩) := by
  pointwise
theorem sliceL_apply (p : FVec Ideal S16x2048x1792 .f32) (b : Fin 16) (n : Fin 2048) (l : Fin 256) :
    extractStridedSlice S16x2048x256 ![0, 0, 1536] p slices_S16x2048x1792_S16x2048x256_0_0_1536 (ix3 b n l) = p (ix3 b n ⟨1536 + l, by omega⟩) := by
  pointwise

/-! The projected rows, and the results. -/

def contextRow (b : Fin 16) (n : Fin 256) : Fin 1792 → EReal :=
  rowOf (fun l => xcArg m c (ix3 b n l)) (fun l => gArg m c (ix1 l)) (fun l => mcArg m c (ix1 l)) (fun k j => wArg m c (ix2 k j))
def latentRow (b : Fin 16) (n : Fin 2048) : Fin 1792 → EReal :=
  rowOf (fun l => xArg m c (ix3 b n l)) (fun l => gArg m c (ix1 l)) (fun l => mArg m c (ix2 b l)) (fun k j => wArg m c (ix2 k j))

theorem contextRows_apply (b : Fin 16) (n : Fin 256) : (fun j => contextRows m c (ix3 b n j)) = contextRow m c b n := rowC_eq _ _ _ _ b n
theorem latentRows_apply (b : Fin 16) (n : Fin 2048) : (fun j => latentRows m c (ix3 b n j)) = latentRow m c b n := rowL_eq _ _ _ _ b n

theorem outInput_context (b : Fin 16) (n l : Fin 256) : outInput m c (ix3 b ⟨n, by omega⟩ l) = contextRow m c b n ⟨1536 + l, by omega⟩ := by
  unfold outInput
  rw [tokens256_context, sliceC_apply]
  exact congrFun (contextRows_apply m c b n) _
theorem outInput_latent (b : Fin 16) (n : Fin 2048) (l : Fin 256) : outInput m c (ix3 b ⟨256 + n, by omega⟩ l) = latentRow m c b n ⟨1536 + l, by omega⟩ := by
  unfold outInput
  rw [tokens256_latent, sliceL_apply]
  exact congrFun (latentRows_apply m c b n) _

abbrev gains (g : FVec Ideal S64 .f32) (d : Fin 64) : EReal := g (ix1 d)

theorem outLanes_context (b : Fin 16) (n : Fin 256) (l : Fin 1536) : outLanes m c (ix3 b ⟨n, by omega⟩ l)
    = mixerLane (fun t => t) (contextRow m c b n) (gains (gqArg m c)) (gains (gkArg m c)) (gains (nqArg m c)) (gains (nkArg m c)) l := by
  show tokens1536 (contextLanes m c) (latentLanes m c) (ix3 b ⟨n, by omega⟩ l) = _
  rw [tokens1536_context]
  unfold contextLanes
  rw [lanesC_apply, contextRows_apply]
theorem outLanes_latent (b : Fin 16) (n : Fin 2048) (l : Fin 1536) : outLanes m c (ix3 b ⟨256 + n, by omega⟩ l)
    = mixerLane (turned (fun j => (Host.cos (rowAngles m c) : FVec Ideal S2048x16 .f32) (ix2 n j)) (fun j => (Host.sin (rowAngles m c) : FVec Ideal S2048x16 .f32) (ix2 n j))
        (fun j => (Host.cos (colAngles m c) : FVec Ideal S2048x16 .f32) (ix2 n j)) (fun j => (Host.sin (colAngles m c) : FVec Ideal S2048x16 .f32) (ix2 n j)))
      (latentRow m c b n) (gains (gqArg m c)) (gains (gkArg m c)) (gains (nqArg m c)) (gains (nkArg m c)) l := by
  show tokens1536 (contextLanes m c) (latentLanes m c) (ix3 b ⟨256 + n, by omega⟩ l) = _
  rw [tokens1536_latent]
  unfold latentLanes
  rw [lanesL_apply, latentRows_apply]

end Cert.Reference3Ideal.Proj

end
-- ==== Proof.ProjEq.lean ====
/- The input projection's results are its reference's. -/
module

public import proofs.«01_k».proof.Proof.ProjCall
public import proofs.«01_k».proof.Proof.ProjOut

@[expose] public section

set_option maxRecDepth 16384

noncomputable section

namespace Cert.Kernel3Ideal.Proj

open Cert.Kernel3Ideal Cert.Kernel3Ideal.Gen Cert.MixMath Cert.ProjMath
open Idealize.ShloMosaic Idealize.ShloMosaic.TcCoe Idealize.ShloMosaic.StableHlo

variable (m : (ℓ : Loc nD τ sig) → Buf (Elt Ideal) ℓ) (c : Dev nD)
  (m' : (ℓ : Loc Cert.Reference3Ideal.nD Cert.Reference3Ideal.τ Cert.Reference3Ideal.sig) → Buf (Elt Ideal) ℓ) (c' : Dev Cert.Reference3Ideal.nD)

theorem rowAngles_ref : Cert.Reference3Ideal.Proj.rowAngles m' c' = rowAngles := rfl
theorem colAngles_ref : Cert.Reference3Ideal.Proj.colAngles m' c' = colAngles := rfl

/-- A token is one of the context or a latent one. -/
theorem token_cases (n : Fin 2304) : (∃ k : Fin 256, n = ⟨k, by omega⟩) ∨ ∃ k : Fin 2048, n = ⟨256 + k, by omega⟩ := by
  by_cases h : (n : ℕ) < 256
  · exact .inl ⟨⟨n, h⟩, rfl⟩
  · exact .inr ⟨⟨n - 256, by omega⟩, Fin.ext (by dsimp only; omega)⟩

/-- The mixers' operands are the reference's, from memories that agree on the arguments. -/
theorem lanes_ref
    (h0 : Cert.Reference3Ideal.Proj.xArg m' c' = xArg m c)
    (h1 : Cert.Reference3Ideal.Proj.xcArg m' c' = xcArg m c)
    (h2 : Cert.Reference3Ideal.Proj.mArg m' c' = mArg m c)
    (h3 : Cert.Reference3Ideal.Proj.mcArg m' c' = mcArg m c)
    (h4 : Cert.Reference3Ideal.Proj.gArg m' c' = gArg m c)
    (h5 : Cert.Reference3Ideal.Proj.wArg m' c' = wArg m c)
    (h6 : Cert.Reference3Ideal.Proj.gqArg m' c' = gqArg m c)
    (h7 : Cert.Reference3Ideal.Proj.gkArg m' c' = gkArg m c)
    (h8 : Cert.Reference3Ideal.Proj.nqArg m' c' = nqArg m c)
    (h9 : Cert.Reference3Ideal.Proj.nkArg m' c' = nkArg m c) :
    (Cert.Reference3Ideal.Proj.outLanes m' c' : FVec Ideal S16x2304x1536 .bf16) = (dats m 0 c).arrAt 11 cfg0.N := by
  rw [lanes_eq]
  funext y
  obtain ⟨b, n, l, rfl⟩ : ∃ (b : Fin 16) (n : Fin 2304) (l : Fin 1536), y = (ix3 b n l : S16x2304x1536.Idx) :=
    ⟨y 0, y 1, y 2, by funext a; match a with | ⟨0, _⟩ => rfl | ⟨1, _⟩ => rfl | ⟨2, _⟩ => rfl⟩
  obtain ⟨k, rfl⟩ | ⟨k, rfl⟩ := token_cases n
  · refine (Cert.Reference3Ideal.Proj.outLanes_context m' c' b k l).trans ?_
    unfold Cert.Reference3Ideal.Proj.contextRow
    rw [h1, h3, h4, h5, h6, h7, h8, h9]
    exact (lanes_context m c b k l).symm
  · refine (Cert.Reference3Ideal.Proj.outLanes_latent m' c' b k l).trans ?_
    unfold Cert.Reference3Ideal.Proj.latentRow
    rw [h0, h2, h4, h5, h6, h7, h8, h9, rowAngles_ref, colAngles_ref]
    exact (lanes_latent m c b k l).symm

/-- The state-space mixer's input is the reference's. -/
theorem input_ref
    (h0 : Cert.Reference3Ideal.Proj.xArg m' c' = xArg m c)
    (h1 : Cert.Reference3Ideal.Proj.xcArg m' c' = xcArg m c)
    (h2 : Cert.Reference3Ideal.Proj.mArg m' c' = mArg m c)
    (h3 : Cert.Reference3Ideal.Proj.mcArg m' c' = mcArg m c)
    (h4 : Cert.Reference3Ideal.Proj.gArg m' c' = gArg m c)
    (h5 : Cert.Reference3Ideal.Proj.wArg m' c' = wArg m c)
    (h6 : Cert.Reference3Ideal.Proj.gqArg m' c' = gqArg m c)
    (h7 : Cert.Reference3Ideal.Proj.gkArg m' c' = gkArg m c)
    (h8 : Cert.Reference3Ideal.Proj.nqArg m' c' = nqArg m c)
    (h9 : Cert.Reference3Ideal.Proj.nkArg m' c' = nkArg m c) :
    (Cert.Reference3Ideal.Proj.outInput m' c' : FVec Ideal S16x2304x256 .f32) = (dats m 0 c).arrAt 12 cfg0.N := by
  rw [input_eq]
  funext y
  obtain ⟨b, n, l, rfl⟩ : ∃ (b : Fin 16) (n : Fin 2304) (l : Fin 256), y = (ix3 b n l : S16x2304x256.Idx) :=
    ⟨y 0, y 1, y 2, by funext a; match a with | ⟨0, _⟩ => rfl | ⟨1, _⟩ => rfl | ⟨2, _⟩ => rfl⟩
  obtain ⟨k, rfl⟩ | ⟨k, rfl⟩ := token_cases n
  · refine (Cert.Reference3Ideal.Proj.outInput_context m' c' b k l).trans ?_
    unfold Cert.Reference3Ideal.Proj.contextRow
    rw [h1, h3, h4, h5]
    exact (input_context m c b k l).symm
  · refine (Cert.Reference3Ideal.Proj.outInput_latent m' c' b k l).trans ?_
    unfold Cert.Reference3Ideal.Proj.latentRow
    rw [h0, h2, h4, h5]
    exact (input_latent m c b k l).symm

end Cert.Kernel3Ideal.Proj

end
-- ==== Proof.ProjClaim.lean ====
/- The claims about the input projection's call, from its run, its values and the reference's run. -/
module

public import proofs.«01_k».proof.Defs
public import proofs.«01_k».proof.Proof.ProjEq
public import proofs.«01_k».proof.Proof.Gen.Kernel3Ideal.Value
public import Idealize.ShloMosaic.Lib.Quiescent

@[expose] public section

noncomputable section

namespace Cert.Claims

open Idealize.ShloMosaic Idealize.SL.Sem Idealize.ShloMosaic.TcCoe

/-- The reference leaves its arguments and its counters as it found them. -/
theorem proj_ref_frame : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The kernel computes its reference. -/
theorem proj_value : Cert.algebraic_Kernel3Ideal_Reference3Ideal := by
  intro m ρ m' ρ' _ hagree
  refine ⟨_, _, Cert.Kernel3Ideal.Value.run_blocks (F := Ideal) m ρ, ?_⟩
  refine (θ_run Cert.Reference3Ideal.defs _ _).mono (fun _ h c => ⟨(h c).1.trans ?_, (h c).2.1.trans ?_, (h c).2.2⟩) (Cert.Reference3Ideal.Value.run (F := Ideal) m' ρ')
  · obtain ⟨h0, h1, h2, h3, h4, h5, h6, h7, h8, h9⟩ := hagree c
    exact Cert.Kernel3Ideal.Proj.lanes_ref m c m' c h0 h1 h2 h3 h4 h5 h6 h7 h8 h9
  · obtain ⟨h0, h1, h2, h3, h4, h5, h6, h7, h8, h9⟩ := hagree c
    exact Cert.Kernel3Ideal.Proj.input_ref m c m' c h0 h1 h2 h3 h4 h5 h6 h7 h8 h9

end Cert.Claims

end
-- ==== Proof.ModMath.lean ====
/- A condition's modulation, and the sum of three products by which the call computes it. -/
module

public import proofs.«01_k».proof.Proof.MixMath

@[expose] public section

set_option maxRecDepth 16384

noncomputable section

namespace Cert.ModMath

open Idealize.ShloMosaic

/-- The condition through `silu`. -/
def lit (x : EReal) : EReal := x * Ideal.logistic x

/-- An entry of the modulation: the condition through `silu`, times a column of the weights, plus the bias. -/
def entry (x w : Fin 1024 → EReal) (b : EReal) : EReal := (∑ k, lit (x k) * w k) + b

/-- The same by three products: of the two roundings, and of what each leaves with the other's rounding. Over the extended
    reals a rounding changes nothing and what it leaves is the difference of a number with itself. -/
def entry3 (x w : Fin 1024 → EReal) (b : EReal) : EReal :=
  (∑ k, lit (x k) * w k) + ((∑ k, (lit (x k) - lit (x k)) * w k) + ∑ k, lit (x k) * (w k - w k)) + b

/-- A real condition stays real. -/
theorem lit_real (r : ℝ) : ∃ s : ℝ, lit (r : EReal) = (s : EReal) := by
  refine ⟨r * (1 + Real.exp (-r))⁻¹, ?_⟩
  unfold lit
  rw [Ideal.logistic_coe]
  exact (EReal.coe_mul _ _).symm

/-- Of real conditions and real weights the two are the same. -/
theorem entry3_eq (x w : Fin 1024 → EReal) (b : EReal) (hx : ∀ k, ∃ r : ℝ, x k = (r : EReal)) (hw : ∀ k, ∃ r : ℝ, w k = (r : EReal)) :
    entry3 x w b = entry x w b := by
  have h1 : ∀ k, (lit (x k) - lit (x k)) * w k = 0 := fun k => by
    obtain ⟨r, hr⟩ := hx k
    obtain ⟨s, hs⟩ := lit_real r
    rw [hr, hs, ← EReal.coe_sub, sub_self, EReal.coe_zero, zero_mul]
  have h2 : ∀ k, lit (x k) * (w k - w k) = 0 := fun k => by
    obtain ⟨r, hr⟩ := hw k
    rw [hr, ← EReal.coe_sub, sub_self, EReal.coe_zero, mul_zero]
  unfold entry3 entry
  rw [Finset.sum_congr rfl fun k _ => h1 k, Finset.sum_congr rfl fun k _ => h2 k]
  simp

end Cert.ModMath

end
-- ==== Proof.ModValue.lean ====
/- The modulation's call: what a block holds, and the array of all blocks. -/
module

public import proofs.«01_k».proof.Proof.ModMath
public import proofs.«01_k».proof.Proof.Gen.Kernel4Ideal.Value
public import Idealize.ShloMosaic.Lib.Pipeline.ValueKit
import Idealize.ShloMosaic.Lib.Pointwise

@[expose] public section

set_option maxRecDepth 16384

noncomputable section

namespace Cert.Kernel4Ideal.Mod

open Cert.Kernel4Ideal Cert.Kernel4Ideal.Gen Cert.ModMath
open Idealize.ShloMosaic Idealize.ShloMosaic.TcCoe Idealize.ShloMosaic.Tactic

/-- The body's payload, at an index. -/
theorem pay_apply (x0 : Vec Ideal S24x1024 .f32) (x1 : Vec Ideal S1x1024x1536 .f32) (x2 : Vec Ideal S1x1x1536 .f32) (r : Fin 24) (j : Fin 1536) :
    k0_pay1 (F := Ideal) x0 x1 x2 (ix3 0 r j) = entry3 (fun k => x0 (ix2 r k)) (fun k => x1 (ix3 0 k j)) (x2 (ix3 0 0 j)) := by
  unfold entry3 lit
  pointwise [k0_pay1]

theorem ld_rows (x : Vec Ideal S24x1024 .f32) (r : Fin 24) (k : Fin 1024) : View.ld x r0_0 (ix2 r k) = x (ix2 r k) :=
  View.ld_unit_apply_of x _ _ _ _ _ fun a => by
    match a with
    | ⟨0, _⟩ => show (r : ℕ) = 0 + r; omega
    | ⟨1, _⟩ => show (k : ℕ) = 0 + k; omega
theorem ld_weights (x : Vec Ideal S1x1024x1536 .f32) (k : Fin 1024) (j : Fin 1536) : View.ld x r0_1 (ix3 0 k j) = x (ix3 0 k j) :=
  View.ld_unit_apply_of x _ _ _ _ _ fun a => by
    match a with
    | ⟨0, _⟩ => rfl
    | ⟨1, _⟩ => show (k : ℕ) = 0 + k; omega
    | ⟨2, _⟩ => show (j : ℕ) = 0 + j; omega
theorem ld_bias (x : Vec Ideal S1x1x1536 .f32) (j : Fin 1536) : View.ld x r0_2 (ix3 0 0 j) = x (ix3 0 0 j) :=
  View.ld_unit_apply_of x _ _ _ _ _ fun a => by
    match a with
    | ⟨0, _⟩ => rfl
    | ⟨1, _⟩ => rfl
    | ⟨2, _⟩ => show (j : ℕ) = 0 + j; omega

/-- The block, at an index. -/
theorem block_apply (x0 : Vec Ideal S24x1024 .f32) (x1 : Vec Ideal S1x1024x1536 .f32) (x2 : Vec Ideal S1x1x1536 .f32) (r : Fin 24) (j : Fin 1536) :
    out0_3 (F := Ideal) x0 x1 x2 (ix3 0 r j) = entry3 (fun k => x0 (ix2 r k)) (fun k => x1 (ix3 0 k j)) (x2 (ix3 0 0 j)) := by
  unfold out0_3
  refine View.canon_eq_of_allAt _ _ _ (cover0_3 ..) ?_
  refine View.allAt_cons_unit _ _ _ _ _ (fun x hx => ?_) (View.allAt_nil _ _)
  obtain rfl : x = (ix3 0 r j : S1x24x1536.Idx) := funext fun a => Fin.ext (by
    have := hx a
    match a with
    | ⟨0, _⟩ => exact (this.trans (Nat.zero_add _)).symm
    | ⟨1, _⟩ => exact (this.trans (Nat.zero_add _)).symm
    | ⟨2, _⟩ => exact (this.trans (Nat.zero_add _)).symm)
  refine (pay_apply _ _ _ r j).trans ?_
  rw [funext (ld_rows x0 r), funext (fun k => ld_weights x1 k j), ld_bias]

/-! The blocks' places: point `t` computes columns `1536 (t % 4)` on of layer `t / 4`. -/

theorem index_0 : ∀ t : Fin grid0.N, win0_0.index t = ![0, 0] := by decide +kernel
theorem index_1 : ∀ t : Fin grid0.N, win0_1.index t = ![t.val / 4, 0, t.val % 4] := by decide +kernel
theorem index_2 : ∀ t : Fin grid0.N, win0_2.index t = ![t.val / 4, 0, t.val % 4] := by decide +kernel
theorem index_3 : ∀ t : Fin grid0.N, win0_3.index t = ![t.val / 4, 0, t.val % 4] := by decide +kernel
theorem N_eq : cfg0.N = 8 := by decide +kernel

variable (m : (ℓ : Loc nD τ sig) → Buf (Elt Ideal) ℓ) (c : Dev nD)

/-! The arrays that the call is given. -/

abbrev aRows : Vec Ideal S24x1024 .f32 := V m c main_v2
abbrev aWeights : Vec Ideal S2x1024x6144 .f32 := V m c main_arg2
abbrev aBias : Vec Ideal S2x1x6144 .f32 := V m c main_v3

def layerAt (t : Fin cfg0.N) : Fin 2 := ⟨t.val / 4, by have := t.isLt; have := N_eq; omega⟩
def columnAt (t : Fin cfg0.N) (j : Fin 1536) : Fin 6144 := ⟨t.val % 4 * 1536 + j, by omega⟩

theorem iblk_0 (t : Fin cfg0.N) (r : Fin 24) (k : Fin 1024) : (iblk m c 0 t : Vec Ideal S24x1024 .f32) (ix2 r k) = aRows m c (ix2 r k) := by
  blk_ext [iblk, index_0 t]
theorem iblk_1 (t : Fin cfg0.N) (k : Fin 1024) (j : Fin 1536) : (iblk m c 1 t : Vec Ideal S1x1024x1536 .f32) (ix3 0 k j) = aWeights m c (ix3 (layerAt t) k (columnAt t j)) := by
  unfold layerAt columnAt
  blk_ext [iblk, index_1 t]
theorem iblk_2 (t : Fin cfg0.N) (j : Fin 1536) : (iblk m c 2 t : Vec Ideal S1x1x1536 .f32) (ix3 0 0 j) = aBias m c (ix3 (layerAt t) 0 (columnAt t j)) := by
  unfold layerAt columnAt
  blk_ext [iblk, index_2 t]

/-- The result array as a function of its index. -/
def modArr : Vec Ideal S2x24x6144 .f32 := fun y =>
  entry3 (fun k => aRows m c (ix2 (y 1) k)) (fun k => aWeights m c (ix3 (y 0) k (y 2))) (aBias m c (ix3 (y 0) 0 (y 2)))

/-- The array of the modulations. -/
theorem mod_eq : (dats m 0 c).arrAt 3 cfg0.N = modArr m c := by
  refine (dats m 0 c).arrAt_eq_of_covers 3 _ (by decide +kernel) fun t hf y => ?_
  blk_simp
  rw [after0_3]
  obtain ⟨z, r, j, rfl⟩ : ∃ (z : Fin 1) (r : Fin 24) (j : Fin 1536), y = (ix3 z r j : S1x24x1536.Idx) :=
    ⟨y 0, y 1, y 2, by funext a; match a with | ⟨0, _⟩ => rfl | ⟨1, _⟩ => rfl | ⟨2, _⟩ => rfl⟩
  obtain rfl : z = 0 := Subsingleton.elim _ _
  refine (block_apply _ _ _ r j).trans ?_
  rw [funext (iblk_0 m c t r), funext (fun k => iblk_1 m c t k j), iblk_2]
  have e : ((cfg0.win 3).blk t).view.emb (ix3 0 r j : S1x24x1536.Idx) = (ix3 (layerAt t) r (columnAt t j) : S2x24x6144.Idx) := by
    unfold layerAt columnAt
    blk_ext [index_3 t]
  rw [e]
  rfl

end Cert.Kernel4Ideal.Mod

end
-- ==== Proof.ModHost.lean ====
/- The arrays that the modulation's call is given, as the host lays them out from the arguments. -/
module

public import proofs.«01_k».proof.Proof.ModValue
public import Idealize.ShloMosaic.Lib.StableHlo.RunRead
import Idealize.ShloMosaic.Lib.Pointwise

@[expose] public section

set_option maxRecDepth 16384

noncomputable section

namespace Cert.Kernel4Ideal.Mod

open Cert.Kernel4Ideal Cert.Kernel4Ideal.Gen Cert.ModMath
open Idealize.ShloMosaic Idealize.ShloMosaic.TcCoe Idealize.ShloMosaic.Tactic Idealize.ShloMosaic.StableHlo

variable (m : (ℓ : Loc nD τ sig) → Buf (Elt Ideal) ℓ) (c : Dev nD)

abbrev cArg : FVec Ideal S16x1024 .f32 := m ((c : Thread nD τ).loc main_arg0)
abbrev ccArg : FVec Ideal S1024 .f32 := m ((c : Thread nD τ).loc main_arg1)
abbrev wArg : FVec Ideal S2x1024x6144 .f32 := m ((c : Thread nD τ).loc main_arg2)
abbrev bArg : FVec Ideal S2x6144 .f32 := m ((c : Thread nD τ).loc main_arg3)

/-- The conditions of the batches, then that of the context, then rows of zeros. -/
def condRows (a : FVec Ideal S16x1024 .f32) (b : FVec Ideal S1024 .f32) : FVec Ideal S24x1024 .f32 :=
  concatenate S24x1024 0 [⟨S16x1024, a⟩, ⟨S1x1024, broadcastInDim S1x1024 ![1] bcast_S1024_S1x1024_1 b⟩,
    ⟨S7x1024, broadcastInDim S7x1024 ![] bcast_S_S7x1024 (constant S_ .f32 0x00000000#32 : FVec Ideal S_ .f32)⟩] concatenates_S16x1024_S1x1024_S7x1024_S24x1024_d0

theorem upto3_0 : upto hostOps0 (fun b => m (c, b)) 3 (Proc.devRef .tc main_arg0) = (cArg m c : FVec Ideal S16x1024 .f32) := by
  after_reads_simp
theorem upto3_1 : upto hostOps0 (fun b => m (c, b)) 3 (Proc.devRef .tc main_v0) = (broadcastInDim S1x1024 ![1] bcast_S1024_S1x1024_1 (ccArg m c) : FVec Ideal S1x1024 .f32) := by
  after_reads_simp
theorem upto3_2 : upto hostOps0 (fun b => m (c, b)) 3 (Proc.devRef .tc main_v1) = (broadcastInDim S7x1024 ![] bcast_S_S7x1024 (constant S_ .f32 0x00000000#32 : FVec Ideal S_ .f32) : FVec Ideal S7x1024 .f32) := by
  after_reads_simp

theorem aRows_eq : aRows m c = condRows (cArg m c) (ccArg m c) := by
  show StableHlo.after _ _ _ = _
  after_reads_simp
  dsimp only [Matrix.cons_val]
  rw [upto3_0, upto3_1, upto3_2]
  rfl
theorem aWeights_eq : aWeights m c = wArg m c := V_main_arg2 m c
theorem aBias_eq : aBias m c = shapeCast S2x1x6144 (bArg m c) shapeCasts_S2x6144_S2x1x6144 := by
  show StableHlo.after _ _ _ = _
  after_reads_simp
  rfl

/-! The layouts at an index. -/

theorem condRows_batch (a : FVec Ideal S16x1024 .f32) (z : FVec Ideal S1024 .f32) (b : Fin 16) (l : Fin 1024) : condRows a z (ix2 ⟨b, by omega⟩ l) = a (ix2 b l) := by
  pointwise [condRows]
theorem condRows_context (a : FVec Ideal S16x1024 .f32) (z : FVec Ideal S1024 .f32) (l : Fin 1024) : condRows a z (ix2 16 l) = z (ix1 l) := by
  pointwise [condRows]
theorem condRows_zero (a : FVec Ideal S16x1024 .f32) (z : FVec Ideal S1024 .f32) (b : Fin 7) (l : Fin 1024) : condRows a z (ix2 ⟨17 + b, by omega⟩ l) = 0 := by
  pointwise [condRows]
  rw [dif_neg (by omega), dif_neg (by omega)]
theorem bias_apply (a : FVec Ideal S2x6144 .f32) (d : Fin 2) (l : Fin 6144) : shapeCast S2x1x6144 a shapeCasts_S2x6144_S2x1x6144 (ix3 d 0 l) = a (ix2 d l) := by
  pointwise

end Cert.Kernel4Ideal.Mod

end
-- ==== Proof.ModRef.lean ====
/- What the modulation's reference computes, from its arguments. -/
module

public import proofs.«01_k».proof.Proof.ModMath
public import proofs.«01_k».proof.Proof.Gen.Reference4Ideal.Run
import Idealize.ShloMosaic.Lib.Pointwise

@[expose] public section

set_option maxRecDepth 16384

noncomputable section

namespace Cert.Reference4Ideal.Mod

open Cert.Reference4Ideal Cert.Reference4Ideal.Gen Cert.Reference4Ideal.Value Cert.ModMath
open Idealize.ShloMosaic Idealize.ShloMosaic.TcCoe Idealize.ShloMosaic.StableHlo Idealize.ShloMosaic.Tactic

/-- A row of zeros. -/
def zeroRow : FVec Ideal S1x1024 .f32 := broadcastInDim S1x1024 ![1] bcast_S1024_S1x1024_1 (broadcastInDim S1024 ![] bcast_S_S1024 (constant S_ .f32 0x00000000#32))

/-- The context's condition over seven rows of zeros, and both under the batches' conditions. -/
def last8 (b : FVec Ideal S1024 .f32) : FVec Ideal S8x1024 .f32 :=
  concatenate S8x1024 0 [⟨S1x1024, broadcastInDim S1x1024 ![1] bcast_S1024_S1x1024_1 b⟩, ⟨S1x1024, zeroRow⟩, ⟨S1x1024, zeroRow⟩, ⟨S1x1024, zeroRow⟩, ⟨S1x1024, zeroRow⟩,
    ⟨S1x1024, zeroRow⟩, ⟨S1x1024, zeroRow⟩, ⟨S1x1024, zeroRow⟩] concatenates_S1x1024_S1x1024_S1x1024_S1x1024_S1x1024_S1x1024_S1x1024_S1x1024_S8x1024_d0
def rows24 (a : FVec Ideal S16x1024 .f32) (b : FVec Ideal S8x1024 .f32) : FVec Ideal S24x1024 .f32 :=
  concatenate S24x1024 0 [⟨S16x1024, a⟩, ⟨S8x1024, b⟩] concatenates_S16x1024_S8x1024_S24x1024_d0

/-- `silu` of the rows. -/
def silu (x : FVec Ideal S24x1024 .f32) : FVec Ideal S24x1024 .f32 :=
  mulf x (Host.divf (broadcastInDim S24x1024 ![] bcast_S_S24x1024 (constant S_ .f32 0x3F800000#32))
    (addf (broadcastInDim S24x1024 ![] bcast_S_S24x1024 (constant S_ .f32 0x3F800000#32)) (Host.exp (Host.negf x))))

/-- The product with both layers' weights, plus the bias. -/
def products (s : FVec Ideal S24x1024 .f32) (w : FVec Ideal S2x1024x6144 .f32) (b : FVec Ideal S2x6144 .f32) : FVec Ideal S2x24x6144 .f32 :=
  addf (transpose S2x24x6144 [0, 2, 1] (Host.dotGeneral dot_S2x1024x6144_S24x1024_S2x6144x24_1_1_02_0_n_n none w s) transposes_S2x6144x24_S2x24x6144_0_2_1)
    (broadcastInDim S2x24x6144 ![0, 1, 2] bcast_S2x1x6144_S2x24x6144_0_1_2 (broadcastInDim S2x1x6144 ![0, 2] bcast_S2x6144_S2x1x6144_0_2 b))

theorem zeroRow_apply (l : Fin 1024) : zeroRow (ix2 0 l) = 0 := by
  pointwise [zeroRow]
theorem last8_context (b : FVec Ideal S1024 .f32) (l : Fin 1024) : last8 b (ix2 0 l) = b (ix1 l) := by
  pointwise [last8]
theorem last8_zero (b : FVec Ideal S1024 .f32) (r : Fin 7) (l : Fin 1024) : last8 b (ix2 ⟨1 + r, by omega⟩ l) = 0 := by
  pointwise [last8, zeroRow]
  split_ifs <;> rfl
theorem rows24_batch (a : FVec Ideal S16x1024 .f32) (b : FVec Ideal S8x1024 .f32) (r : Fin 16) (l : Fin 1024) : rows24 a b (ix2 ⟨r, by omega⟩ l) = a (ix2 r l) := by
  pointwise [rows24]
theorem rows24_last (a : FVec Ideal S16x1024 .f32) (b : FVec Ideal S8x1024 .f32) (r : Fin 8) (l : Fin 1024) : rows24 a b (ix2 ⟨16 + r, by omega⟩ l) = b (ix2 r l) := by
  pointwise [rows24]
theorem silu_apply (x : FVec Ideal S24x1024 .f32) (r : Fin 24) (l : Fin 1024) : silu x (ix2 r l) = lit (x (ix2 r l)) := by
  unfold lit
  pointwise [silu]
  rfl
theorem products_apply (s : FVec Ideal S24x1024 .f32) (w : FVec Ideal S2x1024x6144 .f32) (b : FVec Ideal S2x6144 .f32) (d : Fin 2) (r : Fin 24) (j : Fin 6144) :
    products s w b (ix3 d r j) = (∑ k, w (ix3 d k j) * s (ix2 r k)) + b (ix2 d j) := by
  pointwise [products]

variable (m : (ℓ : Loc nD τ sig) → Buf (Elt Ideal) ℓ) (c : Dev nD)

abbrev cArg : FVec Ideal S16x1024 .f32 := m ((c.tc : Thread nD τ).loc main_arg0)
abbrev ccArg : FVec Ideal S1024 .f32 := m ((c.tc : Thread nD τ).loc main_arg1)
abbrev wArg : FVec Ideal S2x1024x6144 .f32 := m ((c.tc : Thread nD τ).loc main_arg2)
abbrev bArg : FVec Ideal S2x6144 .f32 := m ((c.tc : Thread nD τ).loc main_arg3)

/-- The conditions' rows. -/
def rows : FVec Ideal S24x1024 .f32 := rows24 (cArg m c) (last8 (ccArg m c))

theorem res_eq : res_main_v16 (F := Ideal) m c = products (silu (rows m c)) (wArg m c) (bArg m c) := rfl

/-- The reference's result at an index. -/
theorem res_apply (d : Fin 2) (r : Fin 24) (j : Fin 6144) : (res_main_v16 (F := Ideal) m c : FVec Ideal S2x24x6144 .f32) (ix3 d r j)
    = entry (fun k => rows m c (ix2 r k)) (fun k => wArg m c (ix3 d k j)) (bArg m c (ix2 d j)) := by
  rw [res_eq, products_apply]
  unfold entry
  exact congrArg (· + bArg m c (ix2 d j)) (Finset.sum_congr rfl fun k _ => (congrArg (wArg m c (ix3 d k j) * ·) (silu_apply (rows m c) r k)).trans (mul_comm _ _))

end Cert.Reference4Ideal.Mod

end
-- ==== Proof.ModEq.lean ====
/- The modulation's result is its reference's. -/
module

public import proofs.«01_k».proof.Proof.ModHost
public import proofs.«01_k».proof.Proof.ModRef

@[expose] public section

set_option maxRecDepth 16384

noncomputable section

namespace Cert.Kernel4Ideal.Mod

open Cert.Kernel4Ideal Cert.Kernel4Ideal.Gen Cert.ModMath
open Idealize.ShloMosaic Idealize.ShloMosaic.TcCoe Idealize.ShloMosaic.StableHlo

/-- A row is of a batch's condition, of the context's, or of a zero one. -/
theorem row_cases (r : Fin 24) : (∃ k : Fin 16, r = ⟨k, by omega⟩) ∨ r = 16 ∨ ∃ k : Fin 7, r = ⟨17 + k, by omega⟩ := by
  by_cases h : (r : ℕ) < 16
  · exact .inl ⟨⟨r, h⟩, rfl⟩
  · by_cases h' : (r : ℕ) = 16
    · exact .inr (.inl (Fin.ext h'))
    · exact .inr (.inr ⟨⟨r - 17, by omega⟩, Fin.ext (by dsimp only; omega)⟩)

variable (m : (ℓ : Loc nD τ sig) → Buf (Elt Ideal) ℓ) (c : Dev nD)
  (m' : (ℓ : Loc Cert.Reference4Ideal.nD Cert.Reference4Ideal.τ Cert.Reference4Ideal.sig) → Buf (Elt Ideal) ℓ) (c' : Dev Cert.Reference4Ideal.nD)

/-- The conditions' rows are the reference's. -/
theorem rows_ref (h0 : Cert.Reference4Ideal.Mod.cArg m' c' = cArg m c) (h1 : Cert.Reference4Ideal.Mod.ccArg m' c' = ccArg m c) (r : Fin 24) (k : Fin 1024) :
    Cert.Reference4Ideal.Mod.rows m' c' (ix2 r k) = condRows (cArg m c) (ccArg m c) (ix2 r k) := by
  unfold Cert.Reference4Ideal.Mod.rows
  rw [h0, h1]
  obtain ⟨i, rfl⟩ | rfl | ⟨i, rfl⟩ := row_cases r
  · exact (Cert.Reference4Ideal.Mod.rows24_batch _ _ i k).trans (condRows_batch _ _ i k).symm
  · exact ((Cert.Reference4Ideal.Mod.rows24_last _ _ 0 k).trans (Cert.Reference4Ideal.Mod.last8_context _ k)).trans (condRows_context _ _ k).symm
  · have e : (⟨17 + i, by omega⟩ : Fin 24) = ⟨16 + (⟨1 + i, by omega⟩ : Fin 8), by dsimp only; omega⟩ := Fin.ext (by dsimp only; omega)
    refine Eq.trans ?_ (condRows_zero _ _ i k).symm
    rw [e]
    exact (Cert.Reference4Ideal.Mod.rows24_last _ _ ⟨1 + i, by omega⟩ k).trans (Cert.Reference4Ideal.Mod.last8_zero _ i k)

/-- Every row is real if the conditions are. -/
theorem rows_real (h0 : ∀ b k, ∃ r : ℝ, cArg m c (ix2 b k) = (r : EReal)) (h1 : ∀ k, ∃ r : ℝ, ccArg m c (ix1 k) = (r : EReal)) (r : Fin 24) (k : Fin 1024) :
    ∃ s : ℝ, condRows (cArg m c) (ccArg m c) (ix2 r k) = (s : EReal) := by
  obtain ⟨i, rfl⟩ | rfl | ⟨i, rfl⟩ := row_cases r
  · exact (h0 i k).imp fun s hs => (condRows_batch _ _ i k).trans hs
  · exact (h1 k).imp fun s hs => (condRows_context _ _ k).trans hs
  · exact ⟨0, condRows_zero _ _ i k⟩

/-- The call's array is the reference's result, from memories that agree on the arguments. -/
theorem mod_ref (p0 : ∀ b k, ∃ r : ℝ, cArg m c (ix2 b k) = (r : EReal)) (p1 : ∀ k, ∃ r : ℝ, ccArg m c (ix1 k) = (r : EReal))
    (p2 : ∀ d k j, ∃ r : ℝ, wArg m c (ix3 d k j) = (r : EReal))
    (h0 : Cert.Reference4Ideal.Mod.cArg m' c' = cArg m c) (h1 : Cert.Reference4Ideal.Mod.ccArg m' c' = ccArg m c)
    (h2 : Cert.Reference4Ideal.Mod.wArg m' c' = wArg m c) (h3 : Cert.Reference4Ideal.Mod.bArg m' c' = bArg m c) :
    (Cert.Reference4Ideal.Value.res_main_v16 (F := Ideal) m' c' : FVec Ideal S2x24x6144 .f32) = (dats m 0 c).arrAt 3 cfg0.N := by
  rw [mod_eq]
  funext y
  obtain ⟨d, r, j, rfl⟩ : ∃ (d : Fin 2) (r : Fin 24) (j : Fin 6144), y = (ix3 d r j : S2x24x6144.Idx) :=
    ⟨y 0, y 1, y 2, by funext a; match a with | ⟨0, _⟩ => rfl | ⟨1, _⟩ => rfl | ⟨2, _⟩ => rfl⟩
  refine (Cert.Reference4Ideal.Mod.res_apply m' c' d r j).trans ?_
  rw [funext (rows_ref m c m' c' h0 h1 r), h2, h3]
  show _ = entry3 (fun k => aRows m c (ix2 r k)) (fun k => aWeights m c (ix3 d k j)) (aBias m c (ix3 d 0 j))
  rw [aRows_eq, aWeights_eq, aBias_eq, bias_apply]
  exact (entry3_eq _ _ _ (rows_real m c p0 p1 r) (fun k => p2 d k j)).symm

end Cert.Kernel4Ideal.Mod

end
-- ==== Proof.ModFinite.lean ====
/- The modulation claim's precondition: the conditions and the weights are real numbers. -/
module

public import proofs.«01_k».proof.Pre_finite_cw
public import proofs.«01_k».proof.Proof.Gen.Pre_finite_cw
public import proofs.«01_k».proof.Proof.GqaFinite
public import Idealize.ShloMosaic.Lib.Pointwise

@[expose] public section

set_option maxRecDepth 16384

noncomputable section

namespace Cert.Pre_finite_cw

open Idealize.ShloMosaic Idealize.ShloMosaic.Tactic Cert.Pre_finite_qk

variable (a0 : FVec Ideal S16x1024 .f32) (a1 : FVec Ideal S1024 .f32) (a2 : FVec Ideal S2x1024x6144 .f32) (a3 : FVec Ideal S2x6144 .f32)

theorem fn_c (b : Fin 16) (k : Fin 1024) (e : (fn (F := Ideal) a0 a1 a2 a3).1 = fun _ => 1#1) : ∃ r : ℝ, a0 (ix2 b k) = (r : EReal) := by
  have e' := congrFun e (ix2 b k)
  dsimp only [fn] at e'
  pointwise at e'
  exact real_of_abs_lt _ e'
theorem fn_cc (k : Fin 1024) (e : (fn (F := Ideal) a0 a1 a2 a3).2.1 = fun _ => 1#1) : ∃ r : ℝ, a1 (ix1 k) = (r : EReal) := by
  have e' := congrFun e (ix1 k)
  dsimp only [fn] at e'
  pointwise at e'
  exact real_of_abs_lt _ e'
theorem fn_w (d : Fin 2) (k : Fin 1024) (j : Fin 6144) (e : (fn (F := Ideal) a0 a1 a2 a3).2.2 = fun _ => 1#1) : ∃ r : ℝ, a2 (ix3 d k j) = (r : EReal) := by
  have e' := congrFun e (ix3 d k j)
  dsimp only [fn] at e'
  pointwise at e'
  exact real_of_abs_lt _ e'

end Cert.Pre_finite_cw

end
-- ==== Proof.ModClaim.lean ====
/- The claims about the modulation's call, from its run, its value and the reference's run. -/
module

public import proofs.«01_k».proof.Defs
public import proofs.«01_k».proof.Proof.ModEq
public import proofs.«01_k».proof.Proof.ModFinite
public import Idealize.ShloMosaic.Lib.Quiescent

@[expose] public section

noncomputable section

namespace Cert.Claims

open Idealize.ShloMosaic Idealize.SL.Sem Idealize.ShloMosaic.TcCoe

/-- The reference leaves its arguments and its counters as it found them. -/
theorem mod_ref_frame : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)
theorem mod_ref_frame_pre : Cert.quiescent_Reference4Ideal_pre_finite_cw := fun m ρ _ => mod_ref_frame m ρ trivial

/-- The kernel computes its reference. -/
theorem mod_value : Cert.algebraic_Kernel4Ideal_Reference4Ideal_pre_finite_cw := by
  intro m ρ m' ρ' hpre hagree
  refine ⟨_, Cert.Kernel4Ideal.Value.run_blocks (F := Ideal) m ρ, ?_⟩
  refine (θ_run Cert.Reference4Ideal.defs _ _).mono (fun _ h c => ⟨(h c).1.trans ?_, (h c).2⟩) (Cert.Reference4Ideal.Value.run (F := Ideal) m' ρ')
  obtain ⟨h0, h1, h2, h3⟩ := hagree c
  obtain ⟨p0, p1, p2⟩ := hpre c
  exact Cert.Kernel4Ideal.Mod.mod_ref m c m' c (fun b k => Cert.Pre_finite_cw.fn_c _ _ _ _ b k p0) (fun k => Cert.Pre_finite_cw.fn_cc _ _ _ _ k p1)
    (fun d k j => Cert.Pre_finite_cw.fn_w _ _ _ _ d k j p2) h0 h1 h2 h3

end Cert.Claims

end
-- ==== Proof.FirstTile.lean ====
/- The body of the first layer's input projection, tile by tile: the modulated rows, their projection, the heads' norm and the rotary
   embedding of a tile of 128 lanes, each as a function of what it reads and at an index. -/
module

public import proofs.«01_k».proof.Proof.ProjMath
public import proofs.«01_k».proof.Proof.Gen.Kernel5Ideal.Skeleton
public import Idealize.ShloMosaic.Lib.Pointwise

@[expose] public section

set_option maxRecDepth 16384

noncomputable section

namespace Cert.Kernel5Ideal.Proj

open Cert.Kernel5Ideal Cert.Kernel5Ideal.Gen Cert.MixMath Cert.ProjMath
open Idealize.ShloMosaic Idealize.ShloMosaic.TcCoe

/-- A tile of the projection. -/
def slice (o : Fin 2 → ℕ) (h : S256x1792.Slices o S256x128) (P : FVec Ideal S256x1792 .f32) : FVec Ideal S256x128 .f32 := extractStridedSlice S256x128 o P h

/-- The lanes of a tile's first head. -/
def lower : IVec S256x128 1 := cmpi .slt (iota .tc S256x128 32 [1] iota_S256x128_d1_w32) (broadcast S256x128 64#32)

/-- A sum of every row's lanes, for each of them. -/
def rowSum (v : FVec Ideal S256x128 .f32) : FVec Ideal S256x128 .f32 :=
  broadcastTo S256x128 (shapeCast S256x1 (shapeCast S256x1 (multiReduction .add [1] S256 v 0x00000000#32 reduces_S256x128_S256 (.inl rfl) rfl) shapeCasts_S256_S256x1) shapeCasts_S256x1_S256x1) broadcasts_S256x1_S256x128

/-- Two heads' norm. -/
def norm (t : FVec Ideal S256x128 .f32) (g : Vec Ideal S1x128 .f32) : FVec Ideal S256x128 .f32 :=
  mulf (mulf t (rsqrt (addf (mulf (select lower (rowSum (select lower (mulf t t) (broadcast S256x128 (Scalar.ofBits .f32 0x00000000#32)))) (rowSum (select lower (broadcast S256x128 (Scalar.ofBits .f32 0x00000000#32)) (mulf t t))))
    (broadcast S256x128 (Scalar.ofBits .f32 0x3C800000#32))) (broadcast S256x128 (Scalar.ofBits .f32 0x358637BD#32)))))
    (broadcastTo S256x128 (shapeCast S1x128 g shapeCasts_S1x128_S1x128) broadcasts_S1x128_S256x128)

/-- The rotary embedding of a tile. -/
def turn (c s : Vec Ideal S256x128 .f32) (t : FVec Ideal S256x128 .f32) : FVec Ideal S256x128 .f32 :=
  addf (mulf t (shapeCast S256x128 c shapeCasts_S256x128_S256x128))
    (mulf (select (cmpi .eq (andi (iota .tc S256x128 32 [1] iota_S256x128_d1_w32) (broadcast S256x128 16#32)) (broadcast S256x128 0#32))
      (dynamicRotate 1 112#32 none t rotates_S256x128_d1) (dynamicRotate 1 16#32 none t rotates_S256x128_d1))
      (shapeCast S256x128 s shapeCasts_S256x128_S256x128))

/-- A tile as it is stored. -/
def stored (t : FVec Ideal S256x128 .f32) : FVec Ideal S1x256x128 .bf16 :=
  shapeCast S1x256x128 (truncf .bf16 t bitsLt_bf16_f32 : FVec Ideal S256x128 .bf16) shapeCasts_S256x128_S1x256x128

/-- The projection of a batch's rows. -/
def project (i : grid0.Coords) (v5 v7 : Vec Ideal S1x256x1024 .f32) (v10 v12 : Vec Ideal S1x1x6144 .f32) (v27 : Vec Ideal S1x1024 .f32) (v38 : Vec Ideal S1024x1792 .bf16) : FVec Ideal S256x1792 .f32 :=
  k0_pay7 (k0_pay5 (F := Ideal) i v10 v12) (k0_pay6 (F := Ideal) i v5 v7 v10 v12 v27) v38

theorem select_lane (d : Fin 128) (x y : EReal) :
    Scalar.select (IntOp.cmpi CmpIPredicate.slt (BitVec.ofNat 32 (d : ℕ)) 64#32) x y = if (d : ℕ) < 64 then x else y := by
  have h : IntOp.cmpi CmpIPredicate.slt (BitVec.ofNat 32 (d : ℕ)) 64#32 = if (d : ℕ) < 64 then 1#1 else 0#1 := by
    revert d; decide
  rw [h]; split <;> rfl

theorem select_pair (d : Fin 128) (x y : EReal) :
    Scalar.select (IntOp.cmpi CmpIPredicate.eq (IntOp.andi (BitVec.ofNat 32 (d : ℕ)) 16#32) 0#32) x y = if (d : ℕ) / 16 % 2 = 0 then x else y := by
  have h : IntOp.cmpi CmpIPredicate.eq (IntOp.andi (BitVec.ofNat 32 (d : ℕ)) 16#32) 0#32 = if (d : ℕ) / 16 % 2 = 0 then 1#1 else 0#1 := by
    revert d; decide
  rw [h]; split <;> rfl

theorem slice_apply (o : ℕ) (h : S256x1792.Slices ![0, o] S256x128) (ho : o + 128 ≤ 1792) (P : FVec Ideal S256x1792 .f32) (r : Fin 256) (e : Fin 128) :
    slice ![0, o] h P (ix2 r e) = P (ix2 r ⟨o + e, by omega⟩) := by
  pointwise [slice]

theorem rowSum_apply (v : FVec Ideal S256x128 .f32) (r : Fin 256) (e : Fin 128) : rowSum v (ix2 r e) = ∑ x, v (ix2 r x) := by
  pointwise [rowSum]

theorem norm_apply (t : FVec Ideal S256x128 .f32) (g : Vec Ideal S1x128 .f32) (r : Fin 256) (e : Fin 128) :
    norm t g (ix2 r e) = normedTile (fun e => t (ix2 r e)) (fun e => g (ix2 0 e)) e := by
  pointwise [norm, lower, rowSum]
  simp only [select_lane]
  exact normedTile_eq (fun e => t (ix2 r e)) (fun e => g (ix2 0 e)) e

theorem turn_apply (c s : Vec Ideal S256x128 .f32) (t : FVec Ideal S256x128 .f32) (r : Fin 256) (e : Fin 128) :
    turn c s t (ix2 r e) = turnedTile (fun e => c (ix2 r e)) (fun e => s (ix2 r e)) (fun e => t (ix2 r e)) e := by
  unfold turnedTile partner
  pointwise [turn]
  rw [select_pair]
  split
  · exact congrArg (fun k => _ + t (ix2 r k) * _) (Fin.ext (by dsimp only; omega))
  · exact congrArg (fun k => _ + t (ix2 r k) * _) (Fin.ext (by dsimp only; omega))

theorem stored_apply (t : FVec Ideal S256x128 .f32) (r : Fin 256) (e : Fin 128) : stored t (ix3 0 r e) = t (ix2 r e) := by
  pointwise [stored]

/-- What a step takes, of rows and of modulation: the context's in the first step of a batch group, else the batch's own. -/
def chosen {n : ℕ} (i : grid0.Coords) (ctx lat : Fin n → EReal) (l : Fin n) : EReal := if (i 1 : ℕ) = 0 then ctx l else lat l

theorem select_chosen (i : grid0.Coords) (x y : EReal) :
    Scalar.select (Scalar.cmpi .eq (BitVec.ofNat 32 (i 1).val) 0#32) x y = if (i 1 : ℕ) = 0 then x else y := by
  have h : ∀ a : Fin 9, Scalar.cmpi .eq (BitVec.ofNat 32 a.val) 0#32 = if (a : ℕ) = 0 then 1#1 else 0#1 := by decide
  have h1 := h (i 1)
  rw [h1]; split <;> rfl

theorem project_apply (i : grid0.Coords) (v5 v7 : Vec Ideal S1x256x1024 .f32) (v10 v12 : Vec Ideal S1x1x6144 .f32) (v27 : Vec Ideal S1x1024 .f32) (v38 : Vec Ideal S1024x1792 .bf16) (r : Fin 256) (j : Fin 1792) :
    project i v5 v7 v10 v12 v27 v38 (ix2 r j)
      = projected (modulated (chosen i (fun l => v7 (ix3 0 r l)) (fun l => v5 (ix3 0 r l))) (fun l => v27 (ix2 0 l)) (fun l => chosen i (fun l => v10 (ix3 0 0 l)) (fun l => v12 (ix3 0 0 l)) ⟨1024 + l, by omega⟩)
          (fun l => chosen i (fun l => v10 (ix3 0 0 l)) (fun l => v12 (ix3 0 0 l)) ⟨l, by omega⟩)) (fun k j => v38 (ix2 k j)) j := by
  unfold projected modulated rms1024 rms chosen
  pointwise [project, k0_pay4, k0_pay5, k0_pay6, k0_pay7]
  simp only [select_chosen]

/-! The same, of what the reads are known to be. -/

theorem norm_of (t : FVec Ideal S256x128 .f32) (g : Vec Ideal S1x128 .f32) (r : Fin 256) (p gg : Fin 128 → EReal) (hp : (fun e => t (ix2 r e)) = p) (hg : ∀ e, g (ix2 0 e) = gg e) (e : Fin 128) :
    norm t g (ix2 r e) = normedTile p gg e := by
  rw [norm_apply, hp, funext hg]

theorem turn_of (c s : Vec Ideal S256x128 .f32) (t : FVec Ideal S256x128 .f32) (r : Fin 256) (cc ss tt : Fin 128 → EReal) (hc : ∀ e, c (ix2 r e) = cc e) (hs : ∀ e, s (ix2 r e) = ss e)
    (ht : ∀ e, t (ix2 r e) = tt e) (e : Fin 128) : turn c s t (ix2 r e) = turnedTile cc ss tt e := by
  rw [turn_apply, funext hc, funext hs, funext ht]

theorem project_of (i : grid0.Coords) (v5 v7 : Vec Ideal S1x256x1024 .f32) (v10 v12 : Vec Ideal S1x1x6144 .f32) (v27 : Vec Ideal S1x1024 .f32) (v38 : Vec Ideal S1024x1792 .bf16) (r : Fin 256) (j : Fin 1792)
    (x y g : Fin 1024 → EReal) (c m : Fin 6144 → EReal) (w : Fin 1024 → Fin 1792 → EReal) (hx : ∀ l, v5 (ix3 0 r l) = x l) (hy : ∀ l, v7 (ix3 0 r l) = y l) (hc : ∀ l, v10 (ix3 0 0 l) = c l) (hm : ∀ l, v12 (ix3 0 0 l) = m l)
    (hg : ∀ l, v27 (ix2 0 l) = g l) (hw : ∀ k j, v38 (ix2 k j) = w k j) :
    project i v5 v7 v10 v12 v27 v38 (ix2 r j) = projected (modulated (chosen i y x) g (fun l => chosen i c m ⟨1024 + l, by omega⟩) (fun l => chosen i c m ⟨l, by omega⟩)) w j := by
  rw [project_apply, funext hx, funext hy, funext hc, funext hm, funext hg, show (fun k j => v38 (ix2 k j)) = w from funext fun k => funext (hw k)]

end Cert.Kernel5Ideal.Proj

end
-- ==== Proof.FirstPieces.lean ====
/- Each value that the body of the first layer's input projection stores is a tile of one of the four batches' projections, normed and turned
   where its tile is a query's or a key's. -/
module

public import proofs.«01_k».proof.Proof.FirstTile
public import proofs.«01_k».proof.Proof.Gen.Kernel5Ideal.Frame

@[expose] public section

set_option maxRecDepth 16384

noncomputable section

namespace Cert.Kernel5Ideal.Proj

open Cert.Kernel5Ideal Cert.Kernel5Ideal.Gen
open Idealize.ShloMosaic Idealize.ShloMosaic.TcCoe

variable (i : grid0.Coords) (x0 : Vec Ideal S4x256x1024 .f32) (x1 : Vec Ideal S4x256x1024 .f32) (x2 : Vec Ideal S4x1x6144 .f32) (x3 : Vec Ideal S1x1x6144 .f32) (x4 : Vec Ideal S1x1024 .f32) (x5 : Vec Ideal S1024x1792 .bf16) (x6 : Vec Ideal S256x128 .f32) (x7 : Vec Ideal S256x128 .f32) (x8 : Vec Ideal S1x128 .f32) (x9 : Vec Ideal S1x128 .f32) (x10 : Vec Ideal S1x128 .f32) (x11 : Vec Ideal S1x128 .f32)

/-! The four batches' projections. -/

def batch0 : FVec Ideal S256x1792 .f32 := project i (View.ld x0 r0_1) (View.ld x1 r0_1) (View.ld x3 r0_2) (View.ld x2 r0_3) (View.ld x4 r0_4) (View.ld x5 r0_5)
def batch1 : FVec Ideal S256x1792 .f32 := project i (View.ld x0 r0_20) (View.ld x1 r0_20) (View.ld x3 r0_2) (View.ld x2 r0_21) (View.ld x4 r0_4) (View.ld x5 r0_5)
def batch2 : FVec Ideal S256x1792 .f32 := project i (View.ld x0 r0_35) (View.ld x1 r0_35) (View.ld x3 r0_2) (View.ld x2 r0_36) (View.ld x4 r0_4) (View.ld x5 r0_5)
def batch3 : FVec Ideal S256x1792 .f32 := project i (View.ld x0 r0_50) (View.ld x1 r0_50) (View.ld x3 r0_2) (View.ld x2 r0_51) (View.ld x4 r0_4) (View.ld x5 r0_5)

/-- A tile of plain lanes, of normed heads, and of normed and turned heads, as stored. -/
def plainTile (o : Fin 2 → ℕ) (h : S256x1792.Slices o S256x128) (P : FVec Ideal S256x1792 .f32) : FVec Ideal S1x256x128 .bf16 := stored (slice o h P)
def normTile (o : Fin 2 → ℕ) (h : S256x1792.Slices o S256x128) (P : FVec Ideal S256x1792 .f32) (g : Vec Ideal S1x128 .f32) : FVec Ideal S1x256x128 .bf16 := stored (norm (slice o h P) g)
def turnTile (o : Fin 2 → ℕ) (h : S256x1792.Slices o S256x128) (P : FVec Ideal S256x1792 .f32) (g : Vec Ideal S1x128 .f32) (c s : Vec Ideal S256x128 .f32) : FVec Ideal S1x256x128 .bf16 := stored (turn c s (norm (slice o h P) g))

/-! The stored values. -/

theorem tile3_11 : k0_pay194 (k0_pay181 (k0_pay206 i x0 x1 x2 x3 x4 x5 x6 x7 x8 x9 x10 x11)) = plainTile ![0, 1408] slices_S256x1792_o0_1408_S256x128 (batch3 i x0 x1 x2 x3 x4 x5) := rfl
theorem tile3_10 : k0_pay193 (k0_pay180 (k0_pay206 i x0 x1 x2 x3 x4 x5 x6 x7 x8 x9 x10 x11)) = plainTile ![0, 1280] slices_S256x1792_o0_1280_S256x128 (batch3 i x0 x1 x2 x3 x4 x5) := rfl
theorem tile3_9 : k0_pay192 (k0_pay179 (k0_pay206 i x0 x1 x2 x3 x4 x5 x6 x7 x8 x9 x10 x11)) = plainTile ![0, 1152] slices_S256x1792_o0_1152_S256x128 (batch3 i x0 x1 x2 x3 x4 x5) := rfl
theorem tile3_8 : k0_pay191 (k0_pay178 (k0_pay206 i x0 x1 x2 x3 x4 x5 x6 x7 x8 x9 x10 x11)) = plainTile ![0, 1024] slices_S256x1792_o0_1024_S256x128 (batch3 i x0 x1 x2 x3 x4 x5) := rfl
theorem tile3_7 : k0_pay190 (k0_pay177 (k0_pay206 i x0 x1 x2 x3 x4 x5 x6 x7 x8 x9 x10 x11) (View.ld x11 r0_6)) = normTile ![0, 896] slices_S256x1792_o0_896_S256x128 (batch3 i x0 x1 x2 x3 x4 x5) (View.ld x11 r0_6) := rfl
theorem tile3_6 : k0_pay189 (k0_pay176 (k0_pay173 (k0_pay206 i x0 x1 x2 x3 x4 x5 x6 x7 x8 x9 x10 x11)) (k0_pay174 (View.ld x11 r0_6)) (k0_pay175 (k0_pay206 i x0 x1 x2 x3 x4 x5 x6 x7 x8 x9 x10 x11))) = normTile ![0, 768] slices_S256x1792_o0_768_S256x128 (batch3 i x0 x1 x2 x3 x4 x5) (View.ld x11 r0_6) := rfl
theorem tile3_5 : k0_pay188 (k0_pay172 (k0_pay170 (k0_pay206 i x0 x1 x2 x3 x4 x5 x6 x7 x8 x9 x10 x11)) (k0_pay171 (View.ld x10 r0_6)) (iota .tc S256x128 32 [1] iota_S256x128_d1_w32) 64#32) = normTile ![0, 640] slices_S256x1792_o0_640_S256x128 (batch3 i x0 x1 x2 x3 x4 x5) (View.ld x10 r0_6) := rfl
theorem tile3_4 : k0_pay187 (k0_pay169 (k0_pay206 i x0 x1 x2 x3 x4 x5 x6 x7 x8 x9 x10 x11) (View.ld x10 r0_6)) = normTile ![0, 512] slices_S256x1792_o0_512_S256x128 (batch3 i x0 x1 x2 x3 x4 x5) (View.ld x10 r0_6) := rfl
theorem tile3_3 : k0_pay186 (k0_pay168 (k0_pay206 i x0 x1 x2 x3 x4 x5 x6 x7 x8 x9 x10 x11)) = plainTile ![0, 384] slices_S256x1792_o0_384_S256x128 (batch3 i x0 x1 x2 x3 x4 x5) := rfl
theorem tile3_2 : k0_pay185 (k0_pay167 (k0_pay196 i x0 x1 x2 x3 x4 x5 x6 x7 x8 x9 x10 x11) (k0_pay197 i x0 x1 x2 x3 x4 x5 x6 x7 x8 x9 x10 x11) (k0_pay166 (k0_pay206 i x0 x1 x2 x3 x4 x5 x6 x7 x8 x9 x10 x11) (View.ld x9 r0_6))) = turnTile ![0, 256] slices_S256x1792_o0_256_S256x128 (batch3 i x0 x1 x2 x3 x4 x5) (View.ld x9 r0_6) (View.ld x6 r0_0) (View.ld x7 r0_0) := rfl
theorem tile3_1 : k0_pay184 (k0_pay183 (k0_pay165 (k0_pay196 i x0 x1 x2 x3 x4 x5 x6 x7 x8 x9 x10 x11) (k0_pay197 i x0 x1 x2 x3 x4 x5 x6 x7 x8 x9 x10 x11) (k0_pay161 (k0_pay206 i x0 x1 x2 x3 x4 x5 x6 x7 x8 x9 x10 x11)) (k0_pay162 (View.ld x8 r0_6)) (k0_pay163 (k0_pay206 i x0 x1 x2 x3 x4 x5 x6 x7 x8 x9 x10 x11)) (k0_pay164 (F := Ideal)))) = turnTile ![0, 128] slices_S256x1792_o0_128_S256x128 (batch3 i x0 x1 x2 x3 x4 x5) (View.ld x8 r0_6) (View.ld x6 r0_0) (View.ld x7 r0_0) := rfl
theorem tile3_0 : k0_pay182 (k0_pay160 (k0_pay196 i x0 x1 x2 x3 x4 x5 x6 x7 x8 x9 x10 x11) (k0_pay197 i x0 x1 x2 x3 x4 x5 x6 x7 x8 x9 x10 x11) (k0_pay154 (Scalar.cmpi .eq (BitVec.ofNat 32 (i 1).val) 0#32) (k0_pay204 i x0 x1 x2 x3 x4 x5 x6 x7 x8 x9 x10 x11) (k0_pay205 i x0 x1 x2 x3 x4 x5 x6 x7 x8 x9 x10 x11) (View.ld x2 r0_51) (View.ld x4 r0_4) (View.ld x5 r0_5)) (k0_pay155 (View.ld x8 r0_6)) k0_pay156 (k0_pay158 (Scalar.cmpi .eq (BitVec.ofNat 32 (i 1).val) 0#32) (k0_pay204 i x0 x1 x2 x3 x4 x5 x6 x7 x8 x9 x10 x11) (k0_pay205 i x0 x1 x2 x3 x4 x5 x6 x7 x8 x9 x10 x11) (View.ld x2 r0_51) (View.ld x4 r0_4) (View.ld x5 r0_5)) (k0_pay159 (Scalar.cmpi .eq (BitVec.ofNat 32 (i 1).val) 0#32) (k0_pay204 i x0 x1 x2 x3 x4 x5 x6 x7 x8 x9 x10 x11) (k0_pay205 i x0 x1 x2 x3 x4 x5 x6 x7 x8 x9 x10 x11) (View.ld x2 r0_51) (View.ld x4 r0_4) (View.ld x5 r0_5))) = turnTile ![0, 0] slices_S256x1792_o0_0_S256x128 (batch3 i x0 x1 x2 x3 x4 x5) (View.ld x8 r0_6) (View.ld x6 r0_0) (View.ld x7 r0_0) := rfl
theorem tile2_11 : k0_pay149 (k0_pay135 (k0_pay203 i x0 x1 x2 x3 x4 x5 x6 x7 x8 x9 x10 x11)) = plainTile ![0, 1408] slices_S256x1792_o0_1408_S256x128 (batch2 i x0 x1 x2 x3 x4 x5) := rfl
theorem tile2_10 : k0_pay148 (k0_pay134 (k0_pay203 i x0 x1 x2 x3 x4 x5 x6 x7 x8 x9 x10 x11)) = plainTile ![0, 1280] slices_S256x1792_o0_1280_S256x128 (batch2 i x0 x1 x2 x3 x4 x5) := rfl
theorem tile2_9 : k0_pay147 (k0_pay133 (k0_pay203 i x0 x1 x2 x3 x4 x5 x6 x7 x8 x9 x10 x11)) = plainTile ![0, 1152] slices_S256x1792_o0_1152_S256x128 (batch2 i x0 x1 x2 x3 x4 x5) := rfl
theorem tile2_8 : k0_pay146 (k0_pay132 (k0_pay203 i x0 x1 x2 x3 x4 x5 x6 x7 x8 x9 x10 x11)) = plainTile ![0, 1024] slices_S256x1792_o0_1024_S256x128 (batch2 i x0 x1 x2 x3 x4 x5) := rfl
theorem tile2_7 : k0_pay145 (k0_pay144 (k0_pay131 (k0_pay203 i x0 x1 x2 x3 x4 x5 x6 x7 x8 x9 x10 x11) (View.ld x11 r0_6))) = normTile ![0, 896] slices_S256x1792_o0_896_S256x128 (batch2 i x0 x1 x2 x3 x4 x5) (View.ld x11 r0_6) := rfl
theorem tile2_6 : k0_pay143 (k0_pay130 (k0_pay124 (k0_pay203 i x0 x1 x2 x3 x4 x5 x6 x7 x8 x9 x10 x11)) (k0_pay125 (View.ld x11 r0_6)) k0_pay126 (k0_pay128 (k0_pay203 i x0 x1 x2 x3 x4 x5 x6 x7 x8 x9 x10 x11)) (k0_pay129 (k0_pay203 i x0 x1 x2 x3 x4 x5 x6 x7 x8 x9 x10 x11))) = normTile ![0, 768] slices_S256x1792_o0_768_S256x128 (batch2 i x0 x1 x2 x3 x4 x5) (View.ld x11 r0_6) := rfl
theorem tile2_5 : k0_pay142 (k0_pay123 (k0_pay203 i x0 x1 x2 x3 x4 x5 x6 x7 x8 x9 x10 x11) (View.ld x10 r0_6)) = normTile ![0, 640] slices_S256x1792_o0_640_S256x128 (batch2 i x0 x1 x2 x3 x4 x5) (View.ld x10 r0_6) := rfl
theorem tile2_4 : k0_pay141 (k0_pay122 (k0_pay119 (k0_pay203 i x0 x1 x2 x3 x4 x5 x6 x7 x8 x9 x10 x11)) (k0_pay120 (View.ld x10 r0_6)) (k0_pay121 (k0_pay203 i x0 x1 x2 x3 x4 x5 x6 x7 x8 x9 x10 x11))) = normTile ![0, 512] slices_S256x1792_o0_512_S256x128 (batch2 i x0 x1 x2 x3 x4 x5) (View.ld x10 r0_6) := rfl
theorem tile2_3 : k0_pay140 (k0_pay118 (k0_pay203 i x0 x1 x2 x3 x4 x5 x6 x7 x8 x9 x10 x11)) = plainTile ![0, 384] slices_S256x1792_o0_384_S256x128 (batch2 i x0 x1 x2 x3 x4 x5) := rfl
theorem tile2_2 : k0_pay139 (k0_pay117 (k0_pay196 i x0 x1 x2 x3 x4 x5 x6 x7 x8 x9 x10 x11) (k0_pay197 i x0 x1 x2 x3 x4 x5 x6 x7 x8 x9 x10 x11) (k0_pay114 (k0_pay203 i x0 x1 x2 x3 x4 x5 x6 x7 x8 x9 x10 x11)) (k0_pay115 (View.ld x9 r0_6)) (k0_pay116 (k0_pay203 i x0 x1 x2 x3 x4 x5 x6 x7 x8 x9 x10 x11))) = turnTile ![0, 256] slices_S256x1792_o0_256_S256x128 (batch2 i x0 x1 x2 x3 x4 x5) (View.ld x9 r0_6) (View.ld x6 r0_0) (View.ld x7 r0_0) := rfl
theorem tile2_1 : k0_pay138 (k0_pay113 (k0_pay196 i x0 x1 x2 x3 x4 x5 x6 x7 x8 x9 x10 x11) (k0_pay197 i x0 x1 x2 x3 x4 x5 x6 x7 x8 x9 x10 x11) (k0_pay107 (k0_pay203 i x0 x1 x2 x3 x4 x5 x6 x7 x8 x9 x10 x11)) (k0_pay108 (View.ld x8 r0_6)) k0_pay109 (k0_pay111 (k0_pay203 i x0 x1 x2 x3 x4 x5 x6 x7 x8 x9 x10 x11)) (k0_pay112 (k0_pay203 i x0 x1 x2 x3 x4 x5 x6 x7 x8 x9 x10 x11))) = turnTile ![0, 128] slices_S256x1792_o0_128_S256x128 (batch2 i x0 x1 x2 x3 x4 x5) (View.ld x8 r0_6) (View.ld x6 r0_0) (View.ld x7 r0_0) := rfl
theorem tile2_0 : k0_pay137 (k0_pay136 (k0_pay106 (k0_pay196 i x0 x1 x2 x3 x4 x5 x6 x7 x8 x9 x10 x11) (k0_pay197 i x0 x1 x2 x3 x4 x5 x6 x7 x8 x9 x10 x11) (k0_pay102 (Scalar.cmpi .eq (BitVec.ofNat 32 (i 1).val) 0#32) (k0_pay202 i x0 x1 x2 x3 x4 x5 x6 x7 x8 x9 x10 x11) (View.ld x1 r0_35) (View.ld x3 r0_2) (View.ld x2 r0_36) (View.ld x4 r0_4) (View.ld x5 r0_5)) (k0_pay103 (View.ld x8 r0_6)) k0_pay104 (k0_pay105 (Scalar.cmpi .eq (BitVec.ofNat 32 (i 1).val) 0#32) (k0_pay202 i x0 x1 x2 x3 x4 x5 x6 x7 x8 x9 x10 x11) (View.ld x1 r0_35) (View.ld x3 r0_2) (View.ld x2 r0_36) (View.ld x4 r0_4) (View.ld x5 r0_5)) (Scalar.ofBits .f32 0x00000000#32))) = turnTile ![0, 0] slices_S256x1792_o0_0_S256x128 (batch2 i x0 x1 x2 x3 x4 x5) (View.ld x8 r0_6) (View.ld x6 r0_0) (View.ld x7 r0_0) := rfl
theorem tile1_11 : k0_pay98 (k0_pay85 (k0_pay201 i x0 x1 x2 x3 x4 x5 x6 x7 x8 x9 x10 x11)) = plainTile ![0, 1408] slices_S256x1792_o0_1408_S256x128 (batch1 i x0 x1 x2 x3 x4 x5) := rfl
theorem tile1_10 : k0_pay97 (k0_pay84 (k0_pay201 i x0 x1 x2 x3 x4 x5 x6 x7 x8 x9 x10 x11)) = plainTile ![0, 1280] slices_S256x1792_o0_1280_S256x128 (batch1 i x0 x1 x2 x3 x4 x5) := rfl
theorem tile1_9 : k0_pay96 (k0_pay83 (k0_pay201 i x0 x1 x2 x3 x4 x5 x6 x7 x8 x9 x10 x11)) = plainTile ![0, 1152] slices_S256x1792_o0_1152_S256x128 (batch1 i x0 x1 x2 x3 x4 x5) := rfl
theorem tile1_8 : k0_pay95 (k0_pay82 (k0_pay201 i x0 x1 x2 x3 x4 x5 x6 x7 x8 x9 x10 x11)) = plainTile ![0, 1024] slices_S256x1792_o0_1024_S256x128 (batch1 i x0 x1 x2 x3 x4 x5) := rfl
theorem tile1_7 : k0_pay94 (k0_pay81 (k0_pay78 (k0_pay201 i x0 x1 x2 x3 x4 x5 x6 x7 x8 x9 x10 x11)) (k0_pay79 (View.ld x11 r0_6)) (k0_pay80 (k0_pay201 i x0 x1 x2 x3 x4 x5 x6 x7 x8 x9 x10 x11))) = normTile ![0, 896] slices_S256x1792_o0_896_S256x128 (batch1 i x0 x1 x2 x3 x4 x5) (View.ld x11 r0_6) := rfl
theorem tile1_6 : k0_pay93 (k0_pay92 (k0_pay77 (k0_pay73 (k0_pay201 i x0 x1 x2 x3 x4 x5 x6 x7 x8 x9 x10 x11)) (k0_pay74 (View.ld x11 r0_6)) k0_pay75 (k0_pay76 (k0_pay201 i x0 x1 x2 x3 x4 x5 x6 x7 x8 x9 x10 x11)))) = normTile ![0, 768] slices_S256x1792_o0_768_S256x128 (batch1 i x0 x1 x2 x3 x4 x5) (View.ld x11 r0_6) := rfl
theorem tile1_5 : k0_pay91 (k0_pay72 (k0_pay201 i x0 x1 x2 x3 x4 x5 x6 x7 x8 x9 x10 x11) (View.ld x10 r0_6)) = normTile ![0, 640] slices_S256x1792_o0_640_S256x128 (batch1 i x0 x1 x2 x3 x4 x5) (View.ld x10 r0_6) := rfl
theorem tile1_4 : k0_pay90 (k0_pay71 (k0_pay65 (k0_pay201 i x0 x1 x2 x3 x4 x5 x6 x7 x8 x9 x10 x11)) (k0_pay66 (View.ld x10 r0_6)) k0_pay67 (k0_pay69 (k0_pay201 i x0 x1 x2 x3 x4 x5 x6 x7 x8 x9 x10 x11)) (k0_pay70 (k0_pay201 i x0 x1 x2 x3 x4 x5 x6 x7 x8 x9 x10 x11))) = normTile ![0, 512] slices_S256x1792_o0_512_S256x128 (batch1 i x0 x1 x2 x3 x4 x5) (View.ld x10 r0_6) := rfl
theorem tile1_3 : k0_pay89 (k0_pay64 (k0_pay201 i x0 x1 x2 x3 x4 x5 x6 x7 x8 x9 x10 x11)) = plainTile ![0, 384] slices_S256x1792_o0_384_S256x128 (batch1 i x0 x1 x2 x3 x4 x5) := rfl
theorem tile1_2 : k0_pay88 (k0_pay63 (k0_pay196 i x0 x1 x2 x3 x4 x5 x6 x7 x8 x9 x10 x11) (k0_pay197 i x0 x1 x2 x3 x4 x5 x6 x7 x8 x9 x10 x11) (k0_pay58 (k0_pay201 i x0 x1 x2 x3 x4 x5 x6 x7 x8 x9 x10 x11)) (k0_pay59 (View.ld x9 r0_6)) k0_pay60 (k0_pay61 (k0_pay201 i x0 x1 x2 x3 x4 x5 x6 x7 x8 x9 x10 x11)) (k0_pay62 (k0_pay201 i x0 x1 x2 x3 x4 x5 x6 x7 x8 x9 x10 x11)) (Scalar.ofBits .f32 0x00000000#32)) = turnTile ![0, 256] slices_S256x1792_o0_256_S256x128 (batch1 i x0 x1 x2 x3 x4 x5) (View.ld x9 r0_6) (View.ld x6 r0_0) (View.ld x7 r0_0) := rfl
theorem tile1_1 : k0_pay87 (k0_pay57 (k0_pay196 i x0 x1 x2 x3 x4 x5 x6 x7 x8 x9 x10 x11) (k0_pay197 i x0 x1 x2 x3 x4 x5 x6 x7 x8 x9 x10 x11) (k0_pay54 (k0_pay201 i x0 x1 x2 x3 x4 x5 x6 x7 x8 x9 x10 x11)) (k0_pay55 (View.ld x8 r0_6)) k0_pay56) = turnTile ![0, 128] slices_S256x1792_o0_128_S256x128 (batch1 i x0 x1 x2 x3 x4 x5) (View.ld x8 r0_6) (View.ld x6 r0_0) (View.ld x7 r0_0) := rfl
theorem tile1_0 : k0_pay86 (k0_pay53 (k0_pay196 i x0 x1 x2 x3 x4 x5 x6 x7 x8 x9 x10 x11) (k0_pay197 i x0 x1 x2 x3 x4 x5 x6 x7 x8 x9 x10 x11) (k0_pay52 (Scalar.cmpi .eq (BitVec.ofNat 32 (i 1).val) 0#32) (View.ld x0 r0_20) (View.ld x1 r0_20) (View.ld x3 r0_2) (View.ld x2 r0_21) (View.ld x4 r0_4) (View.ld x5 r0_5)) (View.ld x8 r0_6)) = turnTile ![0, 0] slices_S256x1792_o0_0_S256x128 (batch1 i x0 x1 x2 x3 x4 x5) (View.ld x8 r0_6) (View.ld x6 r0_0) (View.ld x7 r0_0) := rfl
theorem tile0_11 : k0_pay48 (k0_pay35 (k0_pay200 i x0 x1 x2 x3 x4 x5 x6 x7 x8 x9 x10 x11)) = plainTile ![0, 1408] slices_S256x1792_o0_1408_S256x128 (batch0 i x0 x1 x2 x3 x4 x5) := rfl
theorem tile0_10 : k0_pay47 (k0_pay34 (k0_pay200 i x0 x1 x2 x3 x4 x5 x6 x7 x8 x9 x10 x11)) = plainTile ![0, 1280] slices_S256x1792_o0_1280_S256x128 (batch0 i x0 x1 x2 x3 x4 x5) := rfl
theorem tile0_9 : k0_pay46 (k0_pay33 (k0_pay200 i x0 x1 x2 x3 x4 x5 x6 x7 x8 x9 x10 x11)) = plainTile ![0, 1152] slices_S256x1792_o0_1152_S256x128 (batch0 i x0 x1 x2 x3 x4 x5) := rfl
theorem tile0_8 : k0_pay45 (k0_pay32 (k0_pay200 i x0 x1 x2 x3 x4 x5 x6 x7 x8 x9 x10 x11)) = plainTile ![0, 1024] slices_S256x1792_o0_1024_S256x128 (batch0 i x0 x1 x2 x3 x4 x5) := rfl
theorem tile0_7 : k0_pay44 (k0_pay31 (k0_pay25 (k0_pay200 i x0 x1 x2 x3 x4 x5 x6 x7 x8 x9 x10 x11)) (k0_pay26 (View.ld x11 r0_6)) k0_pay27 (k0_pay29 (k0_pay200 i x0 x1 x2 x3 x4 x5 x6 x7 x8 x9 x10 x11)) (k0_pay30 (k0_pay200 i x0 x1 x2 x3 x4 x5 x6 x7 x8 x9 x10 x11))) = normTile ![0, 896] slices_S256x1792_o0_896_S256x128 (batch0 i x0 x1 x2 x3 x4 x5) (View.ld x11 r0_6) := rfl
theorem tile0_6 : k0_pay43 (k0_pay24 (k0_pay200 i x0 x1 x2 x3 x4 x5 x6 x7 x8 x9 x10 x11) (View.ld x11 r0_6)) = normTile ![0, 768] slices_S256x1792_o0_768_S256x128 (batch0 i x0 x1 x2 x3 x4 x5) (View.ld x11 r0_6) := rfl
theorem tile0_5 : k0_pay42 (k0_pay41 (k0_pay23 (k0_pay200 i x0 x1 x2 x3 x4 x5 x6 x7 x8 x9 x10 x11) (View.ld x10 r0_6))) = normTile ![0, 640] slices_S256x1792_o0_640_S256x128 (batch0 i x0 x1 x2 x3 x4 x5) (View.ld x10 r0_6) := rfl
theorem tile0_4 : k0_pay40 (k0_pay22 (k0_pay17 (k0_pay200 i x0 x1 x2 x3 x4 x5 x6 x7 x8 x9 x10 x11)) (k0_pay18 (View.ld x10 r0_6)) k0_pay19 (k0_pay20 (k0_pay200 i x0 x1 x2 x3 x4 x5 x6 x7 x8 x9 x10 x11)) (k0_pay21 (k0_pay200 i x0 x1 x2 x3 x4 x5 x6 x7 x8 x9 x10 x11))) = normTile ![0, 512] slices_S256x1792_o0_512_S256x128 (batch0 i x0 x1 x2 x3 x4 x5) (View.ld x10 r0_6) := rfl
theorem tile0_3 : k0_pay39 (k0_pay16 (k0_pay200 i x0 x1 x2 x3 x4 x5 x6 x7 x8 x9 x10 x11)) = plainTile ![0, 384] slices_S256x1792_o0_384_S256x128 (batch0 i x0 x1 x2 x3 x4 x5) := rfl
theorem tile0_2 : k0_pay38 (k0_pay15 (k0_pay196 i x0 x1 x2 x3 x4 x5 x6 x7 x8 x9 x10 x11) (k0_pay197 i x0 x1 x2 x3 x4 x5 x6 x7 x8 x9 x10 x11) (k0_pay13 (k0_pay200 i x0 x1 x2 x3 x4 x5 x6 x7 x8 x9 x10 x11)) (k0_pay14 (View.ld x9 r0_6)) (iota .tc S256x128 32 [1] iota_S256x128_d1_w32) 64#32) = turnTile ![0, 256] slices_S256x1792_o0_256_S256x128 (batch0 i x0 x1 x2 x3 x4 x5) (View.ld x9 r0_6) (View.ld x6 r0_0) (View.ld x7 r0_0) := rfl
theorem tile0_1 : k0_pay37 (k0_pay12 (k0_pay196 i x0 x1 x2 x3 x4 x5 x6 x7 x8 x9 x10 x11) (k0_pay197 i x0 x1 x2 x3 x4 x5 x6 x7 x8 x9 x10 x11) (k0_pay200 i x0 x1 x2 x3 x4 x5 x6 x7 x8 x9 x10 x11) (View.ld x8 r0_6)) = turnTile ![0, 128] slices_S256x1792_o0_128_S256x128 (batch0 i x0 x1 x2 x3 x4 x5) (View.ld x8 r0_6) (View.ld x6 r0_0) (View.ld x7 r0_0) := rfl
theorem tile0_0 : k0_pay36 (k0_pay11 (k0_pay9 (k0_pay196 i x0 x1 x2 x3 x4 x5 x6 x7 x8 x9 x10 x11) (k0_pay198 i x0 x1 x2 x3 x4 x5 x6 x7 x8 x9 x10 x11) (k0_pay199 i x0 x1 x2 x3 x4 x5 x6 x7 x8 x9 x10 x11) (View.ld x5 r0_5) (View.ld x8 r0_6)) (k0_pay10 (k0_pay197 i x0 x1 x2 x3 x4 x5 x6 x7 x8 x9 x10 x11) (k0_pay198 i x0 x1 x2 x3 x4 x5 x6 x7 x8 x9 x10 x11) (k0_pay199 i x0 x1 x2 x3 x4 x5 x6 x7 x8 x9 x10 x11) (View.ld x5 r0_5) (View.ld x8 r0_6))) = turnTile ![0, 0] slices_S256x1792_o0_0_S256x128 (batch0 i x0 x1 x2 x3 x4 x5) (View.ld x8 r0_6) (View.ld x6 r0_0) (View.ld x7 r0_0) := rfl

/-! The state-space mixer's lanes. -/

def inputTile (P : FVec Ideal S256x1792 .f32) : FVec Ideal S1x256x256 .f32 := k0_pay99 (F := Ideal) P

theorem input3 : k0_pay1 (k0_pay195 (k0_pay206 i x0 x1 x2 x3 x4 x5 x6 x7 x8 x9 x10 x11)) = inputTile (batch3 i x0 x1 x2 x3 x4 x5) := rfl
theorem input2 : k0_pay150 (k0_pay203 i x0 x1 x2 x3 x4 x5 x6 x7 x8 x9 x10 x11) = inputTile (batch2 i x0 x1 x2 x3 x4 x5) := rfl
theorem input1 : k0_pay99 (k0_pay201 i x0 x1 x2 x3 x4 x5 x6 x7 x8 x9 x10 x11) = inputTile (batch1 i x0 x1 x2 x3 x4 x5) := rfl
theorem input0 : k0_pay50 (k0_pay49 (k0_pay200 i x0 x1 x2 x3 x4 x5 x6 x7 x8 x9 x10 x11)) = inputTile (batch0 i x0 x1 x2 x3 x4 x5) := rfl

end Cert.Kernel5Ideal.Proj

end
-- ==== Proof.FirstBlock.lean ====
/- The output blocks of the first layer's input projection, read at an index: every row of a batch's block is what the mixers read of the
   row's projection. -/
module

public import proofs.«01_k».proof.Proof.FirstPieces
public import Idealize.ShloMosaic.Lib.Pipeline.ValueKit

@[expose] public section

set_option maxRecDepth 16384

noncomputable section

namespace Cert.Kernel5Ideal.Proj

open Cert.Kernel5Ideal Cert.Kernel5Ideal.Gen Cert.MixMath Cert.ProjMath
open Idealize.ShloMosaic Idealize.ShloMosaic.TcCoe

variable (i : grid0.Coords) (x0 : Vec Ideal S4x256x1024 .f32) (x1 : Vec Ideal S4x256x1024 .f32) (x2 : Vec Ideal S4x1x6144 .f32) (x3 : Vec Ideal S1x1x6144 .f32) (x4 : Vec Ideal S1x1024 .f32) (x5 : Vec Ideal S1024x1792 .bf16) (x6 : Vec Ideal S256x128 .f32) (x7 : Vec Ideal S256x128 .f32) (x8 : Vec Ideal S1x128 .f32) (x9 : Vec Ideal S1x128 .f32) (x10 : Vec Ideal S1x128 .f32) (x11 : Vec Ideal S1x128 .f32)

/-- The modulation of batch `b`'s rows. -/
def blockMod (b : Fin 4) : Fin 6144 → EReal := chosen i (fun l => x3 (ix3 0 0 l)) (fun l => x2 (ix3 b 0 l))

/-- The projected row `r` of batch `b`. -/
def blockRow (b : Fin 4) (r : Fin 256) : Fin 1792 → EReal :=
  projected (modulated (chosen i (fun l => x1 (ix3 b r l)) (fun l => x0 (ix3 b r l))) (fun l => x4 (ix2 0 l)) (fun l => blockMod i x2 x3 b ⟨1024 + l, by omega⟩) (fun l => blockMod i x2 x3 b ⟨l, by omega⟩)) (fun k j => x5 (ix2 k j))

/-- What the mixers read of it. -/
def blockLane (b : Fin 4) (r : Fin 256) : Fin 1536 → EReal :=
  tiledLane (blockRow i x0 x1 x2 x3 x4 x5 b r) (fun e => x8 (ix2 0 e)) (fun e => x9 (ix2 0 e)) (fun e => x10 (ix2 0 e)) (fun e => x11 (ix2 0 e)) (fun e => x6 (ix2 r e)) (fun e => x7 (ix2 r e))

theorem ld_rows (b : Fin 4) (inb) (r : Fin 256) (l : Fin 1024) :
    View.ld x0 (Rect.unit (s := S4x256x1024) ![b, 0, 0] S1x256x1024.size inb) (ix3 0 r l) = x0 (ix3 b r l) :=
  View.ld_unit_apply_of x0 _ _ _ _ _ fun a => by
    match a with
    | ⟨0, _⟩ => show (b : ℕ) = b + 0; omega
    | ⟨1, _⟩ => show (r : ℕ) = 0 + r; omega
    | ⟨2, _⟩ => show (l : ℕ) = 0 + l; omega

theorem ld_mod (b : Fin 4) (inb) (l : Fin 6144) :
    View.ld x2 (Rect.unit (s := S4x1x6144) ![b, 0, 0] S1x1x6144.size inb) (ix3 0 0 l) = x2 (ix3 b 0 l) :=
  View.ld_unit_apply_of x2 _ _ _ _ _ fun a => by
    match a with
    | ⟨0, _⟩ => show (b : ℕ) = b + 0; omega
    | ⟨1, _⟩ => rfl
    | ⟨2, _⟩ => show (l : ℕ) = 0 + l; omega

theorem ld_context (l : Fin 6144) : View.ld x3 r0_2 (ix3 0 0 l) = x3 (ix3 0 0 l) :=
  View.ld_unit_apply_of x3 _ _ _ _ _ fun a => by
    match a with
    | ⟨0, _⟩ => rfl
    | ⟨1, _⟩ => rfl
    | ⟨2, _⟩ => show (l : ℕ) = 0 + l; omega

theorem ld_gain (l : Fin 1024) : View.ld x4 r0_4 (ix2 0 l) = x4 (ix2 0 l) :=
  View.ld_unit_apply_of x4 _ _ _ _ _ fun a => by
    match a with
    | ⟨0, _⟩ => rfl
    | ⟨1, _⟩ => show (l : ℕ) = 0 + l; omega

theorem ld_matrix (k : Fin 1024) (j : Fin 1792) : View.ld x5 r0_5 (ix2 k j) = x5 (ix2 k j) :=
  View.ld_unit_apply_of x5 _ _ _ _ _ fun a => by
    match a with
    | ⟨0, _⟩ => show (k : ℕ) = 0 + k; omega
    | ⟨1, _⟩ => show (j : ℕ) = 0 + j; omega

theorem ld_table (x : Vec Ideal S256x128 .f32) (r : Fin 256) (e : Fin 128) : View.ld x r0_0 (ix2 r e) = x (ix2 r e) :=
  View.ld_unit_apply_of x _ _ _ _ _ fun a => by
    match a with
    | ⟨0, _⟩ => show (r : ℕ) = 0 + r; omega
    | ⟨1, _⟩ => show (e : ℕ) = 0 + e; omega

theorem ld_heads (x : Vec Ideal S1x128 .f32) (e : Fin 128) : View.ld x r0_6 (ix2 0 e) = x (ix2 0 e) :=
  View.ld_unit_apply_of x _ _ _ _ _ fun a => by
    match a with
    | ⟨0, _⟩ => rfl
    | ⟨1, _⟩ => show (e : ℕ) = 0 + e; omega

/-- A batch's projection, at an index. -/
theorem batch_apply (b : Fin 4) (inb) (inb') (r : Fin 256) (j : Fin 1792) :
    project i (View.ld x0 (Rect.unit (s := S4x256x1024) ![b, 0, 0] S1x256x1024.size inb)) (View.ld x1 (Rect.unit (s := S4x256x1024) ![b, 0, 0] S1x256x1024.size inb)) (View.ld x3 r0_2) (View.ld x2 (Rect.unit (s := S4x1x6144) ![b, 0, 0] S1x1x6144.size inb')) (View.ld x4 r0_4) (View.ld x5 r0_5) (ix2 r j)
      = blockRow i x0 x1 x2 x3 x4 x5 b r j := by
  exact project_of i _ _ _ _ _ _ r j _ _ _ _ _ _ (ld_rows x0 b inb r) (ld_rows x1 b inb r) (ld_context x3) (ld_mod x2 b inb') (ld_gain x4) (ld_matrix x5)

theorem batch0_apply (r : Fin 256) (j : Fin 1792) : batch0 i x0 x1 x2 x3 x4 x5 (ix2 r j) = blockRow i x0 x1 x2 x3 x4 x5 0 r j := batch_apply i x0 x1 x2 x3 x4 x5 0 _ _ r j
theorem batch1_apply (r : Fin 256) (j : Fin 1792) : batch1 i x0 x1 x2 x3 x4 x5 (ix2 r j) = blockRow i x0 x1 x2 x3 x4 x5 1 r j := batch_apply i x0 x1 x2 x3 x4 x5 1 _ _ r j
theorem batch2_apply (r : Fin 256) (j : Fin 1792) : batch2 i x0 x1 x2 x3 x4 x5 (ix2 r j) = blockRow i x0 x1 x2 x3 x4 x5 2 r j := batch_apply i x0 x1 x2 x3 x4 x5 2 _ _ r j
theorem batch3_apply (r : Fin 256) (j : Fin 1792) : batch3 i x0 x1 x2 x3 x4 x5 (ix2 r j) = blockRow i x0 x1 x2 x3 x4 x5 3 r j := batch_apply i x0 x1 x2 x3 x4 x5 3 _ _ r j

/-! A stored tile where it meets the block's index. -/

section
variable (P : FVec Ideal S256x1792 .f32) (k : Fin 4) (hP : ∀ r j, P (ix2 r j) = blockRow i x0 x1 x2 x3 x4 x5 k r j)
  (o : ℕ) (ho : 128 * (o / 128) = o) (hs : S256x1792.Slices ![0, o] S256x128) (b : Fin 4) (r : Fin 256) (l : Fin 1536) (x : S1x256x128.Idx)
  (hx : ∀ a, ((ix3 b r l : S4x256x1536.Idx) a : ℕ) = (![k, 0, o] : Fin 3 → ℕ) a + (x a : ℕ))

include hx in
theorem place (ho : 128 * (o / 128) = o) : b = k ∧ ∃ e : Fin 128, x = ix3 0 r e ∧ (l : ℕ) = o + e ∧ (l : ℕ) / 128 = o / 128 ∧ (l : ℕ) % 128 = e := by
  have h0 : (b : ℕ) = k + (x 0 : ℕ) := hx 0
  have h1 : (r : ℕ) = 0 + (x 1 : ℕ) := hx 1
  have h2 : (l : ℕ) = o + (x 2 : ℕ) := hx 2
  have l0 : (x 0 : ℕ) < 1 := (x 0).isLt
  have l2 : (x 2 : ℕ) < 128 := (x 2).isLt
  refine ⟨Fin.ext (by omega), x 2, funext fun a => ?_, h2, by omega, by omega⟩
  match a with
  | ⟨0, _⟩ => exact Fin.ext (by show (x 0 : ℕ) = 0; omega)
  | ⟨1, _⟩ => exact Fin.ext (by show (x 1 : ℕ) = r; omega)
  | ⟨2, _⟩ => rfl

include hP in
theorem slice_row (h : o + 128 ≤ 1792) (ho : 128 * (o / 128) = o) : (fun e => slice ![0, o] hs P (ix2 r e)) = tileAt (blockRow i x0 x1 x2 x3 x4 x5 k r) (o / 128) := by
  funext e
  rw [slice_apply o hs h, hP]
  unfold tileAt
  rw [dif_pos (by omega)]
  exact congrArg _ (Fin.ext (by dsimp only; omega))

include hP hx ho

theorem plain_at (h : (384 ≤ o ∧ o < 512) ∨ (1024 ≤ o ∧ o < 1536)) : plainTile ![0, o] hs P x = blockLane i x0 x1 x2 x3 x4 x5 x6 x7 x8 x9 x10 x11 b r l := by
  obtain ⟨rfl, e, rfl, hl, hd, hm⟩ := place k o b r l x hx ho
  unfold plainTile blockLane tiledLane
  rw [stored_apply, slice_apply o hs (by omega), hP]
  have he : (⟨o + e, by omega⟩ : Fin 1792) = ⟨l, by omega⟩ := Fin.ext hl.symm
  rw [he]
  split_ifs <;> first | rfl | omega

theorem q_at (h : o < 256) : turnTile ![0, o] hs P (View.ld x8 r0_6) (View.ld x6 r0_0) (View.ld x7 r0_0) x = blockLane i x0 x1 x2 x3 x4 x5 x6 x7 x8 x9 x10 x11 b r l := by
  obtain ⟨rfl, e, rfl, hl, hd, hm⟩ := place k o b r l x hx ho
  refine (stored_apply _ r e).trans ?_
  refine (turn_of _ _ _ r _ _ _ (ld_table x6 r) (ld_table x7 r) (norm_of _ _ r _ _ (slice_row i x0 x1 x2 x3 x4 x5 P b hP o hs r (by omega) ho) (ld_heads x8)) e).trans ?_
  unfold blockLane tiledLane
  rw [if_pos (by omega)]
  simp only [hd, hm]

theorem k_at (h : 256 ≤ o) (h' : o < 384) : turnTile ![0, o] hs P (View.ld x9 r0_6) (View.ld x6 r0_0) (View.ld x7 r0_0) x = blockLane i x0 x1 x2 x3 x4 x5 x6 x7 x8 x9 x10 x11 b r l := by
  obtain ⟨rfl, e, rfl, hl, hd, hm⟩ := place k o b r l x hx ho
  refine (stored_apply _ r e).trans ?_
  refine (turn_of _ _ _ r _ _ _ (ld_table x6 r) (ld_table x7 r) (norm_of _ _ r _ _ (slice_row i x0 x1 x2 x3 x4 x5 P b hP o hs r (by omega) ho) (ld_heads x9)) e).trans ?_
  unfold blockLane tiledLane
  rw [if_neg (by omega), if_pos (by omega)]
  simp only [hd, hm]

theorem nq_at (h : 512 ≤ o) (h' : o < 768) : normTile ![0, o] hs P (View.ld x10 r0_6) x = blockLane i x0 x1 x2 x3 x4 x5 x6 x7 x8 x9 x10 x11 b r l := by
  obtain ⟨rfl, e, rfl, hl, hd, hm⟩ := place k o b r l x hx ho
  refine (stored_apply _ r e).trans ?_
  refine (norm_of _ _ r _ _ (slice_row i x0 x1 x2 x3 x4 x5 P b hP o hs r (by omega) ho) (ld_heads x10) e).trans ?_
  unfold blockLane tiledLane
  rw [if_neg (by omega), if_neg (by omega), if_neg (by omega), if_pos (by omega)]
  simp only [hd, hm]

theorem nk_at (h : 768 ≤ o) (h' : o < 1024) : normTile ![0, o] hs P (View.ld x11 r0_6) x = blockLane i x0 x1 x2 x3 x4 x5 x6 x7 x8 x9 x10 x11 b r l := by
  obtain ⟨rfl, e, rfl, hl, hd, hm⟩ := place k o b r l x hx ho
  refine (stored_apply _ r e).trans ?_
  refine (norm_of _ _ r _ _ (slice_row i x0 x1 x2 x3 x4 x5 P b hP o hs r (by omega) ho) (ld_heads x11) e).trans ?_
  unfold blockLane tiledLane
  rw [if_neg (by omega), if_neg (by omega), if_neg (by omega), if_neg (by omega), if_pos (by omega)]
  simp only [hd, hm]

end

theorem input_at (P : FVec Ideal S256x1792 .f32) (k : Fin 4) (hP : ∀ r j, P (ix2 r j) = blockRow i x0 x1 x2 x3 x4 x5 k r j) (b : Fin 4) (r l : Fin 256) (x : S1x256x256.Idx)
    (hx : ∀ a, ((ix3 b r l : S4x256x256.Idx) a : ℕ) = (![k, 0, 0] : Fin 3 → ℕ) a + (x a : ℕ)) :
    inputTile P x = blockRow i x0 x1 x2 x3 x4 x5 b r ⟨1536 + l, by omega⟩ := by
  have h0 : (b : ℕ) = k + (x 0 : ℕ) := hx 0
  have h1 : (r : ℕ) = 0 + (x 1 : ℕ) := hx 1
  have h2 : (l : ℕ) = 0 + (x 2 : ℕ) := hx 2
  have l0 : (x 0 : ℕ) < 1 := (x 0).isLt
  obtain rfl : k = b := Fin.ext (by omega)
  obtain rfl : x = ix3 0 r l := funext fun a => by
    match a with
    | ⟨0, _⟩ => exact Fin.ext (by show (x 0 : ℕ) = 0; omega)
    | ⟨1, _⟩ => exact Fin.ext (by show (x 1 : ℕ) = r; omega)
    | ⟨2, _⟩ => exact Fin.ext (by show (x 2 : ℕ) = l; omega)
  rw [← hP]
  pointwise [inputTile, k0_pay99]

set_option maxHeartbeats 1000000 in
/-- The block of the mixers' operands, at an index. -/
theorem block_lane (b : Fin 4) (r : Fin 256) (l : Fin 1536) :
    out0_12 (F := Ideal) i x0 x1 x2 x3 x4 x5 x6 x7 x8 x9 x10 x11 (ix3 b r l) = blockLane i x0 x1 x2 x3 x4 x5 x6 x7 x8 x9 x10 x11 b r l := by
  unfold out0_12
  refine View.canon_eq_of_allAt _ _ _ (cover0_12 ..) ?_
  refine View.allAt_cons_unit _ _ _ _ _ (fun x hx => (congrFun (tile3_11 i x0 x1 x2 x3 x4 x5 x6 x7 x8 x9 x10 x11) x).trans (plain_at i x0 x1 x2 x3 x4 x5 x6 x7 x8 x9 x10 x11 _ 3 (batch3_apply i x0 x1 x2 x3 x4 x5) 1408 (by decide) _ b r l x hx (by decide))) ?_
  refine View.allAt_cons_unit _ _ _ _ _ (fun x hx => (congrFun (tile3_10 i x0 x1 x2 x3 x4 x5 x6 x7 x8 x9 x10 x11) x).trans (plain_at i x0 x1 x2 x3 x4 x5 x6 x7 x8 x9 x10 x11 _ 3 (batch3_apply i x0 x1 x2 x3 x4 x5) 1280 (by decide) _ b r l x hx (by decide))) ?_
  refine View.allAt_cons_unit _ _ _ _ _ (fun x hx => (congrFun (tile3_9 i x0 x1 x2 x3 x4 x5 x6 x7 x8 x9 x10 x11) x).trans (plain_at i x0 x1 x2 x3 x4 x5 x6 x7 x8 x9 x10 x11 _ 3 (batch3_apply i x0 x1 x2 x3 x4 x5) 1152 (by decide) _ b r l x hx (by decide))) ?_
  refine View.allAt_cons_unit _ _ _ _ _ (fun x hx => (congrFun (tile3_8 i x0 x1 x2 x3 x4 x5 x6 x7 x8 x9 x10 x11) x).trans (plain_at i x0 x1 x2 x3 x4 x5 x6 x7 x8 x9 x10 x11 _ 3 (batch3_apply i x0 x1 x2 x3 x4 x5) 1024 (by decide) _ b r l x hx (by decide))) ?_
  refine View.allAt_cons_unit _ _ _ _ _ (fun x hx => (congrFun (tile3_7 i x0 x1 x2 x3 x4 x5 x6 x7 x8 x9 x10 x11) x).trans (nk_at i x0 x1 x2 x3 x4 x5 x6 x7 x8 x9 x10 x11 _ 3 (batch3_apply i x0 x1 x2 x3 x4 x5) 896 (by decide) _ b r l x hx (by decide) (by decide))) ?_
  refine View.allAt_cons_unit _ _ _ _ _ (fun x hx => (congrFun (tile3_6 i x0 x1 x2 x3 x4 x5 x6 x7 x8 x9 x10 x11) x).trans (nk_at i x0 x1 x2 x3 x4 x5 x6 x7 x8 x9 x10 x11 _ 3 (batch3_apply i x0 x1 x2 x3 x4 x5) 768 (by decide) _ b r l x hx (by decide) (by decide))) ?_
  refine View.allAt_cons_unit _ _ _ _ _ (fun x hx => (congrFun (tile3_5 i x0 x1 x2 x3 x4 x5 x6 x7 x8 x9 x10 x11) x).trans (nq_at i x0 x1 x2 x3 x4 x5 x6 x7 x8 x9 x10 x11 _ 3 (batch3_apply i x0 x1 x2 x3 x4 x5) 640 (by decide) _ b r l x hx (by decide) (by decide))) ?_
  refine View.allAt_cons_unit _ _ _ _ _ (fun x hx => (congrFun (tile3_4 i x0 x1 x2 x3 x4 x5 x6 x7 x8 x9 x10 x11) x).trans (nq_at i x0 x1 x2 x3 x4 x5 x6 x7 x8 x9 x10 x11 _ 3 (batch3_apply i x0 x1 x2 x3 x4 x5) 512 (by decide) _ b r l x hx (by decide) (by decide))) ?_
  refine View.allAt_cons_unit _ _ _ _ _ (fun x hx => (congrFun (tile3_3 i x0 x1 x2 x3 x4 x5 x6 x7 x8 x9 x10 x11) x).trans (plain_at i x0 x1 x2 x3 x4 x5 x6 x7 x8 x9 x10 x11 _ 3 (batch3_apply i x0 x1 x2 x3 x4 x5) 384 (by decide) _ b r l x hx (by decide))) ?_
  refine View.allAt_cons_unit _ _ _ _ _ (fun x hx => (congrFun (tile3_2 i x0 x1 x2 x3 x4 x5 x6 x7 x8 x9 x10 x11) x).trans (k_at i x0 x1 x2 x3 x4 x5 x6 x7 x8 x9 x10 x11 _ 3 (batch3_apply i x0 x1 x2 x3 x4 x5) 256 (by decide) _ b r l x hx (by decide) (by decide))) ?_
  refine View.allAt_cons_unit _ _ _ _ _ (fun x hx => (congrFun (tile3_1 i x0 x1 x2 x3 x4 x5 x6 x7 x8 x9 x10 x11) x).trans (q_at i x0 x1 x2 x3 x4 x5 x6 x7 x8 x9 x10 x11 _ 3 (batch3_apply i x0 x1 x2 x3 x4 x5) 128 (by decide) _ b r l x hx (by decide))) ?_
  refine View.allAt_cons_unit _ _ _ _ _ (fun x hx => (congrFun (tile3_0 i x0 x1 x2 x3 x4 x5 x6 x7 x8 x9 x10 x11) x).trans (q_at i x0 x1 x2 x3 x4 x5 x6 x7 x8 x9 x10 x11 _ 3 (batch3_apply i x0 x1 x2 x3 x4 x5) 0 (by decide) _ b r l x hx (by decide))) ?_
  refine View.allAt_cons_unit _ _ _ _ _ (fun x hx => (congrFun (tile2_11 i x0 x1 x2 x3 x4 x5 x6 x7 x8 x9 x10 x11) x).trans (plain_at i x0 x1 x2 x3 x4 x5 x6 x7 x8 x9 x10 x11 _ 2 (batch2_apply i x0 x1 x2 x3 x4 x5) 1408 (by decide) _ b r l x hx (by decide))) ?_
  refine View.allAt_cons_unit _ _ _ _ _ (fun x hx => (congrFun (tile2_10 i x0 x1 x2 x3 x4 x5 x6 x7 x8 x9 x10 x11) x).trans (plain_at i x0 x1 x2 x3 x4 x5 x6 x7 x8 x9 x10 x11 _ 2 (batch2_apply i x0 x1 x2 x3 x4 x5) 1280 (by decide) _ b r l x hx (by decide))) ?_
  refine View.allAt_cons_unit _ _ _ _ _ (fun x hx => (congrFun (tile2_9 i x0 x1 x2 x3 x4 x5 x6 x7 x8 x9 x10 x11) x).trans (plain_at i x0 x1 x2 x3 x4 x5 x6 x7 x8 x9 x10 x11 _ 2 (batch2_apply i x0 x1 x2 x3 x4 x5) 1152 (by decide) _ b r l x hx (by decide))) ?_
  refine View.allAt_cons_unit _ _ _ _ _ (fun x hx => (congrFun (tile2_8 i x0 x1 x2 x3 x4 x5 x6 x7 x8 x9 x10 x11) x).trans (plain_at i x0 x1 x2 x3 x4 x5 x6 x7 x8 x9 x10 x11 _ 2 (batch2_apply i x0 x1 x2 x3 x4 x5) 1024 (by decide) _ b r l x hx (by decide))) ?_
  refine View.allAt_cons_unit _ _ _ _ _ (fun x hx => (congrFun (tile2_7 i x0 x1 x2 x3 x4 x5 x6 x7 x8 x9 x10 x11) x).trans (nk_at i x0 x1 x2 x3 x4 x5 x6 x7 x8 x9 x10 x11 _ 2 (batch2_apply i x0 x1 x2 x3 x4 x5) 896 (by decide) _ b r l x hx (by decide) (by decide))) ?_
  refine View.allAt_cons_unit _ _ _ _ _ (fun x hx => (congrFun (tile2_6 i x0 x1 x2 x3 x4 x5 x6 x7 x8 x9 x10 x11) x).trans (nk_at i x0 x1 x2 x3 x4 x5 x6 x7 x8 x9 x10 x11 _ 2 (batch2_apply i x0 x1 x2 x3 x4 x5) 768 (by decide) _ b r l x hx (by decide) (by decide))) ?_
  refine View.allAt_cons_unit _ _ _ _ _ (fun x hx => (congrFun (tile2_5 i x0 x1 x2 x3 x4 x5 x6 x7 x8 x9 x10 x11) x).trans (nq_at i x0 x1 x2 x3 x4 x5 x6 x7 x8 x9 x10 x11 _ 2 (batch2_apply i x0 x1 x2 x3 x4 x5) 640 (by decide) _ b r l x hx (by decide) (by decide))) ?_
  refine View.allAt_cons_unit _ _ _ _ _ (fun x hx => (congrFun (tile2_4 i x0 x1 x2 x3 x4 x5 x6 x7 x8 x9 x10 x11) x).trans (nq_at i x0 x1 x2 x3 x4 x5 x6 x7 x8 x9 x10 x11 _ 2 (batch2_apply i x0 x1 x2 x3 x4 x5) 512 (by decide) _ b r l x hx (by decide) (by decide))) ?_
  refine View.allAt_cons_unit _ _ _ _ _ (fun x hx => (congrFun (tile2_3 i x0 x1 x2 x3 x4 x5 x6 x7 x8 x9 x10 x11) x).trans (plain_at i x0 x1 x2 x3 x4 x5 x6 x7 x8 x9 x10 x11 _ 2 (batch2_apply i x0 x1 x2 x3 x4 x5) 384 (by decide) _ b r l x hx (by decide))) ?_
  refine View.allAt_cons_unit _ _ _ _ _ (fun x hx => (congrFun (tile2_2 i x0 x1 x2 x3 x4 x5 x6 x7 x8 x9 x10 x11) x).trans (k_at i x0 x1 x2 x3 x4 x5 x6 x7 x8 x9 x10 x11 _ 2 (batch2_apply i x0 x1 x2 x3 x4 x5) 256 (by decide) _ b r l x hx (by decide) (by decide))) ?_
  refine View.allAt_cons_unit _ _ _ _ _ (fun x hx => (congrFun (tile2_1 i x0 x1 x2 x3 x4 x5 x6 x7 x8 x9 x10 x11) x).trans (q_at i x0 x1 x2 x3 x4 x5 x6 x7 x8 x9 x10 x11 _ 2 (batch2_apply i x0 x1 x2 x3 x4 x5) 128 (by decide) _ b r l x hx (by decide))) ?_
  refine View.allAt_cons_unit _ _ _ _ _ (fun x hx => (congrFun (tile2_0 i x0 x1 x2 x3 x4 x5 x6 x7 x8 x9 x10 x11) x).trans (q_at i x0 x1 x2 x3 x4 x5 x6 x7 x8 x9 x10 x11 _ 2 (batch2_apply i x0 x1 x2 x3 x4 x5) 0 (by decide) _ b r l x hx (by decide))) ?_
  refine View.allAt_cons_unit _ _ _ _ _ (fun x hx => (congrFun (tile1_11 i x0 x1 x2 x3 x4 x5 x6 x7 x8 x9 x10 x11) x).trans (plain_at i x0 x1 x2 x3 x4 x5 x6 x7 x8 x9 x10 x11 _ 1 (batch1_apply i x0 x1 x2 x3 x4 x5) 1408 (by decide) _ b r l x hx (by decide))) ?_
  refine View.allAt_cons_unit _ _ _ _ _ (fun x hx => (congrFun (tile1_10 i x0 x1 x2 x3 x4 x5 x6 x7 x8 x9 x10 x11) x).trans (plain_at i x0 x1 x2 x3 x4 x5 x6 x7 x8 x9 x10 x11 _ 1 (batch1_apply i x0 x1 x2 x3 x4 x5) 1280 (by decide) _ b r l x hx (by decide))) ?_
  refine View.allAt_cons_unit _ _ _ _ _ (fun x hx => (congrFun (tile1_9 i x0 x1 x2 x3 x4 x5 x6 x7 x8 x9 x10 x11) x).trans (plain_at i x0 x1 x2 x3 x4 x5 x6 x7 x8 x9 x10 x11 _ 1 (batch1_apply i x0 x1 x2 x3 x4 x5) 1152 (by decide) _ b r l x hx (by decide))) ?_
  refine View.allAt_cons_unit _ _ _ _ _ (fun x hx => (congrFun (tile1_8 i x0 x1 x2 x3 x4 x5 x6 x7 x8 x9 x10 x11) x).trans (plain_at i x0 x1 x2 x3 x4 x5 x6 x7 x8 x9 x10 x11 _ 1 (batch1_apply i x0 x1 x2 x3 x4 x5) 1024 (by decide) _ b r l x hx (by decide))) ?_
  refine View.allAt_cons_unit _ _ _ _ _ (fun x hx => (congrFun (tile1_7 i x0 x1 x2 x3 x4 x5 x6 x7 x8 x9 x10 x11) x).trans (nk_at i x0 x1 x2 x3 x4 x5 x6 x7 x8 x9 x10 x11 _ 1 (batch1_apply i x0 x1 x2 x3 x4 x5) 896 (by decide) _ b r l x hx (by decide) (by decide))) ?_
  refine View.allAt_cons_unit _ _ _ _ _ (fun x hx => (congrFun (tile1_6 i x0 x1 x2 x3 x4 x5 x6 x7 x8 x9 x10 x11) x).trans (nk_at i x0 x1 x2 x3 x4 x5 x6 x7 x8 x9 x10 x11 _ 1 (batch1_apply i x0 x1 x2 x3 x4 x5) 768 (by decide) _ b r l x hx (by decide) (by decide))) ?_
  refine View.allAt_cons_unit _ _ _ _ _ (fun x hx => (congrFun (tile1_5 i x0 x1 x2 x3 x4 x5 x6 x7 x8 x9 x10 x11) x).trans (nq_at i x0 x1 x2 x3 x4 x5 x6 x7 x8 x9 x10 x11 _ 1 (batch1_apply i x0 x1 x2 x3 x4 x5) 640 (by decide) _ b r l x hx (by decide) (by decide))) ?_
  refine View.allAt_cons_unit _ _ _ _ _ (fun x hx => (congrFun (tile1_4 i x0 x1 x2 x3 x4 x5 x6 x7 x8 x9 x10 x11) x).trans (nq_at i x0 x1 x2 x3 x4 x5 x6 x7 x8 x9 x10 x11 _ 1 (batch1_apply i x0 x1 x2 x3 x4 x5) 512 (by decide) _ b r l x hx (by decide) (by decide))) ?_
  refine View.allAt_cons_unit _ _ _ _ _ (fun x hx => (congrFun (tile1_3 i x0 x1 x2 x3 x4 x5 x6 x7 x8 x9 x10 x11) x).trans (plain_at i x0 x1 x2 x3 x4 x5 x6 x7 x8 x9 x10 x11 _ 1 (batch1_apply i x0 x1 x2 x3 x4 x5) 384 (by decide) _ b r l x hx (by decide))) ?_
  refine View.allAt_cons_unit _ _ _ _ _ (fun x hx => (congrFun (tile1_2 i x0 x1 x2 x3 x4 x5 x6 x7 x8 x9 x10 x11) x).trans (k_at i x0 x1 x2 x3 x4 x5 x6 x7 x8 x9 x10 x11 _ 1 (batch1_apply i x0 x1 x2 x3 x4 x5) 256 (by decide) _ b r l x hx (by decide) (by decide))) ?_
  refine View.allAt_cons_unit _ _ _ _ _ (fun x hx => (congrFun (tile1_1 i x0 x1 x2 x3 x4 x5 x6 x7 x8 x9 x10 x11) x).trans (q_at i x0 x1 x2 x3 x4 x5 x6 x7 x8 x9 x10 x11 _ 1 (batch1_apply i x0 x1 x2 x3 x4 x5) 128 (by decide) _ b r l x hx (by decide))) ?_
  refine View.allAt_cons_unit _ _ _ _ _ (fun x hx => (congrFun (tile1_0 i x0 x1 x2 x3 x4 x5 x6 x7 x8 x9 x10 x11) x).trans (q_at i x0 x1 x2 x3 x4 x5 x6 x7 x8 x9 x10 x11 _ 1 (batch1_apply i x0 x1 x2 x3 x4 x5) 0 (by decide) _ b r l x hx (by decide))) ?_
  refine View.allAt_cons_unit _ _ _ _ _ (fun x hx => (congrFun (tile0_11 i x0 x1 x2 x3 x4 x5 x6 x7 x8 x9 x10 x11) x).trans (plain_at i x0 x1 x2 x3 x4 x5 x6 x7 x8 x9 x10 x11 _ 0 (batch0_apply i x0 x1 x2 x3 x4 x5) 1408 (by decide) _ b r l x hx (by decide))) ?_
  refine View.allAt_cons_unit _ _ _ _ _ (fun x hx => (congrFun (tile0_10 i x0 x1 x2 x3 x4 x5 x6 x7 x8 x9 x10 x11) x).trans (plain_at i x0 x1 x2 x3 x4 x5 x6 x7 x8 x9 x10 x11 _ 0 (batch0_apply i x0 x1 x2 x3 x4 x5) 1280 (by decide) _ b r l x hx (by decide))) ?_
  refine View.allAt_cons_unit _ _ _ _ _ (fun x hx => (congrFun (tile0_9 i x0 x1 x2 x3 x4 x5 x6 x7 x8 x9 x10 x11) x).trans (plain_at i x0 x1 x2 x3 x4 x5 x6 x7 x8 x9 x10 x11 _ 0 (batch0_apply i x0 x1 x2 x3 x4 x5) 1152 (by decide) _ b r l x hx (by decide))) ?_
  refine View.allAt_cons_unit _ _ _ _ _ (fun x hx => (congrFun (tile0_8 i x0 x1 x2 x3 x4 x5 x6 x7 x8 x9 x10 x11) x).trans (plain_at i x0 x1 x2 x3 x4 x5 x6 x7 x8 x9 x10 x11 _ 0 (batch0_apply i x0 x1 x2 x3 x4 x5) 1024 (by decide) _ b r l x hx (by decide))) ?_
  refine View.allAt_cons_unit _ _ _ _ _ (fun x hx => (congrFun (tile0_7 i x0 x1 x2 x3 x4 x5 x6 x7 x8 x9 x10 x11) x).trans (nk_at i x0 x1 x2 x3 x4 x5 x6 x7 x8 x9 x10 x11 _ 0 (batch0_apply i x0 x1 x2 x3 x4 x5) 896 (by decide) _ b r l x hx (by decide) (by decide))) ?_
  refine View.allAt_cons_unit _ _ _ _ _ (fun x hx => (congrFun (tile0_6 i x0 x1 x2 x3 x4 x5 x6 x7 x8 x9 x10 x11) x).trans (nk_at i x0 x1 x2 x3 x4 x5 x6 x7 x8 x9 x10 x11 _ 0 (batch0_apply i x0 x1 x2 x3 x4 x5) 768 (by decide) _ b r l x hx (by decide) (by decide))) ?_
  refine View.allAt_cons_unit _ _ _ _ _ (fun x hx => (congrFun (tile0_5 i x0 x1 x2 x3 x4 x5 x6 x7 x8 x9 x10 x11) x).trans (nq_at i x0 x1 x2 x3 x4 x5 x6 x7 x8 x9 x10 x11 _ 0 (batch0_apply i x0 x1 x2 x3 x4 x5) 640 (by decide) _ b r l x hx (by decide) (by decide))) ?_
  refine View.allAt_cons_unit _ _ _ _ _ (fun x hx => (congrFun (tile0_4 i x0 x1 x2 x3 x4 x5 x6 x7 x8 x9 x10 x11) x).trans (nq_at i x0 x1 x2 x3 x4 x5 x6 x7 x8 x9 x10 x11 _ 0 (batch0_apply i x0 x1 x2 x3 x4 x5) 512 (by decide) _ b r l x hx (by decide) (by decide))) ?_
  refine View.allAt_cons_unit _ _ _ _ _ (fun x hx => (congrFun (tile0_3 i x0 x1 x2 x3 x4 x5 x6 x7 x8 x9 x10 x11) x).trans (plain_at i x0 x1 x2 x3 x4 x5 x6 x7 x8 x9 x10 x11 _ 0 (batch0_apply i x0 x1 x2 x3 x4 x5) 384 (by decide) _ b r l x hx (by decide))) ?_
  refine View.allAt_cons_unit _ _ _ _ _ (fun x hx => (congrFun (tile0_2 i x0 x1 x2 x3 x4 x5 x6 x7 x8 x9 x10 x11) x).trans (k_at i x0 x1 x2 x3 x4 x5 x6 x7 x8 x9 x10 x11 _ 0 (batch0_apply i x0 x1 x2 x3 x4 x5) 256 (by decide) _ b r l x hx (by decide) (by decide))) ?_
  refine View.allAt_cons_unit _ _ _ _ _ (fun x hx => (congrFun (tile0_1 i x0 x1 x2 x3 x4 x5 x6 x7 x8 x9 x10 x11) x).trans (q_at i x0 x1 x2 x3 x4 x5 x6 x7 x8 x9 x10 x11 _ 0 (batch0_apply i x0 x1 x2 x3 x4 x5) 128 (by decide) _ b r l x hx (by decide))) ?_
  refine View.allAt_cons_unit _ _ _ _ _ (fun x hx => (congrFun (tile0_0 i x0 x1 x2 x3 x4 x5 x6 x7 x8 x9 x10 x11) x).trans (q_at i x0 x1 x2 x3 x4 x5 x6 x7 x8 x9 x10 x11 _ 0 (batch0_apply i x0 x1 x2 x3 x4 x5) 0 (by decide) _ b r l x hx (by decide))) ?_
  exact View.allAt_nil _ _

/-- The block of the state-space mixer's input, at an index. -/
theorem block_input (b : Fin 4) (r l : Fin 256) :
    out0_13 (F := Ideal) i x0 x1 x2 x3 x4 x5 x6 x7 x8 x9 x10 x11 (ix3 b r l) = blockRow i x0 x1 x2 x3 x4 x5 b r ⟨1536 + l, by omega⟩ := by
  unfold out0_13
  refine View.canon_eq_of_allAt _ _ _ (cover0_13 ..) ?_
  refine View.allAt_cons_unit _ _ _ _ _ (fun x hx => (congrFun (input3 i x0 x1 x2 x3 x4 x5 x6 x7 x8 x9 x10 x11) x).trans (input_at i x0 x1 x2 x3 x4 x5 _ 3 (batch3_apply i x0 x1 x2 x3 x4 x5) b r l x hx)) ?_
  refine View.allAt_cons_unit _ _ _ _ _ (fun x hx => (congrFun (input2 i x0 x1 x2 x3 x4 x5 x6 x7 x8 x9 x10 x11) x).trans (input_at i x0 x1 x2 x3 x4 x5 _ 2 (batch2_apply i x0 x1 x2 x3 x4 x5) b r l x hx)) ?_
  refine View.allAt_cons_unit _ _ _ _ _ (fun x hx => (congrFun (input1 i x0 x1 x2 x3 x4 x5 x6 x7 x8 x9 x10 x11) x).trans (input_at i x0 x1 x2 x3 x4 x5 _ 1 (batch1_apply i x0 x1 x2 x3 x4 x5) b r l x hx)) ?_
  refine View.allAt_cons_unit _ _ _ _ _ (fun x hx => (congrFun (input0 i x0 x1 x2 x3 x4 x5 x6 x7 x8 x9 x10 x11) x).trans (input_at i x0 x1 x2 x3 x4 x5 _ 0 (batch0_apply i x0 x1 x2 x3 x4 x5) b r l x hx)) ?_
  exact View.allAt_nil _ _

end Cert.Kernel5Ideal.Proj

end
-- ==== Proof.FirstValue.lean ====
/- The result arrays of the first layer's input projection, read at an index off the arrays that the call is given. -/
module

public import proofs.«01_k».proof.Proof.FirstBlock

@[expose] public section

set_option maxRecDepth 16384

noncomputable section

namespace Cert.Kernel5Ideal.Proj

open Cert.Kernel5Ideal Cert.Kernel5Ideal.Gen Cert.MixMath Cert.ProjMath
open Idealize.ShloMosaic Idealize.ShloMosaic.TcCoe Idealize.ShloMosaic.Tactic

/-! The blocks' places: point `t` projects 256 tokens, tile `t % 9` of the 2304 of each batch, for the four batches of group
    `t / 9`. -/

theorem coord_eq : ∀ t : Fin grid0.N, ((grid0.coords t 1 : Fin _) : ℕ) = t.val % 9 := by decide +kernel
theorem index_0 : ∀ t : Fin grid0.N, win0_0.index t = ![t.val / 9, t.val % 9 - 1, 0] := by decide +kernel
theorem index_1 : ∀ t : Fin grid0.N, win0_1.index t = ![t.val / 9, 0, 0] := by decide +kernel
theorem index_2 : ∀ t : Fin grid0.N, win0_2.index t = ![t.val / 9, 0, 0] := by decide +kernel
theorem index_3 : ∀ t : Fin grid0.N, win0_3.index t = ![16, 0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![t.val % 9, 0] := by decide +kernel
theorem index_7 : ∀ t : Fin grid0.N, win0_7.index t = ![t.val % 9, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_11 : ∀ t : Fin grid0.N, win0_11.index t = ![0, 0] := by decide +kernel
theorem index_12 : ∀ t : Fin grid0.N, win0_12.index t = ![t.val / 9, t.val % 9, 0] := by decide +kernel
theorem index_13 : ∀ t : Fin grid0.N, win0_13.index t = ![t.val / 9, t.val % 9, 0] := by decide +kernel
theorem N_eq : cfg0.N = 36 := by decide +kernel

variable (m : (ℓ : Loc nD τ sig) → Buf (Elt Ideal) ℓ) (c : Dev nD)

/-! The arrays that the call is given. -/

abbrev aLatent : Vec Ideal S16x2048x1024 .f32 := V m c main_arg0
abbrev aContext : Vec Ideal S16x256x1024 .f32 := V m c main_arg1
abbrev aMod : Vec Ideal S24x1x6144 .f32 := V m c main_v48
abbrev aG : Vec Ideal S1x1024 .f32 := V m c main_v49
abbrev aW : Vec Ideal S1024x1792 .bf16 := V m c main_v56
abbrev aCos : Vec Ideal S2304x128 .f32 := V m c main_v44
abbrev aSin : Vec Ideal S2304x128 .f32 := V m c main_v47
abbrev aGq : Vec Ideal S1x128 .f32 := V m c main_v60
abbrev aGk : Vec Ideal S1x128 .f32 := V m c main_v64
abbrev aNq : Vec Ideal S1x128 .f32 := V m c main_v68
abbrev aNk : Vec Ideal S1x128 .f32 := V m c main_v72

/-- Batch `b` of the group of point `t`, and the token of row `r` of its tile. -/
def batchAt (t : Fin cfg0.N) (b : Fin 4) : Fin 16 := ⟨t.val / 9 * 4 + b, by have := t.isLt; have := N_eq; omega⟩
def tokenAt (t : Fin cfg0.N) (r : Fin 256) : Fin 2304 := ⟨t.val % 9 * 256 + r, by omega⟩

theorem iblk_0 (t : Fin cfg0.N) (b : Fin 4) (r : Fin 256) (l : Fin 1024) : (iblk m c 0 t : Vec Ideal S4x256x1024 .f32) (ix3 b r l) = aLatent m c (ix3 (batchAt t b) ⟨(t.val % 9 - 1) * 256 + r, by omega⟩ l) := by
  unfold batchAt
  blk_ext [iblk, index_0 t]
theorem iblk_1 (t : Fin cfg0.N) (b : Fin 4) (r : Fin 256) (l : Fin 1024) : (iblk m c 1 t : Vec Ideal S4x256x1024 .f32) (ix3 b r l) = aContext m c (ix3 (batchAt t b) r l) := by
  unfold batchAt
  blk_ext [iblk, index_1 t]
theorem iblk_2 (t : Fin cfg0.N) (b : Fin 4) (l : Fin 6144) : (iblk m c 2 t : Vec Ideal S4x1x6144 .f32) (ix3 b 0 l) = aMod m c (ix3 ⟨batchAt t b, by omega⟩ 0 l) := by
  unfold batchAt
  blk_ext [iblk, index_2 t]
theorem iblk_3 (t : Fin cfg0.N) (l : Fin 6144) : (iblk m c 3 t : Vec Ideal S1x1x6144 .f32) (ix3 0 0 l) = aMod m c (ix3 16 0 l) := by
  blk_ext [iblk, index_3 t]
theorem iblk_4 (t : Fin cfg0.N) (l : Fin 1024) : (iblk m c 4 t : Vec Ideal S1x1024 .f32) (ix2 0 l) = aG m c (ix2 0 l) := by
  blk_ext [iblk, index_4 t]
theorem iblk_5 (t : Fin cfg0.N) (k : Fin 1024) (j : Fin 1792) : (iblk m c 5 t : Vec Ideal S1024x1792 .bf16) (ix2 k j) = aW m c (ix2 k j) := by
  blk_ext [iblk, index_5 t]
theorem iblk_6 (t : Fin cfg0.N) (r : Fin 256) (e : Fin 128) : (iblk m c 6 t : Vec Ideal S256x128 .f32) (ix2 r e) = aCos m c (ix2 (tokenAt t r) e) := by
  unfold tokenAt
  blk_ext [iblk, index_6 t]
theorem iblk_7 (t : Fin cfg0.N) (r : Fin 256) (e : Fin 128) : (iblk m c 7 t : Vec Ideal S256x128 .f32) (ix2 r e) = aSin m c (ix2 (tokenAt t r) e) := by
  unfold tokenAt
  blk_ext [iblk, index_7 t]
theorem iblk_8 (t : Fin cfg0.N) (e : Fin 128) : (iblk m c 8 t : Vec Ideal S1x128 .f32) (ix2 0 e) = aGq m c (ix2 0 e) := by
  blk_ext [iblk, index_8 t]
theorem iblk_9 (t : Fin cfg0.N) (e : Fin 128) : (iblk m c 9 t : Vec Ideal S1x128 .f32) (ix2 0 e) = aGk m c (ix2 0 e) := by
  blk_ext [iblk, index_9 t]
theorem iblk_10 (t : Fin cfg0.N) (e : Fin 128) : (iblk m c 10 t : Vec Ideal S1x128 .f32) (ix2 0 e) = aNq m c (ix2 0 e) := by
  blk_ext [iblk, index_10 t]
theorem iblk_11 (t : Fin cfg0.N) (e : Fin 128) : (iblk m c 11 t : Vec Ideal S1x128 .f32) (ix2 0 e) = aNk m c (ix2 0 e) := by
  blk_ext [iblk, index_11 t]

/-- The modulation at batch `b` and token `n`: the context's own for the first 256 tokens. -/
def modAt (b : Fin 16) (n : Fin 2304) (l : Fin 6144) : EReal := if (n : ℕ) < 256 then aMod m c (ix3 16 0 l) else aMod m c (ix3 ⟨b, by omega⟩ 0 l)

/-- The token itself: one of the context's 256, or a latent one. -/
def tokenRow (b : Fin 16) (n : Fin 2304) (l : Fin 1024) : EReal :=
  if h : (n : ℕ) < 256 then aContext m c (ix3 b ⟨n, h⟩ l) else aLatent m c (ix3 b ⟨n - 256, by omega⟩ l)

/-- The projected row there. -/
def rowAt (b : Fin 16) (n : Fin 2304) : Fin 1792 → EReal :=
  projected (modulated (tokenRow m c b n) (fun l => aG m c (ix2 0 l)) (fun l => modAt m c b n ⟨1024 + l, by omega⟩) (fun l => modAt m c b n ⟨l, by omega⟩)) (fun k j => aW m c (ix2 k j))

/-- What the mixers read there. -/
def laneAt (b : Fin 16) (n : Fin 2304) : Fin 1536 → EReal :=
  tiledLane (rowAt m c b n) (fun e => aGq m c (ix2 0 e)) (fun e => aGk m c (ix2 0 e)) (fun e => aNq m c (ix2 0 e)) (fun e => aNk m c (ix2 0 e)) (fun e => aCos m c (ix2 n e)) (fun e => aSin m c (ix2 n e))

theorem blockMod_eq (t : Fin cfg0.N) (b : Fin 4) (r : Fin 256) :
    blockMod (grid0.coords t) (iblk m c 2 t) (iblk m c 3 t) b = modAt m c (batchAt t b) (tokenAt t r) := by
  funext l
  unfold blockMod chosen modAt
  have h := coord_eq t
  refine if_congr ?_ (iblk_3 m c t l) (iblk_2 m c t b l)
  rw [h]
  unfold tokenAt
  dsimp only
  omega

theorem blockToken_eq (t : Fin cfg0.N) (b : Fin 4) (r : Fin 256) :
    chosen (grid0.coords t) (fun l => (iblk m c 1 t : Vec Ideal S4x256x1024 .f32) (ix3 b r l)) (fun l => (iblk m c 0 t : Vec Ideal S4x256x1024 .f32) (ix3 b r l)) = tokenRow m c (batchAt t b) (tokenAt t r) := by
  funext l
  unfold chosen tokenRow
  have h := coord_eq t
  by_cases h0 : t.val % 9 = 0
  · have hn : ((tokenAt t r : Fin 2304) : ℕ) = r := by unfold tokenAt; dsimp only; omega
    rw [if_pos (h.trans h0), dif_pos (by omega)]
    refine (iblk_1 m c t b r l).trans ?_
    exact congrArg (fun n => aContext m c (ix3 (batchAt t b) n l)) (Fin.ext hn.symm)
  · have hn : ((tokenAt t r : Fin 2304) : ℕ) = t.val % 9 * 256 + r := rfl
    rw [if_neg (by omega), dif_neg (by omega)]
    refine (iblk_0 m c t b r l).trans ?_
    exact congrArg (fun n => aLatent m c (ix3 (batchAt t b) n l)) (Fin.ext (by dsimp only; omega))

theorem blockRow_eq (t : Fin cfg0.N) (b : Fin 4) (r : Fin 256) :
    blockRow (grid0.coords t) (iblk m c 0 t) (iblk m c 1 t) (iblk m c 2 t) (iblk m c 3 t) (iblk m c 4 t) (iblk m c 5 t) b r = rowAt m c (batchAt t b) (tokenAt t r) := by
  unfold blockRow rowAt
  rw [blockToken_eq m c t b r, blockMod_eq m c t b r, funext (iblk_4 m c t), show (fun k j => (iblk m c 5 t : Vec Ideal S1024x1792 .bf16) (ix2 k j)) = _ from funext fun k => funext (iblk_5 m c t k)]

theorem blockLane_eq (t : Fin cfg0.N) (b : Fin 4) (r : Fin 256) :
    blockLane (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) b r
      = laneAt m c (batchAt t b) (tokenAt t r) := by
  unfold blockLane laneAt
  rw [blockRow_eq, funext (iblk_6 m c t r), funext (iblk_7 m c t r), funext (iblk_8 m c t), funext (iblk_9 m c t), funext (iblk_10 m c t), funext (iblk_11 m c t)]

/-- The result arrays as functions of their index. -/
def lanesArr : Vec Ideal S16x2304x1536 .bf16 := fun y => laneAt m c (y 0) (y 1) (y 2)
def inputArr : Vec Ideal S16x2304x256 .f32 := fun y => rowAt m c (y 0) (y 1) ⟨1536 + (y 2 : ℕ), by have h : (y 2 : ℕ) < 256 := (y 2).isLt; omega⟩

/-- The array of the mixers' operands. -/
theorem lanes_eq : (dats m 0 c).arrAt 12 cfg0.N = lanesArr m c := by
  refine (dats m 0 c).arrAt_eq_of_covers 12 _ (by decide +kernel) fun t hf y => ?_
  blk_simp
  rw [after0_12]
  obtain ⟨b, r, l, rfl⟩ : ∃ (b : Fin 4) (r : Fin 256) (l : Fin 1536), y = (ix3 b r l : S4x256x1536.Idx) :=
    ⟨y 0, y 1, y 2, by funext a; match a with | ⟨0, _⟩ => rfl | ⟨1, _⟩ => rfl | ⟨2, _⟩ => rfl⟩
  refine (block_lane _ _ _ _ _ _ _ _ _ _ _ _ _ b r l).trans ?_
  rw [blockLane_eq]
  have e : ((cfg0.win 12).blk t).view.emb (ix3 b r l : S4x256x1536.Idx) = (ix3 (batchAt t b) (tokenAt t r) l : S16x2304x1536.Idx) := by
    unfold batchAt tokenAt
    blk_ext [index_12 t]
  rw [e]
  rfl

/-- The array of the state-space mixer's input. -/
theorem input_eq : (dats m 0 c).arrAt 13 cfg0.N = inputArr m c := by
  refine (dats m 0 c).arrAt_eq_of_covers 13 _ (by decide +kernel) fun t hf y => ?_
  blk_simp
  rw [after0_13]
  obtain ⟨b, r, l, rfl⟩ : ∃ (b : Fin 4) (r l : Fin 256), y = (ix3 b r l : S4x256x256.Idx) :=
    ⟨y 0, y 1, y 2, by funext a; match a with | ⟨0, _⟩ => rfl | ⟨1, _⟩ => rfl | ⟨2, _⟩ => rfl⟩
  refine (block_input _ _ _ _ _ _ _ _ _ _ _ _ _ b r l).trans ?_
  rw [blockRow_eq]
  have e : ((cfg0.win 13).blk t).view.emb (ix3 b r l : S4x256x256.Idx) = (ix3 (batchAt t b) (tokenAt t r) l : S16x2304x256.Idx) := by
    unfold batchAt tokenAt
    blk_ext [index_13 t]
  rw [e]
  rfl

end Cert.Kernel5Ideal.Proj

end
-- ==== Proof.FirstHost.lean ====
/- The arrays that the first layer's call of the input projection is given, as the host lays them out from the arguments. -/
module

public import proofs.«01_k».proof.Proof.FirstValue
public import proofs.«01_k».proof.Proof.ProjLanes
public import Idealize.ShloMosaic.Lib.StableHlo.RunRead
import Idealize.ShloMosaic.Lib.Pointwise

@[expose] public section

set_option maxRecDepth 16384

noncomputable section

namespace Cert.Kernel5Ideal.Proj

open Cert.Kernel5Ideal Cert.Kernel5Ideal.Gen Cert.MixMath Cert.ProjMath
open Idealize.ShloMosaic Idealize.ShloMosaic.TcCoe Idealize.ShloMosaic.Tactic Idealize.ShloMosaic.StableHlo

variable (m : (ℓ : Loc nD τ sig) → Buf (Elt Ideal) ℓ) (c : Dev nD)

/-- The modulation of the batches, then that of the context, then rows of zeros. -/
def modRows (a : FVec Ideal S16x6144 .f32) (b : FVec Ideal S6144 .f32) : FVec Ideal S24x6144 .f32 :=
  concatenate S24x6144 0 [⟨S16x6144, a⟩, ⟨S1x6144, broadcastInDim S1x6144 ![1] bcast_S6144_S1x6144_1 b⟩,
    ⟨S7x6144, broadcastInDim S7x6144 ![] bcast_S_S7x6144 (constant S_ .f32 0x00000000#32 : FVec Ideal S_ .f32)⟩] concatenates_S16x6144_S1x6144_S7x6144_S24x6144_d0

/-- The matrix with the columns of the attention's query heads in the order 0, 2, 1, 3. -/
def columns (a : FVec Ideal S1024x1792 .f32) : FVec Ideal S1024x1792 .f32 :=
  concatenate S1024x1792 1
    [⟨S1024x64, extractStridedSlice S1024x64 ![0, 0] a slices_S1024x1792_S1024x64_0_0⟩,
     ⟨S1024x64, extractStridedSlice S1024x64 ![0, 128] a slices_S1024x1792_S1024x64_0_128⟩,
     ⟨S1024x64, extractStridedSlice S1024x64 ![0, 64] a slices_S1024x1792_S1024x64_0_64⟩,
     ⟨S1024x64, extractStridedSlice S1024x64 ![0, 192] a slices_S1024x1792_S1024x64_0_192⟩,
     ⟨S1024x1536, extractStridedSlice S1024x1536 ![0, 256] a slices_S1024x1792_S1024x1536_0_256⟩]
    concatenates_S1024x64_S1024x64_S1024x64_S1024x64_S1024x1536_S1024x1792_d1

/-- A head's gains, twice. -/
def twice (g : FVec Ideal S64 .f32) : FVec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)

/-- The rotary embedding's frequencies. -/
def frequencies : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- A place's angles. -/
def angles (p : FVec Ideal S2048 .f32) : FVec Ideal S2048x16 .f32 :=
  mulf (broadcastInDim S2048x16 ![0, 1] bcast_S2048x1_S2048x16_0_1 (broadcastInDim S2048x1 ![0] bcast_S2048_S2048x1_0 p))
    (broadcastInDim S2048x16 ![0, 1] bcast_S1x16_S2048x16_0_1 (broadcastInDim S1x16 ![1] bcast_S16_S1x16_1 frequencies))

/-- The tokens, and the number of places in a row. -/
def ids : IVec S2048 32 := iotaInDim S2048 32 0
def width : IVec S_ 32 := id (constantI S_ 32 64#32)
def spread (x : IVec S_ 32) : IVec S2048 32 := broadcastInDim S2048 ![] bcast_S_S2048 x

/-- A token's row: its quotient by the width, rounded down. -/
def rowPlace : IVec S2048 32 :=
  select (andi (cmpi .ne (signi ids) (spread (signi width))) (cmpi .ne (Host.remsi ids (spread width)) (spread (constantI S_ 32 0#32))))
    (subi (Host.divsi ids (spread width)) (spread (constantI S_ 32 1#32))) (Host.divsi ids (spread width))

/-- A token's column: its remainder by the width, of the width's sign. -/
def divisor : IVec S_ 32 := select (cmpi .eq width (constantI S_ 32 0#32)) (constantI S_ 32 1#32) width
def remainder : IVec S2048 32 := Host.remsi ids (spread divisor)
def colPlace : IVec S2048 32 :=
  select (andi (cmpi .ne (cmpi .slt remainder (spread (constantI S_ 32 0#32))) (broadcastInDim S2048 ![] bcast_S_S2048 (cmpi .slt divisor (constantI S_ 32 0#32))))
      (cmpi .ne remainder (spread (constantI S_ 32 0#32)))) (addi remainder (spread divisor)) remainder

/-- The angles of a token's row and of its column. -/
def rowAngles : FVec Ideal S2048x16 .f32 := angles (sitofp .f32 rowPlace)
def colAngles : FVec Ideal S2048x16 .f32 := angles (sitofp .f32 colPlace)

/-- Four pieces of 16 lanes beside one another. -/
def four (a b d e : FVec Ideal S2048x16 .f32) : FVec Ideal S2048x64 .f32 :=
  concatenate S2048x64 1 [⟨S2048x16, a⟩, ⟨S2048x16, b⟩, ⟨S2048x16, d⟩, ⟨S2048x16, e⟩] concatenates_S2048x16_S2048x16_S2048x16_S2048x16_S2048x64_d1

/-- A table of the latent tokens under one number for all of the context, for two heads. -/
def under (z : FVec Ideal S_ .f32) (t : FVec Ideal S2048x64 .f32) : FVec Ideal S2304x64 .f32 :=
  concatenate S2304x64 0 [⟨S256x64, broadcastInDim S256x64 ![] bcast_S_S256x64 z⟩, ⟨S2048x64, t⟩] concatenates_S256x64_S2048x64_S2304x64_d0
def twoHeads (t : FVec Ideal S2304x64 .f32) : FVec Ideal S2304x128 .f32 :=
  shapeCast S2304x128 (broadcastInDim S1x2304x2x64 ![0, 1, 2, 3] bcast_S1x2304x1x64_S1x2304x2x64_0_1_2_3 (shapeCast S1x2304x1x64 t shapeCasts_S2304x64_S1x2304x1x64)) shapeCasts_S1x2304x2x64_S2304x128

/-- The host's operations before the call. -/
abbrev hostOps : List (HloOp τ sig (Elt Ideal)) := List.flatten [hostOps0, hostOps0_1, hostOps0_2, hostOps0_3, hostOps0_4]

/-! The pieces the host has built before it joins them. -/

theorem upto3_0 : upto hostOps (fun b => m (c, b)) 3 (Proc.devRef .tc main_arg2) = ((m ((c.tc : Thread nD τ).loc main_arg2)) : FVec Ideal S16x6144 .f32) := by
  after_reads_simp
theorem upto3_1 : upto hostOps (fun b => m (c, b)) 3 (Proc.devRef .tc main_v0) = (broadcastInDim S1x6144 ![1] bcast_S6144_S1x6144_1 (m ((c.tc : Thread nD τ).loc main_arg3)) : FVec Ideal S1x6144 .f32) := by
  after_reads_simp
theorem upto3_2 : upto hostOps (fun b => m (c, b)) 3 (Proc.devRef .tc main_v1) = (broadcastInDim S7x6144 ![] bcast_S_S7x6144 (constant S_ .f32 0x00000000#32 : FVec Ideal S_ .f32) : FVec Ideal S7x6144 .f32) := by
  after_reads_simp
theorem upto73_0 : upto hostOps (fun b => m (c, b)) 73 (Proc.devRef .tc main_v28) = (Host.cos rowAngles : FVec Ideal S2048x16 .f32) := by
  after_reads_simp
  rfl
theorem upto73_1 : upto hostOps (fun b => m (c, b)) 73 (Proc.devRef .tc main_v29) = (Host.cos colAngles : FVec Ideal S2048x16 .f32) := by
  after_reads_simp
  rfl
theorem upto80_0 : upto hostOps (fun b => m (c, b)) 80 (Proc.devRef .tc main_v32) = (Host.negf (Host.sin rowAngles) : FVec Ideal S2048x16 .f32) := by
  after_reads_simp
  rfl
theorem upto80_1 : upto hostOps (fun b => m (c, b)) 80 (Proc.devRef .tc main_v33) = (Host.sin rowAngles : FVec Ideal S2048x16 .f32) := by
  after_reads_simp
  rfl
theorem upto80_2 : upto hostOps (fun b => m (c, b)) 80 (Proc.devRef .tc main_v35) = (Host.negf (Host.sin colAngles) : FVec Ideal S2048x16 .f32) := by
  after_reads_simp
  rfl
theorem upto80_3 : upto hostOps (fun b => m (c, b)) 80 (Proc.devRef .tc main_v36) = (Host.sin colAngles : FVec Ideal S2048x16 .f32) := by
  after_reads_simp
  rfl
theorem upto83_0 : upto hostOps (fun b => m (c, b)) 83 (Proc.devRef .tc main_v38) = (broadcastInDim S256x64 ![] bcast_S_S256x64 (constant S_ .f32 0x3F800000#32 : FVec Ideal S_ .f32) : FVec Ideal S256x64 .f32) := by
  after_reads_simp
theorem upto83_1 : upto hostOps (fun b => m (c, b)) 83 (Proc.devRef .tc main_v30) = (four (Host.cos rowAngles) (Host.cos rowAngles) (Host.cos colAngles) (Host.cos colAngles) : FVec Ideal S2048x64 .f32) := by
  after_reads_simp
  dsimp only [Matrix.cons_val]
  rw [upto73_0, upto73_1]
  rfl
theorem upto86_0 : upto hostOps (fun b => m (c, b)) 86 (Proc.devRef .tc main_v40) = (broadcastInDim S256x64 ![] bcast_S_S256x64 (constant S_ .f32 0x00000000#32 : FVec Ideal S_ .f32) : FVec Ideal S256x64 .f32) := by
  after_reads_simp
theorem upto86_1 : upto hostOps (fun b => m (c, b)) 86 (Proc.devRef .tc main_v37) = (four (Host.negf (Host.sin rowAngles)) (Host.sin rowAngles) (Host.negf (Host.sin colAngles)) (Host.sin colAngles) : FVec Ideal S2048x64 .f32) := by
  after_reads_simp
  dsimp only [Matrix.cons_val]
  rw [upto80_0, upto80_1, upto80_2, upto80_3]
  rfl
theorem upto100_0 : upto hostOps (fun b => m (c, b)) 100 (Proc.devRef .tc main_v50) = (extractStridedSlice S1024x64 ![0, 0] (m ((c.tc : Thread nD τ).loc main_arg5)) slices_S1024x1792_S1024x64_0_0 : FVec Ideal S1024x64 .f32) := by
  after_reads_simp
theorem upto100_1 : upto hostOps (fun b => m (c, b)) 100 (Proc.devRef .tc main_v51) = (extractStridedSlice S1024x64 ![0, 128] (m ((c.tc : Thread nD τ).loc main_arg5)) slices_S1024x1792_S1024x64_0_128 : FVec Ideal S1024x64 .f32) := by
  after_reads_simp
theorem upto100_2 : upto hostOps (fun b => m (c, b)) 100 (Proc.devRef .tc main_v52) = (extractStridedSlice S1024x64 ![0, 64] (m ((c.tc : Thread nD τ).loc main_arg5)) slices_S1024x1792_S1024x64_0_64 : FVec Ideal S1024x64 .f32) := by
  after_reads_simp
theorem upto100_3 : upto hostOps (fun b => m (c, b)) 100 (Proc.devRef .tc main_v53) = (extractStridedSlice S1024x64 ![0, 192] (m ((c.tc : Thread nD τ).loc main_arg5)) slices_S1024x1792_S1024x64_0_192 : FVec Ideal S1024x64 .f32) := by
  after_reads_simp
theorem upto100_4 : upto hostOps (fun b => m (c, b)) 100 (Proc.devRef .tc main_v54) = (extractStridedSlice S1024x1536 ![0, 256] (m ((c.tc : Thread nD τ).loc main_arg5)) slices_S1024x1792_S1024x1536_0_256 : FVec Ideal S1024x1536 .f32) := by
  after_reads_simp

/-! The arrays. -/

theorem aLatent_eq : aLatent m c = m ((c.tc : Thread nD τ).loc main_arg0) := V_main_arg0 m c
theorem aContext_eq : aContext m c = m ((c.tc : Thread nD τ).loc main_arg1) := V_main_arg1 m c
theorem aMod_eq : aMod m c = shapeCast S24x1x6144 (modRows (m ((c.tc : Thread nD τ).loc main_arg2)) (m ((c.tc : Thread nD τ).loc main_arg3))) shapeCasts_S24x6144_S24x1x6144 := by
  show StableHlo.after _ _ _ = _
  after_reads_simp
  dsimp only [Matrix.cons_val]
  rw [upto3_0, upto3_1, upto3_2]
  rfl
theorem aG_eq : aG m c = broadcastInDim S1x1024 ![1] bcast_S1024_S1x1024_1 (m ((c.tc : Thread nD τ).loc main_arg4)) := by
  show StableHlo.after _ _ _ = _
  after_reads_simp
theorem aW_eq : aW m c = (truncf .bf16 (columns (m ((c.tc : Thread nD τ).loc main_arg5))) bitsLt_bf16_f32 : FVec Ideal S1024x1792 .bf16) := by
  show StableHlo.after _ _ _ = _
  after_reads_simp
  dsimp only [Matrix.cons_val]
  rw [upto100_0, upto100_1, upto100_2, upto100_3, upto100_4]
  rfl
theorem aCos_eq : aCos m c = twoHeads (under (constant S_ .f32 0x3F800000#32) (four (Host.cos rowAngles) (Host.cos rowAngles) (Host.cos colAngles) (Host.cos colAngles))) := by
  show StableHlo.after _ _ _ = _
  after_reads_simp
  rw [upto83_0, upto83_1]
  rfl
theorem aSin_eq : aSin m c = twoHeads (under (constant S_ .f32 0x00000000#32) (four (Host.negf (Host.sin rowAngles)) (Host.sin rowAngles) (Host.negf (Host.sin colAngles)) (Host.sin colAngles))) := by
  show StableHlo.after _ _ _ = _
  after_reads_simp
  rw [upto86_0, upto86_1]
  rfl
theorem aGq_eq : aGq m c = twice (m ((c.tc : Thread nD τ).loc main_arg6)) := by
  show StableHlo.after _ _ _ = _
  after_reads_simp
  rfl
theorem aGk_eq : aGk m c = twice (m ((c.tc : Thread nD τ).loc main_arg7)) := by
  show StableHlo.after _ _ _ = _
  after_reads_simp
  rfl
theorem aNq_eq : aNq m c = twice (m ((c.tc : Thread nD τ).loc main_arg8)) := by
  show StableHlo.after _ _ _ = _
  after_reads_simp
  rfl
theorem aNk_eq : aNk m c = twice (m ((c.tc : Thread nD τ).loc main_arg9)) := by
  show StableHlo.after _ _ _ = _
  after_reads_simp
  rfl

/-! The layouts at an index. -/

theorem modRows_batch (a : FVec Ideal S16x6144 .f32) (z : FVec Ideal S6144 .f32) (b : Fin 16) (l : Fin 6144) : modRows a z (ix2 ⟨b, by omega⟩ l) = a (ix2 b l) := by
  pointwise [modRows]
theorem modRows_context (a : FVec Ideal S16x6144 .f32) (z : FVec Ideal S6144 .f32) (l : Fin 6144) : modRows a z (ix2 16 l) = z (ix1 l) := by
  pointwise [modRows]
theorem flat_apply (a : FVec Ideal S24x6144 .f32) (b : Fin 24) (l : Fin 6144) : shapeCast S24x1x6144 a shapeCasts_S24x6144_S24x1x6144 (ix3 b 0 l) = a (ix2 b l) := by
  pointwise
theorem row_apply (a : FVec Ideal S1024 .f32) (l : Fin 1024) : broadcastInDim S1x1024 ![1] bcast_S1024_S1x1024_1 a (ix2 0 l) = a (ix1 l) := by
  pointwise
theorem twice_apply (g : FVec Ideal S64 .f32) (e : Fin 128) : twice g (ix2 0 e) = g (ix1 ⟨e % 64, by omega⟩) := by
  pointwise [twice]
theorem twoHeads_apply (t : FVec Ideal S2304x64 .f32) (n : Fin 2304) (e : Fin 128) : twoHeads t (ix2 n e) = t (ix2 n ⟨e % 64, by omega⟩) := by
  pointwise [twoHeads]
theorem under_context (z : FVec Ideal S_ .f32) (t : FVec Ideal S2048x64 .f32) (n : Fin 256) (d : Fin 64) : under z t (ix2 ⟨n, by omega⟩ d) = z ix0 := by
  pointwise [under]
theorem under_latent (z : FVec Ideal S_ .f32) (t : FVec Ideal S2048x64 .f32) (n : Fin 2048) (d : Fin 64) : under z t (ix2 ⟨256 + n, by omega⟩ d) = t (ix2 n d) := by
  pointwise [under]
theorem columns_apply (a : FVec Ideal S1024x1792 .f32) (k : Fin 1024) (j : Fin 1792) : columns a (ix2 k j) = a (ix2 k (laneOf j)) := by
  pointwise [columns]
  exact laneOf_pick (fun x => a (ix2 k x)) j
theorem cosines_apply (a b : FVec Ideal S2048x16 .f32) (n : Fin 2048) (d : Fin 64) : four a a b b (ix2 n d) = cosLane (fun j => a (ix2 n j)) (fun j => b (ix2 n j)) d := by
  pointwise [four]
  exact cosLane_pick (fun j => a (ix2 n j)) (fun j => b (ix2 n j)) d
theorem sines_apply (a b : FVec Ideal S2048x16 .f32) (n : Fin 2048) (d : Fin 64) :
    four (Host.negf a) a (Host.negf b) b (ix2 n d) = sinLane (fun j => a (ix2 n j)) (fun j => b (ix2 n j)) d := by
  pointwise [four]
  exact sinLane_pick (fun j => a (ix2 n j)) (fun j => b (ix2 n j)) d

end Cert.Kernel5Ideal.Proj

end
-- ==== Proof.FirstCall.lean ====
/- What the first layer's call of the input projection computes, from the program's arguments. -/
module

public import proofs.«01_k».proof.Proof.FirstHost
import Idealize.ShloMosaic.Lib.Pointwise

@[expose] public section

set_option maxRecDepth 16384

noncomputable section

namespace Cert.Kernel5Ideal.Proj

open Cert.Kernel5Ideal Cert.Kernel5Ideal.Gen Cert.MixMath Cert.ProjMath
open Idealize.ShloMosaic Idealize.ShloMosaic.TcCoe Idealize.ShloMosaic.Tactic Idealize.ShloMosaic.StableHlo

variable (m : (ℓ : Loc nD τ sig) → Buf (Elt Ideal) ℓ) (c : Dev nD)

/-! The arguments. -/

abbrev xArg : FVec Ideal S16x2048x1024 .f32 := m ((c.tc : Thread nD τ).loc main_arg0)
abbrev xcArg : FVec Ideal S16x256x1024 .f32 := m ((c.tc : Thread nD τ).loc main_arg1)
abbrev mArg : FVec Ideal S16x6144 .f32 := m ((c.tc : Thread nD τ).loc main_arg2)
abbrev mcArg : FVec Ideal S6144 .f32 := m ((c.tc : Thread nD τ).loc main_arg3)
abbrev gArg : FVec Ideal S1024 .f32 := m ((c.tc : Thread nD τ).loc main_arg4)
abbrev wArg : FVec Ideal S1024x1792 .f32 := m ((c.tc : Thread nD τ).loc main_arg5)
abbrev gqArg : FVec Ideal S64 .f32 := m ((c.tc : Thread nD τ).loc main_arg6)
abbrev gkArg : FVec Ideal S64 .f32 := m ((c.tc : Thread nD τ).loc main_arg7)
abbrev nqArg : FVec Ideal S64 .f32 := m ((c.tc : Thread nD τ).loc main_arg8)
abbrev nkArg : FVec Ideal S64 .f32 := m ((c.tc : Thread nD τ).loc main_arg9)

/-! The arrays that the call is given, at an index. -/

theorem aMod_batch (b : Fin 16) (l : Fin 6144) : aMod m c (ix3 ⟨b, by omega⟩ 0 l) = mArg m c (ix2 b l) := by
  rw [aMod_eq, flat_apply, modRows_batch]
theorem aMod_context (l : Fin 6144) : aMod m c (ix3 16 0 l) = mcArg m c (ix1 l) := by
  rw [aMod_eq, flat_apply, modRows_context]
theorem tokenRow_context (b : Fin 16) (n : Fin 256) : tokenRow m c b ⟨n, by omega⟩ = fun l => xcArg m c (ix3 b n l) := by
  funext l
  unfold tokenRow
  rw [dif_pos n.isLt, aContext_eq]
theorem tokenRow_latent (b : Fin 16) (n : Fin 2048) : tokenRow m c b ⟨256 + n, by omega⟩ = fun l => xArg m c (ix3 b n l) := by
  funext l
  unfold tokenRow
  rw [dif_neg (by dsimp only; omega), aLatent_eq]
  exact congrArg (fun n => xArg m c (ix3 b n l)) (Fin.ext (by dsimp only; omega))
theorem aG_apply (l : Fin 1024) : aG m c (ix2 0 l) = gArg m c (ix1 l) := by
  rw [aG_eq]
  exact row_apply _ l
theorem aW_apply (k : Fin 1024) (j : Fin 1792) : aW m c (ix2 k j) = wArg m c (ix2 k (laneOf j)) := by
  rw [aW_eq]
  exact columns_apply _ k j
theorem aGq_apply (e : Fin 128) : aGq m c (ix2 0 e) = gqArg m c (ix1 ⟨e % 64, by omega⟩) := by
  rw [aGq_eq, twice_apply]
theorem aGk_apply (e : Fin 128) : aGk m c (ix2 0 e) = gkArg m c (ix1 ⟨e % 64, by omega⟩) := by
  rw [aGk_eq, twice_apply]
theorem aNq_apply (e : Fin 128) : aNq m c (ix2 0 e) = nqArg m c (ix1 ⟨e % 64, by omega⟩) := by
  rw [aNq_eq, twice_apply]
theorem aNk_apply (e : Fin 128) : aNk m c (ix2 0 e) = nkArg m c (ix1 ⟨e % 64, by omega⟩) := by
  rw [aNk_eq, twice_apply]
theorem one_apply : (constant S_ .f32 0x3F800000#32 : FVec Ideal S_ .f32) ix0 = 1 := by
  show Ideal.ofBits .f32 0x3F800000#32 = 1
  simp [Ideal.ofBits, Ideal.ieee, -EReal.coe_mul]
  norm_num
theorem zero_apply : (constant S_ .f32 0x00000000#32 : FVec Ideal S_ .f32) ix0 = 0 := by
  show Ideal.ofBits .f32 0x00000000#32 = 0
  simp [Ideal.ofBits, Ideal.ieee]
theorem aCos_context (n : Fin 256) (e : Fin 128) : aCos m c (ix2 ⟨n, by omega⟩ e) = 1 := by
  rw [aCos_eq, twoHeads_apply, under_context, one_apply]
theorem aSin_context (n : Fin 256) (e : Fin 128) : aSin m c (ix2 ⟨n, by omega⟩ e) = 0 := by
  rw [aSin_eq, twoHeads_apply, under_context, zero_apply]

/-- The cosines and sines of a latent token's angles. -/
abbrev cosRow (n : Fin 2048) (j : Fin 16) : EReal := (Host.cos rowAngles : FVec Ideal S2048x16 .f32) (ix2 n j)
abbrev sinRow (n : Fin 2048) (j : Fin 16) : EReal := (Host.sin rowAngles : FVec Ideal S2048x16 .f32) (ix2 n j)
abbrev cosCol (n : Fin 2048) (j : Fin 16) : EReal := (Host.cos colAngles : FVec Ideal S2048x16 .f32) (ix2 n j)
abbrev sinCol (n : Fin 2048) (j : Fin 16) : EReal := (Host.sin colAngles : FVec Ideal S2048x16 .f32) (ix2 n j)

theorem aCos_latent (n : Fin 2048) (e : Fin 128) : aCos m c (ix2 ⟨256 + n, by omega⟩ e) = cosLane (cosRow n) (cosCol n) ⟨e % 64, by omega⟩ := by
  rw [aCos_eq, twoHeads_apply, under_latent, cosines_apply]
theorem aSin_latent (n : Fin 2048) (e : Fin 128) : aSin m c (ix2 ⟨256 + n, by omega⟩ e) = sinLane (sinRow n) (sinCol n) ⟨e % 64, by omega⟩ := by
  rw [aSin_eq, twoHeads_apply, under_latent, sines_apply]

/-! The projected rows. -/

/-- A context token's row and a latent token's, by the matrix as it is given. -/
def contextRow (b : Fin 16) (n : Fin 256) : Fin 1792 → EReal :=
  rowOf (fun l => xcArg m c (ix3 b n l)) (fun l => gArg m c (ix1 l)) (fun l => mcArg m c (ix1 l)) (fun k j => wArg m c (ix2 k j))
def latentRow (b : Fin 16) (n : Fin 2048) : Fin 1792 → EReal :=
  rowOf (fun l => xArg m c (ix3 b n l)) (fun l => gArg m c (ix1 l)) (fun l => mArg m c (ix2 b l)) (fun k j => wArg m c (ix2 k j))

theorem modAt_context (b : Fin 16) (n : Fin 256) : modAt m c b ⟨n, by omega⟩ = fun l => mcArg m c (ix1 l) := by
  funext l
  unfold modAt
  rw [if_pos n.isLt, aMod_context]
theorem modAt_latent (b : Fin 16) (n : Fin 2048) : modAt m c b ⟨256 + n, by omega⟩ = fun l => mArg m c (ix2 b l) := by
  funext l
  unfold modAt
  rw [if_neg (by dsimp only; omega), aMod_batch]

theorem rowAt_context (b : Fin 16) (n : Fin 256) : rowAt m c b ⟨n, by omega⟩ = fun i => contextRow m c b n (laneOf i) := by
  unfold rowAt contextRow rowOf
  rw [modAt_context, tokenRow_context, funext (aG_apply m c), show (fun k j => aW m c (ix2 k j)) = _ from funext fun k => funext (aW_apply m c k)]
  rfl
theorem rowAt_latent (b : Fin 16) (n : Fin 2048) : rowAt m c b ⟨256 + n, by omega⟩ = fun i => latentRow m c b n (laneOf i) := by
  unfold rowAt latentRow rowOf
  rw [modAt_latent, tokenRow_latent, funext (aG_apply m c), show (fun k j => aW m c (ix2 k j)) = _ from funext fun k => funext (aW_apply m c k)]
  rfl

theorem laneOf_input (l : Fin 256) : laneOf ⟨1536 + l, by omega⟩ = ⟨1536 + l, by omega⟩ := by
  unfold laneOf
  rw [dif_neg (by dsimp only; omega)]

/-! The results. -/

/-- The gains of a head. -/
abbrev gains (g : FVec Ideal S64 .f32) (d : Fin 64) : EReal := g (ix1 d)

theorem input_context (b : Fin 16) (n l : Fin 256) : inputArr m c (ix3 b ⟨n, by omega⟩ l) = contextRow m c b n ⟨1536 + l, by omega⟩ := by
  show rowAt m c b ⟨n, by omega⟩ ⟨1536 + l, by omega⟩ = _
  rw [rowAt_context]
  exact congrArg (contextRow m c b n) (laneOf_input l)
theorem input_latent (b : Fin 16) (n : Fin 2048) (l : Fin 256) : inputArr m c (ix3 b ⟨256 + n, by omega⟩ l) = latentRow m c b n ⟨1536 + l, by omega⟩ := by
  show rowAt m c b ⟨256 + n, by omega⟩ ⟨1536 + l, by omega⟩ = _
  rw [rowAt_latent]
  exact congrArg (latentRow m c b n) (laneOf_input l)

theorem lanes_context (b : Fin 16) (n : Fin 256) (l : Fin 1536) : lanesArr m c (ix3 b ⟨n, by omega⟩ l)
    = mixerLane (fun t => t) (contextRow m c b n) (gains (gqArg m c)) (gains (gkArg m c)) (gains (nqArg m c)) (gains (nkArg m c)) l := by
  show laneAt m c b ⟨n, by omega⟩ l = _
  unfold laneAt
  rw [rowAt_context, funext (aGq_apply m c), funext (aGk_apply m c), funext (aNq_apply m c), funext (aNk_apply m c)]
  refine tiledLane_eq _ _ (gains (gqArg m c)) (gains (gkArg m c)) (gains (nqArg m c)) (gains (nkArg m c)) _ _ (fun t e => ?_) l
  rw [turnedTile_none _ _ t (aCos_context m c n) (aSin_context m c n)]
  exact congrArg t (Fin.ext (by dsimp only; omega))
theorem lanes_latent (b : Fin 16) (n : Fin 2048) (l : Fin 1536) : lanesArr m c (ix3 b ⟨256 + n, by omega⟩ l)
    = mixerLane (turned (cosRow n) (sinRow n) (cosCol n) (sinCol n)) (latentRow m c b n) (gains (gqArg m c)) (gains (gkArg m c)) (gains (nqArg m c)) (gains (nkArg m c)) l := by
  show laneAt m c b ⟨256 + n, by omega⟩ l = _
  unfold laneAt
  rw [rowAt_latent, funext (aGq_apply m c), funext (aGk_apply m c), funext (aNq_apply m c), funext (aNk_apply m c)]
  exact tiledLane_eq _ _ (gains (gqArg m c)) (gains (gkArg m c)) (gains (nqArg m c)) (gains (nkArg m c)) _ _
    (fun t e => turnedTile_head _ _ _ _ _ _ t (aCos_latent m c n) (aSin_latent m c n) e) l

end Cert.Kernel5Ideal.Proj

end
-- ==== Proof.FirstEq.lean ====
/- The results of the first layer's input projection are its reference's. -/
module

public import proofs.«01_k».proof.Proof.FirstCall
public import proofs.«01_k».proof.Proof.ProjOut

@[expose] public section

set_option maxRecDepth 16384

noncomputable section

namespace Cert.Kernel5Ideal.Proj

open Cert.Kernel5Ideal Cert.Kernel5Ideal.Gen Cert.MixMath Cert.ProjMath
open Idealize.ShloMosaic Idealize.ShloMosaic.TcCoe Idealize.ShloMosaic.StableHlo

variable (m : (ℓ : Loc nD τ sig) → Buf (Elt Ideal) ℓ) (c : Dev nD)
  (m' : (ℓ : Loc Cert.Reference3Ideal.nD Cert.Reference3Ideal.τ Cert.Reference3Ideal.sig) → Buf (Elt Ideal) ℓ) (c' : Dev Cert.Reference3Ideal.nD)

theorem rowAngles_ref : Cert.Reference3Ideal.Proj.rowAngles m' c' = rowAngles := rfl
theorem colAngles_ref : Cert.Reference3Ideal.Proj.colAngles m' c' = colAngles := rfl

/-- A token is one of the context or a latent one. -/
theorem token_cases (n : Fin 2304) : (∃ k : Fin 256, n = ⟨k, by omega⟩) ∨ ∃ k : Fin 2048, n = ⟨256 + k, by omega⟩ := by
  by_cases h : (n : ℕ) < 256
  · exact .inl ⟨⟨n, h⟩, rfl⟩
  · exact .inr ⟨⟨n - 256, by omega⟩, Fin.ext (by dsimp only; omega)⟩

/-- The mixers' operands are the reference's, from memories that agree on the arguments. -/
theorem lanes_ref
    (h0 : Cert.Reference3Ideal.Proj.xArg m' c' = xArg m c)
    (h1 : Cert.Reference3Ideal.Proj.xcArg m' c' = xcArg m c)
    (h2 : Cert.Reference3Ideal.Proj.mArg m' c' = mArg m c)
    (h3 : Cert.Reference3Ideal.Proj.mcArg m' c' = mcArg m c)
    (h4 : Cert.Reference3Ideal.Proj.gArg m' c' = gArg m c)
    (h5 : Cert.Reference3Ideal.Proj.wArg m' c' = wArg m c)
    (h6 : Cert.Reference3Ideal.Proj.gqArg m' c' = gqArg m c)
    (h7 : Cert.Reference3Ideal.Proj.gkArg m' c' = gkArg m c)
    (h8 : Cert.Reference3Ideal.Proj.nqArg m' c' = nqArg m c)
    (h9 : Cert.Reference3Ideal.Proj.nkArg m' c' = nkArg m c) :
    (Cert.Reference3Ideal.Proj.outLanes m' c' : FVec Ideal S16x2304x1536 .bf16) = (dats m 0 c).arrAt 12 cfg0.N := by
  rw [lanes_eq]
  funext y
  obtain ⟨b, n, l, rfl⟩ : ∃ (b : Fin 16) (n : Fin 2304) (l : Fin 1536), y = (ix3 b n l : S16x2304x1536.Idx) :=
    ⟨y 0, y 1, y 2, by funext a; match a with | ⟨0, _⟩ => rfl | ⟨1, _⟩ => rfl | ⟨2, _⟩ => rfl⟩
  obtain ⟨k, rfl⟩ | ⟨k, rfl⟩ := token_cases n
  · refine (Cert.Reference3Ideal.Proj.outLanes_context m' c' b k l).trans ?_
    unfold Cert.Reference3Ideal.Proj.contextRow
    rw [h1, h3, h4, h5, h6, h7, h8, h9]
    exact (lanes_context m c b k l).symm
  · refine (Cert.Reference3Ideal.Proj.outLanes_latent m' c' b k l).trans ?_
    unfold Cert.Reference3Ideal.Proj.latentRow
    rw [h0, h2, h4, h5, h6, h7, h8, h9, rowAngles_ref, colAngles_ref]
    exact (lanes_latent m c b k l).symm

/-- The state-space mixer's input is the reference's. -/
theorem input_ref
    (h0 : Cert.Reference3Ideal.Proj.xArg m' c' = xArg m c)
    (h1 : Cert.Reference3Ideal.Proj.xcArg m' c' = xcArg m c)
    (h2 : Cert.Reference3Ideal.Proj.mArg m' c' = mArg m c)
    (h3 : Cert.Reference3Ideal.Proj.mcArg m' c' = mcArg m c)
    (h4 : Cert.Reference3Ideal.Proj.gArg m' c' = gArg m c)
    (h5 : Cert.Reference3Ideal.Proj.wArg m' c' = wArg m c)
    (h6 : Cert.Reference3Ideal.Proj.gqArg m' c' = gqArg m c)
    (h7 : Cert.Reference3Ideal.Proj.gkArg m' c' = gkArg m c)
    (h8 : Cert.Reference3Ideal.Proj.nqArg m' c' = nqArg m c)
    (h9 : Cert.Reference3Ideal.Proj.nkArg m' c' = nkArg m c) :
    (Cert.Reference3Ideal.Proj.outInput m' c' : FVec Ideal S16x2304x256 .f32) = (dats m 0 c).arrAt 13 cfg0.N := by
  rw [input_eq]
  funext y
  obtain ⟨b, n, l, rfl⟩ : ∃ (b : Fin 16) (n : Fin 2304) (l : Fin 256), y = (ix3 b n l : S16x2304x256.Idx) :=
    ⟨y 0, y 1, y 2, by funext a; match a with | ⟨0, _⟩ => rfl | ⟨1, _⟩ => rfl | ⟨2, _⟩ => rfl⟩
  obtain ⟨k, rfl⟩ | ⟨k, rfl⟩ := token_cases n
  · refine (Cert.Reference3Ideal.Proj.outInput_context m' c' b k l).trans ?_
    unfold Cert.Reference3Ideal.Proj.contextRow
    rw [h1, h3, h4, h5]
    exact (input_context m c b k l).symm
  · refine (Cert.Reference3Ideal.Proj.outInput_latent m' c' b k l).trans ?_
    unfold Cert.Reference3Ideal.Proj.latentRow
    rw [h0, h2, h4, h5]
    exact (input_latent m c b k l).symm

end Cert.Kernel5Ideal.Proj

end
-- ==== Proof.FirstClaim.lean ====
/- The value claim about the first layer's call of the input projection, from its run, its values and the reference's run. -/
module

public import proofs.«01_k».proof.Defs
public import proofs.«01_k».proof.Proof.FirstEq
public import proofs.«01_k».proof.Proof.Gen.Kernel5Ideal.Value

@[expose] public section

noncomputable section

namespace Cert.Claims

open Idealize.ShloMosaic Idealize.SL.Sem Idealize.ShloMosaic.TcCoe

/-- The kernel computes its reference. -/
theorem first_value : Cert.algebraic_Kernel5Ideal_Reference3Ideal := by
  intro m ρ m' ρ' _ hagree
  refine ⟨_, _, Cert.Kernel5Ideal.Value.run_blocks (F := Ideal) m ρ, ?_⟩
  refine (θ_run Cert.Reference3Ideal.defs _ _).mono (fun _ h c => ⟨(h c).1.trans ?_, (h c).2.1.trans ?_, (h c).2.2⟩) (Cert.Reference3Ideal.Value.run (F := Ideal) m' ρ')
  · obtain ⟨h0, h1, h2, h3, h4, h5, h6, h7, h8, h9⟩ := hagree c
    exact Cert.Kernel5Ideal.Proj.lanes_ref m c m' c h0 h1 h2 h3 h4 h5 h6 h7 h8 h9
  · obtain ⟨h0, h1, h2, h3, h4, h5, h6, h7, h8, h9⟩ := hagree c
    exact Cert.Kernel5Ideal.Proj.input_ref m c m' c h0 h1 h2 h3 h4 h5 h6 h7 h8 h9

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference2Ideal.Run
public import proofs.«01_k».proof.Proof.Gen.Kernel2Ideal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Pre_finite_cw
public import proofs.«01_k».proof.Proof.Gen.Pre_finite_qk
public import Idealize.ShloMosaic.Adequacy
public import proofs.«01_k».proof.Proof.GqaPlain
public import proofs.«01_k».proof.Proof.GqaClaim
public import proofs.«01_k».proof.Proof.MixClaim
public import proofs.«01_k».proof.Proof.ProjClaim
public import proofs.«01_k».proof.Proof.ModClaim
public import proofs.«01_k».proof.Proof.FirstClaim
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts,
  Cert.Pre_finite_qk.Gen.facts, Cert.Pre_finite_cw.Gen.facts, ⟨fun m ρ _ => Cert.Kernel.Gqa.frame_args m ρ, Cert.Claims.gqa_frame, Cert.Claims.gqa_frame_pre,
  Cert.Claims.gqa_ref_frame, Cert.Claims.gqa_ref_frame_pre, fun m ρ _ => Cert.Kernel2.Gen.frame m ρ,
  fun m ρ _ => Cert.Kernel2Ideal.Gen.frame m ρ,
  Cert.Claims.mix_ref_frame,
  fun m ρ _ => Cert.Kernel3.Gen.frame m ρ,
  fun m ρ _ => Cert.Kernel3Ideal.Gen.frame m ρ,
  Cert.Claims.proj_ref_frame,
  fun m ρ _ => Cert.Kernel4.Gen.frame m ρ,
  fun m ρ _ => Cert.Kernel4Ideal.Gen.frame m ρ,
  fun m ρ _ => Cert.Kernel4Ideal.Gen.frame m ρ,
  Cert.Claims.mod_ref_frame, Cert.Claims.mod_ref_frame_pre,
  fun m ρ _ => Cert.Kernel5.Gen.frame m ρ,
  fun m ρ _ => Cert.Kernel5Ideal.Gen.frame m ρ,
  Cert.Claims.gqa_preserves, Cert.Claims.gqa_value, trivial, Cert.Claims.mix_value, trivial, Cert.Claims.proj_value,
  trivial, Cert.Claims.mod_value, trivial, Cert.Claims.first_value⟩⟩

end Cert.Proof

end
